-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v115_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v5) = v2 c
          ∧ r.2.mem ((c.tc : Thread Cert.Reference10Ideal.nD Cert.Reference10Ideal.τ).loc Cert.Reference10Ideal.main_v11) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite_logits.lean ====
abbrev S80x8448x128 : Shape := ⟨3, ![80, 8448, 128]⟩
abbrev S2x2x1024 : Shape := ⟨3, ![2, 2, 1024]⟩
abbrev S132x8x128x128 : Shape := ⟨4, ![132, 8, 128, 128]⟩
abbrev S8x8448x128 : Shape := ⟨3, ![8, 8448, 128]⟩
abbrev S_ : Shape := ⟨0, ![]⟩

class Facts : Prop where
  bcast_S_S2x2x1024 : S_.BroadcastsInDim S2x2x1024 (![] : Fin 0 → Fin S2x2x1024.rank)

variable [Facts]

def fn {F : FTy → Type} [FloatOps F] (main_arg0 : FVec F S80x8448x128 .f32) (main_arg1 : FVec F S2x2x1024 .f32) (main_arg2 : FVec F S132x8x128x128 .f32) (main_arg3 : FVec F S8x8448x128 .f32) : IVec S2x2x1024 1 :=
  let main_v0 : FVec F S2x2x1024 .f32 := Host.absf main_arg1
  let main_cst : FVec F S_ .f32 := constant S_ .f32 0x7F800000#32
  let main_v1 : FVec F S2x2x1024 .f32 := broadcastInDim S2x2x1024 ![] bcast_S_S2x2x1024 main_cst
  let main_v2 : IVec S2x2x1024 1 := cmpf .olt main_v0 main_v1
  main_v2
-- ==== Kernel.lean ====
abbrev S80x8448x128 : Shape := ⟨3, ![80, 8448, 128]⟩
abbrev S2x2x1024 : Shape := ⟨3, ![2, 2, 1024]⟩
abbrev S132x8x128x128 : Shape := ⟨4, ![132, 8, 128, 128]⟩
abbrev S8x8448x128 : Shape := ⟨3, ![8, 8448, 128]⟩
abbrev S2x2x8x1x128 : Shape := ⟨5, ![2, 2, 8, 1, 128]⟩
abbrev S1x1x8x1x128 : Shape := ⟨5, ![1, 1, 8, 1, 128]⟩
abbrev S8x1x128 : Shape := ⟨3, ![8, 1, 128]⟩
abbrev S256x256 : Shape := ⟨2, ![256, 256]⟩
abbrev S_ : Shape := ⟨0, ![]⟩
abbrev S1536x256 : Shape := ⟨2, ![1536, 256]⟩
abbrev S256x1536 : Shape := ⟨2, ![256, 1536]⟩
abbrev S6x256x256 : Shape := ⟨3, ![6, 256, 256]⟩
abbrev S6x256x128 : Shape := ⟨3, ![6, 256, 128]⟩
abbrev S8x128x128 : Shape := ⟨3, ![8, 128, 128]⟩
abbrev S2x8x128x128 : Shape := ⟨4, ![2, 8, 128, 128]⟩
abbrev S4x64x128 : Shape := ⟨3, ![4, 64, 128]⟩
abbrev S256x128 : Shape := ⟨2, ![256, 128]⟩
abbrev S1x1x128x128 : Shape := ⟨4, ![1, 1, 128, 128]⟩
abbrev S128x128 : Shape := ⟨2, ![128, 128]⟩
abbrev S4x1x128 : Shape := ⟨3, ![4, 1, 128]⟩
abbrev S4x128 : Shape := ⟨2, ![4, 128]⟩
abbrev S1536x128 : Shape := ⟨2, ![1536, 128]⟩
abbrev S256 : Shape := ⟨1, ![256]⟩
abbrev S256x1 : Shape := ⟨2, ![256, 1]⟩
abbrev S1x256x128 : Shape := ⟨3, ![1, 256, 128]⟩
abbrev S1x256x256 : Shape := ⟨3, ![1, 256, 256]⟩
abbrev S64x128 : Shape := ⟨2, ![64, 128]⟩
abbrev S1x128 : Shape := ⟨2, ![1, 128]⟩
abbrev S1x128x128 : Shape := ⟨3, ![1, 128, 128]⟩
abbrev S128x64 : Shape := ⟨2, ![128, 64]⟩
abbrev S128 : Shape := ⟨1, ![128]⟩
abbrev S63x128 : Shape := ⟨2, ![63, 128]⟩
abbrev S192x128 : Shape := ⟨2, ![192, 128]⟩
abbrev S128x256 : Shape := ⟨2, ![128, 256]⟩
abbrev S1280x128 : Shape := ⟨2, ![1280, 128]⟩
abbrev S1024x128 : Shape := ⟨2, ![1024, 128]⟩
abbrev S768x128 : Shape := ⟨2, ![768, 128]⟩
abbrev S512x128 : Shape := ⟨2, ![512, 128]⟩

abbrev nBuf : Space → Nat
  | .hbm => 184
  | .vmem => 28
  | .smem => 0
  | _ => 0

abbrev hbmTy0_0 (i : Nat) : BufTy := match i % 128 with
  | 0 => ⟨S80x8448x128, .f32⟩
  | 1 => ⟨S2x2x1024, .f32⟩
  | 2 => ⟨S132x8x128x128, .f32⟩
  | 3 => ⟨S8x8448x128, .f32⟩
  | 4 => ⟨S2x2x8x1x128, .f32⟩
  | 5 => ⟨S1x1x8x1x128, .f32⟩
  | 6 => ⟨S8x1x128, .f32⟩
  | 7 => ⟨S1x1x8x1x128, .f32⟩
  | 8 => ⟨S8x1x128, .f32⟩
  | 9 => ⟨S256x256, .i32⟩
  | 10 => ⟨S256x256, .i32⟩
  | 11 => ⟨S_, .i32⟩
  | 12 => ⟨S256x256, .i32⟩
  | 13 => ⟨S256x256, .i32⟩
  | 14 => ⟨S_, .i32⟩
  | 15 => ⟨S256x256, .i32⟩
  | 16 => ⟨S256x256, .i32⟩
  | 17 => ⟨S_, .i32⟩
  | 18 => ⟨S256x256, .i32⟩
  | 19 => ⟨S256x256, .i32⟩
  | 20 => ⟨S_, .i32⟩
  | 21 => ⟨S256x256, .i32⟩
  | 22 => ⟨S256x256, .i32⟩
  | 23 => ⟨S256x256, .i1⟩
  | 24 => ⟨S256x256, .i1⟩
  | 25 => ⟨S_, .f32⟩
  | 26 => ⟨S_, .f32⟩
  | 27 => ⟨S256x256, .f32⟩
  | 28 => ⟨S256x256, .f32⟩
  | 29 => ⟨S256x256, .f32⟩
  | 30 => ⟨S256x256, .i1⟩
  | 31 => ⟨S256x256, .i1⟩
  | 32 => ⟨S_, .f32⟩
  | 33 => ⟨S_, .f32⟩
  | 34 => ⟨S256x256, .f32⟩
  | 35 => ⟨S256x256, .f32⟩
  | 36 => ⟨S256x256, .f32⟩
  | 37 => ⟨S256x256, .i1⟩
  | 38 => ⟨S256x256, .i1⟩
  | 39 => ⟨S_, .f32⟩
  | 40 => ⟨S_, .f32⟩
  | 41 => ⟨S256x256, .f32⟩
  | 42 => ⟨S256x256, .f32⟩
  | 43 => ⟨S256x256, .f32⟩
  | 44 => ⟨S1536x256, .i32⟩
  | 45 => ⟨S_, .i32⟩
  | 46 => ⟨S1536x256, .i32⟩
  | 47 => ⟨S1536x256, .i32⟩
  | 48 => ⟨S_, .i32⟩
  | 49 => ⟨S1536x256, .i32⟩
  | 50 => ⟨S1536x256, .i32⟩
  | 51 => ⟨S_, .i32⟩
  | 52 => ⟨S1536x256, .i32⟩
  | 53 => ⟨S1536x256, .i32⟩
  | 54 => ⟨S1536x256, .i32⟩
  | 55 => ⟨S_, .i32⟩
  | 56 => ⟨S1536x256, .i32⟩
  | 57 => ⟨S1536x256, .i32⟩
  | 58 => ⟨S_, .i32⟩
  | 59 => ⟨S1536x256, .i32⟩
  | 60 => ⟨S1536x256, .i32⟩
  | 61 => ⟨S1536x256, .i32⟩
  | 62 => ⟨S_, .i32⟩
  | 63 => ⟨S1536x256, .i32⟩
  | 64 => ⟨S1536x256, .i32⟩
  | 65 => ⟨S_, .i32⟩
  | 66 => ⟨S1536x256, .i32⟩
  | 67 => ⟨S1536x256, .i32⟩
  | 68 => ⟨S_, .i32⟩
  | 69 => ⟨S1536x256, .i32⟩
  | 70 => ⟨S1536x256, .i32⟩
  | 71 => ⟨S1536x256, .i1⟩
  | 72 => ⟨S1536x256, .i32⟩
  | 73 => ⟨S1536x256, .i32⟩
  | 74 => ⟨S_, .i32⟩
  | 75 => ⟨S1536x256, .i32⟩
  | 76 => ⟨S1536x256, .i32⟩
  | 77 => ⟨S1536x256, .i32⟩
  | 78 => ⟨S1536x256, .i1⟩
  | 79 => ⟨S1536x256, .i1⟩
  | 80 => ⟨S_, .f32⟩
  | 81 => ⟨S_, .f32⟩
  | 82 => ⟨S1536x256, .f32⟩
  | 83 => ⟨S1536x256, .f32⟩
  | 84 => ⟨S1536x256, .f32⟩
  | 85 => ⟨S256x1536, .i32⟩
  | 86 => ⟨S_, .i32⟩
  | 87 => ⟨S256x1536, .i32⟩
  | 88 => ⟨S256x1536, .i32⟩
  | 89 => ⟨S_, .i32⟩
  | 90 => ⟨S256x1536, .i32⟩
  | 91 => ⟨S256x1536, .i32⟩
  | 92 => ⟨S_, .i32⟩
  | 93 => ⟨S256x1536, .i32⟩
  | 94 => ⟨S256x1536, .i32⟩
  | 95 => ⟨S256x1536, .i32⟩
  | 96 => ⟨S_, .i32⟩
  | 97 => ⟨S256x1536, .i32⟩
  | 98 => ⟨S256x1536, .i32⟩
  | 99 => ⟨S_, .i32⟩
  | 100 => ⟨S256x1536, .i32⟩
  | 101 => ⟨S256x1536, .i32⟩
  | 102 => ⟨S256x1536, .i32⟩
  | 103 => ⟨S_, .i32⟩
  | 104 => ⟨S256x1536, .i32⟩
  | 105 => ⟨S256x1536, .i32⟩
  | 106 => ⟨S_, .i32⟩
  | 107 => ⟨S256x1536, .i32⟩
  | 108 => ⟨S256x1536, .i32⟩
  | 109 => ⟨S_, .i32⟩
  | 110 => ⟨S256x1536, .i32⟩
  | 111 => ⟨S256x1536, .i32⟩
  | 112 => ⟨S256x1536, .i1⟩
  | 113 => ⟨S256x1536, .i32⟩
  | 114 => ⟨S256x1536, .i32⟩
  | 115 => ⟨S_, .i32⟩
  | 116 => ⟨S256x1536, .i32⟩
  | 117 => ⟨S256x1536, .i32⟩
  | 118 => ⟨S256x1536, .i32⟩
  | 119 => ⟨S256x1536, .i1⟩
  | 120 => ⟨S256x1536, .i1⟩
  | 121 => ⟨S_, .f32⟩
  | 122 => ⟨S_, .f32⟩
  | 123 => ⟨S256x1536, .f32⟩
  | 124 => ⟨S256x1536, .f32⟩
  | 125 => ⟨S256x1536, .f32⟩
  | 126 => ⟨S6x256x256, .i32⟩
  | 127 => ⟨S_, .i32⟩
  | _ => ⟨S80x8448x128, .f32⟩

abbrev hbmTy0_1 (i : Nat) : BufTy := match i % 128 with
  | 0 => ⟨S6x256x256, .i32⟩
  | 1 => ⟨S6x256x256, .i32⟩
  | 2 => ⟨S_, .i32⟩
  | 3 => ⟨S6x256x256, .i32⟩
  | 4 => ⟨S6x256x256, .i32⟩
  | 5 => ⟨S6x256x256, .i32⟩
  | 6 => ⟨S_, .i32⟩
  | 7 => ⟨S6x256x256, .i32⟩
  | 8 => ⟨S6x256x256, .i32⟩
  | 9 => ⟨S_, .i32⟩
  | 10 => ⟨S6x256x256, .i32⟩
  | 11 => ⟨S6x256x256, .i32⟩
  | 12 => ⟨S6x256x256, .i32⟩
  | 13 => ⟨S_, .i32⟩
  | 14 => ⟨S6x256x256, .i32⟩
  | 15 => ⟨S6x256x256, .i32⟩
  | 16 => ⟨S_, .i32⟩
  | 17 => ⟨S6x256x256, .i32⟩
  | 18 => ⟨S6x256x256, .i32⟩
  | 19 => ⟨S6x256x256, .i1⟩
  | 20 => ⟨S6x256x256, .i32⟩
  | 21 => ⟨S6x256x256, .i32⟩
  | 22 => ⟨S6x256x256, .i1⟩
  | 23 => ⟨S6x256x256, .i1⟩
  | 24 => ⟨S_, .f32⟩
  | 25 => ⟨S_, .f32⟩
  | 26 => ⟨S6x256x256, .f32⟩
  | 27 => ⟨S6x256x256, .f32⟩
  | 28 => ⟨S6x256x256, .f32⟩
  | 29 => ⟨S6x256x128, .i32⟩
  | 30 => ⟨S_, .i32⟩
  | 31 => ⟨S6x256x128, .i32⟩
  | 32 => ⟨S6x256x128, .i32⟩
  | 33 => ⟨S6x256x128, .i32⟩
  | 34 => ⟨S_, .i32⟩
  | 35 => ⟨S6x256x128, .i32⟩
  | 36 => ⟨S6x256x128, .i32⟩
  | 37 => ⟨S_, .i32⟩
  | 38 => ⟨S6x256x128, .i32⟩
  | 39 => ⟨S6x256x128, .i32⟩
  | 40 => ⟨S_, .i32⟩
  | 41 => ⟨S6x256x128, .i32⟩
  | 42 => ⟨S6x256x128, .i32⟩
  | 43 => ⟨S6x256x128, .i32⟩
  | 44 => ⟨S6x256x128, .i1⟩
  | 45 => ⟨S_, .f32⟩
  | 46 => ⟨S_, .f32⟩
  | 47 => ⟨S6x256x128, .f32⟩
  | 48 => ⟨S6x256x128, .f32⟩
  | 49 => ⟨S6x256x128, .f32⟩
  | 50 => ⟨S6x256x256, .bf16⟩
  | 51 => ⟨S8x8448x128, .f32⟩
  | 52 => ⟨S8x8448x128, .f32⟩
  | 53 => ⟨S8x8448x128, .f32⟩
  | 54 => ⟨S8x1x128, .f32⟩
  | 55 => ⟨S8x1x128, .f32⟩
  | _ => ⟨S80x8448x128, .f32⟩

abbrev hbmTy (i : Nat) : BufTy := match i / 128 with
  | 0 => hbmTy0_0 i
  | 1 => hbmTy0_1 i
  | _ => ⟨S80x8448x128, .f32⟩

abbrev bufTy : (tb : Table) → Fin (tcTables nBuf tb) → BufTy
  | .hbm, ⟨i, _⟩ => hbmTy i
  | .local _ .vmem, ⟨0, _⟩ => ⟨S8x128x128, .f32⟩
  | .local _ .vmem, ⟨1, _⟩ => ⟨S8x128x128, .f32⟩
  | .local _ .vmem, ⟨2, _⟩ => ⟨S8x128x128, .f32⟩
  | .local _ .vmem, ⟨3, _⟩ => ⟨S8x128x128, .f32⟩
  | .local _ .vmem, ⟨4, _⟩ => ⟨S8x128x128, .f32⟩
  | .local _ .vmem, ⟨5, _⟩ => ⟨S8x128x128, .f32⟩
  | .local _ .vmem, ⟨6, _⟩ => ⟨S8x1x128, .f32⟩
  | .local _ .vmem, ⟨7, _⟩ => ⟨S8x1x128, .f32⟩
  | .local _ .vmem, ⟨8, _⟩ => ⟨S2x8x128x128, .f32⟩
  | .local _ .vmem, ⟨9, _⟩ => ⟨S2x8x128x128, .f32⟩
  | .local _ .vmem, ⟨10, _⟩ => ⟨S8x128x128, .f32⟩
  | .local _ .vmem, ⟨11, _⟩ => ⟨S8x128x128, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S1536x256, .f32⟩
  | .local _ .vmem, ⟨16, _⟩ => ⟨S256x1536, .f32⟩
  | .local _ .vmem, ⟨17, _⟩ => ⟨S6x256x256, .bf16⟩
  | .local _ .vmem, ⟨18, _⟩ => ⟨S6x256x128, .f32⟩
  | .local _ .vmem, ⟨19, _⟩ => ⟨S8x128x128, .f32⟩
  | .local _ .vmem, ⟨20, _⟩ => ⟨S8x128x128, .f32⟩
  | .local _ .vmem, ⟨21, _⟩ => ⟨S8x128x128, .f32⟩
  | .local _ .vmem, ⟨22, _⟩ => ⟨S8x128x128, .f32⟩
  | .local _ .vmem, ⟨23, _⟩ => ⟨S8x128x128, .f32⟩
  | .local _ .vmem, ⟨24, _⟩ => ⟨S8x128x128, .f32⟩
  | .local _ .vmem, ⟨25, _⟩ => ⟨S8x1x128, .f32⟩
  | .local _ .vmem, ⟨26, _⟩ => ⟨S8x1x128, .f32⟩
  | .local _ .vmem, ⟨27, _⟩ => ⟨S8x128x128, .f32⟩
  | _, _ => ⟨S80x8448x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_cst_7 : Ref sig .tc := ⟨.hbm, 40, rfl⟩
abbrev main_call2_v0 : Ref sig .tc := ⟨.hbm, 41, rfl⟩
abbrev main_call2_v1 : Ref sig .tc := ⟨.hbm, 42, rfl⟩
abbrev main_v23 : Ref sig .tc := ⟨.hbm, 43, rfl⟩
abbrev main_v24 : Ref sig .tc := ⟨.hbm, 44, rfl⟩
abbrev main_c_8 : Ref sig .tc := ⟨.hbm, 45, rfl⟩
abbrev main_v25 : Ref sig .tc := ⟨.hbm, 46, rfl⟩
abbrev main_v26 : Ref sig .tc := ⟨.hbm, 47, rfl⟩
abbrev main_c_9 : Ref sig .tc := ⟨.hbm, 48, rfl⟩
abbrev main_v27 : Ref sig .tc := ⟨.hbm, 49, rfl⟩
abbrev main_v28 : Ref sig .tc := ⟨.hbm, 50, rfl⟩
abbrev main_c_10 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_11 : Ref sig .tc := ⟨.hbm, 55, rfl⟩
abbrev main_v32 : Ref sig .tc := ⟨.hbm, 56, rfl⟩
abbrev main_v33 : Ref sig .tc := ⟨.hbm, 57, rfl⟩
abbrev main_c_12 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_13 : Ref sig .tc := ⟨.hbm, 62, rfl⟩
abbrev main_v37 : Ref sig .tc := ⟨.hbm, 63, rfl⟩
abbrev main_v38 : Ref sig .tc := ⟨.hbm, 64, rfl⟩
abbrev main_c_14 : Ref sig .tc := ⟨.hbm, 65, rfl⟩
abbrev main_v39 : Ref sig .tc := ⟨.hbm, 66, rfl⟩
abbrev main_v40 : Ref sig .tc := ⟨.hbm, 67, rfl⟩
abbrev main_c_15 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_16 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_17 : Ref sig .tc := ⟨.hbm, 80, rfl⟩
abbrev main_cst_18 : Ref sig .tc := ⟨.hbm, 81, rfl⟩
abbrev main_call3_v0 : Ref sig .tc := ⟨.hbm, 82, rfl⟩
abbrev main_call3_v1 : Ref sig .tc := ⟨.hbm, 83, rfl⟩
abbrev main_v51 : Ref sig .tc := ⟨.hbm, 84, rfl⟩
abbrev main_v52 : Ref sig .tc := ⟨.hbm, 85, rfl⟩
abbrev main_c_19 : Ref sig .tc := ⟨.hbm, 86, rfl⟩
abbrev main_v53 : Ref sig .tc := ⟨.hbm, 87, rfl⟩
abbrev main_v54 : Ref sig .tc := ⟨.hbm, 88, rfl⟩
abbrev main_c_20 : Ref sig .tc := ⟨.hbm, 89, rfl⟩
abbrev main_v55 : Ref sig .tc := ⟨.hbm, 90, rfl⟩
abbrev main_v56 : Ref sig .tc := ⟨.hbm, 91, rfl⟩
abbrev main_c_21 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c_22 : Ref sig .tc := ⟨.hbm, 96, rfl⟩
abbrev main_v60 : Ref sig .tc := ⟨.hbm, 97, rfl⟩
abbrev main_v61 : Ref sig .tc := ⟨.hbm, 98, rfl⟩
abbrev main_c_23 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_24 : Ref sig .tc := ⟨.hbm, 103, rfl⟩
abbrev main_v65 : Ref sig .tc := ⟨.hbm, 104, rfl⟩
abbrev main_v66 : Ref sig .tc := ⟨.hbm, 105, rfl⟩
abbrev main_c_25 : Ref sig .tc := ⟨.hbm, 106, rfl⟩
abbrev main_v67 : Ref sig .tc := ⟨.hbm, 107, rfl⟩
abbrev main_v68 : Ref sig .tc := ⟨.hbm, 108, rfl⟩
abbrev main_c_26 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_27 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_28 : Ref sig .tc := ⟨.hbm, 121, rfl⟩
abbrev main_cst_29 : Ref sig .tc := ⟨.hbm, 122, rfl⟩
abbrev main_call4_v0 : Ref sig .tc := ⟨.hbm, 123, rfl⟩
abbrev main_call4_v1 : Ref sig .tc := ⟨.hbm, 124, rfl⟩
abbrev main_v79 : Ref sig .tc := ⟨.hbm, 125, rfl⟩
abbrev main_v80 : Ref sig .tc := ⟨.hbm, 126, rfl⟩
abbrev main_c_30 : Ref sig .tc := ⟨.hbm, 127, rfl⟩
abbrev main_v81 : Ref sig .tc := ⟨.hbm, 128, rfl⟩
abbrev main_v82 : Ref sig .tc := ⟨.hbm, 129, rfl⟩
abbrev main_c_31 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_c_32 : Ref sig .tc := ⟨.hbm, 134, rfl⟩
abbrev main_v86 : Ref sig .tc := ⟨.hbm, 135, rfl⟩
abbrev main_v87 : Ref sig .tc := ⟨.hbm, 136, rfl⟩
abbrev main_c_33 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_c_34 : Ref sig .tc := ⟨.hbm, 141, rfl⟩
abbrev main_v91 : Ref sig .tc := ⟨.hbm, 142, rfl⟩
abbrev main_v92 : Ref sig .tc := ⟨.hbm, 143, rfl⟩
abbrev main_c_35 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_36 : Ref sig .tc := ⟨.hbm, 152, rfl⟩
abbrev main_cst_37 : Ref sig .tc := ⟨.hbm, 153, rfl⟩
abbrev main_call5_v0 : Ref sig .tc := ⟨.hbm, 154, rfl⟩
abbrev main_call5_v1 : Ref sig .tc := ⟨.hbm, 155, rfl⟩
abbrev main_v100 : Ref sig .tc := ⟨.hbm, 156, rfl⟩
abbrev main_v101 : Ref sig .tc := ⟨.hbm, 157, rfl⟩
abbrev main_c_38 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_c_39 : Ref sig .tc := ⟨.hbm, 162, rfl⟩
abbrev main_v105 : Ref sig .tc := ⟨.hbm, 163, rfl⟩
abbrev main_v106 : Ref sig .tc := ⟨.hbm, 164, rfl⟩
abbrev main_c_40 : Ref sig .tc := ⟨.hbm, 165, rfl⟩
abbrev main_v107 : Ref sig .tc := ⟨.hbm, 166, rfl⟩
abbrev main_v108 : Ref sig .tc := ⟨.hbm, 167, rfl⟩
abbrev main_c_41 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_cst_42 : Ref sig .tc := ⟨.hbm, 173, rfl⟩
abbrev main_cst_43 : Ref sig .tc := ⟨.hbm, 174, rfl⟩
abbrev main_call6_v0 : Ref sig .tc := ⟨.hbm, 175, rfl⟩
abbrev main_call6_v1 : Ref sig .tc := ⟨.hbm, 176, rfl⟩
abbrev main_v113 : Ref sig .tc := ⟨.hbm, 177, rfl⟩
abbrev main_v114 : Ref sig .tc := ⟨.hbm, 178, rfl⟩
abbrev main_v115_0 : Ref sig .tc := ⟨.hbm, 179, rfl⟩
abbrev main_v115_1 : Ref sig .tc := ⟨.hbm, 180, rfl⟩
abbrev main_v115_2 : Ref sig .tc := ⟨.hbm, 181, rfl⟩
abbrev main_v115_3 : Ref sig .tc := ⟨.hbm, 182, rfl⟩
abbrev main_v115_4 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg18_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![66], ![false]⟩

def cc0_transform_0 (i : grid0.Coords) : Fin 3 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  let c0_i32_2 : BitVec 32 := 0#32
  ![c0_i32.toNat, v4.toNat, c0_i32_1.toNat]

def cc0_transform_1 (i : grid0.Coords) : Fin 3 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c1_i32 : BitVec 32 := 1#32
  let c0_i32 : BitVec 32 := 0#32
  let c0_i32_1 : BitVec 32 := 0#32
  ![c1_i32.toNat, v4.toNat, c0_i32.toNat]

def cc0_transform_2 (i : grid0.Coords) : Fin 3 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c3_i32 : BitVec 32 := 3#32
  let c0_i32 : BitVec 32 := 0#32
  let c0_i32_1 : BitVec 32 := 0#32
  ![c3_i32.toNat, v4.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c65_i32 : BitVec 32 := 65#32
  let v0 : BitVec 32 := Scalar.subi c65_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 3 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  let c0_i32_2 : BitVec 32 := 0#32
  ![c0_i32.toNat, v4.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  let c0_i32_2 : BitVec 32 := 0#32
  ![c0_i32.toNat, v4.toNat, c0_i32_1.toNat]

def cc0_transform_15 (i : grid0.Coords) : Fin 3 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  let c0_i32_2 : BitVec 32 := 0#32
  ![c0_i32.toNat, v4.toNat, c0_i32_1.toNat]

def cc0_transform_16 (i : grid0.Coords) : Fin 3 → Nat :=
  let arg0 : BitVec 32 := BitVec.ofNat 32 (i 0).val
  let c65_i32 : BitVec 32 := 65#32
  let v0 : BitVec 32 := Scalar.subi c65_i32 arg0
  let c2_i32 : BitVec 32 := 2#32
  let v1 : BitVec 1 := Scalar.cmpi .slt v0 c2_i32
  let c64_i32 : BitVec 32 := 64#32
  let v2 : BitVec 32 := Scalar.addi c64_i32 v0
  let c2_i32_0 : BitVec 32 := 2#32
  let v3 : BitVec 32 := Scalar.subi v0 c2_i32_0
  let v4 : BitVec 32 := Scalar.select v1 v2 v3
  let c0_i32 : BitVec 32 := 0#32
  let c0_i32_1 : BitVec 32 := 0#32
  let c0_i32_2 : BitVec 32 := 0#32
  ![c0_i32.toNat, v4.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6x256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S80x8448x128 : Shape := ⟨3, ![80, 8448, 128]⟩
abbrev S2x2x1024 : Shape := ⟨3, ![2, 2, 1024]⟩
abbrev S132x8x128x128 : Shape := ⟨4, ![132, 8, 128, 128]⟩
abbrev S8x8448x128 : Shape := ⟨3, ![8, 8448, 128]⟩
abbrev S8x256x128 : Shape := ⟨3, ![8, 256, 128]⟩
abbrev S1x8x256x128 : Shape := ⟨4, ![1, 8, 256, 128]⟩
abbrev S8x8192x128 : Shape := ⟨3, ![8, 8192, 128]⟩
abbrev S1x8x8192x128 : Shape := ⟨4, ![1, 8, 8192, 128]⟩
abbrev S1x8x8448x128 : Shape := ⟨4, ![1, 8, 8448, 128]⟩
abbrev S_ : Shape := ⟨0, ![]⟩
abbrev S2x1024 : Shape := ⟨2, ![2, 1024]⟩
abbrev S1x2x1024 : Shape := ⟨3, ![1, 2, 1024]⟩
abbrev S1x1x1024 : Shape := ⟨3, ![1, 1, 1024]⟩
abbrev S1024 : Shape := ⟨1, ![1024]⟩
abbrev S1x8x1x128 : Shape := ⟨4, ![1, 8, 1, 128]⟩
abbrev S1x8x128x128 : Shape := ⟨4, ![1, 8, 128, 128]⟩
abbrev S1x8x132x64x128 : Shape := ⟨5, ![1, 8, 132, 64, 128]⟩
abbrev S1x8x132x1x128 : Shape := ⟨5, ![1, 8, 132, 1, 128]⟩
abbrev S64x64 : Shape := ⟨2, ![64, 64]⟩
abbrev S64x64x1 : Shape := ⟨3, ![64, 64, 1]⟩
abbrev S1x8x132x64x1x128 : Shape := ⟨6, ![1, 8, 132, 64, 1, 128]⟩
abbrev S1x8x132x1x64x128 : Shape := ⟨6, ![1, 8, 132, 1, 64, 128]⟩
abbrev S1x8x132x64x64x128 : Shape := ⟨6, ![1, 8, 132, 64, 64, 128]⟩
abbrev S1x8x132x64x64 : Shape := ⟨5, ![1, 8, 132, 64, 64]⟩
abbrev S1x8x132x128 : Shape := ⟨4, ![1, 8, 132, 128]⟩
abbrev S1x8x132x128x1 : Shape := ⟨5, ![1, 8, 132, 128, 1]⟩
abbrev S132x1x8x64x128 : Shape := ⟨5, ![132, 1, 8, 64, 128]⟩
abbrev S132x1x8x128x1 : Shape := ⟨5, ![132, 1, 8, 128, 1]⟩
abbrev S132x1x8x64x64 : Shape := ⟨5, ![132, 1, 8, 64, 64]⟩
abbrev S1x1x8x64x128 : Shape := ⟨5, ![1, 1, 8, 64, 128]⟩
abbrev S1x8x64x128 : Shape := ⟨4, ![1, 8, 64, 128]⟩
abbrev S1x1x8x128x1 : Shape := ⟨5, ![1, 1, 8, 128, 1]⟩
abbrev S1x8x128x1 : Shape := ⟨4, ![1, 8, 128, 1]⟩
abbrev S1x1x8x64x64 : Shape := ⟨5, ![1, 1, 8, 64, 64]⟩
abbrev S1x8x64x64 : Shape := ⟨4, ![1, 8, 64, 64]⟩
abbrev S1x8x128x64 : Shape := ⟨4, ![1, 8, 128, 64]⟩

abbrev nBuf : Space → Nat
  | .hbm => 235
  | .vmem => 0
  | .smem => 0
  | _ => 0

abbrev hbmTy0_0 (i : Nat) : BufTy := match i % 128 with
  | 0 => ⟨S80x8448x128, .f32⟩
  | 1 => ⟨S2x2x1024, .f32⟩
  | 2 => ⟨S132x8x128x128, .f32⟩
  | 3 => ⟨S8x8448x128, .f32⟩
  | 4 => ⟨S8x8448x128, .f32⟩
  | 5 => ⟨S8x256x128, .f32⟩
  | 6 => ⟨S1x8x256x128, .f32⟩
  | 7 => ⟨S8x8192x128, .f32⟩
  | 8 => ⟨S1x8x8192x128, .f32⟩
  | 9 => ⟨S1x8x8448x128, .f32⟩
  | 10 => ⟨S8x8448x128, .f32⟩
  | 11 => ⟨S8x256x128, .f32⟩
  | 12 => ⟨S1x8x256x128, .f32⟩
  | 13 => ⟨S8x8192x128, .f32⟩
  | 14 => ⟨S1x8x8192x128, .f32⟩
  | 15 => ⟨S1x8x8448x128, .f32⟩
  | 16 => ⟨S8x8448x128, .f32⟩
  | 17 => ⟨S8x256x128, .f32⟩
  | 18 => ⟨S1x8x256x128, .f32⟩
  | 19 => ⟨S8x8192x128, .f32⟩
  | 20 => ⟨S1x8x8192x128, .f32⟩
  | 21 => ⟨S1x8x8448x128, .f32⟩
  | 22 => ⟨S_, .f32⟩
  | 23 => ⟨S2x1024, .f32⟩
  | 24 => ⟨S_, .f32⟩
  | 25 => ⟨S2x1024, .f32⟩
  | 26 => ⟨S2x1024, .f32⟩
  | 27 => ⟨S1x2x1024, .f32⟩
  | 28 => ⟨S2x2x1024, .f32⟩
  | 29 => ⟨S2x2x1024, .f32⟩
  | 30 => ⟨S2x2x1024, .f32⟩
  | 31 => ⟨S_, .f32⟩
  | 32 => ⟨S2x1024, .f32⟩
  | 33 => ⟨S1x2x1024, .f32⟩
  | 34 => ⟨S2x2x1024, .f32⟩
  | 35 => ⟨S2x2x1024, .f32⟩
  | 36 => ⟨S_, .f32⟩
  | 37 => ⟨S_, .f32⟩
  | 38 => ⟨S2x2x1024, .f32⟩
  | 39 => ⟨S1x1x1024, .f32⟩
  | 40 => ⟨S1024, .f32⟩
  | 41 => ⟨S1x8x1x128, .f32⟩
  | 42 => ⟨S1x8x8448x128, .f32⟩
  | 43 => ⟨S1x8x8448x128, .f32⟩
  | 44 => ⟨S_, .f32⟩
  | 45 => ⟨S1x8x8448x128, .f32⟩
  | 46 => ⟨S1x8x8448x128, .f32⟩
  | 47 => ⟨S_, .f32⟩
  | 48 => ⟨S1x8x8448x128, .f32⟩
  | 49 => ⟨S1x8x8448x128, .f32⟩
  | 50 => ⟨S1x8x8448x128, .f32⟩
  | 51 => ⟨S_, .f32⟩
  | 52 => ⟨S1x8x8448x128, .f32⟩
  | 53 => ⟨S1x8x8448x128, .f32⟩
  | 54 => ⟨S1x8x1x128, .f32⟩
  | 55 => ⟨S1x8x1x128, .f32⟩
  | 56 => ⟨S1x8x1x128, .f32⟩
  | 57 => ⟨S1x8x8448x128, .f32⟩
  | 58 => ⟨S_, .f32⟩
  | 59 => ⟨S1x8x8448x128, .f32⟩
  | 60 => ⟨S1x8x8448x128, .f32⟩
  | 61 => ⟨S1x8x8448x128, .f32⟩
  | 62 => ⟨S1x8x8448x128, .f32⟩
  | 63 => ⟨S1x8x8448x128, .i1⟩
  | 64 => ⟨S1x8x8448x128, .f32⟩
  | 65 => ⟨S1x8x8448x128, .f32⟩
  | 66 => ⟨S1x8x8448x128, .f32⟩
  | 67 => ⟨S1x8x8448x128, .f32⟩
  | 68 => ⟨S1x8x8448x128, .f32⟩
  | 69 => ⟨S1x8x8448x128, .f32⟩
  | 70 => ⟨S1x8x8448x128, .f32⟩
  | 71 => ⟨S1x8x8448x128, .f32⟩
  | 72 => ⟨S1x8x8448x128, .f32⟩
  | 73 => ⟨S1x8x8448x128, .f32⟩
  | 74 => ⟨S1x8x8448x128, .f32⟩
  | 75 => ⟨S1x8x8448x128, .f32⟩
  | 76 => ⟨S1x8x8448x128, .f32⟩
  | 77 => ⟨S1x8x8448x128, .f32⟩
  | 78 => ⟨S1x8x8448x128, .i1⟩
  | 79 => ⟨S1x8x8448x128, .f32⟩
  | 80 => ⟨S1x8x8448x128, .f32⟩
  | 81 => ⟨S1x8x8448x128, .f32⟩
  | 82 => ⟨S1x8x8448x128, .f32⟩
  | 83 => ⟨S1x8x8448x128, .f32⟩
  | 84 => ⟨S1x8x8448x128, .f32⟩
  | 85 => ⟨S1x8x8448x128, .f32⟩
  | 86 => ⟨S1x8x8448x128, .f32⟩
  | 87 => ⟨S_, .f32⟩
  | 88 => ⟨S1x8x1x128, .f32⟩
  | 89 => ⟨S1x8x1x128, .f32⟩
  | 90 => ⟨S1x8x8448x128, .f32⟩
  | 91 => ⟨S1x8x8448x128, .f32⟩
  | 92 => ⟨S1x8x8448x128, .f32⟩
  | 93 => ⟨S_, .f32⟩
  | 94 => ⟨S1x8x8448x128, .f32⟩
  | 95 => ⟨S1x8x8448x128, .f32⟩
  | 96 => ⟨S_, .f32⟩
  | 97 => ⟨S1x8x8448x128, .f32⟩
  | 98 => ⟨S1x8x8448x128, .f32⟩
  | 99 => ⟨S1x8x8448x128, .f32⟩
  | 100 => ⟨S1x8x8448x128, .f32⟩
  | 101 => ⟨S_, .f32⟩
  | 102 => ⟨S1x8x128x128, .f32⟩
  | 103 => ⟨S1x8x132x64x128, .f32⟩
  | 104 => ⟨S1x8x132x64x128, .f32⟩
  | 105 => ⟨S1x8x132x64x128, .f32⟩
  | 106 => ⟨S_, .f32⟩
  | 107 => ⟨S_, .f32⟩
  | 108 => ⟨S1x8x132x64x128, .f32⟩
  | 109 => ⟨S1x8x132x1x128, .f32⟩
  | 110 => ⟨S_, .i1⟩
  | 111 => ⟨S64x64, .i1⟩
  | 112 => ⟨S64x64, .i32⟩
  | 113 => ⟨S_, .i32⟩
  | 114 => ⟨S64x64, .i32⟩
  | 115 => ⟨S64x64, .i32⟩
  | 116 => ⟨S64x64, .i32⟩
  | 117 => ⟨S64x64, .i1⟩
  | 118 => ⟨S_, .i1⟩
  | 119 => ⟨S64x64, .i1⟩
  | 120 => ⟨S64x64, .i1⟩
  | 121 => ⟨S64x64x1, .i1⟩
  | 122 => ⟨S1x8x132x64x1x128, .f32⟩
  | 123 => ⟨S1x8x132x1x64x128, .f32⟩
  | 124 => ⟨S1x8x132x64x64x128, .f32⟩
  | 125 => ⟨S1x8x132x64x64x128, .f32⟩
  | 126 => ⟨S1x8x132x64x64x128, .f32⟩
  | 127 => ⟨S_, .f32⟩
  | _ => ⟨S80x8448x128, .f32⟩

abbrev hbmTy0_1 (i : Nat) : BufTy := match i % 128 with
  | 0 => ⟨S_, .f32⟩
  | 1 => ⟨S1x8x132x64x64x128, .i1⟩
  | 2 => ⟨S1x8x132x64x64x128, .f32⟩
  | 3 => ⟨S1x8x132x64x64x128, .f32⟩
  | 4 => ⟨S1x8x132x64x64x128, .f32⟩
  | 5 => ⟨S1x8x132x64x1x128, .f32⟩
  | 6 => ⟨S1x8x132x1x64x128, .f32⟩
  | 7 => ⟨S1x8x132x64x64x128, .f32⟩
  | 8 => ⟨S1x8x132x64x64x128, .f32⟩
  | 9 => ⟨S1x8x132x64x64x128, .f32⟩
  | 10 => ⟨S1x8x132x64x64x128, .f32⟩
  | 11 => ⟨S_, .f32⟩
  | 12 => ⟨S1x8x132x64x64, .f32⟩
  | 13 => ⟨S1x8x132x1x128, .f32⟩
  | 14 => ⟨S1x8x132x128, .f32⟩
  | 15 => ⟨S1x8x132x128x1, .f32⟩
  | 16 => ⟨S1x8x132x64x128, .f32⟩
  | 17 => ⟨S1x8x132x64x128, .f32⟩
  | 18 => ⟨S1x8x132x64x128, .f32⟩
  | 19 => ⟨S1x8x132x64x128, .f32⟩
  | 20 => ⟨S1x8x132x64x128, .f32⟩
  | 21 => ⟨S1x8x132x64x128, .f32⟩
  | 22 => ⟨S132x1x8x64x128, .f32⟩
  | 23 => ⟨S132x1x8x128x1, .f32⟩
  | 24 => ⟨S132x1x8x64x128, .f32⟩
  | 25 => ⟨S132x1x8x64x64, .f32⟩
  | 26 => ⟨S8x256x128, .f32⟩
  | 27 => ⟨S1x8x256x128, .f32⟩
  | 28 => ⟨S8x8192x128, .f32⟩
  | 29 => ⟨S1x8x8192x128, .f32⟩
  | 30 => ⟨S1x8x8448x128, .f32⟩
  | 31 => ⟨S1x8x132x64x128, .f32⟩
  | 32 => ⟨S132x1x8x64x128, .f32⟩
  | 33 => ⟨S_, .f32⟩
  | 34 => ⟨S1x8x128x128, .f32⟩
  | 35 => ⟨S_, .f32⟩
  | 36 => ⟨S132x1x8x64x128, .f32⟩
  | 37 => ⟨S_, .i32⟩
  | 38 => ⟨S132x1x8x64x128, .f32⟩
  | 39 => ⟨S132x1x8x128x1, .f32⟩
  | 40 => ⟨S132x1x8x64x128, .f32⟩
  | 41 => ⟨S132x1x8x64x128, .f32⟩
  | 42 => ⟨S132x1x8x64x64, .f32⟩
  | 43 => ⟨S_, .i32⟩
  | 44 => ⟨S1x8x128x128, .f32⟩
  | 45 => ⟨S132x1x8x64x128, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S1x1x8x64x128, .f32⟩
  | 57 => ⟨S1x8x64x128, .f32⟩
  | 58 => ⟨S_, .i32⟩
  | 59 => ⟨S_, .i32⟩
  | 60 => ⟨S_, .i32⟩
  | 61 => ⟨S_, .i32⟩
  | 62 => ⟨S1x1x8x128x1, .f32⟩
  | 63 => ⟨S1x8x128x1, .f32⟩
  | 64 => ⟨S_, .i32⟩
  | 65 => ⟨S_, .i32⟩
  | 66 => ⟨S_, .i32⟩
  | 67 => ⟨S_, .i32⟩
  | 68 => ⟨S1x1x8x64x128, .f32⟩
  | 69 => ⟨S1x8x64x128, .f32⟩
  | 70 => ⟨S_, .i32⟩
  | 71 => ⟨S_, .i32⟩
  | 72 => ⟨S_, .i32⟩
  | 73 => ⟨S_, .i32⟩
  | 74 => ⟨S1x1x8x64x128, .f32⟩
  | 75 => ⟨S1x8x64x128, .f32⟩
  | 76 => ⟨S_, .i32⟩
  | 77 => ⟨S_, .i32⟩
  | 78 => ⟨S_, .i32⟩
  | 79 => ⟨S_, .i32⟩
  | 80 => ⟨S1x1x8x64x64, .f32⟩
  | 81 => ⟨S1x8x64x64, .f32⟩
  | 82 => ⟨S1x8x128x64, .f32⟩
  | 83 => ⟨S1x8x64x128, .f32⟩
  | 84 => ⟨S1x8x128x128, .f32⟩
  | 85 => ⟨S1x8x128x128, .f32⟩
  | 86 => ⟨S1x8x128x64, .f32⟩
  | 87 => ⟨S1x8x64x128, .f32⟩
  | 88 => ⟨S1x8x64x128, .f32⟩
  | 89 => ⟨S1x8x128x128, .f32⟩
  | 90 => ⟨S1x8x128x128, .f32⟩
  | 91 => ⟨S1x8x128x128, .f32⟩
  | 92 => ⟨S1x1x8x64x128, .f32⟩
  | 93 => ⟨S_, .i32⟩
  | 94 => ⟨S_, .i32⟩
  | 95 => ⟨S_, .i32⟩
  | 96 => ⟨S_, .i32⟩
  | 97 => ⟨S132x1x8x64x128, .f32⟩
  | 98 => ⟨S_, .i32⟩
  | 99 => ⟨S_, .i32⟩
  | 100 => ⟨S1x8x132x64x128, .f32⟩
  | 101 => ⟨S1x8x8448x128, .f32⟩
  | 102 => ⟨S1x8x8192x128, .f32⟩
  | 103 => ⟨S8x8192x128, .f32⟩
  | 104 => ⟨S1x8x256x128, .f32⟩
  | 105 => ⟨S8x256x128, .f32⟩
  | 106 => ⟨S8x8448x128, .f32⟩
  | _ => ⟨S80x8448x128, .f32⟩

abbrev hbmTy (i : Nat) : BufTy := match i / 128 with
  | 0 => hbmTy0_0 i
  | 1 => hbmTy0_1 i
  | _ => ⟨S80x8448x128, .f32⟩

abbrev bufTy : (tb : Table) → Fin (tcTables nBuf tb) → BufTy
  | .hbm, ⟨i, _⟩ => hbmTy i
  | _, _ => ⟨S80x8448x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_call0_cst : Ref sig .tc := ⟨.hbm, 36, rfl⟩
abbrev main_call0_call0_v0 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_4 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_5 : Ref sig .tc := ⟨.hbm, 93, rfl⟩
abbrev main_v73 : Ref sig .tc := ⟨.hbm, 94, rfl⟩
abbrev main_v74 : Ref sig .tc := ⟨.hbm, 95, rfl⟩
abbrev main_cst_6 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_7 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_call2_call0_cst : Ref sig .tc := ⟨.hbm, 106, rfl⟩
abbrev main_call2_call0_v0 : Ref sig .tc := ⟨.hbm, 107, rfl⟩
abbrev main_v83 : Ref sig .tc := ⟨.hbm, 108, rfl⟩
abbrev main_v84 : Ref sig .tc := ⟨.hbm, 109, rfl⟩
abbrev main_c : Ref sig .tc := ⟨.hbm, 110, rfl⟩
abbrev main_v85 : Ref sig .tc := ⟨.hbm, 111, rfl⟩
abbrev main_call3_v0 : Ref sig .tc := ⟨.hbm, 112, rfl⟩
abbrev main_call3_c : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_c_0 : Ref sig .tc := ⟨.hbm, 118, rfl⟩
abbrev main_call3_v5 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_8 : Ref sig .tc := ⟨.hbm, 127, rfl⟩
abbrev main_call4_v0 : Ref sig .tc := ⟨.hbm, 128, rfl⟩
abbrev main_call4_v1 : Ref sig .tc := ⟨.hbm, 129, rfl⟩
abbrev main_call4_v2 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_9 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_10 : Ref sig .tc := ⟨.hbm, 161, rfl⟩
abbrev main_v122 : Ref sig .tc := ⟨.hbm, 162, rfl⟩
abbrev main_cst_11 : Ref sig .tc := ⟨.hbm, 163, rfl⟩
abbrev main_v123 : Ref sig .tc := ⟨.hbm, 164, rfl⟩
abbrev main_c_12 : Ref sig .tc := ⟨.hbm, 165, rfl⟩
abbrev main_v124_0 : Ref sig .tc := ⟨.hbm, 166, rfl⟩
abbrev main_v124_1 : Ref sig .tc := ⟨.hbm, 167, rfl⟩
abbrev main_v124_2 : Ref sig .tc := ⟨.hbm, 168, rfl⟩
abbrev main_v124_3 : Ref sig .tc := ⟨.hbm, 169, rfl⟩
abbrev main_v124_4 : Ref sig .tc := ⟨.hbm, 170, rfl⟩
abbrev main_v124_5 : Ref sig .tc := ⟨.hbm, 171, rfl⟩
abbrev main_v124_6 : Ref sig .tc := ⟨.hbm, 172, rfl⟩
abbrev main_v124_7 : Ref sig .tc := ⟨.hbm, 173, rfl⟩
abbrev main_while0c_c_20 : Ref sig .tc := ⟨.hbm, 174, rfl⟩
abbrev main_while0c_v132 : Ref sig .tc := ⟨.hbm, 175, rfl⟩
abbrev main_while0b_c_20 : Ref sig .tc := ⟨.hbm, 176, rfl⟩
abbrev main_while0b_v132 : Ref sig .tc := ⟨.hbm, 177, rfl⟩
abbrev main_while0b_c_21 : Ref sig .tc := ⟨.hbm, 178, rfl⟩
abbrev main_while0b_v133 : Ref sig .tc := ⟨.hbm, 179, rfl⟩
abbrev main_while0b_call5_c : Ref sig .tc := ⟨.hbm, 180, rfl⟩
abbrev main_while0b_call5_c_0 : Ref sig .tc := ⟨.hbm, 181, rfl⟩
abbrev main_while0b_call5_c_1 : Ref sig .tc := ⟨.hbm, 182, rfl⟩
abbrev main_while0b_call5_c_2 : Ref sig .tc := ⟨.hbm, 183, rfl⟩
abbrev main_while0b_call5_v0 : Ref sig .tc := ⟨.hbm, 184, rfl⟩
abbrev main_while0b_v134 : Ref sig .tc := ⟨.hbm, 185, rfl⟩
abbrev main_while0b_call6_c : Ref sig .tc := ⟨.hbm, 186, rfl⟩
abbrev main_while0b_call6_c_0 : Ref sig .tc := ⟨.hbm, 187, rfl⟩
abbrev main_while0b_call6_c_1 : Ref sig .tc := ⟨.hbm, 188, rfl⟩
abbrev main_while0b_call6_c_2 : Ref sig .tc := ⟨.hbm, 189, rfl⟩
abbrev main_while0b_call6_v0 : Ref sig .tc := ⟨.hbm, 190, rfl⟩
abbrev main_while0b_v135 : Ref sig .tc := ⟨.hbm, 191, rfl⟩
abbrev main_while0b_call7_c : Ref sig .tc := ⟨.hbm, 192, rfl⟩
abbrev main_while0b_call7_c_0 : Ref sig .tc := ⟨.hbm, 193, rfl⟩
abbrev main_while0b_call7_c_1 : Ref sig .tc := ⟨.hbm, 194, rfl⟩
abbrev main_while0b_call7_c_2 : Ref sig .tc := ⟨.hbm, 195, rfl⟩
abbrev main_while0b_call7_v0 : Ref sig .tc := ⟨.hbm, 196, rfl⟩
abbrev main_while0b_v136 : Ref sig .tc := ⟨.hbm, 197, rfl⟩
abbrev main_while0b_call8_c : Ref sig .tc := ⟨.hbm, 198, rfl⟩
abbrev main_while0b_call8_c_0 : Ref sig .tc := ⟨.hbm, 199, rfl⟩
abbrev main_while0b_call8_c_1 : Ref sig .tc := ⟨.hbm, 200, rfl⟩
abbrev main_while0b_call8_c_2 : Ref sig .tc := ⟨.hbm, 201, rfl⟩
abbrev main_while0b_call8_v0 : Ref sig .tc := ⟨.hbm, 202, rfl⟩
abbrev main_while0b_v137 : Ref sig .tc := ⟨.hbm, 203, rfl⟩
abbrev main_while0b_call9_c : Ref sig .tc := ⟨.hbm, 204, rfl⟩
abbrev main_while0b_call9_c_0 : Ref sig .tc := ⟨.hbm, 205, rfl⟩
abbrev main_while0b_call9_c_1 : Ref sig .tc := ⟨.hbm, 206, rfl⟩
abbrev main_while0b_call9_c_2 : Ref sig .tc := ⟨.hbm, 207, rfl⟩
abbrev main_while0b_call9_v0 : Ref sig .tc := ⟨.hbm, 208, rfl⟩
abbrev main_while0b_v138 : Ref sig .tc := ⟨.hbm, 209, rfl⟩
abbrev main_while0b_v139 : Ref sig .tc := ⟨.hbm, 210, rfl⟩
abbrev main_while0b_v140 : Ref sig .tc := ⟨.hbm, 211, rfl⟩
abbrev main_while0b_v141 : Ref sig .tc := ⟨.hbm, 212, rfl⟩
abbrev main_while0b_v142 : Ref sig .tc := ⟨.hbm, 213, rfl⟩
abbrev main_while0b_v143 : Ref sig .tc := ⟨.hbm, 214, rfl⟩
abbrev main_while0b_v144 : Ref sig .tc := ⟨.hbm, 215, rfl⟩
abbrev main_while0b_v145 : Ref sig .tc := ⟨.hbm, 216, rfl⟩
abbrev main_while0b_v146 : Ref sig .tc := ⟨.hbm, 217, rfl⟩
abbrev main_while0b_v147 : Ref sig .tc := ⟨.hbm, 218, rfl⟩
abbrev main_while0b_v148 : Ref sig .tc := ⟨.hbm, 219, rfl⟩
abbrev main_while0b_call10_v0 : Ref sig .tc := ⟨.hbm, 220, rfl⟩
abbrev main_while0b_call10_c : Ref sig .tc := ⟨.hbm, 221, rfl⟩
abbrev main_while0b_call10_c_0 : Ref sig .tc := ⟨.hbm, 222, rfl⟩
abbrev main_while0b_call10_c_1 : Ref sig .tc := ⟨.hbm, 223, rfl⟩
abbrev main_while0b_call10_c_2 : Ref sig .tc := ⟨.hbm, 224, rfl⟩
abbrev main_while0b_v149 : Ref sig .tc := ⟨.hbm, 225, rfl⟩
abbrev main_while0b_c_22 : Ref sig .tc := ⟨.hbm, 226, rfl⟩
abbrev main_while0b_v150 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩

abbrev nD : Nat := 1
abbrev τ : Topo := Topo.v7x

variable {F : FTy → Type} [FloatOps F]

abbrev main_while0_count : Scf.Loop 32 := ⟨0#32, 132#32, 1#32⟩
-- ==== Kernel2.lean ====
abbrev S8448x1024 : Shape := ⟨2, ![8448, 1024]⟩
abbrev S80x8448x128 : Shape := ⟨3, ![80, 8448, 128]⟩
abbrev S1024x10240 : Shape := ⟨2, ![1024, 10240]⟩
abbrev S768x1024 : Shape := ⟨2, ![768, 1024]⟩
abbrev S8x768x128 : Shape := ⟨3, ![8, 768, 128]⟩
abbrev S1024x1024 : Shape := ⟨2, ![1024, 1024]⟩
abbrev S1x768x128 : Shape := ⟨3, ![1, 768, 128]⟩
abbrev S768x128 : Shape := ⟨2, ![768, 128]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S80x8448x128, .f32⟩
  | .hbm, ⟨2, _⟩ => ⟨S1024x10240, .f32⟩
  | .local _ .vmem, ⟨0, _⟩ => ⟨S768x1024, .bf16⟩
  | .local _ .vmem, ⟨1, _⟩ => ⟨S768x1024, .bf16⟩
  | .local _ .vmem, ⟨2, _⟩ => ⟨S8x768x128, .f32⟩
  | .local _ .vmem, ⟨3, _⟩ => ⟨S8x768x128, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 1, 11], ![false, false, false]⟩

def k0_cond3 (i : grid0.Coords) : BitVec 1 :=
  let arg2 : BitVec 32 := BitVec.ofNat 32 (i 2).val
  let c10_i32 : BitVec 32 := 10#32
  let v33 : BitVec 1 := Scalar.cmpi .eq arg2 c10_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S8x768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8448x1024 : Shape := ⟨2, ![8448, 1024]⟩
abbrev S80x8448x128 : Shape := ⟨3, ![80, 8448, 128]⟩
abbrev S1x8448x1024 : Shape := ⟨3, ![1, 8448, 1024]⟩
abbrev S8448x80x128 : Shape := ⟨3, ![8448, 80, 128]⟩
abbrev S1x8448x10240 : Shape := ⟨3, ![1, 8448, 10240]⟩
abbrev S10240x1024 : Shape := ⟨2, ![10240, 1024]⟩
abbrev S1024x10240 : Shape := ⟨2, ![1024, 10240]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S80x8448x128, .f32⟩
  | .hbm, ⟨2, _⟩ => ⟨S8448x1024, .f32⟩
  | .hbm, ⟨3, _⟩ => ⟨S1x8448x1024, .f32⟩
  | .hbm, ⟨4, _⟩ => ⟨S8448x80x128, .f32⟩
  | .hbm, ⟨5, _⟩ => ⟨S1x8448x10240, .f32⟩
  | .hbm, ⟨6, _⟩ => ⟨S10240x1024, .f32⟩
  | .hbm, ⟨7, _⟩ => ⟨S1024x10240, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S80x8448x128 : Shape := ⟨3, ![80, 8448, 128]⟩
abbrev S1024x9248 : Shape := ⟨2, ![1024, 9248]⟩
abbrev S_ : Shape := ⟨0, ![]⟩
abbrev S1024x10240 : Shape := ⟨2, ![1024, 10240]⟩
abbrev S10240x1024 : Shape := ⟨2, ![10240, 1024]⟩
abbrev S8448x1024 : Shape := ⟨2, ![8448, 1024]⟩
abbrev S16x768x128 : Shape := ⟨3, ![16, 768, 128]⟩
abbrev S2048x1024 : Shape := ⟨2, ![2048, 1024]⟩
abbrev S768x1024 : Shape := ⟨2, ![768, 1024]⟩
abbrev S1x768x128 : Shape := ⟨3, ![1, 768, 128]⟩
abbrev S768x128 : Shape := ⟨2, ![768, 128]⟩
abbrev S768x2048 : Shape := ⟨2, ![768, 2048]⟩

abbrev nBuf : Space → Nat
  | .hbm => 8
  | .vmem => 7
  | .smem => 0
  | _ => 0

abbrev bufTy : (tb : Table) → Fin (tcTables nBuf tb) → BufTy
  | .hbm, ⟨0, _⟩ => ⟨S80x8448x128, .f32⟩
  | .hbm, ⟨1, _⟩ => ⟨S1024x9248, .f32⟩
  | .hbm, ⟨2, _⟩ => ⟨S1024x9248, .bf16⟩
  | .hbm, ⟨3, _⟩ => ⟨S_, .i32⟩
  | .hbm, ⟨4, _⟩ => ⟨S_, .bf16⟩
  | .hbm, ⟨5, _⟩ => ⟨S1024x10240, .bf16⟩
  | .hbm, ⟨6, _⟩ => ⟨S10240x1024, .bf16⟩
  | .hbm, ⟨7, _⟩ => ⟨S8448x1024, .f32⟩
  | .local _ .vmem, ⟨0, _⟩ => ⟨S16x768x128, .f32⟩
  | .local _ .vmem, ⟨1, _⟩ => ⟨S16x768x128, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S80x8448x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 5], ![false, false, false]⟩

def k0_cond3 (i : grid0.Coords) : BitVec 1 :=
  let arg2 : BitVec 32 := BitVec.ofNat 32 (i 2).val
  let c4_i32 : BitVec 32 := 4#32
  let v58 : BitVec 1 := Scalar.cmpi .eq arg2 c4_i32
  let v59 : BitVec 32 := Scalar.extui v58
  let c0_i32_37 : BitVec 32 := 0#32
  let v60 : BitVec 1 := Scalar.cmpi .ne v59 c0_i32_37
  v60

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S16x768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S80x8448x128 : Shape := ⟨3, ![80, 8448, 128]⟩
abbrev S1024x9248 : Shape := ⟨2, ![1024, 9248]⟩
abbrev S8448x80x128 : Shape := ⟨3, ![8448, 80, 128]⟩
abbrev S1x8448x10240 : Shape := ⟨3, ![1, 8448, 10240]⟩
abbrev S1x8448x9248 : Shape := ⟨3, ![1, 8448, 9248]⟩
abbrev S1x8448x1024 : Shape := ⟨3, ![1, 8448, 1024]⟩
abbrev S8448x1024 : Shape := ⟨2, ![8448, 1024]⟩

abbrev nBuf : Space → Nat
  | .hbm => 7
  | .vmem => 0
  | .smem => 0
  | _ => 0

abbrev bufTy : (tb : Table) → Fin (tcTables nBuf tb) → BufTy
  | .hbm, ⟨0, _⟩ => ⟨S80x8448x128, .f32⟩
  | .hbm, ⟨1, _⟩ => ⟨S1024x9248, .f32⟩
  | .hbm, ⟨2, _⟩ => ⟨S8448x80x128, .f32⟩
  | .hbm, ⟨3, _⟩ => ⟨S1x8448x10240, .f32⟩
  | .hbm, ⟨4, _⟩ => ⟨S1x8448x9248, .f32⟩
  | .hbm, ⟨5, _⟩ => ⟨S1x8448x1024, .f32⟩
  | .hbm, ⟨6, _⟩ => ⟨S8448x1024, .f32⟩
  | _, _ => ⟨S80x8448x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x1024 : Shape := ⟨2, ![8192, 1024]⟩
abbrev S1024x2048 : Shape := ⟨2, ![1024, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S1024x2048, .f32⟩
  | .hbm, ⟨5, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x1024 : Shape := ⟨2, ![8192, 1024]⟩
abbrev S2048x1024 : Shape := ⟨2, ![2048, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .f32⟩
  | .hbm, ⟨2, _⟩ => ⟨S2048x1024, .bf16⟩
  | .hbm, ⟨3, _⟩ => ⟨S1024x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S2048x1024 : Shape := ⟨2, ![2048, 1024]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .f32⟩
  | .hbm, ⟨2, _⟩ => ⟨S8192x1024, .f32⟩
  | .hbm, ⟨3, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S8448x1024 : Shape := ⟨2, ![8448, 1024]⟩
abbrev S1024x9248 : Shape := ⟨2, ![1024, 9248]⟩
abbrev S_ : Shape := ⟨0, ![]⟩
abbrev S1024x10240 : Shape := ⟨2, ![1024, 10240]⟩
abbrev S80x8448x128 : Shape := ⟨3, ![80, 8448, 128]⟩
abbrev S768x1024 : Shape := ⟨2, ![768, 1024]⟩
abbrev S1024x1024 : Shape := ⟨2, ![1024, 1024]⟩
abbrev S8x768x128 : Shape := ⟨3, ![8, 768, 128]⟩
abbrev S768x128 : Shape := ⟨2, ![768, 128]⟩
abbrev S1x768x128 : Shape := ⟨3, ![1, 768, 128]⟩

abbrev nBuf : Space → Nat
  | .hbm => 7
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x9248, .f32⟩
  | .hbm, ⟨2, _⟩ => ⟨S1024x9248, .bf16⟩
  | .hbm, ⟨3, _⟩ => ⟨S_, .i32⟩
  | .hbm, ⟨4, _⟩ => ⟨S_, .bf16⟩
  | .hbm, ⟨5, _⟩ => ⟨S1024x10240, .bf16⟩
  | .hbm, ⟨6, _⟩ => ⟨S80x8448x128, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x768x128, .f32⟩
  | .local _ .vmem, ⟨5, _⟩ => ⟨S8x768x128, .f32⟩
  | .local _ .vmem, ⟨6, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 11, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8x768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8448x1024 : Shape := ⟨2, ![8448, 1024]⟩
abbrev S1024x9248 : Shape := ⟨2, ![1024, 9248]⟩
abbrev S1x8448x1024 : Shape := ⟨3, ![1, 8448, 1024]⟩
abbrev S1x8448x9248 : Shape := ⟨3, ![1, 8448, 9248]⟩
abbrev S8448x9248 : Shape := ⟨2, ![8448, 9248]⟩
abbrev S_ : Shape := ⟨0, ![]⟩
abbrev S8448x10240 : Shape := ⟨2, ![8448, 10240]⟩
abbrev S8448x80x128 : Shape := ⟨3, ![8448, 80, 128]⟩
abbrev S80x8448x128 : Shape := ⟨3, ![80, 8448, 128]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x9248, .f32⟩
  | .hbm, ⟨2, _⟩ => ⟨S8448x1024, .f32⟩
  | .hbm, ⟨3, _⟩ => ⟨S1x8448x1024, .f32⟩
  | .hbm, ⟨4, _⟩ => ⟨S1x8448x9248, .f32⟩
  | .hbm, ⟨5, _⟩ => ⟨S8448x9248, .f32⟩
  | .hbm, ⟨6, _⟩ => ⟨S_, .i32⟩
  | .hbm, ⟨7, _⟩ => ⟨S_, .f32⟩
  | .hbm, ⟨8, _⟩ => ⟨S8448x10240, .f32⟩
  | .hbm, ⟨9, _⟩ => ⟨S8448x80x128, .f32⟩
  | .hbm, ⟨10, _⟩ => ⟨S80x8448x128, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S2048x1024, .bf16⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S8192x2048, .f32⟩
  | .hbm, ⟨3, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S1024x1156 : Shape := ⟨2, ![1024, 1156]⟩
abbrev S4x1024x1156 : Shape := ⟨3, ![4, 1024, 1156]⟩
abbrev S64x1156 : Shape := ⟨2, ![64, 1156]⟩
abbrev S4x64x1156 : Shape := ⟨3, ![4, 64, 1156]⟩
abbrev S1x64x1156 : Shape := ⟨3, ![1, 64, 1156]⟩

abbrev nBuf : Space → Nat
  | .hbm => 8
  | .vmem => 16
  | .smem => 0
  | _ => 0

abbrev bufTy : (tb : Table) → Fin (tcTables nBuf tb) → BufTy
  | .hbm, ⟨0, _⟩ => ⟨S1024x1156, .f32⟩
  | .hbm, ⟨1, _⟩ => ⟨S4x1024x1156, .bf16⟩
  | .hbm, ⟨2, _⟩ => ⟨S1024x1156, .f32⟩
  | .hbm, ⟨3, _⟩ => ⟨S1024x1156, .f32⟩
  | .hbm, ⟨4, _⟩ => ⟨S1024x1156, .f32⟩
  | .hbm, ⟨5, _⟩ => ⟨S1024x1156, .f32⟩
  | .hbm, ⟨6, _⟩ => ⟨S1024x1156, .f32⟩
  | .hbm, ⟨7, _⟩ => ⟨S1024x1156, .f32⟩
  | .local _ .vmem, ⟨0, _⟩ => ⟨S64x1156, .f32⟩
  | .local _ .vmem, ⟨1, _⟩ => ⟨S64x1156, .f32⟩
  | .local _ .vmem, ⟨2, _⟩ => ⟨S4x64x1156, .bf16⟩
  | .local _ .vmem, ⟨3, _⟩ => ⟨S4x64x1156, .bf16⟩
  | .local _ .vmem, ⟨4, _⟩ => ⟨S64x1156, .f32⟩
  | .local _ .vmem, ⟨5, _⟩ => ⟨S64x1156, .f32⟩
  | .local _ .vmem, ⟨6, _⟩ => ⟨S64x1156, .f32⟩
  | .local _ .vmem, ⟨7, _⟩ => ⟨S64x1156, .f32⟩
  | .local _ .vmem, ⟨8, _⟩ => ⟨S64x1156, .f32⟩
  | .local _ .vmem, ⟨9, _⟩ => ⟨S64x1156, .f32⟩
  | .local _ .vmem, ⟨10, _⟩ => ⟨S64x1156, .f32⟩
  | .local _ .vmem, ⟨11, _⟩ => ⟨S64x1156, .f32⟩
  | .local _ .vmem, ⟨12, _⟩ => ⟨S64x1156, .f32⟩
  | .local _ .vmem, ⟨13, _⟩ => ⟨S64x1156, .f32⟩
  | .local _ .vmem, ⟨14, _⟩ => ⟨S64x1156, .f32⟩
  | .local _ .vmem, ⟨15, _⟩ => ⟨S64x1156, .f32⟩
  | _, _ => ⟨S1024x1156, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1156 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1156 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1156 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1156 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1156 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1156 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1156 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1156 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S1024x1156 : Shape := ⟨2, ![1024, 1156]⟩
abbrev S4x1024x1156 : Shape := ⟨3, ![4, 1024, 1156]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x1156, .f32⟩
  | .hbm, ⟨1, _⟩ => ⟨S4x1024x1156, .bf16⟩
  | .hbm, ⟨2, _⟩ => ⟨S1024x1156, .f32⟩
  | .hbm, ⟨3, _⟩ => ⟨S1024x1156, .f32⟩
  | .hbm, ⟨4, _⟩ => ⟨S4x1024x1156, .f32⟩
  | .hbm, ⟨5, _⟩ => ⟨S_, .f32⟩
  | .hbm, ⟨6, _⟩ => ⟨S1024x1156, .f32⟩
  | .hbm, ⟨7, _⟩ => ⟨S_, .f32⟩
  | .hbm, ⟨8, _⟩ => ⟨S1024x1156, .f32⟩
  | .hbm, ⟨9, _⟩ => ⟨S1024x1156, .f32⟩
  | .hbm, ⟨10, _⟩ => ⟨S_, .f32⟩
  | .hbm, ⟨11, _⟩ => ⟨S1024x1156, .f32⟩
  | .hbm, ⟨12, _⟩ => ⟨S1024x1156, .f32⟩
  | .hbm, ⟨13, _⟩ => ⟨S1024x1156, .f32⟩
  | .hbm, ⟨14, _⟩ => ⟨S_, .f32⟩
  | .hbm, ⟨15, _⟩ => ⟨S1024x1156, .f32⟩
  | .hbm, ⟨16, _⟩ => ⟨S1024x1156, .f32⟩
  | .hbm, ⟨17, _⟩ => ⟨S1024x1156, .f32⟩
  | .hbm, ⟨18, _⟩ => ⟨S_, .f32⟩
  | .hbm, ⟨19, _⟩ => ⟨S1024x1156, .f32⟩
  | .hbm, ⟨20, _⟩ => ⟨S1024x1156, .f32⟩
  | .hbm, ⟨21, _⟩ => ⟨S1024x1156, .f32⟩
  | .hbm, ⟨22, _⟩ => ⟨S_, .f32⟩
  | .hbm, ⟨23, _⟩ => ⟨S1024x1156, .f32⟩
  | .hbm, ⟨24, _⟩ => ⟨S1024x1156, .f32⟩
  | .hbm, ⟨25, _⟩ => ⟨S_, .f32⟩
  | .hbm, ⟨26, _⟩ => ⟨S1024x1156, .f32⟩
  | .hbm, ⟨27, _⟩ => ⟨S1024x1156, .f32⟩
  | .hbm, ⟨28, _⟩ => ⟨S1024x1156, .f32⟩
  | .hbm, ⟨29, _⟩ => ⟨S_, .f32⟩
  | .hbm, ⟨30, _⟩ => ⟨S1024x1156, .f32⟩
  | .hbm, ⟨31, _⟩ => ⟨S1024x1156, .f32⟩
  | .hbm, ⟨32, _⟩ => ⟨S1024x1156, .f32⟩
  | .hbm, ⟨33, _⟩ => ⟨S_, .f32⟩
  | .hbm, ⟨34, _⟩ => ⟨S1024x1156, .f32⟩
  | .hbm, ⟨35, _⟩ => ⟨S1024x1156, .f32⟩
  | .hbm, ⟨36, _⟩ => ⟨S1024x1156, .f32⟩
  | .hbm, ⟨37, _⟩ => ⟨S_, .f32⟩
  | .hbm, ⟨38, _⟩ => ⟨S1024x1156, .f32⟩
  | .hbm, ⟨39, _⟩ => ⟨S1024x1156, .f32⟩
  | _, _ => ⟨S1024x1156, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S256x1024 : Shape := ⟨2, ![256, 1024]⟩
abbrev S4x256x1024 : Shape := ⟨3, ![4, 256, 1024]⟩
abbrev S64x1024 : Shape := ⟨2, ![64, 1024]⟩
abbrev S4x64x1024 : Shape := ⟨3, ![4, 64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S4x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S4x64x1024, .bf16⟩
  | .local _ .vmem, ⟨3, _⟩ => ⟨S4x64x1024, .bf16⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S256x1024 : Shape := ⟨2, ![256, 1024]⟩
abbrev S4x256x1024 : Shape := ⟨3, ![4, 256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4x256x1024, .bf16⟩
  | .hbm, ⟨2, _⟩ => ⟨S256x1024, .f32⟩
  | .hbm, ⟨3, _⟩ => ⟨S256x1024, .f32⟩
  | .hbm, ⟨4, _⟩ => ⟨S4x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S1024x384 : Shape := ⟨2, ![1024, 384]⟩
abbrev S1x1024x384 : Shape := ⟨3, ![1, 1024, 384]⟩
abbrev S64x384 : Shape := ⟨2, ![64, 384]⟩
abbrev S1x64x384 : Shape := ⟨3, ![1, 64, 384]⟩

abbrev nBuf : Space → Nat
  | .hbm => 8
  | .vmem => 16
  | .smem => 0
  | _ => 0

abbrev bufTy : (tb : Table) → Fin (tcTables nBuf tb) → BufTy
  | .hbm, ⟨0, _⟩ => ⟨S1024x384, .f32⟩
  | .hbm, ⟨1, _⟩ => ⟨S1x1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S64x384, .f32⟩
  | .local _ .vmem, ⟨1, _⟩ => ⟨S64x384, .f32⟩
  | .local _ .vmem, ⟨2, _⟩ => ⟨S1x64x384, .f32⟩
  | .local _ .vmem, ⟨3, _⟩ => ⟨S1x64x384, .f32⟩
  | .local _ .vmem, ⟨4, _⟩ => ⟨S64x384, .f32⟩
  | .local _ .vmem, ⟨5, _⟩ => ⟨S64x384, .f32⟩
  | .local _ .vmem, ⟨6, _⟩ => ⟨S64x384, .f32⟩
  | .local _ .vmem, ⟨7, _⟩ => ⟨S64x384, .f32⟩
  | .local _ .vmem, ⟨8, _⟩ => ⟨S64x384, .f32⟩
  | .local _ .vmem, ⟨9, _⟩ => ⟨S64x384, .f32⟩
  | .local _ .vmem, ⟨10, _⟩ => ⟨S64x384, .f32⟩
  | .local _ .vmem, ⟨11, _⟩ => ⟨S64x384, .f32⟩
  | .local _ .vmem, ⟨12, _⟩ => ⟨S64x384, .f32⟩
  | .local _ .vmem, ⟨13, _⟩ => ⟨S64x384, .f32⟩
  | .local _ .vmem, ⟨14, _⟩ => ⟨S64x384, .f32⟩
  | .local _ .vmem, ⟨15, _⟩ => ⟨S64x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S1024x384 : Shape := ⟨2, ![1024, 384]⟩
abbrev S1x1024x384 : Shape := ⟨3, ![1, 1024, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1x1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S_, .f32⟩
  | .hbm, ⟨7, _⟩ => ⟨S1024x384, .f32⟩
  | .hbm, ⟨8, _⟩ => ⟨S1024x384, .f32⟩
  | .hbm, ⟨9, _⟩ => ⟨S_, .f32⟩
  | .hbm, ⟨10, _⟩ => ⟨S1024x384, .f32⟩
  | .hbm, ⟨11, _⟩ => ⟨S1024x384, .f32⟩
  | .hbm, ⟨12, _⟩ => ⟨S1024x384, .f32⟩
  | .hbm, ⟨13, _⟩ => ⟨S_, .f32⟩
  | .hbm, ⟨14, _⟩ => ⟨S1024x384, .f32⟩
  | .hbm, ⟨15, _⟩ => ⟨S1024x384, .f32⟩
  | .hbm, ⟨16, _⟩ => ⟨S1024x384, .f32⟩
  | .hbm, ⟨17, _⟩ => ⟨S_, .f32⟩
  | .hbm, ⟨18, _⟩ => ⟨S1024x384, .f32⟩
  | .hbm, ⟨19, _⟩ => ⟨S1024x384, .f32⟩
  | .hbm, ⟨20, _⟩ => ⟨S1024x384, .f32⟩
  | .hbm, ⟨21, _⟩ => ⟨S_, .f32⟩
  | .hbm, ⟨22, _⟩ => ⟨S1024x384, .f32⟩
  | .hbm, ⟨23, _⟩ => ⟨S1024x384, .f32⟩
  | .hbm, ⟨24, _⟩ => ⟨S_, .f32⟩
  | .hbm, ⟨25, _⟩ => ⟨S1024x384, .f32⟩
  | .hbm, ⟨26, _⟩ => ⟨S1024x384, .f32⟩
  | .hbm, ⟨27, _⟩ => ⟨S1024x384, .f32⟩
  | .hbm, ⟨28, _⟩ => ⟨S_, .f32⟩
  | .hbm, ⟨29, _⟩ => ⟨S1024x384, .f32⟩
  | .hbm, ⟨30, _⟩ => ⟨S1024x384, .f32⟩
  | .hbm, ⟨31, _⟩ => ⟨S1024x384, .f32⟩
  | .hbm, ⟨32, _⟩ => ⟨S_, .f32⟩
  | .hbm, ⟨33, _⟩ => ⟨S1024x384, .f32⟩
  | .hbm, ⟨34, _⟩ => ⟨S1024x384, .f32⟩
  | .hbm, ⟨35, _⟩ => ⟨S1024x384, .f32⟩
  | .hbm, ⟨36, _⟩ => ⟨S_, .f32⟩
  | .hbm, ⟨37, _⟩ => ⟨S1024x384, .f32⟩
  | .hbm, ⟨38, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel11.lean ====
abbrev S9x384 : Shape := ⟨2, ![9, 384]⟩
abbrev S4x9x384 : Shape := ⟨3, ![4, 9, 384]⟩
abbrev S1x9x384 : Shape := ⟨3, ![1, 9, 384]⟩

abbrev nBuf : Space → Nat
  | .hbm => 8
  | .vmem => 8
  | .smem => 0
  | _ => 0

abbrev bufTy : (tb : Table) → Fin (tcTables nBuf tb) → BufTy
  | .hbm, ⟨0, _⟩ => ⟨S9x384, .f32⟩
  | .hbm, ⟨1, _⟩ => ⟨S4x9x384, .bf16⟩
  | .hbm, ⟨2, _⟩ => ⟨S9x384, .f32⟩
  | .hbm, ⟨3, _⟩ => ⟨S9x384, .f32⟩
  | .hbm, ⟨4, _⟩ => ⟨S9x384, .f32⟩
  | .hbm, ⟨5, _⟩ => ⟨S9x384, .f32⟩
  | .hbm, ⟨6, _⟩ => ⟨S9x384, .f32⟩
  | .hbm, ⟨7, _⟩ => ⟨S9x384, .f32⟩
  | .local _ .vmem, ⟨0, _⟩ => ⟨S9x384, .f32⟩
  | .local _ .vmem, ⟨1, _⟩ => ⟨S4x9x384, .bf16⟩
  | .local _ .vmem, ⟨2, _⟩ => ⟨S9x384, .f32⟩
  | .local _ .vmem, ⟨3, _⟩ => ⟨S9x384, .f32⟩
  | .local _ .vmem, ⟨4, _⟩ => ⟨S9x384, .f32⟩
  | .local _ .vmem, ⟨5, _⟩ => ⟨S9x384, .f32⟩
  | .local _ .vmem, ⟨6, _⟩ => ⟨S9x384, .f32⟩
  | .local _ .vmem, ⟨7, _⟩ => ⟨S9x384, .f32⟩
  | _, _ => ⟨S9x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S9x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x9x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S9x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S9x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S9x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S9x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S9x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S9x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S9x384 : Shape := ⟨2, ![9, 384]⟩
abbrev S4x9x384 : Shape := ⟨3, ![4, 9, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S9x384, .f32⟩
  | .hbm, ⟨1, _⟩ => ⟨S4x9x384, .bf16⟩
  | .hbm, ⟨2, _⟩ => ⟨S9x384, .f32⟩
  | .hbm, ⟨3, _⟩ => ⟨S9x384, .f32⟩
  | .hbm, ⟨4, _⟩ => ⟨S4x9x384, .f32⟩
  | .hbm, ⟨5, _⟩ => ⟨S_, .f32⟩
  | .hbm, ⟨6, _⟩ => ⟨S9x384, .f32⟩
  | .hbm, ⟨7, _⟩ => ⟨S_, .f32⟩
  | .hbm, ⟨8, _⟩ => ⟨S9x384, .f32⟩
  | .hbm, ⟨9, _⟩ => ⟨S9x384, .f32⟩
  | .hbm, ⟨10, _⟩ => ⟨S_, .f32⟩
  | .hbm, ⟨11, _⟩ => ⟨S9x384, .f32⟩
  | .hbm, ⟨12, _⟩ => ⟨S9x384, .f32⟩
  | .hbm, ⟨13, _⟩ => ⟨S9x384, .f32⟩
  | .hbm, ⟨14, _⟩ => ⟨S_, .f32⟩
  | .hbm, ⟨15, _⟩ => ⟨S9x384, .f32⟩
  | .hbm, ⟨16, _⟩ => ⟨S9x384, .f32⟩
  | .hbm, ⟨17, _⟩ => ⟨S9x384, .f32⟩
  | .hbm, ⟨18, _⟩ => ⟨S_, .f32⟩
  | .hbm, ⟨19, _⟩ => ⟨S9x384, .f32⟩
  | .hbm, ⟨20, _⟩ => ⟨S9x384, .f32⟩
  | .hbm, ⟨21, _⟩ => ⟨S9x384, .f32⟩
  | .hbm, ⟨22, _⟩ => ⟨S_, .f32⟩
  | .hbm, ⟨23, _⟩ => ⟨S9x384, .f32⟩
  | .hbm, ⟨24, _⟩ => ⟨S9x384, .f32⟩
  | .hbm, ⟨25, _⟩ => ⟨S_, .f32⟩
  | .hbm, ⟨26, _⟩ => ⟨S9x384, .f32⟩
  | .hbm, ⟨27, _⟩ => ⟨S9x384, .f32⟩
  | .hbm, ⟨28, _⟩ => ⟨S9x384, .f32⟩
  | .hbm, ⟨29, _⟩ => ⟨S_, .f32⟩
  | .hbm, ⟨30, _⟩ => ⟨S9x384, .f32⟩
  | .hbm, ⟨31, _⟩ => ⟨S9x384, .f32⟩
  | .hbm, ⟨32, _⟩ => ⟨S9x384, .f32⟩
  | .hbm, ⟨33, _⟩ => ⟨S_, .f32⟩
  | .hbm, ⟨34, _⟩ => ⟨S9x384, .f32⟩
  | .hbm, ⟨35, _⟩ => ⟨S9x384, .f32⟩
  | .hbm, ⟨36, _⟩ => ⟨S9x384, .f32⟩
  | .hbm, ⟨37, _⟩ => ⟨S_, .f32⟩
  | .hbm, ⟨38, _⟩ => ⟨S9x384, .f32⟩
  | .hbm, ⟨39, _⟩ => ⟨S9x384, .f32⟩
  | _, _ => ⟨S9x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S4x128 : Shape := ⟨2, ![4, 128]⟩
abbrev S4x4x128 : Shape := ⟨3, ![4, 4, 128]⟩
abbrev S1x4x128 : Shape := ⟨3, ![1, 4, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x128, .f32⟩
  | .hbm, ⟨1, _⟩ => ⟨S4x4x128, .bf16⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .local _ .vmem, ⟨0, _⟩ => ⟨S4x128, .f32⟩
  | .local _ .vmem, ⟨1, _⟩ => ⟨S4x4x128, .bf16⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference12Ideal.lean ====
abbrev S4x128 : Shape := ⟨2, ![4, 128]⟩
abbrev S4x4x128 : Shape := ⟨3, ![4, 4, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x4x128, .bf16⟩
  | .hbm, ⟨2, _⟩ => ⟨S4x128, .f32⟩
  | .hbm, ⟨3, _⟩ => ⟨S4x128, .f32⟩
  | .hbm, ⟨4, _⟩ => ⟨S4x4x128, .f32⟩
  | .hbm, ⟨5, _⟩ => ⟨S_, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S_, .f32⟩
  | .hbm, ⟨11, _⟩ => ⟨S4x128, .f32⟩
  | .hbm, ⟨12, _⟩ => ⟨S4x128, .f32⟩
  | .hbm, ⟨13, _⟩ => ⟨S4x128, .f32⟩
  | .hbm, ⟨14, _⟩ => ⟨S_, .f32⟩
  | .hbm, ⟨15, _⟩ => ⟨S4x128, .f32⟩
  | .hbm, ⟨16, _⟩ => ⟨S4x128, .f32⟩
  | .hbm, ⟨17, _⟩ => ⟨S4x128, .f32⟩
  | .hbm, ⟨18, _⟩ => ⟨S_, .f32⟩
  | .hbm, ⟨19, _⟩ => ⟨S4x128, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S_, .f32⟩
  | .hbm, ⟨26, _⟩ => ⟨S4x128, .f32⟩
  | .hbm, ⟨27, _⟩ => ⟨S4x128, .f32⟩
  | .hbm, ⟨28, _⟩ => ⟨S4x128, .f32⟩
  | .hbm, ⟨29, _⟩ => ⟨S_, .f32⟩
  | .hbm, ⟨30, _⟩ => ⟨S4x128, .f32⟩
  | .hbm, ⟨31, _⟩ => ⟨S4x128, .f32⟩
  | .hbm, ⟨32, _⟩ => ⟨S4x128, .f32⟩
  | .hbm, ⟨33, _⟩ => ⟨S_, .f32⟩
  | .hbm, ⟨34, _⟩ => ⟨S4x128, .f32⟩
  | .hbm, ⟨35, _⟩ => ⟨S4x128, .f32⟩
  | .hbm, ⟨36, _⟩ => ⟨S4x128, .f32⟩
  | .hbm, ⟨37, _⟩ => ⟨S_, .f32⟩
  | .hbm, ⟨38, _⟩ => ⟨S4x128, .f32⟩
  | .hbm, ⟨39, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S1x3072 : Shape := ⟨2, ![1, 3072]⟩
abbrev S1x1x3072 : Shape := ⟨3, ![1, 1, 3072]⟩

abbrev nBuf : Space → Nat
  | .hbm => 8
  | .vmem => 8
  | .smem => 0
  | _ => 0

abbrev bufTy : (tb : Table) → Fin (tcTables nBuf tb) → BufTy
  | .hbm, ⟨0, _⟩ => ⟨S1x3072, .f32⟩
  | .hbm, ⟨1, _⟩ => ⟨S1x1x3072, .f32⟩
  | .hbm, ⟨2, _⟩ => ⟨S1x3072, .f32⟩
  | .hbm, ⟨3, _⟩ => ⟨S1x3072, .f32⟩
  | .hbm, ⟨4, _⟩ => ⟨S1x3072, .f32⟩
  | .hbm, ⟨5, _⟩ => ⟨S1x3072, .f32⟩
  | .hbm, ⟨6, _⟩ => ⟨S1x3072, .f32⟩
  | .hbm, ⟨7, _⟩ => ⟨S1x3072, .f32⟩
  | .local _ .vmem, ⟨0, _⟩ => ⟨S1x3072, .f32⟩
  | .local _ .vmem, ⟨1, _⟩ => ⟨S1x1x3072, .f32⟩
  | .local _ .vmem, ⟨2, _⟩ => ⟨S1x3072, .f32⟩
  | .local _ .vmem, ⟨3, _⟩ => ⟨S1x3072, .f32⟩
  | .local _ .vmem, ⟨4, _⟩ => ⟨S1x3072, .f32⟩
  | .local _ .vmem, ⟨5, _⟩ => ⟨S1x3072, .f32⟩
  | .local _ .vmem, ⟨6, _⟩ => ⟨S1x3072, .f32⟩
  | .local _ .vmem, ⟨7, _⟩ => ⟨S1x3072, .f32⟩
  | _, _ => ⟨S1x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S1x3072 : Shape := ⟨2, ![1, 3072]⟩
abbrev S1x1x3072 : Shape := ⟨3, ![1, 1, 3072]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x3072, .f32⟩
  | .hbm, ⟨1, _⟩ => ⟨S1x1x3072, .f32⟩
  | .hbm, ⟨2, _⟩ => ⟨S1x3072, .f32⟩
  | .hbm, ⟨3, _⟩ => ⟨S1x3072, .f32⟩
  | .hbm, ⟨4, _⟩ => ⟨S_, .f32⟩
  | .hbm, ⟨5, _⟩ => ⟨S1x3072, .f32⟩
  | .hbm, ⟨6, _⟩ => ⟨S_, .f32⟩
  | .hbm, ⟨7, _⟩ => ⟨S1x3072, .f32⟩
  | .hbm, ⟨8, _⟩ => ⟨S1x3072, .f32⟩
  | .hbm, ⟨9, _⟩ => ⟨S_, .f32⟩
  | .hbm, ⟨10, _⟩ => ⟨S1x3072, .f32⟩
  | .hbm, ⟨11, _⟩ => ⟨S1x3072, .f32⟩
  | .hbm, ⟨12, _⟩ => ⟨S1x3072, .f32⟩
  | .hbm, ⟨13, _⟩ => ⟨S_, .f32⟩
  | .hbm, ⟨14, _⟩ => ⟨S1x3072, .f32⟩
  | .hbm, ⟨15, _⟩ => ⟨S1x3072, .f32⟩
  | .hbm, ⟨16, _⟩ => ⟨S1x3072, .f32⟩
  | .hbm, ⟨17, _⟩ => ⟨S_, .f32⟩
  | .hbm, ⟨18, _⟩ => ⟨S1x3072, .f32⟩
  | .hbm, ⟨19, _⟩ => ⟨S1x3072, .f32⟩
  | .hbm, ⟨20, _⟩ => ⟨S1x3072, .f32⟩
  | .hbm, ⟨21, _⟩ => ⟨S_, .f32⟩
  | .hbm, ⟨22, _⟩ => ⟨S1x3072, .f32⟩
  | .hbm, ⟨23, _⟩ => ⟨S1x3072, .f32⟩
  | .hbm, ⟨24, _⟩ => ⟨S_, .f32⟩
  | .hbm, ⟨25, _⟩ => ⟨S1x3072, .f32⟩
  | .hbm, ⟨26, _⟩ => ⟨S1x3072, .f32⟩
  | .hbm, ⟨27, _⟩ => ⟨S1x3072, .f32⟩
  | .hbm, ⟨28, _⟩ => ⟨S_, .f32⟩
  | .hbm, ⟨29, _⟩ => ⟨S1x3072, .f32⟩
  | .hbm, ⟨30, _⟩ => ⟨S1x3072, .f32⟩
  | .hbm, ⟨31, _⟩ => ⟨S1x3072, .f32⟩
  | .hbm, ⟨32, _⟩ => ⟨S_, .f32⟩
  | .hbm, ⟨33, _⟩ => ⟨S1x3072, .f32⟩
  | .hbm, ⟨34, _⟩ => ⟨S1x3072, .f32⟩
  | .hbm, ⟨35, _⟩ => ⟨S1x3072, .f32⟩
  | .hbm, ⟨36, _⟩ => ⟨S_, .f32⟩
  | .hbm, ⟨37, _⟩ => ⟨S1x3072, .f32⟩
  | .hbm, ⟨38, _⟩ => ⟨S1x3072, .f32⟩
  | _, _ => ⟨S1x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel14.lean ====
abbrev S1x1024 : Shape := ⟨2, ![1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S1x1024 : Shape := ⟨2, ![1, 1024]⟩
abbrev S1x1x1024 : Shape := ⟨3, ![1, 1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x128, .f32⟩
  | .hbm, ⟨1, _⟩ => ⟨S1x8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x128, .f32⟩
  | .local _ .vmem, ⟨1, _⟩ => ⟨S1x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S8x128 : Shape := ⟨2, ![8, 128]⟩
abbrev S1x8x128 : Shape := ⟨3, ![1, 8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S1x8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S2x8 : Shape := ⟨2, ![2, 8]⟩
abbrev S1x2x8 : Shape := ⟨3, ![1, 2, 8]⟩

abbrev nBuf : Space → Nat
  | .hbm => 8
  | .vmem => 8
  | .smem => 0
  | _ => 0

abbrev bufTy : (tb : Table) → Fin (tcTables nBuf tb) → BufTy
  | .hbm, ⟨0, _⟩ => ⟨S2x8, .f32⟩
  | .hbm, ⟨1, _⟩ => ⟨S1x2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .hbm, ⟨7, _⟩ => ⟨S2x8, .f32⟩
  | .local _ .vmem, ⟨0, _⟩ => ⟨S2x8, .f32⟩
  | .local _ .vmem, ⟨1, _⟩ => ⟨S1x2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | .local _ .vmem, ⟨7, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S2x8 : Shape := ⟨2, ![2, 8]⟩
abbrev S1x2x8 : Shape := ⟨3, ![1, 2, 8]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S1x2x8, .f32⟩
  | .hbm, ⟨2, _⟩ => ⟨S2x8, .f32⟩
  | .hbm, ⟨3, _⟩ => ⟨S2x8, .f32⟩
  | .hbm, ⟨4, _⟩ => ⟨S_, .f32⟩
  | .hbm, ⟨5, _⟩ => ⟨S2x8, .f32⟩
  | .hbm, ⟨6, _⟩ => ⟨S_, .f32⟩
  | .hbm, ⟨7, _⟩ => ⟨S2x8, .f32⟩
  | .hbm, ⟨8, _⟩ => ⟨S2x8, .f32⟩
  | .hbm, ⟨9, _⟩ => ⟨S_, .f32⟩
  | .hbm, ⟨10, _⟩ => ⟨S2x8, .f32⟩
  | .hbm, ⟨11, _⟩ => ⟨S2x8, .f32⟩
  | .hbm, ⟨12, _⟩ => ⟨S2x8, .f32⟩
  | .hbm, ⟨13, _⟩ => ⟨S_, .f32⟩
  | .hbm, ⟨14, _⟩ => ⟨S2x8, .f32⟩
  | .hbm, ⟨15, _⟩ => ⟨S2x8, .f32⟩
  | .hbm, ⟨16, _⟩ => ⟨S2x8, .f32⟩
  | .hbm, ⟨17, _⟩ => ⟨S_, .f32⟩
  | .hbm, ⟨18, _⟩ => ⟨S2x8, .f32⟩
  | .hbm, ⟨19, _⟩ => ⟨S2x8, .f32⟩
  | .hbm, ⟨20, _⟩ => ⟨S2x8, .f32⟩
  | .hbm, ⟨21, _⟩ => ⟨S_, .f32⟩
  | .hbm, ⟨22, _⟩ => ⟨S2x8, .f32⟩
  | .hbm, ⟨23, _⟩ => ⟨S2x8, .f32⟩
  | .hbm, ⟨24, _⟩ => ⟨S_, .f32⟩
  | .hbm, ⟨25, _⟩ => ⟨S2x8, .f32⟩
  | .hbm, ⟨26, _⟩ => ⟨S2x8, .f32⟩
  | .hbm, ⟨27, _⟩ => ⟨S2x8, .f32⟩
  | .hbm, ⟨28, _⟩ => ⟨S_, .f32⟩
  | .hbm, ⟨29, _⟩ => ⟨S2x8, .f32⟩
  | .hbm, ⟨30, _⟩ => ⟨S2x8, .f32⟩
  | .hbm, ⟨31, _⟩ => ⟨S2x8, .f32⟩
  | .hbm, ⟨32, _⟩ => ⟨S_, .f32⟩
  | .hbm, ⟨33, _⟩ => ⟨S2x8, .f32⟩
  | .hbm, ⟨34, _⟩ => ⟨S2x8, .f32⟩
  | .hbm, ⟨35, _⟩ => ⟨S2x8, .f32⟩
  | .hbm, ⟨36, _⟩ => ⟨S_, .f32⟩
  | .hbm, ⟨37, _⟩ => ⟨S2x8, .f32⟩
  | .hbm, ⟨38, _⟩ => ⟨S2x8, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.IdealRunA.lean ====
/- The run of one grid point of `KernelIdeal`'s scan body, first point. -/
module

public import proofs.«01_k».proof.Proof.Gen.KernelIdeal.Frame.Runs

@[expose] public section

-- the membership checks of the covers recurse once per coordinate of the long axes
set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large, past the default budget
set_option maxHeartbeats 1200000 in
/-- The whole body at the first point, where the carried state and the two accumulators are set to zero: the pieces its stores leave in the windows of the gradient of the query (14) and of the value (16) and in
    the scratch, with the proof that from whole staging buffers the
    body runs and hands back the inputs as they were and those three buffers with their pieces written. -/
noncomputable def runA (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : cond0_0 i)
    (x0 : Vec F S8x128x128 .f32) (x1 : Vec F S8x128x128 .f32) (x2 : Vec F S8x128x128 .f32) (x3 : Vec F S8x1x128 .f32) (x4 : Vec F S8x1x128 .f32) (x5 : Vec F S2x8x128x128 .f32) (x6 : Vec F S8x128x128 .f32) (x7 : Vec F S256x256 .f32) (x8 : Vec F S256x256 .f32) (x9 : Vec F S256x256 .f32) (x10 : Vec F S1536x256 .f32) (x11 : Vec F S256x1536 .f32) (x12 : Vec F S6x256x256 .bf16) (x13 : Vec F S6x256x128 .f32) :
    Σ' (L14 : List (View.Piece (Elt F) S8x128x128 .f32)), Σ' (L16 : List (View.Piece (Elt F) S8x128x128 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ d, owns (c : Thread nD τ) arg16 fullShare d) ∗ (∃ f, arg17.view.loc (c : Thread nD τ) ↦[arg17.view.set]{fullShare} arg17.view.writes (Elt F) f L16) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS0)) -∗ K ⟨⟩))
          ⊢ wp frame (wpE (defs₀ (F := F)) Variants.none c none) E (cc0_hg_bwd_f i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0_hg_bwd_f_eq_skeleton]; unfold cc0_hg_bwd_f_skel
    simp only [k0_part55_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]
    · iexists _, _; isplitr; swap; · iexact H15
      ipureintro; rfl
    isplitl [H16]; · iexists _; iexact H16
    isplitl [H17]
    · iexists _, _; isplitr; swap; · iexact H17
      ipureintro; rfl
    isplitl [H18]
    · iexists _, _; isplitr; swap; · iexact H18
      ipureintro; rfl
    iexists _; iexact HS0

end Cert.KernelIdeal.Scan

end
-- ==== Proof.IdealRunB.lean ====
/- The run of one grid point of `KernelIdeal`'s scan body, later points. -/
module

public import proofs.«01_k».proof.Proof.IdealRunA

@[expose] public section

-- the membership checks of the covers recurse once per coordinate of the long axes
set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large, past the default budget
set_option maxHeartbeats 1200000 in
/-- The whole body at the later points, which find the carried state in the scratch: the pieces its stores leave in the windows of the gradient of the query (14) and of the value (16) and in
    the scratch, with the proof that from whole staging buffers the
    body runs and hands back the inputs as they were and those three buffers with their pieces written. -/
noncomputable def runB (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : ¬cond0_0 i)
    (x0 : Vec F S8x128x128 .f32) (x1 : Vec F S8x128x128 .f32) (x2 : Vec F S8x128x128 .f32) (x3 : Vec F S8x1x128 .f32) (x4 : Vec F S8x1x128 .f32) (x5 : Vec F S2x8x128x128 .f32) (x6 : Vec F S8x128x128 .f32) (x7 : Vec F S256x256 .f32) (x8 : Vec F S256x256 .f32) (x9 : Vec F S256x256 .f32) (x10 : Vec F S1536x256 .f32) (x11 : Vec F S256x1536 .f32) (x12 : Vec F S6x256x256 .bf16) (x13 : Vec F S6x256x128 .f32) (xs0 : Vec F S8x128x128 .f32) :
    Σ' (L14 : List (View.Piece (Elt F) S8x128x128 .f32)), Σ' (L16 : List (View.Piece (Elt F) S8x128x128 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ d, owns (c : Thread nD τ) arg16 fullShare d) ∗ (∃ f, arg17.view.loc (c : Thread nD τ) ↦[arg17.view.set]{fullShare} arg17.view.writes (Elt F) f L16) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS0)) -∗ K ⟨⟩))
          ⊢ wp frame (wpE (defs₀ (F := F)) Variants.none c none) E (cc0_hg_bwd_f i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0_hg_bwd_f_eq_skeleton]; unfold cc0_hg_bwd_f_skel
    simp only [k0_part55_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg20.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]
    · iexists _, _; isplitr; swap; · iexact H15
      ipureintro; rfl
    isplitl [H16]; · iexists _; iexact H16
    isplitl [H17]
    · iexists _, _; isplitr; swap; · iexact H17
      ipureintro; rfl
    isplitl [H18]
    · iexists _, _; isplitr; swap; · iexact H18
      ipureintro; rfl
    iexists _; iexact HS0

end Cert.KernelIdeal.Scan

end
-- ==== Proof.IdealFrame.lean ====
/- The run of `KernelIdeal` over its grid: what the scratch and the two named outputs hold point by point, the body obligation, the launch and the frame. -/
module

public import proofs.«01_k».proof.Proof.IdealRunB
public import Idealize.ShloMosaic.Lib.Claim
public import Idealize.ShloMosaic.Lib.Quiescent

@[expose] public section

-- the membership checks of the covers recurse once per coordinate of the long axes
set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The staging buffer of window 14, whole. -/
abbrev VO14 : View sig .tc .vmem S8x128x128 .f32 := (Memref.whole cc0_stg14_0 : Memref sig .tc .vmem S8x128x128 .f32).view

/-- The staging buffer of window 16, whole. -/
abbrev VO16 : View sig .tc .vmem S8x128x128 .f32 := (Memref.whole cc0_stg16_0 : Memref sig .tc .vmem S8x128x128 .f32).view

/-- Case A's pieces for the scratch cover it. -/
theorem scover0_A_0 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : cond0_0 i)
    (x0 : Vec F S8x128x128 .f32) (x1 : Vec F S8x128x128 .f32) (x2 : Vec F S8x128x128 .f32) (x3 : Vec F S8x1x128 .f32) (x4 : Vec F S8x1x128 .f32) (x5 : Vec F S2x8x128x128 .f32) (x6 : Vec F S8x128x128 .f32) (x7 : Vec F S256x256 .f32) (x8 : Vec F S256x256 .f32) (x9 : Vec F S256x256 .f32) (x10 : Vec F S1536x256 .f32) (x11 : Vec F S256x1536 .f32) (x12 : Vec F S6x256x256 .bf16) (x13 : Vec F S6x256x128 .f32) (y : S8x128x128.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).2.2.1, y ∈ pc.1.set :=
  View.cover_of_wholeMem (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).2.2.1 (by sl_whole_mem) y

/-- What case A leaves in the scratch. -/
def sout0_A_0 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : cond0_0 i)
    (x0 : Vec F S8x128x128 .f32) (x1 : Vec F S8x128x128 .f32) (x2 : Vec F S8x128x128 .f32) (x3 : Vec F S8x1x128 .f32) (x4 : Vec F S8x1x128 .f32) (x5 : Vec F S2x8x128x128 .f32) (x6 : Vec F S8x128x128 .f32) (x7 : Vec F S256x256 .f32) (x8 : Vec F S256x256 .f32) (x9 : Vec F S256x256 .f32) (x10 : Vec F S1536x256 .f32) (x11 : Vec F S256x1536 .f32) (x12 : Vec F S6x256x256 .bf16) (x13 : Vec F S6x256x128 .f32) : Vec F S8x128x128 .f32 :=
  VS0_0.read (Elt F) (VS0_0.writes (Elt F) VS0_0.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).2.2.1)

/-- Case A's pieces for window 14 cover it. -/
theorem cover0_A_14 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : cond0_0 i)
    (x0 : Vec F S8x128x128 .f32) (x1 : Vec F S8x128x128 .f32) (x2 : Vec F S8x128x128 .f32) (x3 : Vec F S8x1x128 .f32) (x4 : Vec F S8x1x128 .f32) (x5 : Vec F S2x8x128x128 .f32) (x6 : Vec F S8x128x128 .f32) (x7 : Vec F S256x256 .f32) (x8 : Vec F S256x256 .f32) (x9 : Vec F S256x256 .f32) (x10 : Vec F S1536x256 .f32) (x11 : Vec F S256x1536 .f32) (x12 : Vec F S6x256x256 .bf16) (x13 : Vec F S6x256x128 .f32) (y : S8x128x128.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).1 S4x64x128.size (by sl_kernel_rfl) y

/-- What case A leaves in window 14. -/
def out0_A_14 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : cond0_0 i)
    (x0 : Vec F S8x128x128 .f32) (x1 : Vec F S8x128x128 .f32) (x2 : Vec F S8x128x128 .f32) (x3 : Vec F S8x1x128 .f32) (x4 : Vec F S8x1x128 .f32) (x5 : Vec F S2x8x128x128 .f32) (x6 : Vec F S8x128x128 .f32) (x7 : Vec F S256x256 .f32) (x8 : Vec F S256x256 .f32) (x9 : Vec F S256x256 .f32) (x10 : Vec F S1536x256 .f32) (x11 : Vec F S256x1536 .f32) (x12 : Vec F S6x256x256 .bf16) (x13 : Vec F S6x256x128 .f32) : Vec F S8x128x128 .f32 :=
  VO14.read (Elt F) (VO14.writes (Elt F) VO14.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).1)

/-- Case A's pieces for window 16 cover it. -/
theorem cover0_A_16 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : cond0_0 i)
    (x0 : Vec F S8x128x128 .f32) (x1 : Vec F S8x128x128 .f32) (x2 : Vec F S8x128x128 .f32) (x3 : Vec F S8x1x128 .f32) (x4 : Vec F S8x1x128 .f32) (x5 : Vec F S2x8x128x128 .f32) (x6 : Vec F S8x128x128 .f32) (x7 : Vec F S256x256 .f32) (x8 : Vec F S256x256 .f32) (x9 : Vec F S256x256 .f32) (x10 : Vec F S1536x256 .f32) (x11 : Vec F S256x1536 .f32) (x12 : Vec F S6x256x256 .bf16) (x13 : Vec F S6x256x128 .f32) (y : S8x128x128.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).2.1 S4x64x128.size (by sl_kernel_rfl) y

/-- What case A leaves in window 16. -/
def out0_A_16 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : cond0_0 i)
    (x0 : Vec F S8x128x128 .f32) (x1 : Vec F S8x128x128 .f32) (x2 : Vec F S8x128x128 .f32) (x3 : Vec F S8x1x128 .f32) (x4 : Vec F S8x1x128 .f32) (x5 : Vec F S2x8x128x128 .f32) (x6 : Vec F S8x128x128 .f32) (x7 : Vec F S256x256 .f32) (x8 : Vec F S256x256 .f32) (x9 : Vec F S256x256 .f32) (x10 : Vec F S1536x256 .f32) (x11 : Vec F S256x1536 .f32) (x12 : Vec F S6x256x256 .bf16) (x13 : Vec F S6x256x128 .f32) : Vec F S8x128x128 .f32 :=
  VO16.read (Elt F) (VO16.writes (Elt F) VO16.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).2.1)

/-- Case B's pieces for the scratch cover it. -/
theorem scover0_B_0 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : ¬cond0_0 i)
    (x0 : Vec F S8x128x128 .f32) (x1 : Vec F S8x128x128 .f32) (x2 : Vec F S8x128x128 .f32) (x3 : Vec F S8x1x128 .f32) (x4 : Vec F S8x1x128 .f32) (x5 : Vec F S2x8x128x128 .f32) (x6 : Vec F S8x128x128 .f32) (x7 : Vec F S256x256 .f32) (x8 : Vec F S256x256 .f32) (x9 : Vec F S256x256 .f32) (x10 : Vec F S1536x256 .f32) (x11 : Vec F S256x1536 .f32) (x12 : Vec F S6x256x256 .bf16) (x13 : Vec F S6x256x128 .f32) (xs0 : Vec F S8x128x128 .f32) (y : S8x128x128.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0).2.2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0).2.2.1 S1x128x128.size (by sl_kernel_rfl) y

/-- What case B leaves in the scratch. -/
def sout0_B_0 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : ¬cond0_0 i)
    (x0 : Vec F S8x128x128 .f32) (x1 : Vec F S8x128x128 .f32) (x2 : Vec F S8x128x128 .f32) (x3 : Vec F S8x1x128 .f32) (x4 : Vec F S8x1x128 .f32) (x5 : Vec F S2x8x128x128 .f32) (x6 : Vec F S8x128x128 .f32) (x7 : Vec F S256x256 .f32) (x8 : Vec F S256x256 .f32) (x9 : Vec F S256x256 .f32) (x10 : Vec F S1536x256 .f32) (x11 : Vec F S256x1536 .f32) (x12 : Vec F S6x256x256 .bf16) (x13 : Vec F S6x256x128 .f32) (xs0 : Vec F S8x128x128 .f32) : Vec F S8x128x128 .f32 :=
  VS0_0.read (Elt F) (VS0_0.writes (Elt F) VS0_0.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0).2.2.1)

/-- Case B's pieces for window 14 cover it. -/
theorem cover0_B_14 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : ¬cond0_0 i)
    (x0 : Vec F S8x128x128 .f32) (x1 : Vec F S8x128x128 .f32) (x2 : Vec F S8x128x128 .f32) (x3 : Vec F S8x1x128 .f32) (x4 : Vec F S8x1x128 .f32) (x5 : Vec F S2x8x128x128 .f32) (x6 : Vec F S8x128x128 .f32) (x7 : Vec F S256x256 .f32) (x8 : Vec F S256x256 .f32) (x9 : Vec F S256x256 .f32) (x10 : Vec F S1536x256 .f32) (x11 : Vec F S256x1536 .f32) (x12 : Vec F S6x256x256 .bf16) (x13 : Vec F S6x256x128 .f32) (xs0 : Vec F S8x128x128 .f32) (y : S8x128x128.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0).1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0).1 S4x64x128.size (by sl_kernel_rfl) y

/-- What case B leaves in window 14. -/
def out0_B_14 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : ¬cond0_0 i)
    (x0 : Vec F S8x128x128 .f32) (x1 : Vec F S8x128x128 .f32) (x2 : Vec F S8x128x128 .f32) (x3 : Vec F S8x1x128 .f32) (x4 : Vec F S8x1x128 .f32) (x5 : Vec F S2x8x128x128 .f32) (x6 : Vec F S8x128x128 .f32) (x7 : Vec F S256x256 .f32) (x8 : Vec F S256x256 .f32) (x9 : Vec F S256x256 .f32) (x10 : Vec F S1536x256 .f32) (x11 : Vec F S256x1536 .f32) (x12 : Vec F S6x256x256 .bf16) (x13 : Vec F S6x256x128 .f32) (xs0 : Vec F S8x128x128 .f32) : Vec F S8x128x128 .f32 :=
  VO14.read (Elt F) (VO14.writes (Elt F) VO14.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0).1)

/-- Case B's pieces for window 16 cover it. -/
theorem cover0_B_16 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : ¬cond0_0 i)
    (x0 : Vec F S8x128x128 .f32) (x1 : Vec F S8x128x128 .f32) (x2 : Vec F S8x128x128 .f32) (x3 : Vec F S8x1x128 .f32) (x4 : Vec F S8x1x128 .f32) (x5 : Vec F S2x8x128x128 .f32) (x6 : Vec F S8x128x128 .f32) (x7 : Vec F S256x256 .f32) (x8 : Vec F S256x256 .f32) (x9 : Vec F S256x256 .f32) (x10 : Vec F S1536x256 .f32) (x11 : Vec F S256x1536 .f32) (x12 : Vec F S6x256x256 .bf16) (x13 : Vec F S6x256x128 .f32) (xs0 : Vec F S8x128x128 .f32) (y : S8x128x128.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0).2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0).2.1 S4x64x128.size (by sl_kernel_rfl) y

/-- What case B leaves in window 16. -/
def out0_B_16 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : ¬cond0_0 i)
    (x0 : Vec F S8x128x128 .f32) (x1 : Vec F S8x128x128 .f32) (x2 : Vec F S8x128x128 .f32) (x3 : Vec F S8x1x128 .f32) (x4 : Vec F S8x1x128 .f32) (x5 : Vec F S2x8x128x128 .f32) (x6 : Vec F S8x128x128 .f32) (x7 : Vec F S256x256 .f32) (x8 : Vec F S256x256 .f32) (x9 : Vec F S256x256 .f32) (x10 : Vec F S1536x256 .f32) (x11 : Vec F S256x1536 .f32) (x12 : Vec F S6x256x256 .bf16) (x13 : Vec F S6x256x128 .f32) (xs0 : Vec F S8x128x128 .f32) : Vec F S8x128x128 .f32 :=
  VO16.read (Elt F) (VO16.writes (Elt F) VO16.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0).2.1)

variable (m : (ℓ : Loc nD τ sig) → Buf (Elt F) ℓ) (ρ : Dev nD → PrngReg)

/-- For any proof data over the region-entry arrays: the launch ends with the argument arrays as they were. -/
theorem args_kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 2 rfl).trans ((hA c 2).trans (V_main_arg0 m c)),
      ((h c).2 main_arg1 (Pipeline.mem_restRefs_of main_arg1 (by decide) (by decide))).trans (V_main_arg1 m c),
      (Pipeline.RDat.FramePost.arr_in h c 5 rfl).trans ((hA c 5).trans (V_main_arg2 m c)),
      (Pipeline.RDat.FramePost.arr_in h c 6 rfl).trans ((hA c 6).trans (V_main_arg3 m c))⟩) h

/-- What the body leaves at point `t` when the scratch holds `x` before it: the two named windows, then the scratch. -/
def stepAt (c : Dev nD) (t : Fin cfg0.N) (x : Vec F S8x128x128 .f32) : Vec F S8x128x128 .f32 × Vec F S8x128x128 .f32 × Vec F S8x128x128 .f32 :=
  if h0 : t.val % 66 = 0 then
    (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
  else
    (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x)

/-- `stepAt` at the first point. -/
theorem stepAt_A (c : Dev nD) (t : Fin cfg0.N) (h0 : t.val % 66 = 0) (x : Vec F S8x128x128 .f32) :
    stepAt m c t x = (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) :=
  dif_pos h0

/-- `stepAt` at a later point. -/
theorem stepAt_B (c : Dev nD) (t : Fin cfg0.N) (h0 : ¬t.val % 66 = 0) (x : Vec F S8x128x128 .f32) :
    stepAt m c t x = (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x) :=
  dif_neg h0

/-- What the scratch holds before point `n`: nothing named before the first, then what the point before left. -/
def scAt (c : Dev nD) : ℕ → Vec F S8x128x128 .f32
  | 0 => VS0_0.read (Elt F) VS0_0.junk
  | n + 1 => if h : n < cfg0.N then (stepAt m c ⟨n, h⟩ (scAt c n)).2.2 else scAt c n

/-- The scratch after point `t`. -/
theorem scAt_succ (c : Dev nD) (t : Fin cfg0.N) : scAt m c (t.val + 1) = (stepAt m c t (scAt m c t.val)).2.2 :=
  dif_pos t.isLt

/-- The invariant before position `n`: the scratch at anything before the first point, afterwards at what the point before
    left. -/
def PhiS (c : Dev nD) : ℕ → sProp 𝕄
  | 0 => Pipeline.ΦA spec0 c
  | n + 1 => iprop(iprop(owns (c : Thread nD τ) scM0_0 fullShare (scAt m c (n + 1))) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM0_0 fullShare (scAt m c (n + 1))) ∗ (∃ r, prngReg c r)) := rfl

theorem PhiS_pos (c : Dev nD) (n : ℕ) (hz : n ≠ 0) :
    PhiS m c n = iprop(iprop(owns (c : Thread nD τ) scM0_0 fullShare (scAt m c n)) ∗ (∃ r, prngReg c r)) := by
  cases n with
  | zero => exact absurd rfl hz
  | succ n => rfl

/-- The output windows of which nothing is named. -/
def forgotten : Fin 19 → Bool := fun w => w.val == 15 || w.val == 17 || w.val == 18

/-- The proof data: each input at its block after the body, windows 14 and 16 at what the body leaves, the other outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (stepAt m c t (scAt m c t.val)).1
    | ⟨15, h⟩ => Pipeline.Dat.unnamed (cfg := cfg0) ⟨15, h⟩ t
    | ⟨16, _⟩ => (stepAt m c t (scAt m c t.val)).2.1
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (stepAt m c t (scAt m c t.val)).1 := by dsimp only [dats]
theorem after0_16 (c : Dev nD) (t : Fin cfg0.N) : (dats m 0 c).after 16 t = (stepAt m c t (scAt m c t.val)).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare ((dats m 0 c).before 16 t d))
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ (∃ d, owns (c : Thread nD τ) (ms0_15 t) fullShare d)
    ∗ owns (c : Thread nD τ) (ms0_16 t) fullShare ((dats m 0 c).after 16 t)
    ∗ (∃ d, owns (c : Thread nD τ) (ms0_17 t) fullShare d)
    ∗ (∃ d, owns (c : Thread nD τ) (ms0_18 t) fullShare d))

set_option maxHeartbeats 16000000 in
/-- The body at any point: the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_16]
  rw [show (dats m 0 c).Φ t.succ = PhiS m c (t.val + 1) from rfl, PhiS_succ, scAt_succ,
    show (dats m 0 c).Φ t.castSucc = PhiS m c t.val from rfl]
  have hN : t.val < 66 := lt_of_lt_of_eq t.isLt (show cfg0.N = 66 from N_0)
  by_cases h0 : t.val % 66 = 0
  · have hz : t.val = 0 := by omega
    rw [PhiS_zero m c _ hz, PhiA0_eq]
    rw [stepAt_A m c t h0]
    unfold out0_A_14 out0_A_16 sout0_A_0; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((runA c (grid0.coords t) _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexact HS0
    iintro ⟨H0, H1, H2, H3, H4, H5, H6, H7, H8, H9, H10, H11, H12, H13, ⟨%e14, H14⟩, H15, ⟨%e16, H16⟩, H17, H18, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _)
    isplitl [H15]; · iexact H15
    isplitl [H16]
    · unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _)
    isplitl [H17]; · iexact H17
    iexact H18
  · have hz : t.val ≠ 0 := fun h => h0 (by rw [h])
    rw [PhiS_pos m c _ hz]
    rw [stepAt_B m c t h0]
    unfold out0_B_14 out0_B_16 sout0_B_0; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((runB c (grid0.coords t) _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (scAt m c t.val)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexact HS0
    iintro ⟨H0, H1, H2, H3, H4, H5, H6, H7, H8, H9, H10, H11, H12, H13, ⟨%e14, H14⟩, H15, ⟨%e16, H16⟩, H17, H18, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _)
    isplitl [H15]; · iexact H15
    isplitl [H16]
    · unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _)
    isplitl [H17]; · iexact H17
    iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgotten := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives that back. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 66 := N_0; omega), PhiA0_eq]
  iintro ⟨HS0, Hg⟩
  isplitl [HS0]
  · iexists _; iexact HS0
  iexact Hg

-- the implicit arguments are found by unifying conclusions, which takes unfolding definitions in a metavariable's type
set_option backward.isDefEq.respectTransparency.types false in
/-- THE LAUNCH, and every semaphore counter at zero at every final state. -/
theorem run_main_quiescent : θ_run defs (onTc (τ := τ) (main (F := F))) (s₀ m ρ) (fun r => (Pipeline.RDat.FramePost (cfgs 0) (fun c => (dats m 0 c).toRForget forgotten) (V m)) r ∧ r.2.sem = fun _ => 0) :=
  Pipeline.θ_run_frame_track_forget_shared (Q' := _) cfgs (dats m) (0 : Fin 1) launch₀0 defs₀ Variants.none forgotten m ρ main
    (hbody := fun c => (body_obligation m c).loose) (hq := fun _ _ _ => rfl)
    (howed := fun _ _ => rfl) (V := V m) (hmain := hmain m Variants.none) (hA := A_eq m) (hin := hin m) (hout := hout m)

/-- Every execution of @main terminates with the input arrays unchanged and the named outputs at what the points left. -/
theorem run_main : θ_run defs (onTc (τ := τ) (main (F := F))) (s₀ m ρ) (Pipeline.RDat.FramePost (cfgs 0) (fun c => (dats m 0 c).toRForget forgotten) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  args_kept m ρ (fun c => (dats m 0 c).toRForget forgotten) (A_eq m) (run_main m ρ)

/-- THE FRAME: `Cert.quiescent_Kernel`'s statement (Defs.lean) at any `F` — Proof.lean cites it at `Bits`:
    `theorem Cert.Proof.claim : Cert.Claim := ⟨Cert.Kernel.facts, fun m ρ _ => Cert.Kernel.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Scan

end
-- ==== Proof.Model.lean ====
/- One head of one chunk of the recurrence's backward pass, over the extended reals: the gradient of the values and the
   state's gradient handed to the chunk before; the gates; and the splitting of a causal score into six levels. -/
module

public import Idealize.ShloMosaic.Lib.Pointwise

@[expose] public section

noncomputable section

namespace Cert.Hg

open Idealize.ShloMosaic
open scoped BigOperators

/-- A chunk's rows of one head: 64 tokens by 128 lanes. -/
abbrev Rows := Fin 64 → Fin 128 → EReal
/-- The same with real entries. -/
abbrev RRows := Fin 64 → Fin 128 → ℝ
/-- A head's state gradient: key lane, value lane. -/
abbrev Mat := Fin 128 → Fin 128 → EReal

/-- The sum of the log forget gates up to and including token `t`. -/
def cum (g : RRows) (t : Fin 64) (d : Fin 128) : ℝ := ∑ u : Fin 64, if u ≤ t then g u d else 0

/-- The chunk's sum of the log forget gates. -/
def tot (g : RRows) (d : Fin 128) : ℝ := ∑ u : Fin 64, g u d

/-- The causal score of query token `t` against key token `s`, nothing after `t`. -/
def score (q : Rows) (k g : RRows) (t s : Fin 64) : EReal :=
  if s ≤ t then ∑ d : Fin 128, q t d * (k s d : EReal) * ((Real.exp (cum g t d - cum g s d) : ℝ) : EReal) else 0

/-- A key decayed to the end of the chunk. -/
def kdec (k g : RRows) (s : Fin 64) (d : Fin 128) : EReal := (k s d : EReal) * ((Real.exp (tot g d - cum g s d) : ℝ) : EReal)

/-- A query decayed from the start of the chunk. -/
def qdec (q : Rows) (g : RRows) (t : Fin 64) (d : Fin 128) : EReal := q t d * ((Real.exp (cum g t d) : ℝ) : EReal)

/-- The gradient of the values of one chunk: through the scores, and through the state it leaves (gradient `dS`). -/
def dval (q : Rows) (k g : RRows) (o : Rows) (dS : Mat) (s : Fin 64) (v : Fin 128) : EReal :=
  (∑ t : Fin 64, score q k g t s * o t v) + ∑ d : Fin 128, kdec k g s d * dS d v

/-- The gradient of the state the chunk found, from that of the state it leaves. -/
def dstate (q : Rows) (g : RRows) (o : Rows) (dS : Mat) (d v : Fin 128) : EReal :=
  dS d v * ((Real.exp (tot g d) : ℝ) : EReal) + ∑ t : Fin 64, o t v * qdec q g t d

/-! ## Levels -/

/-- Half the block width of level `l`: 32, 16, 8, 4, 2, 1. -/
def half (l : Fin 6) : ℕ := 32 >>> l.val

/-- Level `l` serves the pair: one block of twice the half width, `t` in its second half and `s` in its first. -/
def serves (l : Fin 6) (t s : Fin 64) : Prop :=
  t.val / (2 * half l) = s.val / (2 * half l) ∧ half l ≤ t.val % (2 * half l) ∧ ¬ half l ≤ s.val % (2 * half l)

instance (l : Fin 6) (t s : Fin 64) : Decidable (serves l t s) := inferInstanceAs (Decidable (_ ∧ _ ∧ _))

/-- What serving says, level by level. -/
theorem serves_iff (l : Fin 6) (t s : Fin 64) : serves l t s ↔
    (l = 0 ∧ t.val / 64 = s.val / 64 ∧ 32 ≤ t.val % 64 ∧ ¬ 32 ≤ s.val % 64) ∨
    (l = 1 ∧ t.val / 32 = s.val / 32 ∧ 16 ≤ t.val % 32 ∧ ¬ 16 ≤ s.val % 32) ∨
    (l = 2 ∧ t.val / 16 = s.val / 16 ∧ 8 ≤ t.val % 16 ∧ ¬ 8 ≤ s.val % 16) ∨
    (l = 3 ∧ t.val / 8 = s.val / 8 ∧ 4 ≤ t.val % 8 ∧ ¬ 4 ≤ s.val % 8) ∨
    (l = 4 ∧ t.val / 4 = s.val / 4 ∧ 2 ≤ t.val % 4 ∧ ¬ 2 ≤ s.val % 4) ∨
    (l = 5 ∧ t.val / 2 = s.val / 2 ∧ 1 ≤ t.val % 2 ∧ ¬ 1 ≤ s.val % 2) := by
  fin_cases l <;> simp [serves, half]

/-- A level serves a pair only when the key's token is before the query's. -/
theorem lt_of_serves (l : Fin 6) (t s : Fin 64) (h : serves l t s) : s < t := by
  rw [serves_iff] at h
  rw [Fin.lt_def]
  rcases h with h | h | h | h | h | h <;> omega

/-- No two levels serve one pair. -/
theorem serves_unique (t s : Fin 64) (l l' : Fin 6) (h : serves l t s) (h' : serves l' t s) : l = l' := by
  rw [serves_iff] at h h'
  rcases h with h | h | h | h | h | h <;> rcases h' with h' | h' | h' | h' | h' | h' <;>
    first | exact h.1.trans h'.1.symm | (exfalso; omega)

/-- Some level serves every pair whose key's token is before the query's. -/
theorem exists_serves (t s : Fin 64) (h : s < t) : ∃ l, serves l t s := by
  rw [Fin.lt_def] at h
  have ht := t.isLt
  by_cases h0 : t.val / 32 = s.val / 32
  swap
  · exact ⟨0, (serves_iff _ _ _).2 (.inl ⟨rfl, by omega, by omega, by omega⟩)⟩
  by_cases h1 : t.val / 16 = s.val / 16
  swap
  · exact ⟨1, (serves_iff _ _ _).2 (.inr (.inl ⟨rfl, by omega, by omega, by omega⟩))⟩
  by_cases h2 : t.val / 8 = s.val / 8
  swap
  · exact ⟨2, (serves_iff _ _ _).2 (.inr (.inr (.inl ⟨rfl, by omega, by omega, by omega⟩)))⟩
  by_cases h3 : t.val / 4 = s.val / 4
  swap
  · exact ⟨3, (serves_iff _ _ _).2 (.inr (.inr (.inr (.inl ⟨rfl, by omega, by omega, by omega⟩))))⟩
  by_cases h4 : t.val / 2 = s.val / 2
  swap
  · exact ⟨4, (serves_iff _ _ _).2 (.inr (.inr (.inr (.inr (.inl ⟨rfl, by omega, by omega, by omega⟩)))))⟩
  exact ⟨5, (serves_iff _ _ _).2 (.inr (.inr (.inr (.inr (.inr ⟨rfl, by omega, by omega, by omega⟩)))))⟩

/-- The diagonal's term and the six levels' terms add up to the causal score. -/
theorem sum_levels (t s : Fin 64) (D X : EReal) (h : t = s → D = X) :
    (if t = s then D else 0) + ∑ l : Fin 6, (if serves l t s then X else 0) = if s ≤ t then X else 0 := by
  rcases lt_trichotomy s t with hst | hst | hst
  · obtain ⟨l, hl⟩ := exists_serves t s hst
    rw [if_neg hst.ne', if_pos hst.le, zero_add, Finset.sum_eq_single l, if_pos hl]
    · intro l' _ hne
      exact if_neg fun h' => hne (serves_unique t s l' l h' hl)
    · intro h'; exact absurd (Finset.mem_univ l) h'
  · rw [if_pos hst.symm, if_pos hst.le, h hst.symm, Finset.sum_eq_zero, add_zero]
    intro l _
    exact if_neg fun h' => absurd (lt_of_serves l t s h') (by rw [hst]; exact lt_irrefl _)
  · rw [if_neg hst.ne, if_neg (not_le.2 hst), zero_add, Finset.sum_eq_zero]
    intro l _
    exact if_neg fun h' => absurd (lt_of_serves l t s h') (not_lt.2 hst.le)

/-! ## Gates -/

/-- The exponential of a real. -/
theorem exp_coe (r : ℝ) : Ideal.exp (r : EReal) = ((Real.exp r : ℝ) : EReal) := rfl

/-- The logarithm of a positive real. -/
theorem log_coe {r : ℝ} (h : 0 < r) : Ideal.log (r : EReal) = ((Real.log r : ℝ) : EReal) := if_neg (not_le.2 h)

/-- The quotient of a real by a positive real. -/
theorem div_coe (a : ℝ) {b : ℝ} (h : 0 < b) : Ideal.div (a : EReal) (b : EReal) = ((a / b : ℝ) : EReal) := by
  unfold Ideal.div
  rw [if_neg (by exact_mod_cast h.ne'), ← EReal.coe_inv, ← EReal.coe_mul, div_eq_mul_inv]

/-- The logistic function on the reals. -/
def sig (x : ℝ) : ℝ := 1 / (1 + Real.exp (-x))

theorem sig_pos (x : ℝ) : 0 < sig x := by unfold sig; positivity

theorem sig_lt_one (x : ℝ) : sig x < 1 := by
  unfold sig
  rw [div_lt_one (by positivity)]
  linarith [Real.exp_pos (-x)]

theorem logistic_coe (x : ℝ) : Ideal.logistic (x : EReal) = ((sig x : ℝ) : EReal) := by
  unfold Ideal.logistic sig
  rw [← EReal.coe_neg, exp_coe, ← EReal.coe_one, ← EReal.coe_add, div_coe _ (by positivity)]

theorem logistic_bot : Ideal.logistic ⊥ = 0 := by
  unfold Ideal.logistic
  rw [EReal.neg_bot]
  show Ideal.div 1 (1 + ⊤) = 0
  rw [EReal.add_top_of_ne_bot (by decide)]
  unfold Ideal.div
  rw [if_neg (by decide), EReal.inv_top, mul_zero]

theorem logistic_top : Ideal.logistic ⊤ = 1 := by
  unfold Ideal.logistic
  rw [EReal.neg_top]
  show Ideal.div 1 (1 + 0) = 1
  rw [add_zero, ← EReal.coe_one, div_coe _ one_pos, div_one]

/-- The logistic function of anything is a real of the unit interval. -/
theorem logistic_real (x : EReal) : ∃ r : ℝ, 0 ≤ r ∧ r ≤ 1 ∧ Ideal.logistic x = (r : EReal) := by
  induction x with
  | bot => exact ⟨0, le_rfl, zero_le_one, by rw [logistic_bot]; rfl⟩
  | top => exact ⟨1, zero_le_one, le_rfl, by rw [logistic_top]; rfl⟩
  | coe x => exact ⟨sig x, (sig_pos x).le, (sig_lt_one x).le, logistic_coe x⟩

/-- The log forget gate of a raw gate `f` over the lower bound `lb`. -/
def gate (lb : ℝ) (f : EReal) : ℝ := Real.log (lb + (1 - lb) * (Ideal.logistic f).toReal)

/-- The key of a raw gate `f` over the lower bound `lb`. -/
def key (lb : ℝ) (f : EReal) : ℝ := (1 - lb) * (Ideal.logistic (-f)).toReal

/-- The kernel's log forget gate is that real. -/
theorem gate_eq {lb : ℝ} (h0 : 0 < lb) (h1 : lb < 1) (f : EReal) :
    Ideal.log ((lb : EReal) + (1 - (lb : EReal)) * Ideal.logistic f) = ((gate lb f : ℝ) : EReal) := by
  obtain ⟨r, hr0, hr1, hr⟩ := logistic_real f
  unfold gate
  rw [hr, EReal.toReal_coe, ← EReal.coe_one, ← EReal.coe_sub, ← EReal.coe_mul, ← EReal.coe_add, log_coe]
  have : 0 ≤ (1 - lb) * r := mul_nonneg (by linarith) hr0
  linarith

/-- The key is a real. -/
theorem key_eq (lb : ℝ) (f : EReal) : (1 - (lb : EReal)) * Ideal.logistic (-f) = ((key lb f : ℝ) : EReal) := by
  obtain ⟨r, hr0, hr1, hr⟩ := logistic_real (-f)
  unfold key
  rw [hr, EReal.toReal_coe, ← EReal.coe_one, ← EReal.coe_sub, ← EReal.coe_mul]

end Cert.Hg

end
-- ==== Proof.Ops.lean ====
/- One group of four heads of one chunk, as the kernel body computes it: its vector operations in the body's order. -/
module

public import proofs.«01_k».proof.Proof.Gen.KernelIdeal
public import proofs.«01_k».proof.Proof.Model
public import Idealize.ShloMosaic.Lib.Pointwise

@[expose] public section

noncomputable section

namespace Cert.KernelIdeal.Ops

open Cert.KernelIdeal.Gen Cert.Hg
open Idealize.ShloMosaic
open scoped BigOperators

/-- The constant arrays the body reads. -/
structure Masks where
  eye : FVec Ideal S256x256 .f32
  incl : FVec Ideal S256x256 .f32
  mid : FVec Ideal S1536x256 .f32
  same : FVec Ideal S6x256x256 .bf16
  sec : FVec Ideal S6x256x128 .f32

/-- What the body reads of one group of heads in one chunk: raw query, raw gate, the output's gradient, the two logits. -/
structure Loads where
  q : FVec Ideal S4x64x128 .f32
  f : FVec Ideal S4x64x128 .f32
  o : FVec Ideal S4x64x128 .f32
  l0 : FVec Ideal S4x1x128 .f32
  l1 : FVec Ideal S4x1x128 .f32

variable (C : Masks) (G : Loads)

/-- A number in every entry of 256 rows. -/
abbrev splat (w : BitVec 32) : FVec Ideal S256x128 .f32 := broadcast S256x128 (Scalar.ofBits .f32 w)

/-- Four heads' chunks as 256 rows. -/
abbrev rowsV (x : FVec Ideal S4x64x128 .f32) : FVec Ideal S256x128 .f32 := shapeCast S256x128 x shapeCasts_S4x64x128_S256x128

/-- The lower bound of the forget gates. -/
def lbV : FVec Ideal S256x128 .f32 :=
  shapeCast S256x128 (broadcastTo S4x64x128 (shapeCast S4x1x128
    (logistic (subf (shapeCast S4x1x128 G.l0 shapeCasts_S4x1x128_S4x1x128) (shapeCast S4x1x128 G.l1 shapeCasts_S4x1x128_S4x1x128)))
    shapeCasts_S4x1x128_S4x1x128) broadcasts_S4x1x128_S4x64x128) shapeCasts_S4x64x128_S256x128

/-- The query. -/
def qV : FVec Ideal S256x128 .f32 := mulf (mulf (rowsV G.q) (logistic (rowsV G.q))) (splat 0x3DB504F3#32)

/-- The log forget gate. -/
def glV : FVec Ideal S256x128 .f32 := log (addf (lbV G) (mulf (subf (splat 0x3F800000#32) (lbV G)) (logistic (rowsV G.f))))

/-- The key. -/
def kV : FVec Ideal S256x128 .f32 :=
  mulf (subf (splat 0x3F800000#32) (lbV G)) (logistic (subf (splat 0x00000000#32) (rowsV G.f)))

/-- The running sums of the log forget gate. -/
def bV : FVec Ideal S256x128 .f32 :=
  addf
    (matmul dot_S256x256_S256x128_S256x128_1_0_0_1_n_n none (shapeCast S256x256 C.incl shapeCasts_S256x256_S256x256)
      (extf .f32 (truncf .bf16 (glV G) bitsLt_bf16_f32) bitsLt_bf16_f32) (constant S256x128 .f32 0x00000000#32))
    (matmul dot_S256x256_S256x128_S256x128_1_0_0_1_n_n none (shapeCast S256x256 C.incl shapeCasts_S256x256_S256x256)
      (subf (glV G) (extf .f32 (truncf .bf16 (glV G) bitsLt_bf16_f32) bitsLt_bf16_f32)) (constant S256x128 .f32 0x00000000#32))

/-- The chunk's sums of the log forget gate, one copy a row. -/
def btotV : FVec Ideal S256x128 .f32 :=
  shapeCast S256x128 (broadcastTo S4x64x128 (shapeCast S4x1x128 (shapeCast S4x1x128
    (multiReduction .add [1] S4x128 (shapeCast S4x64x128 (glV G) shapeCasts_S256x128_S4x64x128) 0x00000000#32
      reduces_S4x64x128_S4x128 (.inl rfl) rfl)
    shapeCasts_S4x128_S4x1x128) shapeCasts_S4x1x128_S4x1x128) broadcasts_S4x1x128_S4x64x128) shapeCasts_S4x64x128_S256x128

/-- The key decayed to the chunk's end. -/
def kdV : FVec Ideal S256x128 .f32 := mulf (kV G) (exp (subf (btotV G) (bV C G)))

/-- The query decayed from the chunk's start. -/
def qdV : FVec Ideal S256x128 .f32 := mulf (qV G) (exp (bV C G))

/-- The running sums up to each level's block middle, all levels. -/
def midsV : FVec Ideal S1536x128 .f32 :=
  matmul dot_S1536x256_S256x128_S1536x128_1_0_0_1_n_n none (shapeCast S1536x256 C.mid shapeCasts_S1536x256_S1536x256) (glV G)
    (constant S1536x128 .f32 0x00000000#32)

variable (o l : ℕ) (h1 : S1536x128.Slices ![o, 0] S256x128) (h2 : S6x256x128.Slices ![l, 0, 0] S1x256x128)
  (h3 : S6x256x256.Slices ![l, 0, 0] S1x256x256)

/-- One level's running sums. -/
def midV : FVec Ideal S256x128 .f32 := extractStridedSlice S256x128 ![o, 0] (midsV C G) h1

/-- One level's marks of the second halves. -/
def secV : FVec Ideal S256x128 .f32 :=
  shapeCast S256x128 (extractStridedSlice S1x256x128 ![l, 0, 0] (shapeCast S6x256x128 C.sec shapeCasts_S6x256x128_S6x256x128) h2)
    shapeCasts_S1x256x128_S256x128

/-- One level's marks of the pairs in one block. -/
def sameV : FVec Ideal S256x256 .bf16 :=
  shapeCast S256x256 (extractStridedSlice S1x256x256 ![l, 0, 0] (shapeCast S6x256x256 C.same shapeCasts_S6x256x256_S6x256x256) h3)
    shapeCasts_S1x256x256_S256x256

/-- One level's queries. -/
def qtV : FVec Ideal S256x128 .f32 :=
  mulf (mulf (qV G) (exp (mulf (subf (bV C G) (midV C G o h1)) (secV C l h2)))) (secV C l h2)

/-- One level's keys. -/
def ktV : FVec Ideal S256x128 .f32 :=
  mulf (mulf (kV G) (exp (mulf (subf (midV C G o h1) (bV C G)) (subf (splat 0x3F800000#32) (secV C l h2)))))
    (subf (splat 0x3F800000#32) (secV C l h2))

/-- One level's scores. -/
def levelV : FVec Ideal S256x256 .bf16 :=
  mulf (truncf .bf16 (matmul dot_S256x128_S256x128_S256x256_1_1_0_0_n_n none (qtV C G o l h1 h2) (ktV C G o l h1 h2)
    (constant S256x256 .f32 0x00000000#32)) bitsLt_bf16_f32) (sameV C l h3)

/-- The diagonal's scores. -/
def diagV : FVec Ideal S256x256 .bf16 :=
  truncf .bf16 (mulf (shapeCast S256x256 C.eye shapeCasts_S256x256_S256x256)
    (broadcastTo S256x256 (shapeCast S256x1 (multiReduction .add [1] S256 (mulf (qV G) (kV G)) 0x00000000#32 reduces_S256x128_S256
      (.inl rfl) rfl) shapeCasts_S256_S256x1) broadcasts_S256x1_S256x256)) bitsLt_bf16_f32

/-- The scores. -/
def aV : FVec Ideal S256x256 .f32 :=
  extf .f32
    (addf (addf (addf (addf (addf (addf (diagV C G)
      (levelV C G 0 0 slices_S1536x128_o0_0_S256x128 slices_S6x256x128_o0_0_0_S1x256x128 slices_S6x256x256_o0_0_0_S1x256x256))
      (levelV C G 256 1 slices_S1536x128_o256_0_S256x128 slices_S6x256x128_o1_0_0_S1x256x128 slices_S6x256x256_o1_0_0_S1x256x256))
      (levelV C G 512 2 slices_S1536x128_o512_0_S256x128 slices_S6x256x128_o2_0_0_S1x256x128 slices_S6x256x256_o2_0_0_S1x256x256))
      (levelV C G 768 3 slices_S1536x128_o768_0_S256x128 slices_S6x256x128_o3_0_0_S1x256x128 slices_S6x256x256_o3_0_0_S1x256x256))
      (levelV C G 1024 4 slices_S1536x128_o1024_0_S256x128 slices_S6x256x128_o4_0_0_S1x256x128 slices_S6x256x256_o4_0_0_S1x256x256))
      (levelV C G 1280 5 slices_S1536x128_o1280_0_S256x128 slices_S6x256x128_o5_0_0_S1x256x128 slices_S6x256x256_o5_0_0_S1x256x256))
    bitsLt_bf16_f32

/-- Four heads' rows put under each other, as a sum of four arrays zero elsewhere. -/
def catV (p0 p1 p2 p3 : FVec Ideal S64x128 .f32) : FVec Ideal S256x128 .f32 :=
  addf (addf (addf
    (concatenate S256x128 0 [⟨S192x128, broadcast S192x128 (Scalar.ofBits .f32 0x00000000#32)⟩, ⟨S64x128, p3⟩]
      concatenates_S192x128_S64x128_S256x128_d0)
    (concatenate S256x128 0 [⟨S192x128, concatenate S192x128 0
      [⟨S128x128, broadcast S128x128 (Scalar.ofBits .f32 0x00000000#32)⟩, ⟨S64x128, p2⟩] concatenates_S128x128_S64x128_S192x128_d0⟩,
      ⟨S64x128, broadcast S64x128 (Scalar.ofBits .f32 0x00000000#32)⟩] concatenates_S192x128_S64x128_S256x128_d0))
    (concatenate S256x128 0 [⟨S128x128, concatenate S128x128 0
      [⟨S64x128, broadcast S64x128 (Scalar.ofBits .f32 0x00000000#32)⟩, ⟨S64x128, p1⟩] concatenates_S64x128_S64x128_S128x128_d0⟩,
      ⟨S128x128, broadcast S128x128 (Scalar.ofBits .f32 0x00000000#32)⟩] concatenates_S128x128_S128x128_S256x128_d0))
    (concatenate S256x128 0 [⟨S64x128, p0⟩, ⟨S192x128, broadcast S192x128 (Scalar.ofBits .f32 0x00000000#32)⟩]
      concatenates_S64x128_S192x128_S256x128_d0)

variable (s : ℕ) (hs : S256x128.Slices ![s, 0] S64x128)

/-- A head's rows of a group. -/
abbrev headV (x : FVec Ideal S256x128 .f32) : FVec Ideal S64x128 .f32 := extractStridedSlice S64x128 ![s, 0] x hs

/-- A head's gradient of the values through the state the chunk leaves. -/
def viaV (dn : FVec Ideal S128x128 .f32) : FVec Ideal S64x128 .f32 :=
  transpose S64x128 [1, 0] (matmul dot_S128x128_S64x128_S128x64_1_1_0_0_n_n none dn (headV s hs (kdV C G))
    (constant S128x64 .f32 0x00000000#32)) transposes_S128x64_p1_0_S64x128

/-- The gradient of the values of the group, from the gradients of the states it leaves. -/
def giV (d0 d1 d2 d3 : FVec Ideal S128x128 .f32) : FVec Ideal S256x128 .f32 :=
  addf (catV (viaV C G 0 slices_S256x128_o0_0_S64x128 d0) (viaV C G 64 slices_S256x128_o64_0_S64x128 d1)
      (viaV C G 128 slices_S256x128_o128_0_S64x128 d2) (viaV C G 192 slices_S256x128_o192_0_S64x128 d3))
    (transpose S256x128 [1, 0] (matmul dot_S256x128_S256x256_S128x256_0_0_1_1_n_n none
      (catV (headV 0 slices_S256x128_o0_0_S64x128 (rowsV G.o)) (headV 64 slices_S256x128_o64_0_S64x128 (rowsV G.o))
        (headV 128 slices_S256x128_o128_0_S64x128 (rowsV G.o)) (headV 192 slices_S256x128_o192_0_S64x128 (rowsV G.o)))
      (aV C G) (constant S128x256 .f32 0x00000000#32)) transposes_S128x256_p1_0_S256x128)

/-- The gradient of the state a head found, from that of the state it leaves. -/
def dsV (dn : FVec Ideal S128x128 .f32) : FVec Ideal S128x128 .f32 :=
  addf (mulf dn (broadcastTo S128x128 (extractStridedSlice S1x128 ![0, 0] (headV s hs (exp (btotV G))) slices_S64x128_o0_0_S1x128)
      broadcasts_S1x128_S128x128))
    (matmul dot_S64x128_S64x128_S128x128_0_0_1_1_n_n none (headV s hs (rowsV G.o)) (headV s hs (qdV C G))
      (constant S128x128 .f32 0x00000000#32))

/-- A state's gradient as read from the scratch. -/
def ldV (x : FVec Ideal S1x128x128 .f32) : FVec Ideal S128x128 .f32 :=
  shapeCast S128x128 (shapeCast S128x128 x shapeCasts_S1x128x128_S128x128) shapeCasts_S128x128_S128x128

end Cert.KernelIdeal.Ops

end
-- ==== Proof.Read.lean ====
/- The chunk's operations read at an index: the gradient of the values is `dval`, that of the state `dstate`. -/
module

public import proofs.«01_k».proof.Proof.Ops

@[expose] public section

noncomputable section

namespace Cert.KernelIdeal.Ops

open Cert.KernelIdeal.Gen Cert.Hg
open Idealize.ShloMosaic
open scoped BigOperators

/-- Row of head `i` of the group, token `t`. -/
abbrev row (i : Fin 4) (t : Fin 64) : Fin 256 := ⟨i.val * 64 + t.val, by omega⟩

/-- Row of level `l`. -/
abbrev lrow (l : Fin 6) (r : Fin 256) : Fin 1536 := ⟨l.val * 256 + r.val, by omega⟩

theorem row_div (i : Fin 4) (t : Fin 64) (h) : (⟨(i.val * 64 + t.val) / 64, h⟩ : Fin 4) = i := by ext; simp; omega
theorem row_mod (i : Fin 4) (t : Fin 64) (h) : (⟨(i.val * 64 + t.val) % 64, h⟩ : Fin 64) = t := by
  apply Fin.ext
  show (i.val * 64 + t.val) % 64 = t.val
  omega

/-- A finite sum of reals read as extended reals. -/
theorem coe_sum {ι : Type} [DecidableEq ι] (s : Finset ι) (f : ι → ℝ) : ((∑ x ∈ s, f x : ℝ) : EReal) = ∑ x ∈ s, (f x : EReal) := by
  induction s using Finset.induction_on with
  | empty => rfl
  | insert a s h e => rw [Finset.sum_insert h, Finset.sum_insert h, EReal.coe_add, e]

/-- A sum over the rows of a group is one over heads and tokens. -/
theorem sum_rows (f : Fin 256 → EReal) : ∑ r, f r = ∑ i : Fin 4, ∑ t : Fin 64, f (row i t) := by
  rw [← Fintype.sum_prod_type' (fun i t => f (row i t))]
  refine (Fintype.sum_equiv (finProdFinEquiv (m := 4) (n := 64)) _ _ fun x => ?_).symm
  congr 1
  ext
  simp [finProdFinEquiv, row]
  omega

/-- What the constant arrays hold. -/
structure Good (C : Masks) : Prop where
  eye : ∀ i t j u, C.eye (ix2 (row i t) (row j u)) = if i = j ∧ t = u then 1 else 0
  incl : ∀ i t j u, C.incl (ix2 (row i t) (row j u)) = if i = j ∧ u ≤ t then 1 else 0
  mid : ∀ l i t j u, C.mid (ix2 (lrow l (row i t)) (row j u))
    = if i = j ∧ u.val ≤ t.val / (2 * half l) * (2 * half l) + (half l - 1) then 1 else 0
  same : ∀ l i t j u, C.same (ix3 l (row i t) (row j u)) = if i = j ∧ t.val / (2 * half l) = u.val / (2 * half l) then 1 else 0
  sec : ∀ l i t d, C.sec (ix3 l (row i t) d) = if half l ≤ t.val % (2 * half l) then 1 else 0

/-- What the logits are: their difference's logistic is a real between zero and one. -/
structure Bounds (G : Loads) (lb : Fin 4 → Fin 128 → ℝ) : Prop where
  pos : ∀ i d, 0 < lb i d
  lt_one : ∀ i d, lb i d < 1
  eq : ∀ i d, Ideal.logistic (G.l0 (ix3 i 0 d) - G.l1 (ix3 i 0 d)) = ((lb i d : ℝ) : EReal)

/-- A head's queries: the raw ones through the sigmoid linear unit, scaled. -/
def hq (x : Rows) : Rows := fun t d => x t d * Ideal.logistic (x t d) * Ideal.ofBits .f32 0x3DB504F3#32
/-- A head's log forget gates. -/
def hg (lb : Fin 128 → ℝ) (x : Rows) : RRows := fun t d => gate (lb d) (x t d)
/-- A head's keys. -/
def hk (lb : Fin 128 → ℝ) (x : Rows) : RRows := fun t d => key (lb d) (x t d)
/-- Head `i`'s rows of a load. -/
def hd (x : FVec Ideal S4x64x128 .f32) (i : Fin 4) : Rows := fun t d => x (ix3 i t d)

variable {C : Masks} {G : Loads} {lb : Fin 4 → Fin 128 → ℝ}

theorem rowsV_at (x : FVec Ideal S4x64x128 .f32) (i t d) : rowsV x (ix2 (row i t) d) = x (ix3 i t d) := by
  pointwise [rowsV]
  rw [row_div, row_mod]

theorem lbV_at (hb : Bounds G lb) (i t d) : lbV G (ix2 (row i t) d) = ((lb i d : ℝ) : EReal) := by
  rw [← hb.eq]
  pointwise [lbV]
  rw [row_div]

theorem qV_at (i t d) : qV G (ix2 (row i t) d) = hq (hd G.q i) t d := by
  pointwise [qV, hq, hd]
  rw [row_div, row_mod]

theorem glV_at (hb : Bounds G lb) (i t d) : glV G (ix2 (row i t) d) = ((hg (lb i) (hd G.f i) t d : ℝ) : EReal) := by
  unfold hg
  rw [← gate_eq (hb.pos i d) (hb.lt_one i d)]
  pointwise [glV, hd]
  rw [lbV_at hb, row_div, row_mod]

theorem kV_at (hb : Bounds G lb) (i t d) : kV G (ix2 (row i t) d) = ((hk (lb i) (hd G.f i) t d : ℝ) : EReal) := by
  unfold hk
  rw [← key_eq]
  pointwise [kV, hd]
  rw [lbV_at hb, row_div, row_mod, zero_sub]

/-- A sum of a 0/1 row against real rows is a real sum over one head's tokens. -/
theorem sum_mask (p : Fin 64 → Prop) [DecidablePred p] (i : Fin 4) (w x : Fin 256 → EReal) (g : Fin 4 → Fin 64 → ℝ)
    (hw : ∀ j u, w (row j u) = if i = j ∧ p u then 1 else 0) (hx : ∀ j u, x (row j u) = (g j u : EReal)) :
    ∑ r, w r * x r = ((∑ u : Fin 64, if p u then g i u else 0 : ℝ) : EReal) := by
  rw [sum_rows, Finset.sum_eq_single i]
  · rw [coe_sum]
    refine Finset.sum_congr rfl fun u _ => ?_
    rw [hw, hx]
    by_cases h : p u
    · rw [if_pos ⟨rfl, h⟩, if_pos h, one_mul]
    · rw [if_neg fun h' => h h'.2, if_neg h, zero_mul, EReal.coe_zero]
  · intro j _ hj
    refine Finset.sum_eq_zero fun u _ => ?_
    rw [hw, if_neg fun h' => hj h'.1.symm, zero_mul]
  · intro h; exact absurd (Finset.mem_univ i) h

theorem bV_at (hc : Good C) (hb : Bounds G lb) (i t d) : bV C G (ix2 (row i t) d) = ((cum (hg (lb i) (hd G.f i)) t d : ℝ) : EReal) := by
  pointwise [bV]
  rw [sum_mask (fun u => u ≤ t) i _ _ (fun j u => hg (lb j) (hd G.f j) u d) (fun j u => hc.incl i t j u) (fun j u => glV_at hb j u d),
    sum_mask (fun u => u ≤ t) i _ _ (fun _ _ => 0) (fun j u => hc.incl i t j u) fun j u => by
      rw [glV_at hb, ← EReal.coe_sub, sub_self]]
  rw [← EReal.coe_add]
  simp [cum]

theorem btotV_at (hb : Bounds G lb) (i t d) : btotV G (ix2 (row i t) d) = ((tot (hg (lb i) (hd G.f i)) d : ℝ) : EReal) := by
  pointwise [btotV]
  unfold tot
  rw [coe_sum]
  refine Finset.sum_congr rfl fun u _ => ?_
  rw [← glV_at hb]
  congr 3
  omega

/-- The sum of the log forget gates up to the middle of the token's block on level `l`. -/
def upto (g : RRows) (l : Fin 6) (t : Fin 64) (d : Fin 128) : ℝ :=
  ∑ u : Fin 64, if u.val ≤ t.val / (2 * half l) * (2 * half l) + (half l - 1) then g u d else 0

theorem midV_at (hc : Good C) (hb : Bounds G lb) (l : Fin 6) (o : ℕ) (ho : o = l.val * 256) (h1) (i t d) :
    midV C G o h1 (ix2 (row i t) d) = ((upto (hg (lb i) (hd G.f i)) l t d : ℝ) : EReal) := by
  subst ho
  pointwise [midV, midsV]
  exact sum_mask (fun u => u.val ≤ t.val / (2 * half l) * (2 * half l) + (half l - 1)) i _ _
    (fun j u => hg (lb j) (hd G.f j) u d) (fun j u => hc.mid l i t j u) (fun j u => glV_at hb j u d)

theorem secV_at (hc : Good C) (l : Fin 6) (o : ℕ) (ho : o = l.val) (h2) (i t d) :
    secV C o h2 (ix2 (row i t) d) = if half l ≤ t.val % (2 * half l) then 1 else 0 := by
  subst ho
  rw [← hc.sec l i t d]
  pointwise [secV]

theorem sameV_at (hc : Good C) (l : Fin 6) (o : ℕ) (ho : o = l.val) (h2) (i t j u) :
    sameV C o h2 (ix2 (row i t) (row j u)) = if i = j ∧ t.val / (2 * half l) = u.val / (2 * half l) then 1 else 0 := by
  subst ho
  rw [← hc.same l i t j u]
  pointwise [sameV]

/-- A level's scores: the causal score of the pairs it serves, nothing elsewhere. -/
theorem levelV_at (hc : Good C) (hb : Bounds G lb) (l : Fin 6) (o n : ℕ) (ho : o = l.val * 256) (hn : n = l.val) (h1 h2 h3) (i t j u) :
    levelV C G o n h1 h2 h3 (ix2 (row i t) (row j u)) = if i = j then (if serves l t u then
      ∑ d : Fin 128, hq (hd G.q i) t d * (hk (lb i) (hd G.f i) u d : EReal) *
        ((Real.exp (cum (hg (lb i) (hd G.f i)) t d - cum (hg (lb i) (hd G.f i)) u d) : ℝ) : EReal) else 0) else 0 := by
  pointwise [levelV, qtV, ktV]
  rw [sameV_at hc l n hn]
  by_cases hij : i = j
  swap
  · rw [if_neg fun h => hij h.1, if_neg hij, mul_zero]
  subst hij
  rw [if_pos rfl]
  by_cases hs : t.val / (2 * half l) = u.val / (2 * half l)
  swap
  · rw [if_neg fun h => hs h.2, mul_zero, if_neg fun h => hs h.1]
  rw [if_pos ⟨rfl, hs⟩, mul_one]
  by_cases ht : half l ≤ t.val % (2 * half l)
  swap
  · rw [if_neg fun h => ht h.2.1]
    refine Finset.sum_eq_zero fun d _ => ?_
    rw [secV_at hc l n hn h2 i t d, if_neg ht, mul_zero, zero_mul]
  by_cases hu : half l ≤ u.val % (2 * half l)
  · rw [if_neg fun h => h.2.2 hu]
    refine Finset.sum_eq_zero fun d _ => ?_
    rw [secV_at hc l n hn h2 i u d, if_pos hu, ← EReal.coe_one, ← EReal.coe_sub, sub_self, EReal.coe_zero, mul_zero, mul_zero]
  rw [if_pos ⟨hs, ht, hu⟩]
  refine Finset.sum_congr rfl fun d _ => ?_
  have hm : upto (hg (lb i) (hd G.f i)) l u d = upto (hg (lb i) (hd G.f i)) l t d := by unfold upto; rw [hs]
  rw [secV_at hc l n hn h2 i t d, secV_at hc l n hn h2 i u d, if_pos ht, if_neg hu, midV_at hc hb l o ho, midV_at hc hb l o ho, hm,
    bV_at hc hb, bV_at hc hb, qV_at, kV_at hb, sub_zero, mul_one, mul_one, mul_one, mul_one, ← EReal.coe_sub, ← EReal.coe_sub,
    exp_coe, exp_coe, mul_mul_mul_comm, ← EReal.coe_mul, ← Real.exp_add]
  congr 3
  ring

theorem diagV_at (hc : Good C) (hb : Bounds G lb) (i t j u) : diagV C G (ix2 (row i t) (row j u)) = if i = j then (if t = u then
      ∑ d : Fin 128, hq (hd G.q i) t d * (hk (lb i) (hd G.f i) t d : EReal) else 0) else 0 := by
  pointwise [diagV]
  rw [hc.eye]
  by_cases hij : i = j
  swap
  · rw [if_neg fun h => hij h.1, if_neg hij, zero_mul]
  by_cases ht : t = u
  swap
  · rw [if_neg fun h => ht h.2, if_pos hij, if_neg ht, zero_mul]
  rw [if_pos ⟨hij, ht⟩, if_pos hij, if_pos ht, one_mul]
  exact Finset.sum_congr rfl fun d _ => by rw [qV_at, kV_at hb]

/-- The scores of the group: each head's causal scores on its own block. -/
theorem aV_at (hc : Good C) (hb : Bounds G lb) (i t j u) : aV C G (ix2 (row i t) (row j u)) = if i = j then
    score (hq (hd G.q i)) (hk (lb i) (hd G.f i)) (hg (lb i) (hd G.f i)) t u else 0 := by
  pointwise [aV]
  rw [diagV_at hc hb, levelV_at hc hb 0 0 0 rfl rfl, levelV_at hc hb 1 256 1 rfl rfl, levelV_at hc hb 2 512 2 rfl rfl,
    levelV_at hc hb 3 768 3 rfl rfl, levelV_at hc hb 4 1024 4 rfl rfl, levelV_at hc hb 5 1280 5 rfl rfl]
  by_cases hij : i = j
  swap
  · simp only [if_neg hij, add_zero]
  simp only [if_pos hij]
  unfold score
  rw [← sum_levels t u (∑ d : Fin 128, hq (hd G.q i) t d * (hk (lb i) (hd G.f i) t d : EReal)), Fin.sum_univ_six]
  · simp only [← add_assoc]
  · rintro rfl
    refine Finset.sum_congr rfl fun d _ => ?_
    rw [sub_self, Real.exp_zero, EReal.coe_one, mul_one]

theorem catV_at (p0 p1 p2 p3 : FVec Ideal S64x128 .f32) (i t d) : catV p0 p1 p2 p3 (ix2 (row i t) d) = ![p0, p1, p2, p3] i (ix2 t d) := by
  pointwise [catV]
  have ht := t.isLt
  obtain h | h | h | h : i.val = 0 ∨ i.val = 1 ∨ i.val = 2 ∨ i.val = 3 := by omega
  · rw [dif_pos (by omega), dif_pos (by omega), dif_pos (by omega), dif_pos (by omega), dif_pos (by omega), dif_pos (by omega)]
    obtain rfl : i = 0 := Fin.ext h
    simp
  · rw [dif_pos (by omega), dif_pos (by omega), dif_pos (by omega), dif_pos (by omega), dif_neg (by omega), dif_neg (by omega)]
    obtain rfl : i = 1 := Fin.ext h
    simp
  · rw [dif_pos (by omega), dif_pos (by omega), dif_neg (by omega), dif_neg (by omega), dif_neg (by omega)]
    obtain rfl : i = 2 := Fin.ext h
    simp
  · rw [dif_neg (by omega), dif_neg (by omega), dif_neg (by omega), dif_neg (by omega)]
    obtain rfl : i = 3 := Fin.ext h
    simp

theorem kdV_at (hc : Good C) (hb : Bounds G lb) (i t d) : kdV C G (ix2 (row i t) d) = kdec (hk (lb i) (hd G.f i)) (hg (lb i) (hd G.f i)) t d := by
  pointwise [kdV, kdec]
  rw [kV_at hb, btotV_at hb, bV_at hc hb, ← EReal.coe_sub, exp_coe]

theorem viaV_at (hc : Good C) (hb : Bounds G lb) (i : Fin 4) (o : ℕ) (ho : o = i.val * 64) (hs dn) (s : Fin 64) (v : Fin 128) :
    viaV C G o hs dn (ix2 s v) = ∑ d : Fin 128, kdec (hk (lb i) (hd G.f i)) (hg (lb i) (hd G.f i)) s d * dn (ix2 v d) := by
  subst ho
  pointwise [viaV]
  refine Finset.sum_congr rfl fun d _ => ?_
  rw [mul_comm]
  congr 1
  exact kdV_at hc hb i s d

theorem headV_at (x : FVec Ideal S4x64x128 .f32) (i : Fin 4) (o : ℕ) (ho : o = i.val * 64) (hs) (t : Fin 64) (d : Fin 128) :
    headV o hs (rowsV x) (ix2 t d) = hd x i t d := by
  subst ho
  pointwise [headV, hd]

theorem heads_at (x : FVec Ideal S4x64x128 .f32) (i : Fin 4) (t : Fin 64) (d : Fin 128) :
    (![headV 0 slices_S256x128_o0_0_S64x128 (rowsV x), headV 64 slices_S256x128_o64_0_S64x128 (rowsV x),
      headV 128 slices_S256x128_o128_0_S64x128 (rowsV x), headV 192 slices_S256x128_o192_0_S64x128 (rowsV x)] i) (ix2 t d)
    = hd x i t d := by
  match i with
  | 0 => exact headV_at x 0 0 rfl slices_S256x128_o0_0_S64x128 t d
  | 1 => exact headV_at x 1 64 rfl slices_S256x128_o64_0_S64x128 t d
  | 2 => exact headV_at x 2 128 rfl slices_S256x128_o128_0_S64x128 t d
  | 3 => exact headV_at x 3 192 rfl slices_S256x128_o192_0_S64x128 t d

/-- The gradient of the values of head `i` of the group. -/
theorem giV_at (hc : Good C) (hb : Bounds G lb) (d0 d1 d2 d3 : FVec Ideal S128x128 .f32) (i : Fin 4) (s : Fin 64) (v : Fin 128) :
    giV C G d0 d1 d2 d3 (ix2 (row i s) v) = dval (hq (hd G.q i)) (hk (lb i) (hd G.f i)) (hg (lb i) (hd G.f i)) (hd G.o i)
      (fun d v => ![d0, d1, d2, d3] i (ix2 v d)) s v := by
  pointwise [giV, dval]
  rw [catV_at, sum_rows, Finset.sum_eq_single i, add_comm]
  · congr 1
    · refine Finset.sum_congr rfl fun t _ => ?_
      rw [catV_at, aV_at hc hb, if_pos rfl, mul_comm, heads_at]
    · match i with
      | 0 => exact viaV_at hc hb 0 0 rfl _ d0 s v
      | 1 => exact viaV_at hc hb 1 64 rfl _ d1 s v
      | 2 => exact viaV_at hc hb 2 128 rfl _ d2 s v
      | 3 => exact viaV_at hc hb 3 192 rfl _ d3 s v
  · intro j _ hj
    refine Finset.sum_eq_zero fun t _ => ?_
    rw [aV_at hc hb, if_neg hj, mul_zero]
  · intro h; exact absurd (Finset.mem_univ i) h

/-- The gradient of the state head `i` of the group found. -/
theorem dsV_at (hc : Good C) (hb : Bounds G lb) (i : Fin 4) (o : ℕ) (ho : o = i.val * 64) (hs dn) (v k : Fin 128) :
    dsV C G o hs dn (ix2 v k) = dstate (hq (hd G.q i)) (hg (lb i) (hd G.f i)) (hd G.o i) (fun d v => dn (ix2 v d)) k v := by
  subst ho
  pointwise [dsV, qdV, dstate, qdec]
  have e := btotV_at hb i 0 k
  rw [show (⟨i.val * 64, by omega⟩ : Fin 256) = row i 0 from rfl, e, exp_coe]
  congr 1
  refine Finset.sum_congr rfl fun t _ => ?_
  rw [qV_at, bV_at hc hb, exp_coe]
  rfl

end Cert.KernelIdeal.Ops

end
-- ==== Proof.RefRun.lean ====
/- The reference's loop as a sequence of states: what a run leaves in the result is the function the operations after
   the loop compute of state 132. -/
module

public import proofs.«01_k».proof.Proof.Gen.ReferenceIdeal.Run
public import proofs.«01_k».proof.Proof.Gen.ReferenceIdeal.Step

@[expose] public section

noncomputable section

namespace Cert.ReferenceIdeal.Seq

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- Before trip `j` the buffers the loop carries hold state `s`, and its counter holds `j`. -/
structure At (X : Valuation τ sig (Elt F)) (s : State F) (j : ℕ) : Prop where
  carry : X (Proc.devRef .tc main_v124_6) = s.main_v124_6
  stack : X (Proc.devRef .tc main_v124_7) = s.main_v124_7
  grads : X (Proc.devRef .tc main_v124_0) = s.main_v124_0
  last : X (Proc.devRef .tc main_v124_1) = s.main_v124_1
  keys : X (Proc.devRef .tc main_v124_2) = s.main_v124_2
  queries : X (Proc.devRef .tc main_v124_3) = s.main_v124_3
  scores : X (Proc.devRef .tc main_v124_4) = s.main_v124_4
  count : X (Proc.devRef .tc main_v124_5) = constantI S_ 32 (BitVec.ofNat 32 j)

variable {X : Valuation τ sig (Elt F)} {s : State F} {j : ℕ}

/-- The chunk number of a trip. -/
theorem index_eq (h : At X s j) : res_main_while0b_v133 X = Step.b3 j s := by
  unfold res_main_while0b_v133
  rw [h.count]
  rfl

/-- The output gradients of the chunk of a trip. -/
theorem slice_eq (h : At X s j) : res_main_while0b_v134 X = Step.b9 j s := by
  unfold res_main_while0b_v134
  rw [index_eq h, h.grads]
  rfl

set_option maxRecDepth 16384 in
/-- The state gradient a trip hands on. -/
theorem carry_eq (h : At X s j) : step_main_v124_6 X = Step.b43 j s := by
  unfold step_main_v124_6
  rw [index_eq h, slice_eq h, h.last, h.queries, h.carry]
  rfl

set_option maxRecDepth 16384 in
/-- The stack of value gradients a trip hands on. -/
theorem stack_eq (h : At X s j) : step_main_v124_7 X = Step.b49 j s := by
  unfold step_main_v124_7
  rw [index_eq h, slice_eq h, h.keys, h.scores, h.carry, h.stack]
  rfl

/-- The number of the next trip. -/
theorem count_eq (h : At X s j) : step_main_v124_5 X = constantI S_ 32 (BitVec.ofNat 32 (j + 1)) := by
  unfold step_main_v124_5
  rw [h.count]
  funext i
  show BitVec.ofNat 32 j + 1#32 = BitVec.ofNat 32 (j + 1)
  rw [BitVec.ofNat_add]

/-- One trip leads from a state to the next one. -/
theorem At.next (h : At X s j) : At (STEP X) (step j s) (j + 1) where
  carry := (STEP_main_v124_6 X).trans (carry_eq h)
  stack := (STEP_main_v124_7 X).trans (stack_eq h)
  grads := (STEP_main_v124_0 X).trans h.grads
  last := (STEP_main_v124_1 X).trans h.last
  keys := (STEP_main_v124_2 X).trans h.keys
  queries := (STEP_main_v124_3 X).trans h.queries
  scores := (STEP_main_v124_4 X).trans h.scores
  count := (STEP_main_v124_5 X).trans (count_eq h)

/-- The state before trip `n`. -/
def state (s : State F) : ℕ → State F
  | 0 => s
  | n + 1 => step n (state s n)

theorem At.iter (h : At X s 0) (n : ℕ) : At (STEP^[n] X) (state s n) n := by
  induction n with
  | zero => exact h
  | succ n ih =>
    rw [Function.iterate_succ_apply']
    exact ih.next

variable (m : (ℓ : Loc nD τ sig) → Buf (Elt F) ℓ) (c : Dev nD)

/-- The state before the first trip, of the arguments. -/
abbrev start : State F :=
  init (m ((c.tc : Thread nD τ).loc main_arg0)) (m ((c.tc : Thread nD τ).loc main_arg1)) (m ((c.tc : Thread nD τ).loc main_arg3))

set_option maxRecDepth 65536 in
set_option maxHeartbeats 4000000 in
/-- The operations before the loop leave the first state. -/
theorem start_at : At (entryContents preI m c) (start m c) 0 := by
  constructor <;> (simp only [entryContents, afterL_cons, afterL_nil]; after_reads_simp) <;> rfl

set_option maxRecDepth 16384 in
/-- The result is read off the last state. -/
theorem out_eq (h : At X s j) : out_main_v131 X = Step.R_main_v131 s := by
  unfold out_main_v131
  rw [h.stack]
  rfl

/-- Every run of the reference ends with the result of state 132 and the arguments as they were. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v131) = Step.R_main_v131 (state (start m c) 132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out_eq ((start_at m c).iter 132)), (h c).2⟩) (Value.run m ρ)

end Cert.ReferenceIdeal.Seq

end
-- ==== Proof.RefRead.lean ====
/- What the reference computes before its loop, entry by entry: the lower bounds of the gates, and per chunk the queries,
   the keys, the summed log gates, the scores and the decays. -/
module

public import proofs.«01_k».proof.Proof.RefRun
public import proofs.«01_k».proof.Proof.Read
public import Idealize.ShloMosaic.Lib.Pointwise

@[expose] public section

noncomputable section

namespace Cert.ReferenceIdeal.Seq

open Idealize.ShloMosaic Cert.ReferenceIdeal Cert.ReferenceIdeal.Gen Cert.ReferenceIdeal.Step Cert.Hg
open Cert.KernelIdeal.Ops (hq hg hk coe_sum)
open scoped BigOperators

/-! ## Sums over windows -/

/-- A left fold that adds is a sum. -/
theorem foldl_sum {n : ℕ} (g : Fin n → EReal) (v : EReal) : (List.finRange n).foldl (fun r i => r + g i) v = v + ∑ i, g i := by
  have key : ∀ (L : List (Fin n)) (v : EReal), L.foldl (fun r i => r + g i) v = v + (L.map g).sum := by
    intro L
    induction L with
    | nil => intro v; simp
    | cons a L ih => intro v; rw [List.foldl_cons, ih, List.map_cons, List.sum_cons, add_assoc]
  rw [key, ← List.ofFn_eq_map, List.sum_ofFn]

/-- A windowed sum is the sum over the window's indices. -/
theorem window_sum {s t : Shape} (window strides lo hi : Fin s.rank → Nat) (x : s.Idx → EReal) (v : EReal)
    (h : s.ReduceWindows window strides lo hi t) (j : t.Idx) :
    Ideal.hostReduceWindowAdd window strides lo hi h x v j
      = v + ∑ w : (⟨s.rank, window⟩ : Shape).Idx,
          if hin : ∀ a, lo a ≤ (j (a.cast h.1.symm)).val * strides a + (w a).val
              ∧ (j (a.cast h.1.symm)).val * strides a + (w a).val - lo a < s.size a then
            x (fun a => ⟨(j (a.cast h.1.symm)).val * strides a + (w a).val - lo a, (hin a).2⟩) else v := by
  unfold Ideal.hostReduceWindowAdd Host.reduceWindow
  refine (foldl_sum (fun n => _) v).trans ?_
  congr 1
  exact Fintype.sum_equiv (⟨s.rank, window⟩ : Shape).rowMajor.symm _ _ fun n => dite_congr rfl (fun _ => rfl) (fun _ => rfl)

/-- The indices of a window of 64 tokens. -/
def tok : Fin 64 ≃ (⟨5, ![1, 1, 1, 64, 1]⟩ : Shape).Idx where
  toFun t := ix5 0 0 0 t 0
  invFun w := w 3
  left_inv _ := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _

/-- The cyclic shift that takes the window's places to the tokens they read. -/
def turn (t : Fin 64) : Fin 64 ≃ Fin 64 where
  toFun w := ⟨(t.val + w.val + 1) % 64, Nat.mod_lt _ (by decide)⟩
  invFun u := ⟨(u.val + 127 - t.val) % 64, Nat.mod_lt _ (by decide)⟩
  left_inv w := Fin.ext (by show ((t.val + w.val + 1) % 64 + 127 - t.val) % 64 = w.val; omega)
  right_inv u := Fin.ext (by show (t.val + (u.val + 127 - t.val) % 64 + 1) % 64 = u.val; omega)

/-- The running sum over the tokens of a chunk. -/
theorem cumsum_at (x : FVec Ideal S1x8x132x64x128 .f32) (h : Fin 8) (c : Fin 132) (t : Fin 64) (d : Fin 128) :
    Ideal.hostReduceWindowAdd ![1, 1, 1, 64, 1] ![1, 1, 1, 1, 1] ![0, 0, 0, 63, 0] ![0, 0, 0, 0, 0]
      reduceWindows_S1x8x132x64x128_S1x8x132x64x128_w1s1p0_0_w1s1p0_0_w1s1p0_0_w64s1p63_0_w1s1p0_0 x 0 (ix5 0 h c t d)
      = ∑ u : Fin 64, if u ≤ t then x (ix5 0 h c u d) else 0 := by
  rw [window_sum, zero_add, ← Equiv.sum_comp tok, ← Equiv.sum_comp (turn t) (fun u => if u ≤ t then x (ix5 0 h c u d) else 0)]
  refine Finset.sum_congr rfl fun w _ => ?_
  have hw := w.isLt
  have ht := t.isLt
  by_cases e : 63 ≤ t.val + w.val
  · have e1 : turn t w = ⟨t.val + w.val - 63, by omega⟩ := Fin.ext (by show (t.val + w.val + 1) % 64 = t.val + w.val - 63; omega)
    rw [e1, if_pos (Fin.le_def.2 (by show t.val + w.val - 63 ≤ t.val; omega))]
    rw [dif_pos]
    · refine congrArg x (funext fun a => Fin.ext ?_)
      match a with
      | ⟨0, _⟩ => rfl
      | ⟨1, _⟩ => show h.val * 1 + 0 - 0 = h.val; omega
      | ⟨2, _⟩ => show c.val * 1 + 0 - 0 = c.val; omega
      | ⟨3, _⟩ => show t.val * 1 + w.val - 63 = t.val + w.val - 63; omega
      | ⟨4, _⟩ => show d.val * 1 + 0 - 0 = d.val; omega
    · intro a
      match a with
      | ⟨0, _⟩ => exact ⟨Nat.zero_le _, Nat.one_pos⟩
      | ⟨1, _⟩ => exact ⟨Nat.zero_le _, by show h.val * 1 + 0 - 0 < 8; omega⟩
      | ⟨2, _⟩ => exact ⟨Nat.zero_le _, by show c.val * 1 + 0 - 0 < 132; omega⟩
      | ⟨3, _⟩ => exact ⟨by show 63 ≤ t.val * 1 + w.val; omega, by show t.val * 1 + w.val - 63 < 64; omega⟩
      | ⟨4, _⟩ => exact ⟨Nat.zero_le _, by show d.val * 1 + 0 - 0 < 128; omega⟩
  · have e1 : turn t w = ⟨t.val + w.val + 1, by omega⟩ := Fin.ext (by show (t.val + w.val + 1) % 64 = t.val + w.val + 1; omega)
    rw [e1, if_neg (fun q => absurd (Fin.le_def.1 q) (by show ¬ t.val + w.val + 1 ≤ t.val; omega)), dif_neg]
    intro q
    have := (q 3).1
    change 63 ≤ t.val * 1 + w.val at this
    omega

/-- The indices of a window of two layers. -/
def two : Fin 2 ≃ (⟨3, ![2, 1, 1]⟩ : Shape).Idx where
  toFun t := ix3 t 0 0
  invFun w := w 0
  left_inv _ := rfl
  right_inv w := by
    funext a
    match a with
    | ⟨0, _⟩ => rfl
    | ⟨1, _⟩ => exact Subsingleton.elim (α := Fin 1) _ _
    | ⟨2, _⟩ => exact Subsingleton.elim (α := Fin 1) _ _

/-- The first of the running sums over the layers is the first layer. -/
theorem cumsum_layer (x : FVec Ideal S2x2x1024 .f32) (j : Fin 1024) :
    Ideal.hostReduceWindowAdd ![2, 1, 1] ![1, 1, 1] ![1, 0, 0] ![0, 0, 0]
      reduceWindows_S2x2x1024_S2x2x1024_w2s1p1_0_w1s1p0_0_w1s1p0_0 x 0 (ix3 0 0 j) = x (ix3 0 0 j) := by
  rw [window_sum, zero_add, ← Equiv.sum_comp two, Fin.sum_univ_two, dif_neg, dif_pos, zero_add]
  · refine congrArg x (funext fun a => Fin.ext ?_)
    match a with
    | ⟨0, _⟩ => rfl
    | ⟨1, _⟩ => rfl
    | ⟨2, _⟩ => show j.val * 1 + 0 - 0 = j.val; omega
  · intro a
    match a with
    | ⟨0, _⟩ => exact ⟨le_rfl, Nat.two_pos⟩
    | ⟨1, _⟩ => exact ⟨Nat.zero_le _, Nat.two_pos⟩
    | ⟨2, _⟩ => exact ⟨Nat.zero_le _, by show j.val * 1 + 0 - 0 < 1024; omega⟩
  · intro q
    have := (q 0).1
    change 1 ≤ 0 * 1 + 0 at this
    omega

end Cert.ReferenceIdeal.Seq

end
-- ==== Proof.RefData.lean ====
/- The reference's per-chunk arrays as the model's: lower bounds, queries, keys, summed log gates, scores, decays. -/
module

public import proofs.«01_k».proof.Proof.RefRead

@[expose] public section

noncomputable section

namespace Cert.ReferenceIdeal.Seq

open Idealize.ShloMosaic Cert.ReferenceIdeal Cert.ReferenceIdeal.Gen Cert.ReferenceIdeal.Step Cert.Hg
open Cert.KernelIdeal.Ops (hq hg hk coe_sum)
open scoped BigOperators

/-! ## Extended reals -/

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem absf_coe (a : ℝ) : max (a : EReal) (-(a : EReal)) = ((|a| : ℝ) : EReal) := by
  rw [← EReal.coe_neg, coe_max]
  rfl

theorem log1p_coe {r : ℝ} (h : -1 < r) : Ideal.log1p (r : EReal) = ((Real.log (1 + r) : ℝ) : EReal) := by
  unfold Ideal.log1p
  rw [← EReal.coe_one, ← EReal.coe_add, log_coe (by linarith)]

theorem log1p_zero : Ideal.log1p 0 = 0 := by
  rw [← EReal.coe_zero, log1p_coe (by norm_num)]
  simp

theorem exp_bot : Ideal.exp ⊥ = 0 := rfl

/-- The logarithm of a sum of exponentials from the larger one. -/
theorem lae (a b : ℝ) : max a b + Real.log (1 + Real.exp (-|a - b|)) = Real.log (Real.exp a + Real.exp b) := by
  rcases le_total a b with h | h
  · rw [max_eq_right h, abs_of_nonpos (by linarith), neg_neg]
    nth_rewrite 1 [← Real.log_exp b]
    rw [← Real.log_mul (Real.exp_pos _).ne' (by positivity), mul_add, mul_one, ← Real.exp_add]
    congr 1
    rw [add_comm]
    congr 2
    ring
  · rw [max_eq_left h, abs_of_nonneg (by linarith)]
    nth_rewrite 1 [← Real.log_exp a]
    rw [← Real.log_mul (Real.exp_pos _).ne' (by positivity), mul_add, mul_one, ← Real.exp_add]
    congr 3
    ring

/-- The negated logarithm of a sigmoid. -/
theorem softplus_neg (f : ℝ) : max (-f) 0 + Real.log (1 + Real.exp (-|-f|)) = -Real.log (Hg.sig f) := by
  have := lae (-f) 0
  rw [sub_zero, Real.exp_zero] at this
  rw [this]
  unfold Hg.sig
  rw [one_div, Real.log_inv, neg_neg, add_comm]

/-- The reference's log gate of a lower bound between zero and one. -/
theorem gate_of {lb : ℝ} (h0 : 0 < lb) (h1 : lb < 1) (f y : EReal)
    (hy : y = Ideal.log1p (-(lb : EReal)) - (max (-f) 0 + Ideal.log1p (Ideal.exp (-(max (-f) (-(-f))))))) :
    max (Ideal.log (lb : EReal)) y
      + Ideal.log1p (Ideal.exp (-(max (Ideal.log (lb : EReal) - y) (-(Ideal.log (lb : EReal) - y)))))
      = ((gate lb f : ℝ) : EReal) := by
  have hb : Ideal.log1p (-(lb : EReal)) = ((Real.log (1 - lb) : ℝ) : EReal) := by
    rw [← EReal.coe_neg, log1p_coe (by linarith)]
    rfl
  have real : ∀ z : ℝ, y = (z : EReal) → Real.exp z = (1 - lb) * (Ideal.logistic f).toReal → max (Ideal.log (lb : EReal)) y
      + Ideal.log1p (Ideal.exp (-(max (Ideal.log (lb : EReal) - y) (-(Ideal.log (lb : EReal) - y)))))
      = ((gate lb f : ℝ) : EReal) := by
    intro z hz he
    rw [hz, log_coe h0, coe_max, ← EReal.coe_sub, absf_coe, ← EReal.coe_neg, exp_coe,
      log1p_coe (by linarith [Real.exp_pos (-|Real.log lb - z|)]), ← EReal.coe_add, lae, Real.exp_log h0, he]
    rfl
  rw [hb] at hy
  induction f with
  | bot =>
    have e : y = ⊥ := by
      rw [hy, EReal.neg_bot, EReal.neg_top, max_eq_left (le_top : (0 : EReal) ≤ ⊤), max_eq_left (bot_le : (⊥ : EReal) ≤ ⊤), EReal.neg_top,
        exp_bot, log1p_zero, add_zero]
      rfl
    unfold gate
    rw [e, log_coe h0, max_eq_left bot_le, EReal.coe_sub_bot, EReal.neg_top, max_eq_left bot_le, EReal.neg_top, exp_bot, log1p_zero, add_zero,
      logistic_bot]
    simp
  | top =>
    refine real (Real.log (1 - lb)) ?_ ?_
    · rw [hy, EReal.neg_top, EReal.neg_bot, max_eq_right (bot_le : (⊥ : EReal) ≤ 0), max_eq_right (bot_le : (⊥ : EReal) ≤ ⊤), EReal.neg_top,
        exp_bot, log1p_zero, add_zero, sub_zero]
    · rw [Real.exp_log (by linarith), logistic_top]
      simp
  | coe f =>
    refine real (Real.log ((1 - lb) * Hg.sig f)) ?_ ?_
    · rw [hy, ← EReal.coe_neg, ← EReal.coe_zero, coe_max, absf_coe, ← EReal.coe_neg, exp_coe,
        log1p_coe (by linarith [Real.exp_pos (-|-f|)]), ← EReal.coe_add, softplus_neg, ← EReal.coe_sub, sub_neg_eq_add,
        ← Real.log_mul (by linarith) (sig_pos f).ne']
    · rw [Real.exp_log (mul_pos (by linarith) (sig_pos f)), logistic_coe, EReal.toReal_coe]

/-- The first of two real logits through the softmax. -/
theorem softmax_two (a b : ℝ) :
    Ideal.div (Ideal.exp ((a : EReal) - max (a : EReal) b))
        (Ideal.exp ((a : EReal) - max (a : EReal) b) + Ideal.exp ((b : EReal) - max (a : EReal) b))
      = ((Hg.sig (a - b) : ℝ) : EReal) := by
  rw [coe_max, ← EReal.coe_sub, ← EReal.coe_sub, exp_coe, exp_coe, ← EReal.coe_add, div_coe _ (by positivity)]
  congr 1
  unfold Hg.sig
  rw [div_eq_div_iff (by positivity) (by positivity), one_mul, mul_add, mul_one, ← Real.exp_add]
  congr 2
  ring

end Cert.ReferenceIdeal.Seq

end
-- ==== Proof.RefChunk.lean ====
/- The reference's per-chunk arrays as the model's: queries, keys, summed log gates, scores, decays. -/
module

public import proofs.«01_k».proof.Proof.RefData
public import Idealize.ShloMosaic.Lib.ValueIdxRank6

@[expose] public section

noncomputable section

namespace Cert.ReferenceIdeal.Seq

open Idealize.ShloMosaic Cert.ReferenceIdeal Cert.ReferenceIdeal.Gen Cert.ReferenceIdeal.Step Cert.Hg
open Cert.KernelIdeal.Ops (hq hg hk coe_sum)
open scoped BigOperators

variable (y : (⟨S80x8448x128, .f32⟩ : BufTy).Contents (Elt Ideal)) (l : (⟨S2x2x1024, .f32⟩ : BufTy).Contents (Elt Ideal))
  (a : (⟨S8x8448x128, .f32⟩ : BufTy).Contents (Elt Ideal))

/-- The row of memory a position of the scan reads: the last 256 rows come first. -/
def mrow (p : Fin 8448) : Fin 8448 := if h : p.val < 256 then ⟨8192 + p.val, by omega⟩ else ⟨p.val - 256, by omega⟩

/-- Position of token `t` of chunk `c` in the scan. -/
abbrev pos (c : Fin 132) (t : Fin 64) : Fin 8448 := ⟨c.val * 64 + t.val, by omega⟩

/-- Lane `d` of head `h`. -/
abbrev lane (h : Fin 8) (d : Fin 128) : Fin 1024 := ⟨h.val * 128 + d.val, by omega⟩

/-- The raw queries of a head's chunk. -/
def rq (h : Fin 8) (c : Fin 132) : Rows := fun t d => y (ix3 ⟨h.val, by omega⟩ (mrow (pos c t)) d)
/-- The raw gates of a head's chunk. -/
def rf (h : Fin 8) (c : Fin 132) : Rows := fun t d => y (ix3 ⟨8 + h.val, by omega⟩ (mrow (pos c t)) d)
/-- The output gradients of a head's chunk. -/
def ro (h : Fin 8) (c : Fin 132) : Rows := fun t v => a (ix3 h (mrow (pos c t)) v)

/-- The lower bounds of a head's gates, of real logits. -/
def bound (r : S2x2x1024.Idx → ℝ) (h : Fin 8) (d : Fin 128) : ℝ := Hg.sig (r (ix3 0 0 (lane h d)) - r (ix3 1 0 (lane h d)))

theorem bound_pos (r : S2x2x1024.Idx → ℝ) (h : Fin 8) (d : Fin 128) : 0 < bound r h d := sig_pos _
theorem bound_lt (r : S2x2x1024.Idx → ℝ) (h : Fin 8) (d : Fin 128) : bound r h d < 1 := sig_lt_one _

/-! ## The scores -/

/-- The sum over the last of six axes. -/
theorem sum_lanes (v : FVec Ideal S1x8x132x64x64x128 .f32) (i : EReal) (h : Fin 8) (c : Fin 132) (t s : Fin 64) :
    Ideal.hostReduceAdd reducesTo_S1x8x132x64x64x128_S1x8x132x64x64_d5 v i (ix5 0 h c t s)
      = i + ∑ d : Fin 128, v (ix6 0 h c t s d) := by
  unfold Ideal.hostReduceAdd
  congr 1
  refine Finset.sum_nbij' (fun x => (x 5 : Fin 128)) (fun d => ix6 0 h c t s d) (fun _ _ => Finset.mem_univ _) (fun d _ => ?_) (fun x hx => ?_)
    (fun d _ => rfl) (fun x hx => ?_)
  · rw [Finset.mem_filter]
    refine ⟨Finset.mem_univ _, funext fun b => Fin.ext ?_⟩
    match b with
    | ⟨0, _⟩ => rfl
    | ⟨1, _⟩ => rfl
    | ⟨2, _⟩ => rfl
    | ⟨3, _⟩ => rfl
    | ⟨4, _⟩ => rfl
  all_goals
    have e := (Finset.mem_filter.1 hx).2
    have : ix6 0 h c t s (x 5) = x := by
      funext b
      refine Fin.ext ?_
      match b with
      | ⟨0, _⟩ => exact (congrArg Fin.val (congrFun e ⟨0, by decide⟩)).symm
      | ⟨1, _⟩ => exact (congrArg Fin.val (congrFun e ⟨1, by decide⟩)).symm
      | ⟨2, _⟩ => exact (congrArg Fin.val (congrFun e ⟨2, by decide⟩)).symm
      | ⟨3, _⟩ => exact (congrArg Fin.val (congrFun e ⟨3, by decide⟩)).symm
      | ⟨4, _⟩ => exact (congrArg Fin.val (congrFun e ⟨4, by decide⟩)).symm
      | ⟨5, _⟩ => rfl
  · exact this
  · exact (congrArg v this).symm

/-- An operand of the products over all pairs of tokens. -/
theorem spread_q (h : Fin 8) (c : Fin 132) (t s : Fin 64) (d : Fin 128) :
    A_main_v97 y l a (ix6 0 h c t s d) = A_main_v80 y l a (ix5 0 h c t d) := by
  unfold A_main_v97 A_main_v95 broadcastInDim
  refine congrArg _ (funext fun x => ?_)
  match x with
  | ⟨0, _⟩ => rfl
  | ⟨1, _⟩ => rfl
  | ⟨2, _⟩ => rfl
  | ⟨3, _⟩ => rfl
  | ⟨4, _⟩ => rfl

/-- An operand of the products over all pairs of tokens. -/
theorem spread_k (h : Fin 8) (c : Fin 132) (t s : Fin 64) (d : Fin 128) :
    A_main_v98 y l a (ix6 0 h c t s d) = A_main_v81 y l a (ix5 0 h c s d) := by
  unfold A_main_v98 A_main_v96 broadcastInDim
  refine congrArg _ (funext fun x => ?_)
  match x with
  | ⟨0, _⟩ => rfl
  | ⟨1, _⟩ => rfl
  | ⟨2, _⟩ => rfl
  | ⟨3, _⟩ => rfl
  | ⟨4, _⟩ => rfl

/-- An operand of the products over all pairs of tokens. -/
theorem spread_t (h : Fin 8) (c : Fin 132) (t s : Fin 64) (d : Fin 128) :
    A_main_v90 y l a (ix6 0 h c t s d) = A_main_v83 y l a (ix5 0 h c t d) := by
  unfold A_main_v90 A_main_v88 broadcastInDim
  refine congrArg _ (funext fun x => ?_)
  match x with
  | ⟨0, _⟩ => rfl
  | ⟨1, _⟩ => rfl
  | ⟨2, _⟩ => rfl
  | ⟨3, _⟩ => rfl
  | ⟨4, _⟩ => rfl

/-- An operand of the products over all pairs of tokens. -/
theorem spread_s (h : Fin 8) (c : Fin 132) (t s : Fin 64) (d : Fin 128) :
    A_main_v91 y l a (ix6 0 h c t s d) = A_main_v83 y l a (ix5 0 h c s d) := by
  unfold A_main_v91 A_main_v89 broadcastInDim
  refine congrArg _ (funext fun x => ?_)
  match x with
  | ⟨0, _⟩ => rfl
  | ⟨1, _⟩ => rfl
  | ⟨2, _⟩ => rfl
  | ⟨3, _⟩ => rfl
  | ⟨4, _⟩ => rfl

/-- Whether token `s` comes no later than token `t`. -/
theorem causal (t s : Fin 64) : K_main_v86 (F := Ideal) (ix2 t s) = if s ≤ t then 1#1 else 0#1 := by
  pointwise [K_main_v86, K_main_call3_v5,K_main_call3_c_0, K_main_call3_v4, K_main_call3_v3, K_main_call3_v2, K_main_call3_v1, K_main_call3_c, K_main_call3_v0, K_main_v85, K_main_c]
  revert t s
  decide +kernel

/-- An operand of the products over all pairs of tokens. -/
theorem spread_m (h : Fin 8) (c : Fin 132) (t s : Fin 64) (d : Fin 128) :
    K_main_call4_v1 (F := Ideal) (ix6 0 h c t s d) = K_main_v86 (F := Ideal) (ix2 t s) := by
  unfold K_main_call4_v1 K_main_v87 broadcastInDim
  refine congrArg _ (funext fun x => ?_)
  match x with
  | ⟨0, _⟩ => rfl
  | ⟨1, _⟩ => rfl

theorem ofBits_bot : Ideal.ofBits .f32 0xFF800000#32 = ⊥ := by simp [Ideal.ofBits, Ideal.ieee]
theorem ofBits_zero : Ideal.ofBits .f32 0x00000000#32 = 0 := by simp [Ideal.ofBits, Ideal.ieee]

/-- The decay from one token to a later one, nothing otherwise. -/
theorem dec (h : Fin 8) (c : Fin 132) (t s : Fin 64) (d : Fin 128) :
    A_main_v94 y l a (ix6 0 h c t s d)
      = if s ≤ t then Ideal.exp (A_main_v83 y l a (ix5 0 h c t d) - A_main_v83 y l a (ix5 0 h c s d)) else 0 := by
  show Ideal.exp (if K_main_call4_v1 (F := Ideal) (ix6 0 h c t s d) = 1#1 then
    A_main_v90 y l a (ix6 0 h c t s d) - A_main_v91 y l a (ix6 0 h c t s d) else Ideal.ofBits .f32 0xFF800000#32) = _
  rw [spread_m, causal, spread_t, spread_s]
  by_cases hs : s ≤ t
  · rw [if_pos hs, if_pos rfl, if_pos hs]
  · rw [if_neg hs, if_neg (by decide), if_neg hs, ofBits_bot, exp_bot]

/-- The scores as sums over the lanes. -/
theorem scores_at (h : Fin 8) (c : Fin 132) (t s : Fin 64) :
    A_main_v101 y l a (ix5 0 h c t s) = ∑ d : Fin 128, A_main_v80 y l a (ix5 0 h c t d) * A_main_v81 y l a (ix5 0 h c s d)
      * (if s ≤ t then Ideal.exp (A_main_v83 y l a (ix5 0 h c t d) - A_main_v83 y l a (ix5 0 h c s d)) else 0) := by
  refine (sum_lanes (A_main_v100 y l a) (Ideal.ofBits .f32 0x00000000#32) h c t s).trans ?_
  rw [ofBits_zero, zero_add]
  refine Finset.sum_congr rfl fun d _ => ?_
  show A_main_v97 y l a (ix6 0 h c t s d) * A_main_v98 y l a (ix6 0 h c t s d) * A_main_v94 y l a (ix6 0 h c t s d) = _
  rw [spread_q, spread_k, dec]

/-! ## The arguments in the order of the scan -/

theorem raw_q (h : Fin 8) (p : Fin 8448) (d : Fin 128) :
    A_main_v5 y l a (ix4 0 h p d) = y (ix3 ⟨h.val, by omega⟩ (mrow p) d) := by
  unfold mrow
  pointwise [A_main_v5, A_main_v4, A_main_v3, A_main_v2, A_main_v1, A_main_v0]
  by_cases hp : p.val < 256
  · rw [dif_pos hp, dif_pos hp]
  · rw [dif_neg hp, dif_neg hp]

theorem raw_f (h : Fin 8) (p : Fin 8448) (d : Fin 128) :
    A_main_v11 y l a (ix4 0 h p d) = y (ix3 ⟨8 + h.val, by omega⟩ (mrow p) d) := by
  unfold mrow
  pointwise [A_main_v11, A_main_v10, A_main_v9, A_main_v8, A_main_v7, A_main_v6]
  by_cases hp : p.val < 256
  · rw [dif_pos hp, dif_pos hp]
  · rw [dif_neg hp, dif_neg hp]

theorem grads_at (h : Fin 8) (c : Fin 132) (t : Fin 64) (v : Fin 128) : A_main_v121 y l a (ix5 c 0 h t v) = ro a h c t v := by
  unfold ro mrow pos
  pointwise [A_main_v121, A_main_v120, A_main_v119, A_main_v118, A_main_v117, A_main_v116, A_main_v115]
  by_cases hp : c.val * 64 + t.val < 256
  · rw [dif_pos hp, dif_pos hp]
  · rw [dif_neg hp, dif_neg hp]

/-! ## Queries, gates and keys -/

variable {y l a} {r : S2x2x1024.Idx → ℝ}

/-- The first of the two layers' softmax, summed from the first layer. -/
theorem layer_at (hl : ∀ i, l i = (r i : EReal)) (j : Fin 1024) :
    A_main_v31 y l a (ix1 j) = ((Hg.sig (r (ix3 0 0 j) - r (ix3 1 0 j)) : ℝ) : EReal) := by
  have e : A_main_v29 y l a (ix3 0 0 j) = A_main_v28 y l a (ix3 0 0 j) := by
    show Ideal.hostReduceWindowAdd ![2, 1, 1] ![1, 1, 1] ![1, 0, 0] ![0, 0, 0]
      reduceWindows_S2x2x1024_S2x2x1024_w2s1p1_0_w1s1p0_0_w1s1p0_0 (A_main_v28 y l a) (Ideal.ofBits .f32 0x00000000#32) _ = _
    rw [ofBits_zero, cumsum_layer]
  have m : max (Ideal.ofBits .f32 0xFF800000#32) (Finset.fold max (Ideal.ofBits .f32 0xFF800000#32) (fun x => l (ix3 x 0 j)) Finset.univ)
      = max ((r (ix3 0 0 j) : ℝ) : EReal) (r (ix3 1 0 j) : ℝ) := by
    rw [ofBits_bot, max_eq_right bot_le]
    have : (Finset.univ : Finset (Fin 2)) = {0, 1} := rfl
    rw [this, Finset.fold_insert (by decide), Finset.fold_singleton, hl, hl, max_eq_left (bot_le : ⊥ ≤ _)]
  pointwise [A_main_v31, A_main_v30]
  rw [e]
  pointwise [A_main_v28, A_main_v27, A_main_v26, A_main_v25, A_main_v24, A_main_v23, A_main_v22, A_main_v21, A_main_v20, A_main_v18, K_main_cst, K_main_v19, K_main_cst_0, K_main_cst_1]
  rw [Fin.sum_univ_two]
  refine (congrArg (fun z => Ideal.div (Ideal.exp (l (ix3 0 0 j) - z)) (Ideal.exp (l (ix3 0 0 j) - z) + Ideal.exp (l (ix3 1 0 j) - z))) m).trans ?_
  show Ideal.div (Ideal.exp (l (ix3 0 0 j) - _)) (Ideal.exp (l (ix3 0 0 j) - _) + Ideal.exp (l (ix3 1 0 j) - _)) = _
  rw [hl, hl, softmax_two]

/-- The lower bounds are those of the two layers' softmax. -/
theorem bound_at (hl : ∀ i, l i = (r i : EReal)) (h : Fin 8) (d : Fin 128) :
    A_main_v32 y l a (ix4 0 h 0 d) = ((bound r h d : ℝ) : EReal) := by
  pointwise [A_main_v32]
  exact layer_at hl _

/-- The queries. -/
theorem query_at (h : Fin 8) (c : Fin 132) (t : Fin 64) (d : Fin 128) : A_main_v80 y l a (ix5 0 h c t d) = hq (rq y h c) t d := by
  pointwise [A_main_v80]
  pointwise [A_main_v35, A_main_v33, A_main_call1_v5, A_main_call1_v3, A_main_call1_v1, A_main_call1_v0, K_main_call1_v2, K_main_call1_v4, K_main_call1_cst_0, K_main_call1_cst, K_main_v34, K_main_cst_2]
  rw [raw_q]
  rfl

/-- The log forget gates. -/
theorem gate_at (hl : ∀ i, l i = (r i : EReal)) (h : Fin 8) (c : Fin 132) (t : Fin 64) (d : Fin 128) :
    A_main_v82 y l a (ix5 0 h c t d) = ((hg (bound r h) (rf y h c) t d : ℝ) : EReal) := by
  pointwise [A_main_v82]
  pointwise [A_main_v67, A_main_v66, A_main_v65, A_main_v64, A_main_v63, A_main_v62, A_main_v61, A_main_v60, A_main_v59, A_main_v58, A_main_v57, A_main_v56, A_main_v55]
  rw [if_neg (fun q => q rfl)]
  have e : A_main_v36 y l a (ix4 0 h 0 d) = Ideal.log ((bound r h d : ℝ) : EReal) := congrArg Ideal.log (bound_at hl h d)
  rw [e]
  refine gate_of (bound_pos r h d) (bound_lt r h d) _ _ ?_
  pointwise [A_main_v54, A_main_v53, A_main_v52, A_main_v51, A_main_v50, A_main_v49, A_main_v48, A_main_v47, A_main_v46, A_main_v44, A_main_v43, A_main_v41, A_main_v39, A_main_v38, A_main_v37, A_main_v36, K_main_v40, K_main_v42, K_main_v45, K_main_cst_3]
  rw [if_neg (fun q => q rfl), bound_at hl h d, raw_f]
  rfl

/-- The keys. -/
theorem key_at (hl : ∀ i, l i = (r i : EReal)) (h : Fin 8) (c : Fin 132) (t : Fin 64) (d : Fin 128) :
    A_main_v81 y l a (ix5 0 h c t d) = ((hk (bound r h) (rf y h c) t d : ℝ) : EReal) := by
  pointwise [A_main_v81]
  pointwise [A_main_v78, A_main_v77, A_main_v76, A_main_v74, A_main_v72, A_main_v71, A_main_v70, A_main_v69, K_main_v68, K_main_cst_4, K_main_v73, K_main_cst_5, K_main_v75, K_main_cst_6]
  rw [bound_at hl h d, raw_f]
  exact key_eq _ _

/-- The summed log gates. -/
theorem cum_at (hl : ∀ i, l i = (r i : EReal)) (h : Fin 8) (c : Fin 132) (t : Fin 64) (d : Fin 128) :
    A_main_v83 y l a (ix5 0 h c t d) = ((cum (hg (bound r h) (rf y h c)) t d : ℝ) : EReal) := by
  show Ideal.hostReduceWindowAdd ![1, 1, 1, 64, 1] ![1, 1, 1, 1, 1] ![0, 0, 0, 63, 0] ![0, 0, 0, 0, 0]
      reduceWindows_S1x8x132x64x128_S1x8x132x64x128_w1s1p0_0_w1s1p0_0_w1s1p0_0_w64s1p63_0_w1s1p0_0 (A_main_v82 y l a)
      (Ideal.ofBits .f32 0x00000000#32) _ = _
  rw [ofBits_zero, cumsum_at]
  unfold cum
  rw [coe_sum]
  refine Finset.sum_congr rfl fun u _ => ?_
  by_cases hu : u ≤ t
  · rw [if_pos hu, if_pos hu, gate_at hl]
  · rw [if_neg hu, if_neg hu, EReal.coe_zero]

theorem cum_last (g : RRows) (d : Fin 128) : cum g 63 d = tot g d := by
  unfold cum tot
  exact Finset.sum_congr rfl fun u _ => if_pos (Fin.le_def.2 (by show u.val ≤ 63; omega))

/-- The scores of a chunk. -/
theorem score_at (hl : ∀ i, l i = (r i : EReal)) (h : Fin 8) (c : Fin 132) (t s : Fin 64) :
    A_main_v114 y l a (ix5 c 0 h t s) = score (hq (rq y h c)) (hk (bound r h) (rf y h c)) (hg (bound r h) (rf y h c)) t s := by
  pointwise [A_main_v114]
  rw [scores_at]
  unfold score
  by_cases hs : s ≤ t
  · rw [if_pos hs]
    refine Finset.sum_congr rfl fun d _ => ?_
    rw [if_pos hs, query_at, key_at hl, cum_at hl, cum_at hl, ← EReal.coe_sub, exp_coe]
  · rw [if_neg hs]
    exact Finset.sum_eq_zero fun d _ => by rw [if_neg hs, mul_zero]

/-- The decayed keys of a chunk. -/
theorem kdec_at (hl : ∀ i, l i = (r i : EReal)) (h : Fin 8) (c : Fin 132) (t : Fin 64) (d : Fin 128) :
    A_main_v111 y l a (ix5 c 0 h t d) = kdec (hk (bound r h) (rf y h c)) (hg (bound r h) (rf y h c)) t d := by
  pointwise [A_main_v111, A_main_v108, A_main_v107, A_main_v106, A_main_v105, A_main_v84]
  rw [key_at hl, cum_at hl, cum_at hl, cum_last, ← EReal.coe_sub, exp_coe]
  rfl

/-- The decayed queries of a chunk. -/
theorem qdec_at (hl : ∀ i, l i = (r i : EReal)) (h : Fin 8) (c : Fin 132) (t : Fin 64) (d : Fin 128) :
    A_main_v113 y l a (ix5 c 0 h t d) = qdec (hq (rq y h c)) (hg (bound r h) (rf y h c)) t d := by
  pointwise [A_main_v113, A_main_v110, A_main_v109]
  rw [query_at, cum_at hl, exp_coe]
  rfl

/-- The decay over a chunk. -/
theorem last_at (hl : ∀ i, l i = (r i : EReal)) (h : Fin 8) (c : Fin 132) (d : Fin 128) :
    A_main_v112 y l a (ix5 c 0 h d 0) = ((Real.exp (tot (hg (bound r h) (rf y h c)) d) : ℝ) : EReal) := by
  pointwise [A_main_v112, A_main_v104, A_main_v103, A_main_v102, A_main_v84]
  rw [cum_at hl, cum_last, exp_coe]

end Cert.ReferenceIdeal.Seq

end
-- ==== Proof.RefTrip.lean ====
/- One trip of the reference's loop as the model's: trip `n` handles chunk `131 - n`, and the result collects the chunks. -/
module

public import proofs.«01_k».proof.Proof.RefChunk
public import Idealize.ShloMosaic.Lib.WordCmp

@[expose] public section

noncomputable section

namespace Cert.ReferenceIdeal.Seq

open Idealize.ShloMosaic Cert.ReferenceIdeal Cert.ReferenceIdeal.Gen Cert.ReferenceIdeal.Step Cert.Hg
open Cert.KernelIdeal.Ops (hq hg hk coe_sum)
open scoped BigOperators

/-- The chunk of a trip. -/
abbrev chunk (n : ℕ) : Fin 132 := ⟨131 - n, by omega⟩

variable {s : State Ideal} {n : ℕ}

/-- The chunk number as the loop computes it. -/
theorem index_val (hn : n < 132) (i : S_.Idx) : ((b3 n s) i).toInt = ((131 - n : ℕ) : Int) := by
  show ((132#32 - BitVec.ofNat 32 n) - 1#32).toInt = _
  have e : (132#32 - BitVec.ofNat 32 n) - 1#32 = BitVec.ofNat 32 (131 - n) := by
    apply BitVec.eq_of_toNat_eq
    simp
    omega
  rw [e]
  exact WordCmp.toInt_ofNat_of_lt (by omega)

/-- The places the trip's slices start at. -/
theorem starts (hn : n < 132) (z1 z2 z3 z4 : (⟨S_, .i32⟩ : BufTy).Contents (Elt Ideal)) (e1 : z1 = constantI S_ 32 0#32) (e2 : z2 = constantI S_ 32 0#32)
    (e3 : z3 = constantI S_ 32 0#32) (e4 : z4 = constantI S_ 32 0#32) (k : Fin 5) :
    ((((![b3 n s, z1, z2, z3, z4] : Fin 5 → (⟨S_, .i32⟩ : BufTy).Contents (Elt Ideal))) k) (Shape.Idx.first h_S_)).toInt
      = ((![131 - n, 0, 0, 0, 0] : Fin 5 → ℕ) k : Int) := by
  subst e1 e2 e3 e4
  match k with
  | ⟨0, _⟩ => exact index_val hn _
  | ⟨1, _⟩ => rfl
  | ⟨2, _⟩ => rfl
  | ⟨3, _⟩ => rfl
  | ⟨4, _⟩ => rfl

/-- A slice of one chunk. -/
theorem slice_at {α : Type} {A B C D : ℕ} (x : (⟨5, ![132, A, B, C, D]⟩ : Shape).Idx → α) (st : Fin 5 → Int)
    (hs : (⟨5, ![132, A, B, C, D]⟩ : Shape).Slices (fun _ => 0) ⟨5, ![1, A, B, C, D]⟩) (c : Fin 132)
    (e : ∀ k, st k = ((![c.val, 0, 0, 0, 0] : Fin 5 → ℕ) k : Int)) (i0 : Fin A) (i1 : Fin B) (i2 : Fin C) (i3 : Fin D) :
    Host.dynamicSlice ⟨5, ![1, A, B, C, D]⟩ x st hs (ix5 0 i0 i1 i2 i3) = x (ix5 c i0 i1 i2 i3) := by
  have hk : (⟨5, ![132, A, B, C, D]⟩ : Shape).Slices ![c.val, 0, 0, 0, 0] ⟨5, ![1, A, B, C, D]⟩ := ⟨rfl, fun k => by
    match k with
    | ⟨0, _⟩ => exact (by omega : c.val + 1 ≤ 132)
    | ⟨1, _⟩ => exact (by omega : 0 + A ≤ A)
    | ⟨2, _⟩ => exact (by omega : 0 + B ≤ B)
    | ⟨3, _⟩ => exact (by omega : 0 + C ≤ C)
    | ⟨4, _⟩ => exact (by omega : 0 + D ≤ D)⟩
  rw [WordCmp.dynamicSlice_eq_extract _ _ _ _ _ hk e]
  refine congrArg x (funext fun k => Fin.ext ?_)
  match k with
  | ⟨0, _⟩ => rfl
  | ⟨1, _⟩ => exact Nat.zero_add _
  | ⟨2, _⟩ => exact Nat.zero_add _
  | ⟨3, _⟩ => exact Nat.zero_add _
  | ⟨4, _⟩ => exact Nat.zero_add _

theorem trip_grads (hn : n < 132) (h : Fin 8) (t : Fin 64) (v : Fin 128) :
    b9 n s (ix4 0 h t v) = s.main_v124_0 (ix5 (chunk n) 0 h t v) := by
  pointwise [b9]
  exact slice_at _ _ _ (chunk n) (starts hn _ _ _ _ rfl rfl rfl rfl) _ _ _ _

theorem trip_last (hn : n < 132) (h : Fin 8) (d : Fin 128) :
    b15 n s (ix4 0 h d 0) = s.main_v124_1 (ix5 (chunk n) 0 h d 0) := by
  pointwise [b15]
  exact slice_at _ _ _ (chunk n) (starts hn _ _ _ _ rfl rfl rfl rfl) _ _ _ _

theorem trip_keys (hn : n < 132) (h : Fin 8) (t : Fin 64) (d : Fin 128) :
    b21 n s (ix4 0 h t d) = s.main_v124_2 (ix5 (chunk n) 0 h t d) := by
  pointwise [b21]
  exact slice_at _ _ _ (chunk n) (starts hn _ _ _ _ rfl rfl rfl rfl) _ _ _ _

theorem trip_queries (hn : n < 132) (h : Fin 8) (t : Fin 64) (d : Fin 128) :
    b27 n s (ix4 0 h t d) = s.main_v124_3 (ix5 (chunk n) 0 h t d) := by
  pointwise [b27]
  exact slice_at _ _ _ (chunk n) (starts hn _ _ _ _ rfl rfl rfl rfl) _ _ _ _

theorem trip_scores (hn : n < 132) (h : Fin 8) (t u : Fin 64) :
    b33 n s (ix4 0 h t u) = s.main_v124_4 (ix5 (chunk n) 0 h t u) := by
  pointwise [b33]
  exact slice_at _ _ _ (chunk n) (starts hn _ _ _ _ rfl rfl rfl rfl) _ _ _ _

/-- The stack after a trip: the trip's chunk is new, the others stay. -/
theorem trip_stack (hn : n < 132) (c : Fin 132) (h : Fin 8) (t : Fin 64) (v : Fin 128) :
    b49 n s (ix5 c 0 h t v) = if c = chunk n then b40 n s (ix4 0 h t v) else s.main_v124_7 (ix5 c 0 h t v) := by
  have hk : S132x1x8x64x128.Slices ![131 - n, 0, 0, 0, 0] S1x1x8x64x128 := ⟨rfl, fun k => by
    match k with
    | ⟨0, _⟩ => exact (by omega : 131 - n + 1 ≤ 132)
    | ⟨1, _⟩ => exact (by omega : 0 + 1 ≤ 1)
    | ⟨2, _⟩ => exact (by omega : 0 + 8 ≤ 8)
    | ⟨3, _⟩ => exact (by omega : 0 + 64 ≤ 64)
    | ⟨4, _⟩ => exact (by omega : 0 + 128 ≤ 128)⟩
  unfold b49
  rw [WordCmp.dynamicUpdateSlice_eq_update _ _ _ _ _ hk (starts hn (b45 n s) (b46 n s) (b47 n s) (b48 n s) rfl rfl rfl rfl)]
  unfold updateSlice
  by_cases hc : c = chunk n
  · rw [if_pos hc]
    subst hc
    rw [dif_pos]
    · unfold b44 broadcastInDim
      refine congrArg _ (funext fun k => Fin.ext ?_)
      match k with
      | ⟨0, _⟩ => rfl
      | ⟨1, _⟩ => rfl
      | ⟨2, _⟩ => rfl
      | ⟨3, _⟩ => rfl
    · intro k
      match k with
      | ⟨0, _⟩ => exact ⟨le_rfl, (by omega : 131 - n < 131 - n + 1)⟩
      | ⟨1, _⟩ => exact ⟨le_rfl, (by omega : 0 < 0 + 1)⟩
      | ⟨2, _⟩ => exact ⟨Nat.zero_le _, (by omega : h.val < 0 + 8)⟩
      | ⟨3, _⟩ => exact ⟨Nat.zero_le _, (by omega : t.val < 0 + 64)⟩
      | ⟨4, _⟩ => exact ⟨Nat.zero_le _, (by omega : v.val < 0 + 128)⟩
  · rw [if_neg hc, dif_neg]
    intro q
    have := q 0
    change 131 - n ≤ c.val ∧ c.val < 131 - n + 1 at this
    exact hc (Fin.ext (by show c.val = 131 - n; omega))

/-- What the loop starts from, of arguments with real logits. -/
structure Feeds (s : State Ideal) (y : (⟨S80x8448x128, .f32⟩ : BufTy).Contents (Elt Ideal)) (r : S2x2x1024.Idx → ℝ)
    (a : (⟨S8x8448x128, .f32⟩ : BufTy).Contents (Elt Ideal)) : Prop where
  grads : ∀ c h t v, s.main_v124_0 (ix5 c 0 h t v) = ro a h c t v
  last : ∀ c h d, s.main_v124_1 (ix5 c 0 h d 0) = ((Real.exp (tot (hg (bound r h) (rf y h c)) d) : ℝ) : EReal)
  keys : ∀ c h t d, s.main_v124_2 (ix5 c 0 h t d) = kdec (hk (bound r h) (rf y h c)) (hg (bound r h) (rf y h c)) t d
  queries : ∀ c h t d, s.main_v124_3 (ix5 c 0 h t d) = qdec (hq (rq y h c)) (hg (bound r h) (rf y h c)) t d
  scores : ∀ c h t u, s.main_v124_4 (ix5 c 0 h t u) = score (hq (rq y h c)) (hk (bound r h) (rf y h c)) (hg (bound r h) (rf y h c)) t u

variable {y : (⟨S80x8448x128, .f32⟩ : BufTy).Contents (Elt Ideal)} {l : (⟨S2x2x1024, .f32⟩ : BufTy).Contents (Elt Ideal)}
  {a : (⟨S8x8448x128, .f32⟩ : BufTy).Contents (Elt Ideal)} {r : S2x2x1024.Idx → ℝ}

/-- The state gradient a trip hands on. -/
theorem trip_carry (f : Feeds s y r a) (hn : n < 132) (h : Fin 8) (d v : Fin 128) :
    b43 n s (ix4 0 h d v) = dstate (hq (rq y h (chunk n))) (hg (bound r h) (rf y h (chunk n))) (ro a h (chunk n))
      (fun d v => s.main_v124_6 (ix4 0 h d v)) d v := by
  pointwise [b43, b42, b41, b37, b36]
  unfold dstate
  rw [trip_last hn, f.last, add_comm, mul_comm]
  congr 1
  refine Finset.sum_congr rfl fun t _ => ?_
  rw [trip_grads hn, trip_queries hn, f.grads, f.queries]

/-- The value gradients of a trip's chunk. -/
theorem trip_vals (f : Feeds s y r a) (hn : n < 132) (h : Fin 8) (t : Fin 64) (v : Fin 128) :
    b40 n s (ix4 0 h t v) = dval (hq (rq y h (chunk n))) (hk (bound r h) (rf y h (chunk n))) (hg (bound r h) (rf y h (chunk n)))
      (ro a h (chunk n)) (fun d v => s.main_v124_6 (ix4 0 h d v)) t v := by
  pointwise [b40, b39, b38, b35, b34]
  unfold dval
  congr 1
  · refine Finset.sum_congr rfl fun u _ => ?_
    rw [trip_grads hn, trip_scores hn, f.grads, f.scores, mul_comm]
  · refine Finset.sum_congr rfl fun d _ => ?_
    rw [trip_keys hn, f.keys, mul_comm]

/-- A trip leaves what it reads. -/
theorem Feeds.next (f : Feeds s y r a) : Feeds (step n s) y r a := ⟨f.grads, f.last, f.keys, f.queries, f.scores⟩

/-- The arguments feed the first state. -/
theorem feeds_init (hl : ∀ i, l i = (r i : EReal)) : Feeds (init y l a) y r a where
  grads c h t v := grads_at y l a h c t v
  last c h d := last_at hl h c d
  keys c h t d := kdec_at hl h c t d
  queries c h t d := qdec_at hl h c t d
  scores c h t u := score_at hl h c t u

/-- The state gradient of a head before trip `n`. -/
def back (y : (⟨S80x8448x128, .f32⟩ : BufTy).Contents (Elt Ideal)) (r : S2x2x1024.Idx → ℝ)
    (a : (⟨S8x8448x128, .f32⟩ : BufTy).Contents (Elt Ideal)) (h : Fin 8) : ℕ → Mat
  | 0 => fun _ _ => 0
  | n + 1 => dstate (hq (rq y h (chunk n))) (hg (bound r h) (rf y h (chunk n))) (ro a h (chunk n)) (back y r a h n)

/-- The gradient of the values of a head's chunk. -/
def grad (y : (⟨S80x8448x128, .f32⟩ : BufTy).Contents (Elt Ideal)) (r : S2x2x1024.Idx → ℝ)
    (a : (⟨S8x8448x128, .f32⟩ : BufTy).Contents (Elt Ideal)) (h : Fin 8) (n : ℕ) : Rows :=
  fun t v => dval (hq (rq y h (chunk n))) (hk (bound r h) (rf y h (chunk n))) (hg (bound r h) (rf y h (chunk n))) (ro a h (chunk n))
    (back y r a h n) t v

theorem state_feeds (hl : ∀ i, l i = (r i : EReal)) (n : ℕ) : Feeds (state (init y l a) n) y r a := by
  induction n with
  | zero => exact feeds_init hl
  | succ n ih => exact ih.next

/-- The loop's state gradient is the model's. -/
theorem state_carry (hl : ∀ i, l i = (r i : EReal)) (n : ℕ) (hn : n ≤ 132) (h : Fin 8) (d v : Fin 128) :
    (state (init y l a) n).main_v124_6 (ix4 0 h d v) = back y r a h n d v := by
  induction n generalizing d v with
  | zero => exact ofBits_zero
  | succ n ih =>
    refine (trip_carry (state_feeds hl n) (by omega) h d v).trans ?_
    have : (fun d v => (state (init y l a) n).main_v124_6 (ix4 0 h d v)) = back y r a h n := funext fun d => funext fun v => ih (by omega) d v
    rw [this]
    rfl

/-- The loop's stack holds the gradients of the chunks it has met. -/
theorem state_stack (hl : ∀ i, l i = (r i : EReal)) (n : ℕ) (hn : n ≤ 132) (c : Fin 132) (hc : 132 ≤ c.val + n) (h : Fin 8) (t : Fin 64) (v : Fin 128) :
    (state (init y l a) n).main_v124_7 (ix5 c 0 h t v) = grad y r a h (131 - c.val) t v := by
  induction n with
  | zero => omega
  | succ n ih =>
    refine (trip_stack (by omega) c h t v).trans ?_
    by_cases e : c = chunk n
    · rw [if_pos e, trip_vals (state_feeds hl n) (by omega)]
      have en : 131 - c.val = n := by rw [e]; show 131 - (131 - n) = n; omega
      have : (fun d v => (state (init y l a) n).main_v124_6 (ix4 0 h d v)) = back y r a h n :=
        funext fun d => funext fun v => state_carry hl n (by omega) h d v
      rw [this, en]
      rfl
    · rw [if_neg e]
      refine ih (by omega) ?_
      have : c.val ≠ 131 - n := fun q => e (Fin.ext q)
      omega

theorem late_at (q : Fin 8192) (h : Fin 8) (v : Fin 128) : R_main_v131 s (ix3 h ⟨q.val, by omega⟩ v)
    = s.main_v124_7 (ix5 ⟨(256 + q.val) / 64, by omega⟩ 0 h ⟨(256 + q.val) % 64, by omega⟩ v) := by
  have := q.isLt
  pointwise [R_main_v131]

theorem early_at (q : Fin 256) (h : Fin 8) (v : Fin 128) : R_main_v131 s (ix3 h ⟨8192 + q.val, by omega⟩ v)
    = s.main_v124_7 (ix5 ⟨q.val / 64, by omega⟩ 0 h ⟨q.val % 64, by omega⟩ v) := by
  have := q.isLt
  pointwise [R_main_v131]

/-- The result at a row is the gradient of the row's chunk. -/
theorem result_at (hl : ∀ i, l i = (r i : EReal)) (c : Fin 132) (h : Fin 8) (t : Fin 64) (v : Fin 128) :
    R_main_v131 (state (init y l a) 132) (ix3 h (mrow (pos c t)) v) = grad y r a h (131 - c.val) t v := by
  have hc := c.isLt
  have ht := t.isLt
  rw [← state_stack hl 132 le_rfl c (by omega)]
  unfold mrow
  by_cases hp : c.val * 64 + t.val < 256
  · rw [dif_pos hp]
    refine (early_at ⟨c.val * 64 + t.val, hp⟩ h v).trans (congrArg _ ?_)
    refine congrArg₂ (fun c t => ix5 c 0 h t v) (Fin.ext ?_) (Fin.ext ?_)
    · show (c.val * 64 + t.val) / 64 = c.val
      omega
    · show (c.val * 64 + t.val) % 64 = t.val
      omega
  · rw [dif_neg hp]
    refine (late_at ⟨c.val * 64 + t.val - 256, by omega⟩ h v).trans (congrArg _ ?_)
    refine congrArg₂ (fun c t => ix5 c 0 h t v) (Fin.ext ?_) (Fin.ext ?_)
    · show (256 + (c.val * 64 + t.val - 256)) / 64 = c.val
      omega
    · show (256 + (c.val * 64 + t.val - 256)) % 64 = t.val
      omega

end Cert.ReferenceIdeal.Seq

end
-- ==== Proof.Pieces.lean ====
/- The pieces a point stores, read at an index: the gradient of the values and the state's gradient two chunks on. -/
module

public import proofs.«01_k».proof.Proof.Read
public import proofs.«01_k».proof.Proof.RefTrip
public import Idealize.ShloMosaic.Lib.WritesUnit

@[expose] public section

set_option maxRecDepth 16384

noncomputable section

namespace Cert.KernelIdeal.Scan

open Cert.KernelIdeal.Gen Cert.KernelIdeal.Ops Cert.Hg
open Cert.ReferenceIdeal.Seq (rq rf ro bound back grad chunk pos mrow)
open Idealize.ShloMosaic Idealize.ShloMosaic.TcCoe

variable (C : Masks) (L : Fin 2 → Fin 2 → Loads) (D : Fin 8 → FVec Ideal S128x128 .f32)

/-- A head's state gradient between the point's two chunks. -/
abbrev midV (g : Fin 2) (o : ℕ) (hs : S256x128.Slices ![o, 0] S64x128) (h : Fin 8) : FVec Ideal S128x128 .f32 :=
  dsV C (L g 1) o hs (D h)

/-- What a point stores into the gradient of the values: two groups of heads, two chunks. -/
def giPieces : List (View.Piece (Elt Ideal) S8x128x128 .f32) :=
  [⟨Rect.unit (s := S8x128x128) ![4, 64, 0] S4x64x128.size inb_S8x128x128_S4x64x128_4_64_0, shapeCast S4x64x128 (giV C (L 1 1) (D 4) (D 5) (D 6) (D 7)) shapeCasts_S256x128_S4x64x128⟩,
   ⟨Rect.unit (s := S8x128x128) ![4, 0, 0] S4x64x128.size inb_S8x128x128_S4x64x128_4_0_0, shapeCast S4x64x128 (giV C (L 1 0) (midV C L D 1 0 slices_S256x128_o0_0_S64x128 4) (midV C L D 1 64 slices_S256x128_o64_0_S64x128 5) (midV C L D 1 128 slices_S256x128_o128_0_S64x128 6) (midV C L D 1 192 slices_S256x128_o192_0_S64x128 7)) shapeCasts_S256x128_S4x64x128⟩,
   ⟨Rect.unit (s := S8x128x128) ![0, 64, 0] S4x64x128.size inb_S8x128x128_S4x64x128_0_64_0, shapeCast S4x64x128 (giV C (L 0 1) (D 0) (D 1) (D 2) (D 3)) shapeCasts_S256x128_S4x64x128⟩,
   ⟨Rect.unit (s := S8x128x128) ![0, 0, 0] S4x64x128.size inb_S8x128x128_S4x64x128_0_0_0, shapeCast S4x64x128 (giV C (L 0 0) (midV C L D 0 0 slices_S256x128_o0_0_S64x128 0) (midV C L D 0 64 slices_S256x128_o64_0_S64x128 1) (midV C L D 0 128 slices_S256x128_o128_0_S64x128 2) (midV C L D 0 192 slices_S256x128_o192_0_S64x128 3)) shapeCasts_S256x128_S4x64x128⟩]

/-- What a point stores into the scratch: one piece per head. -/
def dsPieces (tail : List (View.Piece (Elt Ideal) S8x128x128 .f32)) : List (View.Piece (Elt Ideal) S8x128x128 .f32) :=
  ⟨Rect.unit (s := S8x128x128) ![7, 0, 0] S1x128x128.size inb_S8x128x128_S1x128x128_7_0_0, shapeCast S1x128x128 (dsV C (L 1 0) 192 slices_S256x128_o192_0_S64x128 (midV C L D 1 192 slices_S256x128_o192_0_S64x128 7)) shapeCasts_S128x128_S1x128x128⟩ ::
   ⟨Rect.unit (s := S8x128x128) ![6, 0, 0] S1x128x128.size inb_S8x128x128_S1x128x128_6_0_0, shapeCast S1x128x128 (dsV C (L 1 0) 128 slices_S256x128_o128_0_S64x128 (midV C L D 1 128 slices_S256x128_o128_0_S64x128 6)) shapeCasts_S128x128_S1x128x128⟩ ::
   ⟨Rect.unit (s := S8x128x128) ![5, 0, 0] S1x128x128.size inb_S8x128x128_S1x128x128_5_0_0, shapeCast S1x128x128 (dsV C (L 1 0) 64 slices_S256x128_o64_0_S64x128 (midV C L D 1 64 slices_S256x128_o64_0_S64x128 5)) shapeCasts_S128x128_S1x128x128⟩ ::
   ⟨Rect.unit (s := S8x128x128) ![4, 0, 0] S1x128x128.size inb_S8x128x128_S1x128x128_4_0_0, shapeCast S1x128x128 (dsV C (L 1 0) 0 slices_S256x128_o0_0_S64x128 (midV C L D 1 0 slices_S256x128_o0_0_S64x128 4)) shapeCasts_S128x128_S1x128x128⟩ ::
   ⟨Rect.unit (s := S8x128x128) ![3, 0, 0] S1x128x128.size inb_S8x128x128_S1x128x128_3_0_0, shapeCast S1x128x128 (dsV C (L 0 0) 192 slices_S256x128_o192_0_S64x128 (midV C L D 0 192 slices_S256x128_o192_0_S64x128 3)) shapeCasts_S128x128_S1x128x128⟩ ::
   ⟨Rect.unit (s := S8x128x128) ![2, 0, 0] S1x128x128.size inb_S8x128x128_S1x128x128_2_0_0, shapeCast S1x128x128 (dsV C (L 0 0) 128 slices_S256x128_o128_0_S64x128 (midV C L D 0 128 slices_S256x128_o128_0_S64x128 2)) shapeCasts_S128x128_S1x128x128⟩ ::
   ⟨Rect.unit (s := S8x128x128) ![1, 0, 0] S1x128x128.size inb_S8x128x128_S1x128x128_1_0_0, shapeCast S1x128x128 (dsV C (L 0 0) 64 slices_S256x128_o64_0_S64x128 (midV C L D 0 64 slices_S256x128_o64_0_S64x128 1)) shapeCasts_S128x128_S1x128x128⟩ ::
   ⟨Rect.unit (s := S8x128x128) ![0, 0, 0] S1x128x128.size inb_S8x128x128_S1x128x128_0_0_0, shapeCast S1x128x128 (dsV C (L 0 0) 0 slices_S256x128_o0_0_S64x128 (midV C L D 0 0 slices_S256x128_o0_0_S64x128 0)) shapeCasts_S128x128_S1x128x128⟩ :: tail

/-- A head by group and place. -/
abbrev head (g : Fin 2) (i : Fin 4) : Fin 8 := ⟨g.val * 4 + i.val, by omega⟩

/-- What a point reads: its two chunks are those of trips `n` (half 1) and `n + 1` (half 0), and the state's gradient is the
    one after `n` trips. -/
structure Feeds (y : Vec Ideal S80x8448x128 .f32) (r : S2x2x1024.Idx → ℝ) (a : Vec Ideal S8x8448x128 .f32) (n : ℕ) : Prop where
  good : Good C
  bounds : ∀ g s, Bounds (L g s) (fun i => bound r (head g i))
  q : ∀ g s i, hd (L g s).q i = rq y (head g i) (chunk (n + (1 - s.val)))
  f : ∀ g s i, hd (L g s).f i = rf y (head g i) (chunk (n + (1 - s.val)))
  o : ∀ g s i, hd (L g s).o i = ro a (head g i) (chunk (n + (1 - s.val)))
  d : ∀ h, (fun d v => D h (ix2 v d)) = back y r a h n

variable {C L D} {y : Vec Ideal S80x8448x128 .f32} {r : S2x2x1024.Idx → ℝ} {a : Vec Ideal S8x8448x128 .f32} {n : ℕ}

/-- A chunk's state gradient steps back by one trip. -/
theorem Feeds.step (H : Feeds C L D y r a n) (g : Fin 2) (s : Fin 2) (i : Fin 4) (o : ℕ) (ho : o = i.val * 64) (hs)
    (dn : FVec Ideal S128x128 .f32) (hdn : (fun d v => dn (ix2 v d)) = back y r a (head g i) (n + (1 - s.val))) :
    (fun d v => dsV C (L g s) o hs dn (ix2 v d)) = back y r a (head g i) (n + (1 - s.val) + 1) := by
  funext d v
  rw [dsV_at H.good (H.bounds g s) i o ho hs dn v d, H.q, H.f, H.o, hdn]
  rfl

theorem Feeds.mid (H : Feeds C L D y r a n) (g : Fin 2) (i : Fin 4) (o : ℕ) (ho : o = i.val * 64) (hs) (h : Fin 8) (hh : h = head g i) :
    (fun d v => midV C L D g o hs h (ix2 v d)) = back y r a (head g i) (n + 1) := by
  subst hh
  exact H.step g 1 i o ho hs (D (head g i)) (H.d _)

/-- A group's gradient of the values in one chunk. -/
theorem Feeds.values (H : Feeds C L D y r a n) (g : Fin 2) (s : Fin 2) (d0 d1 d2 d3 : FVec Ideal S128x128 .f32) (i : Fin 4)
    (hdn : (fun d v => ![d0, d1, d2, d3] i (ix2 v d)) = back y r a (head g i) (n + (1 - s.val))) (t : Fin 64) (v : Fin 128) :
    giV C (L g s) d0 d1 d2 d3 (ix2 (row i t) v) = grad y r a (head g i) (n + (1 - s.val)) t v := by
  rw [giV_at H.good (H.bounds g s), H.q, H.f, H.o, hdn]
  rfl

theorem cast_rows (X : FVec Ideal S256x128 .f32) (i : Fin 4) (t : Fin 64) (v : Fin 128) :
    shapeCast S4x64x128 X shapeCasts_S256x128_S4x64x128 (ix3 i t v) = X (ix2 (row i t) v) := by
  pointwise

theorem cast_head (X : FVec Ideal S128x128 .f32) (v d : Fin 128) :
    shapeCast S1x128x128 X shapeCasts_S128x128_S1x128x128 (ix3 0 v d) = X (ix2 v d) := by
  pointwise

section Reads

variable {sig' : RefSig} {κ : Kind} {sp : Space} (w : View sig' κ sp S8x128x128 .f32) (b : w.ty.Contents (Elt Ideal))

/-- An entry in the newest block of four heads and one chunk. -/
theorem block_hit (g s : Fin 2) {off : Fin 3 → ℕ} (ho : off = ![4 * g.val, 64 * s.val, 0]) (inb) (X : FVec Ideal S4x64x128 .f32)
    (R : List (View.Piece (Elt Ideal) S8x128x128 .f32)) (i : Fin 4) (t : Fin 64) (v : Fin 128) :
    w.read (Elt Ideal) (w.writes (Elt Ideal) b ((⟨Rect.unit (s := S8x128x128) off S4x64x128.size inb, X⟩ : View.Piece (Elt Ideal) S8x128x128 .f32) :: R))
      (ix3 (head g i) ⟨64 * s.val + t.val, by omega⟩ v) = X (ix3 i t v) := by
  refine View.read_writes_cons_unit_of_mem w b inb X R _ (ix3 i t v) ho (fun a => ?_)
  match a with
  | ⟨0, _⟩ => show g.val * 4 + i.val = 4 * g.val + i.val; omega
  | ⟨1, _⟩ => rfl
  | ⟨2, _⟩ => show v.val = 0 + v.val; omega

/-- An entry outside the newest block: another group of heads. -/
theorem block_skip_heads (g g' s s' : Fin 2) (hg : g' ≠ g) {off : Fin 3 → ℕ} (ho : off = ![4 * g'.val, 64 * s'.val, 0]) (inb) (X : FVec Ideal S4x64x128 .f32)
    (R : List (View.Piece (Elt Ideal) S8x128x128 .f32)) (i : Fin 4) (t : Fin 64) (v : Fin 128) :
    w.read (Elt Ideal) (w.writes (Elt Ideal) b ((⟨Rect.unit (s := S8x128x128) off S4x64x128.size inb, X⟩ : View.Piece (Elt Ideal) S8x128x128 .f32) :: R))
      (ix3 (head g i) ⟨64 * s.val + t.val, by omega⟩ v)
      = w.read (Elt Ideal) (w.writes (Elt Ideal) b R) (ix3 (head g i) ⟨64 * s.val + t.val, by omega⟩ v) := by
  refine View.read_writes_cons_unit_of_not_mem w b inb X R _ ho (0 : Fin 3) ?_
  show g.val * 4 + i.val < 4 * g'.val ∨ 4 * g'.val + 4 ≤ g.val * 4 + i.val
  have := Fin.val_ne_of_ne hg
  omega

/-- An entry outside the newest block: the other chunk. -/
theorem block_skip_chunk (g g' s s' : Fin 2) (hg : s' ≠ s) {off : Fin 3 → ℕ} (ho : off = ![4 * g'.val, 64 * s'.val, 0]) (inb) (X : FVec Ideal S4x64x128 .f32)
    (R : List (View.Piece (Elt Ideal) S8x128x128 .f32)) (i : Fin 4) (t : Fin 64) (v : Fin 128) :
    w.read (Elt Ideal) (w.writes (Elt Ideal) b ((⟨Rect.unit (s := S8x128x128) off S4x64x128.size inb, X⟩ : View.Piece (Elt Ideal) S8x128x128 .f32) :: R))
      (ix3 (head g i) ⟨64 * s.val + t.val, by omega⟩ v)
      = w.read (Elt Ideal) (w.writes (Elt Ideal) b R) (ix3 (head g i) ⟨64 * s.val + t.val, by omega⟩ v) := by
  refine View.read_writes_cons_unit_of_not_mem w b inb X R _ ho (1 : Fin 3) ?_
  show 64 * s.val + t.val < 64 * s'.val ∨ 64 * s'.val + 64 ≤ 64 * s.val + t.val
  have := Fin.val_ne_of_ne hg
  omega

/-- The stored gradient of the values is that of the two trips. -/
theorem Feeds.gi (H : Feeds C L D y r a n) (g s : Fin 2) (i : Fin 4) (t : Fin 64) (v : Fin 128) :
    w.read (Elt Ideal) (w.writes (Elt Ideal) b (giPieces C L D)) (ix3 (head g i) ⟨64 * s.val + t.val, by omega⟩ v)
      = grad y r a (head g i) (n + (1 - s.val)) t v := by
  unfold giPieces
  match g, s with
  | 1, 1 =>
    rw [block_hit w b 1 1 (off := ![4, 64, 0]) rfl, cast_rows]
    exact H.values 1 1 _ _ _ _ i (by match i with | 0 => exact H.d 4 | 1 => exact H.d 5 | 2 => exact H.d 6 | 3 => exact H.d 7) t v
  | 1, 0 =>
    rw [block_skip_chunk w b 1 1 0 1 (by decide) (off := ![4, 64, 0]) rfl, block_hit w b 1 0 (off := ![4, 0, 0]) rfl, cast_rows]
    exact H.values 1 0 _ _ _ _ i (by
      match i with
      | 0 => exact H.mid 1 0 0 rfl _ 4 rfl
      | 1 => exact H.mid 1 1 64 rfl _ 5 rfl
      | 2 => exact H.mid 1 2 128 rfl _ 6 rfl
      | 3 => exact H.mid 1 3 192 rfl _ 7 rfl) t v
  | 0, 1 =>
    rw [block_skip_heads w b 0 1 1 1 (by decide) (off := ![4, 64, 0]) rfl, block_skip_heads w b 0 1 1 0 (by decide) (off := ![4, 0, 0]) rfl, block_hit w b 0 1 (off := ![0, 64, 0]) rfl, cast_rows]
    exact H.values 0 1 _ _ _ _ i (by match i with | 0 => exact H.d 0 | 1 => exact H.d 1 | 2 => exact H.d 2 | 3 => exact H.d 3) t v
  | 0, 0 =>
    rw [block_skip_heads w b 0 1 0 1 (by decide) (off := ![4, 64, 0]) rfl, block_skip_heads w b 0 1 0 0 (by decide) (off := ![4, 0, 0]) rfl, block_skip_chunk w b 0 0 0 1 (by decide) (off := ![0, 64, 0]) rfl,
      block_hit w b 0 0 (off := ![0, 0, 0]) rfl, cast_rows]
    exact H.values 0 0 _ _ _ _ i (by
      match i with
      | 0 => exact H.mid 0 0 0 rfl _ 0 rfl
      | 1 => exact H.mid 0 1 64 rfl _ 1 rfl
      | 2 => exact H.mid 0 2 128 rfl _ 2 rfl
      | 3 => exact H.mid 0 3 192 rfl _ 3 rfl) t v

/-- An entry of the newest head. -/
theorem head_hit (h : Fin 8) {off : Fin 3 → ℕ} (ho : off = ![h.val, 0, 0]) (inb) (X : FVec Ideal S1x128x128 .f32)
    (R : List (View.Piece (Elt Ideal) S8x128x128 .f32)) (v d : Fin 128) :
    w.read (Elt Ideal) (w.writes (Elt Ideal) b ((⟨Rect.unit (s := S8x128x128) off S1x128x128.size inb, X⟩ : View.Piece (Elt Ideal) S8x128x128 .f32) :: R))
      (ix3 h v d) = X (ix3 0 v d) := by
  refine View.read_writes_cons_unit_of_mem w b inb X R _ (ix3 0 v d) ho (fun a => ?_)
  match a with
  | ⟨0, _⟩ => rfl
  | ⟨1, _⟩ => show v.val = 0 + v.val; omega
  | ⟨2, _⟩ => show d.val = 0 + d.val; omega

/-- An entry of another head than the newest. -/
theorem head_skip (h h' : Fin 8) (hh : h' ≠ h) {off : Fin 3 → ℕ} (ho : off = ![h'.val, 0, 0]) (inb) (X : FVec Ideal S1x128x128 .f32)
    (R : List (View.Piece (Elt Ideal) S8x128x128 .f32)) (v d : Fin 128) :
    w.read (Elt Ideal) (w.writes (Elt Ideal) b ((⟨Rect.unit (s := S8x128x128) off S1x128x128.size inb, X⟩ : View.Piece (Elt Ideal) S8x128x128 .f32) :: R))
      (ix3 h v d) = w.read (Elt Ideal) (w.writes (Elt Ideal) b R) (ix3 h v d) := by
  refine View.read_writes_cons_unit_of_not_mem w b inb X R _ ho (0 : Fin 3) ?_
  show h.val < h'.val ∨ h'.val + 1 ≤ h.val
  have := Fin.val_ne_of_ne hh
  omega

/-- The stored state gradient is the one two trips on. -/
theorem Feeds.ds (H : Feeds C L D y r a n) (tail : List (View.Piece (Elt Ideal) S8x128x128 .f32)) (h : Fin 8) (v d : Fin 128) :
    w.read (Elt Ideal) (w.writes (Elt Ideal) b (dsPieces C L D tail)) (ix3 h v d) = back y r a h (n + 2) d v := by
  unfold dsPieces
  match h with
  | 0 =>
    rw [head_skip w b 0 7 (by decide) (off := ![7, 0, 0]) rfl, head_skip w b 0 6 (by decide) (off := ![6, 0, 0]) rfl, head_skip w b 0 5 (by decide) (off := ![5, 0, 0]) rfl, head_skip w b 0 4 (by decide) (off := ![4, 0, 0]) rfl, head_skip w b 0 3 (by decide) (off := ![3, 0, 0]) rfl, head_skip w b 0 2 (by decide) (off := ![2, 0, 0]) rfl, head_skip w b 0 1 (by decide) (off := ![1, 0, 0]) rfl, head_hit w b 0 (off := ![0, 0, 0]) rfl, cast_head]
    exact congrFun (congrFun (H.step 0 0 0 0 rfl _ _ (H.mid 0 0 0 rfl _ 0 rfl)) d) v
  | 1 =>
    rw [head_skip w b 1 7 (by decide) (off := ![7, 0, 0]) rfl, head_skip w b 1 6 (by decide) (off := ![6, 0, 0]) rfl, head_skip w b 1 5 (by decide) (off := ![5, 0, 0]) rfl, head_skip w b 1 4 (by decide) (off := ![4, 0, 0]) rfl, head_skip w b 1 3 (by decide) (off := ![3, 0, 0]) rfl, head_skip w b 1 2 (by decide) (off := ![2, 0, 0]) rfl, head_hit w b 1 (off := ![1, 0, 0]) rfl, cast_head]
    exact congrFun (congrFun (H.step 0 0 1 64 rfl _ _ (H.mid 0 1 64 rfl _ 1 rfl)) d) v
  | 2 =>
    rw [head_skip w b 2 7 (by decide) (off := ![7, 0, 0]) rfl, head_skip w b 2 6 (by decide) (off := ![6, 0, 0]) rfl, head_skip w b 2 5 (by decide) (off := ![5, 0, 0]) rfl, head_skip w b 2 4 (by decide) (off := ![4, 0, 0]) rfl, head_skip w b 2 3 (by decide) (off := ![3, 0, 0]) rfl, head_hit w b 2 (off := ![2, 0, 0]) rfl, cast_head]
    exact congrFun (congrFun (H.step 0 0 2 128 rfl _ _ (H.mid 0 2 128 rfl _ 2 rfl)) d) v
  | 3 =>
    rw [head_skip w b 3 7 (by decide) (off := ![7, 0, 0]) rfl, head_skip w b 3 6 (by decide) (off := ![6, 0, 0]) rfl, head_skip w b 3 5 (by decide) (off := ![5, 0, 0]) rfl, head_skip w b 3 4 (by decide) (off := ![4, 0, 0]) rfl, head_hit w b 3 (off := ![3, 0, 0]) rfl, cast_head]
    exact congrFun (congrFun (H.step 0 0 3 192 rfl _ _ (H.mid 0 3 192 rfl _ 3 rfl)) d) v
  | 4 =>
    rw [head_skip w b 4 7 (by decide) (off := ![7, 0, 0]) rfl, head_skip w b 4 6 (by decide) (off := ![6, 0, 0]) rfl, head_skip w b 4 5 (by decide) (off := ![5, 0, 0]) rfl, head_hit w b 4 (off := ![4, 0, 0]) rfl, cast_head]
    exact congrFun (congrFun (H.step 1 0 0 0 rfl _ _ (H.mid 1 0 0 rfl _ 4 rfl)) d) v
  | 5 =>
    rw [head_skip w b 5 7 (by decide) (off := ![7, 0, 0]) rfl, head_skip w b 5 6 (by decide) (off := ![6, 0, 0]) rfl, head_hit w b 5 (off := ![5, 0, 0]) rfl, cast_head]
    exact congrFun (congrFun (H.step 1 0 1 64 rfl _ _ (H.mid 1 1 64 rfl _ 5 rfl)) d) v
  | 6 =>
    rw [head_skip w b 6 7 (by decide) (off := ![7, 0, 0]) rfl, head_hit w b 6 (off := ![6, 0, 0]) rfl, cast_head]
    exact congrFun (congrFun (H.step 1 0 2 128 rfl _ _ (H.mid 1 2 128 rfl _ 6 rfl)) d) v
  | 7 =>
    rw [head_hit w b 7 (off := ![7, 0, 0]) rfl, cast_head]
    exact congrFun (congrFun (H.step 1 0 3 192 rfl _ _ (H.mid 1 3 192 rfl _ 7 rfl)) d) v

end Reads

end Cert.KernelIdeal.Scan
-- ==== Proof.BridgeB.lean ====
/- What one grid point leaves, in the vocabulary of the chunk's operations. -/
module

public import proofs.«01_k».proof.Proof.IdealRunB
public import proofs.«01_k».proof.Proof.Ops

@[expose] public section

set_option maxRecDepth 16384

noncomputable section

namespace Cert.KernelIdeal.Scan

open Cert.KernelIdeal.Gen Cert.KernelIdeal.Ops
open Idealize.ShloMosaic Idealize.ShloMosaic.TcCoe

/-- The constant arrays read from the staging buffers. -/
def masksOf (arg8 : Memref sig .tc .vmem S256x256 .f32) (harg8 : arg8.IsWhole) (arg9 : Memref sig .tc .vmem S256x256 .f32) (harg9 : arg9.IsWhole) (arg11 : Memref sig .tc .vmem S1536x256 .f32) (harg11 : arg11.IsWhole) (arg13 : Memref sig .tc .vmem S6x256x256 .bf16) (harg13 : arg13.IsWhole) (arg14 : Memref sig .tc .vmem S6x256x128 .f32) (harg14 : arg14.IsWhole)
    (x7 : Vec Ideal S256x256 .f32) (x8 : Vec Ideal S256x256 .f32) (x10 : Vec Ideal S1536x256 .f32) (x12 : Vec Ideal S6x256x256 .bf16) (x13 : Vec Ideal S6x256x128 .f32) : Masks where
  eye := View.readAt (Elt Ideal) arg8.view (Rect.unit ![0, 0] S256x256.size inb_S256x256_S256x256_0_0).toLoadRect (harg8.unread x7)
  incl := View.readAt (Elt Ideal) arg9.view (Rect.unit ![0, 0] S256x256.size inb_S256x256_S256x256_0_0).toLoadRect (harg9.unread x8)
  mid := View.readAt (Elt Ideal) arg11.view (Rect.unit ![0, 0] S1536x256.size inb_S1536x256_S1536x256_0_0).toLoadRect (harg11.unread x10)
  same := View.readAt (Elt Ideal) arg13.view (Rect.unit ![0, 0, 0] S6x256x256.size inb_S6x256x256_S6x256x256_0_0_0).toLoadRect (harg13.unread x12)
  sec := View.readAt (Elt Ideal) arg14.view (Rect.unit ![0, 0, 0] S6x256x128.size inb_S6x256x128_S6x256x128_0_0_0).toLoadRect (harg14.unread x13)

/-- One group of heads in one chunk read from the staging buffers: heads from `h`, tokens from `t`. -/
def loadsOf (arg1 : Memref sig .tc .vmem S8x128x128 .f32) (harg1 : arg1.IsWhole) (arg2 : Memref sig .tc .vmem S8x128x128 .f32) (harg2 : arg2.IsWhole) (arg4 : Memref sig .tc .vmem S8x1x128 .f32) (harg4 : arg4.IsWhole) (arg5 : Memref sig .tc .vmem S8x1x128 .f32) (harg5 : arg5.IsWhole) (arg7 : Memref sig .tc .vmem S8x128x128 .f32) (harg7 : arg7.IsWhole)
    (x0 : Vec Ideal S8x128x128 .f32) (x1 : Vec Ideal S8x128x128 .f32) (x3 : Vec Ideal S8x1x128 .f32) (x4 : Vec Ideal S8x1x128 .f32) (x6 : Vec Ideal S8x128x128 .f32)
    (h t : ℕ) (hi : ∀ a, (![h, t, 0] : Fin 3 → ℕ) a + S4x64x128.size a ≤ S8x128x128.size a) (hl : ∀ a, (![h, 0, 0] : Fin 3 → ℕ) a + S4x1x128.size a ≤ S8x1x128.size a) : Loads where
  q := View.readAt (Elt Ideal) arg1.view (Rect.unit (s := S8x128x128) ![h, t, 0] S4x64x128.size hi).toLoadRect (harg1.unread x0)
  f := View.readAt (Elt Ideal) arg2.view (Rect.unit (s := S8x128x128) ![h, t, 0] S4x64x128.size hi).toLoadRect (harg2.unread x1)
  o := View.readAt (Elt Ideal) arg7.view (Rect.unit (s := S8x128x128) ![h, t, 0] S4x64x128.size hi).toLoadRect (harg7.unread x6)
  l0 := View.readAt (Elt Ideal) arg4.view (Rect.unit (s := S8x1x128) ![h, 0, 0] S4x1x128.size hl).toLoadRect (harg4.unread x3)
  l1 := View.readAt (Elt Ideal) arg5.view (Rect.unit (s := S8x1x128) ![h, 0, 0] S4x1x128.size hl).toLoadRect (harg5.unread x4)

/-- One head's state gradient read from the scratch at a later point. -/
def scB (arg20 : Memref sig .tc .vmem S8x128x128 .f32) (harg20 : arg20.IsWhole) (xs0 : Vec Ideal S8x128x128 .f32) (h : ℕ) (hi : ∀ a, (![h, 0, 0] : Fin 3 → ℕ) a + S1x128x128.size a ≤ S8x128x128.size a) : FVec Ideal S1x128x128 .f32 :=
  View.readAt (Elt Ideal) arg20.view (Rect.unit (s := S8x128x128) ![h, 0, 0] S1x128x128.size hi).toLoadRect (harg20.unread xs0)

/-- The pieces the body leaves in the window of the gradient of the values, case B. -/
theorem gi_pieces_B (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : ¬cond0_0 i)
    (x0 : Vec Ideal S8x128x128 .f32) (x1 : Vec Ideal S8x128x128 .f32) (x2 : Vec Ideal S8x128x128 .f32) (x3 : Vec Ideal S8x1x128 .f32) (x4 : Vec Ideal S8x1x128 .f32) (x5 : Vec Ideal S2x8x128x128 .f32) (x6 : Vec Ideal S8x128x128 .f32) (x7 : Vec Ideal S256x256 .f32) (x8 : Vec Ideal S256x256 .f32) (x9 : Vec Ideal S256x256 .f32) (x10 : Vec Ideal S1536x256 .f32) (x11 : Vec Ideal S256x1536 .f32) (x12 : Vec Ideal S6x256x256 .bf16) (x13 : Vec Ideal S6x256x128 .f32) (xs0 : Vec Ideal S8x128x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0).2.1 = [
      ⟨Rect.unit (s := S8x128x128) ![4, 64, 0] S4x64x128.size inb_S8x128x128_S4x64x128_4_64_0, shapeCast S4x64x128 (giV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) (ldV (scB arg20 harg20 xs0 4 inb_S8x128x128_S1x128x128_4_0_0)) (ldV (scB arg20 harg20 xs0 5 inb_S8x128x128_S1x128x128_5_0_0)) (ldV (scB arg20 harg20 xs0 6 inb_S8x128x128_S1x128x128_6_0_0)) (ldV (scB arg20 harg20 xs0 7 inb_S8x128x128_S1x128x128_7_0_0))) shapeCasts_S256x128_S4x64x128⟩,
      ⟨Rect.unit (s := S8x128x128) ![4, 0, 0] S4x64x128.size inb_S8x128x128_S4x64x128_4_0_0, shapeCast S4x64x128 (giV (masksOf arg8 harg8 arg9 harg9 arg11 harg11 arg13 harg13 arg14 harg14 x7 x8 x10 x12 x13) (loadsOf arg1 harg1 arg2 harg2 arg4 harg4 arg5 harg5 arg7 harg7 x0 x1 x3 x4 x6 4 0 inb_S8x128x128_S4x64x128_4_0_0 inb_S8x1x128_S4x1x128_4_0_0) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 0 slices_S256x128_o0_0_S64x128 (ldV (scB arg20 harg20 xs0 4 inb_S8x128x128_S1x128x128_4_0_0))) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 64 slices_S256x128_o64_0_S64x128 (ldV (scB arg20 harg20 xs0 5 inb_S8x128x128_S1x128x128_5_0_0))) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 128 slices_S256x128_o128_0_S64x128 (ldV (scB arg20 harg20 xs0 6 inb_S8x128x128_S1x128x128_6_0_0))) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 192 slices_S256x128_o192_0_S64x128 (ldV (scB arg20 harg20 xs0 7 inb_S8x128x128_S1x128x128_7_0_0)))) shapeCasts_S256x128_S4x64x128⟩,
      ⟨Rect.unit (s := S8x128x128) ![0, 64, 0] S4x64x128.size inb_S8x128x128_S4x64x128_0_64_0, shapeCast S4x64x128 (giV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) (ldV (scB arg20 harg20 xs0 0 inb_S8x128x128_S1x128x128_0_0_0)) (ldV (scB arg20 harg20 xs0 1 inb_S8x128x128_S1x128x128_1_0_0)) (ldV (scB arg20 harg20 xs0 2 inb_S8x128x128_S1x128x128_2_0_0)) (ldV (scB arg20 harg20 xs0 3 inb_S8x128x128_S1x128x128_3_0_0))) shapeCasts_S256x128_S4x64x128⟩,
      ⟨Rect.unit (s := S8x128x128) ![0, 0, 0] S4x64x128.size inb_S8x128x128_S4x64x128_0_0_0, shapeCast S4x64x128 (giV (masksOf arg8 harg8 arg9 harg9 arg11 harg11 arg13 harg13 arg14 harg14 x7 x8 x10 x12 x13) (loadsOf arg1 harg1 arg2 harg2 arg4 harg4 arg5 harg5 arg7 harg7 x0 x1 x3 x4 x6 0 0 inb_S8x128x128_S4x64x128_0_0_0 inb_S8x1x128_S4x1x128_0_0_0) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 0 slices_S256x128_o0_0_S64x128 (ldV (scB arg20 harg20 xs0 0 inb_S8x128x128_S1x128x128_0_0_0))) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 64 slices_S256x128_o64_0_S64x128 (ldV (scB arg20 harg20 xs0 1 inb_S8x128x128_S1x128x128_1_0_0))) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 128 slices_S256x128_o128_0_S64x128 (ldV (scB arg20 harg20 xs0 2 inb_S8x128x128_S1x128x128_2_0_0))) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 192 slices_S256x128_o192_0_S64x128 (ldV (scB arg20 harg20 xs0 3 inb_S8x128x128_S1x128x128_3_0_0)))) shapeCasts_S256x128_S4x64x128⟩] := by
  sl_kernel_rfl

/-- The pieces the body leaves in the scratch, case B. -/
theorem ds_pieces_B (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : ¬cond0_0 i)
    (x0 : Vec Ideal S8x128x128 .f32) (x1 : Vec Ideal S8x128x128 .f32) (x2 : Vec Ideal S8x128x128 .f32) (x3 : Vec Ideal S8x1x128 .f32) (x4 : Vec Ideal S8x1x128 .f32) (x5 : Vec Ideal S2x8x128x128 .f32) (x6 : Vec Ideal S8x128x128 .f32) (x7 : Vec Ideal S256x256 .f32) (x8 : Vec Ideal S256x256 .f32) (x9 : Vec Ideal S256x256 .f32) (x10 : Vec Ideal S1536x256 .f32) (x11 : Vec Ideal S256x1536 .f32) (x12 : Vec Ideal S6x256x256 .bf16) (x13 : Vec Ideal S6x256x128 .f32) (xs0 : Vec Ideal S8x128x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0).2.2.1 = [
      ⟨Rect.unit (s := S8x128x128) ![7, 0, 0] S1x128x128.size inb_S8x128x128_S1x128x128_7_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 0 inb_S8x128x128_S4x64x128_4_0_0 inb_S8x1x128_S4x1x128_4_0_0) 192 slices_S256x128_o192_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 192 slices_S256x128_o192_0_S64x128 (ldV (scB arg20 harg20 xs0 7 inb_S8x128x128_S1x128x128_7_0_0)))) shapeCasts_S128x128_S1x128x128⟩,
      ⟨Rect.unit (s := S8x128x128) ![6, 0, 0] S1x128x128.size inb_S8x128x128_S1x128x128_6_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 0 inb_S8x128x128_S4x64x128_4_0_0 inb_S8x1x128_S4x1x128_4_0_0) 128 slices_S256x128_o128_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 128 slices_S256x128_o128_0_S64x128 (ldV (scB arg20 harg20 xs0 6 inb_S8x128x128_S1x128x128_6_0_0)))) shapeCasts_S128x128_S1x128x128⟩,
      ⟨Rect.unit (s := S8x128x128) ![5, 0, 0] S1x128x128.size inb_S8x128x128_S1x128x128_5_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 0 inb_S8x128x128_S4x64x128_4_0_0 inb_S8x1x128_S4x1x128_4_0_0) 64 slices_S256x128_o64_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 64 slices_S256x128_o64_0_S64x128 (ldV (scB arg20 harg20 xs0 5 inb_S8x128x128_S1x128x128_5_0_0)))) shapeCasts_S128x128_S1x128x128⟩,
      ⟨Rect.unit (s := S8x128x128) ![4, 0, 0] S1x128x128.size inb_S8x128x128_S1x128x128_4_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 0 inb_S8x128x128_S4x64x128_4_0_0 inb_S8x1x128_S4x1x128_4_0_0) 0 slices_S256x128_o0_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 0 slices_S256x128_o0_0_S64x128 (ldV (scB arg20 harg20 xs0 4 inb_S8x128x128_S1x128x128_4_0_0)))) shapeCasts_S128x128_S1x128x128⟩,
      ⟨Rect.unit (s := S8x128x128) ![3, 0, 0] S1x128x128.size inb_S8x128x128_S1x128x128_3_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 0 inb_S8x128x128_S4x64x128_0_0_0 inb_S8x1x128_S4x1x128_0_0_0) 192 slices_S256x128_o192_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 192 slices_S256x128_o192_0_S64x128 (ldV (scB arg20 harg20 xs0 3 inb_S8x128x128_S1x128x128_3_0_0)))) shapeCasts_S128x128_S1x128x128⟩,
      ⟨Rect.unit (s := S8x128x128) ![2, 0, 0] S1x128x128.size inb_S8x128x128_S1x128x128_2_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 0 inb_S8x128x128_S4x64x128_0_0_0 inb_S8x1x128_S4x1x128_0_0_0) 128 slices_S256x128_o128_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 128 slices_S256x128_o128_0_S64x128 (ldV (scB arg20 harg20 xs0 2 inb_S8x128x128_S1x128x128_2_0_0)))) shapeCasts_S128x128_S1x128x128⟩,
      ⟨Rect.unit (s := S8x128x128) ![1, 0, 0] S1x128x128.size inb_S8x128x128_S1x128x128_1_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 0 inb_S8x128x128_S4x64x128_0_0_0 inb_S8x1x128_S4x1x128_0_0_0) 64 slices_S256x128_o64_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 64 slices_S256x128_o64_0_S64x128 (ldV (scB arg20 harg20 xs0 1 inb_S8x128x128_S1x128x128_1_0_0)))) shapeCasts_S128x128_S1x128x128⟩,
      ⟨Rect.unit (s := S8x128x128) ![0, 0, 0] S1x128x128.size inb_S8x128x128_S1x128x128_0_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 0 inb_S8x128x128_S4x64x128_0_0_0 inb_S8x1x128_S4x1x128_0_0_0) 0 slices_S256x128_o0_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 0 slices_S256x128_o0_0_S64x128 (ldV (scB arg20 harg20 xs0 0 inb_S8x128x128_S1x128x128_0_0_0)))) shapeCasts_S128x128_S1x128x128⟩] := by
  sl_kernel_rfl

end Cert.KernelIdeal.Scan

end
-- ==== Proof.BridgeA.lean ====
/- What one grid point leaves, in the vocabulary of the chunk's operations, first point. -/
module

public import proofs.«01_k».proof.Proof.IdealRunA
public import proofs.«01_k».proof.Proof.BridgeB

@[expose] public section

set_option maxRecDepth 16384

noncomputable section

namespace Cert.KernelIdeal.Scan

open Cert.KernelIdeal.Gen Cert.KernelIdeal.Ops
open Idealize.ShloMosaic Idealize.ShloMosaic.TcCoe

/-- The scratch's contents once it is set to zero. -/
abbrev zeroed : List (View.Piece (Elt Ideal) S8x128x128 .f32) :=
  [⟨Rect.unit ![0, 0, 0] S8x128x128.size inb_S8x128x128_S8x128x128_0_0_0, k0_pay4 (F := Ideal)⟩]

/-- One head's state gradient read from the scratch at the first point. -/
def scA (arg20 : Memref sig .tc .vmem S8x128x128 .f32) (h : ℕ) (hi : ∀ a, (![h, 0, 0] : Fin 3 → ℕ) a + S1x128x128.size a ≤ S8x128x128.size a) : FVec Ideal S1x128x128 .f32 :=
  arg20.view.readCov zeroed (Rect.unit (s := S8x128x128) ![h, 0, 0] S1x128x128.size hi).toLoadRect

/-- The pieces the body leaves in the window of the gradient of the values, case A. -/
theorem gi_pieces_A (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : cond0_0 i)
    (x0 : Vec Ideal S8x128x128 .f32) (x1 : Vec Ideal S8x128x128 .f32) (x2 : Vec Ideal S8x128x128 .f32) (x3 : Vec Ideal S8x1x128 .f32) (x4 : Vec Ideal S8x1x128 .f32) (x5 : Vec Ideal S2x8x128x128 .f32) (x6 : Vec Ideal S8x128x128 .f32) (x7 : Vec Ideal S256x256 .f32) (x8 : Vec Ideal S256x256 .f32) (x9 : Vec Ideal S256x256 .f32) (x10 : Vec Ideal S1536x256 .f32) (x11 : Vec Ideal S256x1536 .f32) (x12 : Vec Ideal S6x256x256 .bf16) (x13 : Vec Ideal S6x256x128 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).2.1 = [
      ⟨Rect.unit (s := S8x128x128) ![4, 64, 0] S4x64x128.size inb_S8x128x128_S4x64x128_4_64_0, shapeCast S4x64x128 (giV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) (ldV (scA arg20 4 inb_S8x128x128_S1x128x128_4_0_0)) (ldV (scA arg20 5 inb_S8x128x128_S1x128x128_5_0_0)) (ldV (scA arg20 6 inb_S8x128x128_S1x128x128_6_0_0)) (ldV (scA arg20 7 inb_S8x128x128_S1x128x128_7_0_0))) shapeCasts_S256x128_S4x64x128⟩,
      ⟨Rect.unit (s := S8x128x128) ![4, 0, 0] S4x64x128.size inb_S8x128x128_S4x64x128_4_0_0, shapeCast S4x64x128 (giV (masksOf arg8 harg8 arg9 harg9 arg11 harg11 arg13 harg13 arg14 harg14 x7 x8 x10 x12 x13) (loadsOf arg1 harg1 arg2 harg2 arg4 harg4 arg5 harg5 arg7 harg7 x0 x1 x3 x4 x6 4 0 inb_S8x128x128_S4x64x128_4_0_0 inb_S8x1x128_S4x1x128_4_0_0) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 0 slices_S256x128_o0_0_S64x128 (ldV (scA arg20 4 inb_S8x128x128_S1x128x128_4_0_0))) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 64 slices_S256x128_o64_0_S64x128 (ldV (scA arg20 5 inb_S8x128x128_S1x128x128_5_0_0))) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 128 slices_S256x128_o128_0_S64x128 (ldV (scA arg20 6 inb_S8x128x128_S1x128x128_6_0_0))) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 192 slices_S256x128_o192_0_S64x128 (ldV (scA arg20 7 inb_S8x128x128_S1x128x128_7_0_0)))) shapeCasts_S256x128_S4x64x128⟩,
      ⟨Rect.unit (s := S8x128x128) ![0, 64, 0] S4x64x128.size inb_S8x128x128_S4x64x128_0_64_0, shapeCast S4x64x128 (giV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) (ldV (scA arg20 0 inb_S8x128x128_S1x128x128_0_0_0)) (ldV (scA arg20 1 inb_S8x128x128_S1x128x128_1_0_0)) (ldV (scA arg20 2 inb_S8x128x128_S1x128x128_2_0_0)) (ldV (scA arg20 3 inb_S8x128x128_S1x128x128_3_0_0))) shapeCasts_S256x128_S4x64x128⟩,
      ⟨Rect.unit (s := S8x128x128) ![0, 0, 0] S4x64x128.size inb_S8x128x128_S4x64x128_0_0_0, shapeCast S4x64x128 (giV (masksOf arg8 harg8 arg9 harg9 arg11 harg11 arg13 harg13 arg14 harg14 x7 x8 x10 x12 x13) (loadsOf arg1 harg1 arg2 harg2 arg4 harg4 arg5 harg5 arg7 harg7 x0 x1 x3 x4 x6 0 0 inb_S8x128x128_S4x64x128_0_0_0 inb_S8x1x128_S4x1x128_0_0_0) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 0 slices_S256x128_o0_0_S64x128 (ldV (scA arg20 0 inb_S8x128x128_S1x128x128_0_0_0))) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 64 slices_S256x128_o64_0_S64x128 (ldV (scA arg20 1 inb_S8x128x128_S1x128x128_1_0_0))) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 128 slices_S256x128_o128_0_S64x128 (ldV (scA arg20 2 inb_S8x128x128_S1x128x128_2_0_0))) (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 192 slices_S256x128_o192_0_S64x128 (ldV (scA arg20 3 inb_S8x128x128_S1x128x128_3_0_0)))) shapeCasts_S256x128_S4x64x128⟩] := by
  sl_kernel_rfl

/-- The pieces the body leaves in the scratch, case A. -/
theorem ds_pieces_A (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x1x128 .f32) (harg4 : arg4.IsWhole) (arg5 : Memref sig .tc .vmem S8x1x128 .f32) (harg5 : arg5.IsWhole) (arg6 : Memref sig .tc .vmem S2x8x128x128 .f32) (harg6 : arg6.IsWhole) (arg7 : Memref sig .tc .vmem S8x128x128 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S1536x256 .f32) (harg11 : arg11.IsWhole) (arg12 : Memref sig .tc .vmem S256x1536 .f32) (harg12 : arg12.IsWhole) (arg13 : Memref sig .tc .vmem S6x256x256 .bf16) (harg13 : arg13.IsWhole) (arg14 : Memref sig .tc .vmem S6x256x128 .f32) (harg14 : arg14.IsWhole) (arg15 : Memref sig .tc .vmem S8x128x128 .f32) (harg15 : arg15.IsWhole) (arg16 : Memref sig .tc .vmem S8x128x128 .f32) (harg16 : arg16.IsWhole) (arg17 : Memref sig .tc .vmem S8x128x128 .f32) (harg17 : arg17.IsWhole) (arg18 : Memref sig .tc .vmem S8x1x128 .f32) (harg18 : arg18.IsWhole) (arg19 : Memref sig .tc .vmem S8x1x128 .f32) (harg19 : arg19.IsWhole) (arg20 : Memref sig .tc .vmem S8x128x128 .f32) (harg20 : arg20.IsWhole) (hc0 : cond0_0 i)
    (x0 : Vec Ideal S8x128x128 .f32) (x1 : Vec Ideal S8x128x128 .f32) (x2 : Vec Ideal S8x128x128 .f32) (x3 : Vec Ideal S8x1x128 .f32) (x4 : Vec Ideal S8x1x128 .f32) (x5 : Vec Ideal S2x8x128x128 .f32) (x6 : Vec Ideal S8x128x128 .f32) (x7 : Vec Ideal S256x256 .f32) (x8 : Vec Ideal S256x256 .f32) (x9 : Vec Ideal S256x256 .f32) (x10 : Vec Ideal S1536x256 .f32) (x11 : Vec Ideal S256x1536 .f32) (x12 : Vec Ideal S6x256x256 .bf16) (x13 : Vec Ideal S6x256x128 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13).2.2.1 = [
      ⟨Rect.unit (s := S8x128x128) ![7, 0, 0] S1x128x128.size inb_S8x128x128_S1x128x128_7_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 0 inb_S8x128x128_S4x64x128_4_0_0 inb_S8x1x128_S4x1x128_4_0_0) 192 slices_S256x128_o192_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 192 slices_S256x128_o192_0_S64x128 (ldV (scA arg20 7 inb_S8x128x128_S1x128x128_7_0_0)))) shapeCasts_S128x128_S1x128x128⟩,
      ⟨Rect.unit (s := S8x128x128) ![6, 0, 0] S1x128x128.size inb_S8x128x128_S1x128x128_6_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 0 inb_S8x128x128_S4x64x128_4_0_0 inb_S8x1x128_S4x1x128_4_0_0) 128 slices_S256x128_o128_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 128 slices_S256x128_o128_0_S64x128 (ldV (scA arg20 6 inb_S8x128x128_S1x128x128_6_0_0)))) shapeCasts_S128x128_S1x128x128⟩,
      ⟨Rect.unit (s := S8x128x128) ![5, 0, 0] S1x128x128.size inb_S8x128x128_S1x128x128_5_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 0 inb_S8x128x128_S4x64x128_4_0_0 inb_S8x1x128_S4x1x128_4_0_0) 64 slices_S256x128_o64_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 64 slices_S256x128_o64_0_S64x128 (ldV (scA arg20 5 inb_S8x128x128_S1x128x128_5_0_0)))) shapeCasts_S128x128_S1x128x128⟩,
      ⟨Rect.unit (s := S8x128x128) ![4, 0, 0] S1x128x128.size inb_S8x128x128_S1x128x128_4_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 0 inb_S8x128x128_S4x64x128_4_0_0 inb_S8x1x128_S4x1x128_4_0_0) 0 slices_S256x128_o0_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 4 64 inb_S8x128x128_S4x64x128_4_64_0 inb_S8x1x128_S4x1x128_4_0_0) 0 slices_S256x128_o0_0_S64x128 (ldV (scA arg20 4 inb_S8x128x128_S1x128x128_4_0_0)))) shapeCasts_S128x128_S1x128x128⟩,
      ⟨Rect.unit (s := S8x128x128) ![3, 0, 0] S1x128x128.size inb_S8x128x128_S1x128x128_3_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 0 inb_S8x128x128_S4x64x128_0_0_0 inb_S8x1x128_S4x1x128_0_0_0) 192 slices_S256x128_o192_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 192 slices_S256x128_o192_0_S64x128 (ldV (scA arg20 3 inb_S8x128x128_S1x128x128_3_0_0)))) shapeCasts_S128x128_S1x128x128⟩,
      ⟨Rect.unit (s := S8x128x128) ![2, 0, 0] S1x128x128.size inb_S8x128x128_S1x128x128_2_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 0 inb_S8x128x128_S4x64x128_0_0_0 inb_S8x1x128_S4x1x128_0_0_0) 128 slices_S256x128_o128_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 128 slices_S256x128_o128_0_S64x128 (ldV (scA arg20 2 inb_S8x128x128_S1x128x128_2_0_0)))) shapeCasts_S128x128_S1x128x128⟩,
      ⟨Rect.unit (s := S8x128x128) ![1, 0, 0] S1x128x128.size inb_S8x128x128_S1x128x128_1_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 0 inb_S8x128x128_S4x64x128_0_0_0 inb_S8x1x128_S4x1x128_0_0_0) 64 slices_S256x128_o64_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 64 slices_S256x128_o64_0_S64x128 (ldV (scA arg20 1 inb_S8x128x128_S1x128x128_1_0_0)))) shapeCasts_S128x128_S1x128x128⟩,
      ⟨Rect.unit (s := S8x128x128) ![0, 0, 0] S1x128x128.size inb_S8x128x128_S1x128x128_0_0_0, shapeCast S1x128x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 0 inb_S8x128x128_S4x64x128_0_0_0 inb_S8x1x128_S4x1x128_0_0_0) 0 slices_S256x128_o0_0_S64x128 (dsV (masksOf arg8 harg8 arg9 harg9 arg11 harg11 arg13 harg13 arg14 harg14 x7 x8 x10 x12 x13) (loadsOf arg1 harg1 arg2 harg2 arg4 harg4 arg5 harg5 arg7 harg7 x0 x1 x3 x4 x6 0 64 inb_S8x128x128_S4x64x128_0_64_0 inb_S8x1x128_S4x1x128_0_0_0) 0 slices_S256x128_o0_0_S64x128 (ldV (scA arg20 0 inb_S8x128x128_S1x128x128_0_0_0)))) shapeCasts_S128x128_S1x128x128⟩] ++ zeroed := by
  sl_kernel_rfl

end Cert.KernelIdeal.Scan

end
-- ==== Proof.Consts.lean ====
/- The masks the host program builds from row and column numbers are the ones the chunk's algebra needs. -/
module

public import proofs.«01_k».proof.Proof.IdealFrame
public import proofs.«01_k».proof.Proof.Read
public import Idealize.ShloMosaic.Lib.Pointwise

@[expose] public section

noncomputable section

namespace Cert.KernelIdeal.Scan

open Cert.KernelIdeal.Gen Cert.KernelIdeal.Ops Cert.Hg
open Idealize.ShloMosaic

variable (m : (ℓ : Loc nD τ sig) → Buf (Elt Ideal) ℓ)

/-- One where the condition holds, zero elsewhere. -/
abbrev fl {s : Shape} (hb : S_.BroadcastsInDim s (![] : Fin 0 → Fin s.rank)) (b : IVec s 1) : FVec Ideal s .f32 :=
  select b (broadcastInDim s ![] hb (constant (F := Ideal) S_ .f32 0x3F800000#32)) (broadcastInDim s ![] hb (constant (F := Ideal) S_ .f32 0x00000000#32))
/-- One number in every entry. -/
abbrev num {s : Shape} (hb : S_.BroadcastsInDim s (![] : Fin 0 → Fin s.rank)) (n : BitVec 32) : IVec s 32 := broadcastInDim s ![] hb (constantI S_ 32 n)

/-- The host's constant: the identity over the rows of a group. -/
def eyeArr : Vec Ideal S256x256 .f32 :=
  fl bcast_S_S256x256 (cmpi .eq (iotaInDim S256x256 32 0) (iotaInDim S256x256 32 1))

/-- The region finds the constant eyeArr. -/
theorem V_eye (c : Dev nD) : (V m c main_v17 : Vec Ideal S256x256 .f32) = eyeArr := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- The host's constant: the causal mask inside each head. -/
def inclArr : Vec Ideal S256x256 .f32 :=
  fl bcast_S_S256x256 (andi
    (cmpi .eq (Host.divsi (iotaInDim S256x256 32 0) (num bcast_S_S256x256 64#32)) (Host.divsi (iotaInDim S256x256 32 1) (num bcast_S_S256x256 64#32)))
    (cmpi .sle (Host.remsi (iotaInDim S256x256 32 1) (num bcast_S_S256x256 64#32)) (Host.remsi (iotaInDim S256x256 32 0) (num bcast_S_S256x256 64#32))))

/-- The region finds the constant inclArr. -/
theorem V_incl (c : Dev nD) : (V m c main_v20 : Vec Ideal S256x256 .f32) = inclArr := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- The host's constant: the sums up to a block's middle, level by level. -/
def midArr : Vec Ideal S1536x256 .f32 :=
  let n (k : BitVec 32) : IVec S1536x256 32 := num bcast_S_S1536x256 k
  let row := Host.remsi (iotaInDim S1536x256 32 0) (n 256#32)
  let half := Host.shrui (n 32#32) (Host.divsi (iotaInDim S1536x256 32 0) (n 256#32))
  let width := muli (n 2#32) half
  fl bcast_S_S1536x256 (andi
    (cmpi .eq (Host.divsi row (n 64#32)) (Host.divsi (iotaInDim S1536x256 32 1) (n 64#32)))
    (cmpi .sle (Host.remsi (iotaInDim S1536x256 32 1) (n 64#32)) (addi (muli (Host.divsi (Host.remsi row (n 64#32)) width) width) (subi half (n 1#32)))))

/-- The region finds the constant midArr. -/
theorem V_mid (c : Dev nD) : (V m c main_v51 : Vec Ideal S1536x256 .f32) = midArr := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- The host's constant: the blocks of each level. -/
def sameArr : Vec Ideal S6x256x256 .bf16 :=
  let n (k : BitVec 32) : IVec S6x256x256 32 := num bcast_S_S6x256x256 k
  let width := muli (n 2#32) (Host.shrui (n 32#32) (iotaInDim S6x256x256 32 0))
  truncf (F := Ideal) .bf16 (fl bcast_S_S6x256x256 (andi
    (cmpi .eq (Host.divsi (iotaInDim S6x256x256 32 1) (n 64#32)) (Host.divsi (iotaInDim S6x256x256 32 2) (n 64#32)))
    (cmpi .eq (Host.divsi (Host.remsi (iotaInDim S6x256x256 32 1) (n 64#32)) width) (Host.divsi (Host.remsi (iotaInDim S6x256x256 32 2) (n 64#32)) width)))) bitsLt_bf16_f32

/-- The region finds the constant sameArr. -/
theorem V_same (c : Dev nD) : (V m c main_v114 : Vec Ideal S6x256x256 .bf16) = sameArr := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- The host's constant: the second halves of each level's blocks. -/
def secArr : Vec Ideal S6x256x128 .f32 :=
  let n (k : BitVec 32) : IVec S6x256x128 32 := num bcast_S_S6x256x128 k
  let half := Host.shrui (n 32#32) (iotaInDim S6x256x128 32 0)
  fl bcast_S_S6x256x128 (cmpi .sge (Host.remsi (Host.remsi (iotaInDim S6x256x128 32 1) (n 64#32)) (muli (n 2#32) half)) half)

/-- The region finds the constant secArr. -/
theorem V_sec (c : Dev nD) : (V m c main_v113 : Vec Ideal S6x256x128 .f32) = secArr := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- A truth value as a bit. -/
abbrev bit (p : Prop) [Decidable p] : BitVec 1 := if p then 1#1 else 0#1

theorem pick (p : Prop) [Decidable p] : Scalar.select (bit p) (1 : EReal) 0 = if p then 1 else 0 := by
  by_cases h : p
  · simp only [bit, if_pos h]; rfl
  · simp only [bit, if_neg h]; rfl

theorem both (p q : Prop) [Decidable p] [Decidable q] : IntOp.andi (bit p) (bit q) = bit (p ∧ q) := by
  by_cases hp : p <;> by_cases hq : q <;> simp [bit, hp, hq, IntOp.andi]

theorem row_head : ∀ r : Fin 256, IntOp.divsi ArithUnit.host (BitVec.ofNat 32 r.val) 64#32 = BitVec.ofNat 32 (r.val / 64) := by decide +kernel
theorem row_token : ∀ r : Fin 256, IntOp.remsi ArithUnit.host (BitVec.ofNat 32 r.val) 64#32 = BitVec.ofNat 32 (r.val % 64) := by decide +kernel
theorem lrow_level : ∀ r : Fin 1536, IntOp.divsi ArithUnit.host (BitVec.ofNat 32 r.val) 256#32 = BitVec.ofNat 32 (r.val / 256) := by decide +kernel
theorem lrow_row : ∀ r : Fin 1536, IntOp.remsi ArithUnit.host (BitVec.ofNat 32 r.val) 256#32 = BitVec.ofNat 32 (r.val % 256) := by decide +kernel
theorem half_word : ∀ l : Fin 6, IntOp.shrui ArithUnit.host 32#32 (BitVec.ofNat 32 l.val) = BitVec.ofNat 32 (half l) := by decide +kernel
theorem width_word : ∀ l : Fin 6, IntOp.muli 2#32 (BitVec.ofNat 32 (half l)) = BitVec.ofNat 32 (2 * half l) := by decide +kernel
theorem part_word : ∀ (l : Fin 6) (t : Fin 64), IntOp.divsi ArithUnit.host (BitVec.ofNat 32 t.val) (BitVec.ofNat 32 (2 * half l)) = BitVec.ofNat 32 (t.val / (2 * half l)) := by decide +kernel
theorem place_word : ∀ (l : Fin 6) (t : Fin 64), IntOp.remsi ArithUnit.host (BitVec.ofNat 32 t.val) (BitVec.ofNat 32 (2 * half l)) = BitVec.ofNat 32 (t.val % (2 * half l)) := by decide +kernel
theorem mid_word : ∀ (l : Fin 6) (t : Fin 64), IntOp.addi (IntOp.muli (BitVec.ofNat 32 (t.val / (2 * half l))) (BitVec.ofNat 32 (2 * half l))) (IntOp.subi (BitVec.ofNat 32 (half l)) 1#32)
    = BitVec.ofNat 32 (t.val / (2 * half l) * (2 * half l) + (half l - 1)) := by decide +kernel
theorem mid_lt : ∀ (l : Fin 6) (t : Fin 64), t.val / (2 * half l) * (2 * half l) + (half l - 1) < 64 := by decide +kernel
theorem part_lt : ∀ (l : Fin 6) (t : Fin 64), t.val / (2 * half l) < 64 := by decide +kernel
theorem place_lt : ∀ (l : Fin 6) (t : Fin 64), t.val % (2 * half l) < 64 := by decide +kernel
theorem half_lt : ∀ l : Fin 6, half l < 64 := by decide +kernel

theorem eq_small : ∀ a b : Fin 64, IntOp.cmpi .eq (BitVec.ofNat 32 a.val) (BitVec.ofNat 32 b.val) = bit (a.val = b.val) := by decide +kernel
theorem sle_small : ∀ a b : Fin 64, IntOp.cmpi .sle (BitVec.ofNat 32 a.val) (BitVec.ofNat 32 b.val) = bit (a.val ≤ b.val) := by decide +kernel
theorem sge_small : ∀ a b : Fin 64, IntOp.cmpi .sge (BitVec.ofNat 32 a.val) (BitVec.ofNat 32 b.val) = bit (b.val ≤ a.val) := by decide +kernel
theorem eq_row : ∀ a b : Fin 256, IntOp.cmpi .eq (BitVec.ofNat 32 a.val) (BitVec.ofNat 32 b.val) = bit (a.val = b.val) := by decide +kernel

theorem eq_nat {a b : ℕ} (ha : a < 64) (hb : b < 64) : IntOp.cmpi .eq (BitVec.ofNat 32 a) (BitVec.ofNat 32 b) = bit (a = b) := eq_small ⟨a, ha⟩ ⟨b, hb⟩
theorem sle_nat {a b : ℕ} (ha : a < 64) (hb : b < 64) : IntOp.cmpi .sle (BitVec.ofNat 32 a) (BitVec.ofNat 32 b) = bit (a ≤ b) := sle_small ⟨a, ha⟩ ⟨b, hb⟩
theorem sge_nat {a b : ℕ} (ha : a < 64) (hb : b < 64) : IntOp.cmpi .sge (BitVec.ofNat 32 a) (BitVec.ofNat 32 b) = bit (b ≤ a) := sge_small ⟨a, ha⟩ ⟨b, hb⟩

theorem bit_congr {p q : Prop} [Decidable p] [Decidable q] (h : p ↔ q) : bit p = bit q := by
  by_cases hp : p
  · simp only [bit, if_pos hp, if_pos (h.mp hp)]
  · simp only [bit, if_neg hp, if_neg (fun hq => hp (h.mpr hq))]

theorem head_of (i : Fin 4) (t : Fin 64) : (row i t).val / 64 = i.val := by show (i.val * 64 + t.val) / 64 = i.val; omega
theorem token_of (i : Fin 4) (t : Fin 64) : (row i t).val % 64 = t.val := by show (i.val * 64 + t.val) % 64 = t.val; omega
theorem level_of (l : Fin 6) (r : Fin 256) : (lrow l r).val / 256 = l.val := by show (l.val * 256 + r.val) / 256 = l.val; omega
theorem row_of (l : Fin 6) (r : Fin 256) : (lrow l r).val % 256 = r.val := by show (l.val * 256 + r.val) % 256 = r.val; omega

/-- Rows of one head: the heads' numbers compare as the heads. -/
theorem heads_eq (i j : Fin 4) : IntOp.cmpi .eq (BitVec.ofNat 32 i.val) (BitVec.ofNat 32 j.val) = bit (i = j) :=
  (eq_nat (by omega) (by omega)).trans (bit_congr Fin.ext_iff.symm)

theorem eye_at (i : Fin 4) (t : Fin 64) (j : Fin 4) (u : Fin 64) : eyeArr (ix2 (row i t) (row j u)) = if i = j ∧ t = u then 1 else 0 := by
  have e : ∀ r k : Fin 256, eyeArr (ix2 r k) = Scalar.select (IntOp.cmpi .eq (BitVec.ofNat 32 r.val) (BitVec.ofNat 32 k.val)) (1 : EReal) 0 := fun r k => by
    pointwise [eyeArr, fl]
  rw [e, eq_row, ← pick]
  refine congrArg (Scalar.select · (1 : EReal) 0) (bit_congr ?_)
  rw [Fin.ext_iff, Fin.ext_iff]
  show i.val * 64 + t.val = j.val * 64 + u.val ↔ _
  omega

theorem incl_at (i : Fin 4) (t : Fin 64) (j : Fin 4) (u : Fin 64) : inclArr (ix2 (row i t) (row j u)) = if i = j ∧ u ≤ t then 1 else 0 := by
  have e : ∀ r k : Fin 256, inclArr (ix2 r k) = Scalar.select (IntOp.andi
      (IntOp.cmpi .eq (IntOp.divsi .host (BitVec.ofNat 32 r.val) 64#32) (IntOp.divsi .host (BitVec.ofNat 32 k.val) 64#32))
      (IntOp.cmpi .sle (IntOp.remsi .host (BitVec.ofNat 32 k.val) 64#32) (IntOp.remsi .host (BitVec.ofNat 32 r.val) 64#32))) (1 : EReal) 0 := fun r k => by
    pointwise [inclArr, fl, num]
  rw [e, row_head, row_head, row_token, row_token, head_of, head_of, token_of, token_of, heads_eq, sle_nat u.isLt t.isLt, both]
  exact pick _

theorem mid_at (l : Fin 6) (i : Fin 4) (t : Fin 64) (j : Fin 4) (u : Fin 64) : midArr (ix2 (lrow l (row i t)) (row j u))
    = if i = j ∧ u.val ≤ t.val / (2 * half l) * (2 * half l) + (half l - 1) then 1 else 0 := by
  have e : ∀ (r : Fin 1536) (k : Fin 256), midArr (ix2 r k) = Scalar.select
      (IntOp.andi
        (IntOp.cmpi CmpIPredicate.eq
          (IntOp.divsi ArithUnit.host (IntOp.remsi ArithUnit.host (BitVec.ofNat 32 r.val) 256#32) 64#32)
          (IntOp.divsi ArithUnit.host (BitVec.ofNat 32 k.val) 64#32))
        (IntOp.cmpi CmpIPredicate.sle (IntOp.remsi ArithUnit.host (BitVec.ofNat 32 k.val) 64#32)
          (IntOp.addi
            (IntOp.muli
              (IntOp.divsi ArithUnit.host
                (IntOp.remsi ArithUnit.host (IntOp.remsi ArithUnit.host (BitVec.ofNat 32 r.val) 256#32) 64#32)
                (IntOp.muli (2#32)
                  (IntOp.shrui ArithUnit.host (32#32) (IntOp.divsi ArithUnit.host (BitVec.ofNat 32 r.val) 256#32))))
              (IntOp.muli (2#32)
                (IntOp.shrui ArithUnit.host (32#32) (IntOp.divsi ArithUnit.host (BitVec.ofNat 32 r.val) 256#32))))
            (IntOp.subi (IntOp.shrui ArithUnit.host (32#32) (IntOp.divsi ArithUnit.host (BitVec.ofNat 32 r.val) 256#32))
              1#32))))
      (1 : EReal) 0 := fun r k => by
    pointwise [midArr, fl, num]
  rw [e, lrow_row, lrow_level, row_of, level_of, row_head, row_head, row_token, row_token, head_of, head_of, token_of, token_of,
    heads_eq, half_word, width_word, part_word, mid_word, sle_nat u.isLt (mid_lt l t), both]
  exact pick _

theorem same_at (l : Fin 6) (i : Fin 4) (t : Fin 64) (j : Fin 4) (u : Fin 64) : sameArr (ix3 l (row i t) (row j u))
    = if i = j ∧ t.val / (2 * half l) = u.val / (2 * half l) then 1 else 0 := by
  have e : ∀ (l : Fin 6) (r k : Fin 256), sameArr (ix3 l r k) = Scalar.select
      (IntOp.andi
        (IntOp.cmpi CmpIPredicate.eq (IntOp.divsi ArithUnit.host (BitVec.ofNat 32 r.val) 64#32)
          (IntOp.divsi ArithUnit.host (BitVec.ofNat 32 k.val) 64#32))
        (IntOp.cmpi CmpIPredicate.eq
          (IntOp.divsi ArithUnit.host (IntOp.remsi ArithUnit.host (BitVec.ofNat 32 r.val) 64#32)
            (IntOp.muli (2#32) (IntOp.shrui ArithUnit.host (32#32) (BitVec.ofNat 32 l.val))))
          (IntOp.divsi ArithUnit.host (IntOp.remsi ArithUnit.host (BitVec.ofNat 32 k.val) 64#32)
            (IntOp.muli (2#32) (IntOp.shrui ArithUnit.host (32#32) (BitVec.ofNat 32 l.val))))))
      (1 : EReal) 0 := fun l r k => by
    pointwise [sameArr, fl, num]
  rw [e, row_head, row_head, row_token, row_token, head_of, head_of, token_of, token_of, heads_eq, half_word, width_word,
    part_word, part_word, eq_nat (part_lt l t) (part_lt l u), both]
  exact pick _

theorem sec_at (l : Fin 6) (i : Fin 4) (t : Fin 64) (d : Fin 128) : secArr (ix3 l (row i t) d)
    = if half l ≤ t.val % (2 * half l) then 1 else 0 := by
  have e : ∀ (l : Fin 6) (r : Fin 256) (d : Fin 128), secArr (ix3 l r d) = Scalar.select
      (IntOp.cmpi CmpIPredicate.sge
        (IntOp.remsi ArithUnit.host (IntOp.remsi ArithUnit.host (BitVec.ofNat 32 r.val) 64#32)
          (IntOp.muli (2#32) (IntOp.shrui ArithUnit.host (32#32) (BitVec.ofNat 32 l.val))))
        (IntOp.shrui ArithUnit.host (32#32) (BitVec.ofNat 32 l.val)))
      (1 : EReal) 0 := fun l r d => by
    pointwise [secArr, fl, num]
  rw [e, row_token, token_of, half_word, width_word, place_word, sge_nat (place_lt l t) (half_lt l)]
  exact pick _

/-- Any masks with these five arrays are good. -/
theorem good_of {C : Masks} (h0 : C.eye = eyeArr) (h1 : C.incl = inclArr) (h2 : C.mid = midArr) (h3 : C.same = sameArr) (h4 : C.sec = secArr) : Good C where
  eye i t j u := by rw [h0]; exact eye_at i t j u
  incl i t j u := by rw [h1]; exact incl_at i t j u
  mid l i t j u := by rw [h2]; exact mid_at l i t j u
  same l i t j u := by rw [h3]; exact same_at l i t j u
  sec l i t d := by rw [h4]; exact sec_at l i t d

/-- The logits as launched, in the shapes the region reads. -/
def l0Arr (x : Vec Ideal S2x2x1024 .f32) : Vec Ideal S8x1x128 .f32 :=
  shapeCast S8x1x128 (extractStridedSlice S1x1x8x1x128 ![0, 0, 0, 0, 0] (shapeCast S2x2x8x1x128 x shapeCasts_S2x2x1024_S2x2x8x1x128)
    slices_S2x2x8x1x128_S1x1x8x1x128_0_0_0_0_0) shapeCasts_S1x1x8x1x128_S8x1x128
def l1Arr (x : Vec Ideal S2x2x1024 .f32) : Vec Ideal S8x1x128 .f32 :=
  shapeCast S8x1x128 (extractStridedSlice S1x1x8x1x128 ![1, 0, 0, 0, 0] (shapeCast S2x2x8x1x128 x shapeCasts_S2x2x1024_S2x2x8x1x128)
    slices_S2x2x8x1x128_S1x1x8x1x128_1_0_0_0_0) shapeCasts_S1x1x8x1x128_S8x1x128

theorem V_l0 (c : Dev nD) : (V m c main_v2 : Vec Ideal S8x1x128 .f32) = l0Arr (m ((c.tc : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl
theorem V_l1 (c : Dev nD) : (V m c main_v4 : Vec Ideal S8x1x128 .f32) = l1Arr (m ((c.tc : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- The first logit of head `h`, lane `d`. -/
theorem l0_at (x : Vec Ideal S2x2x1024 .f32) (h : Fin 8) (d : Fin 128) : l0Arr x (ix3 h 0 d) = x (ix3 0 0 ⟨h.val * 128 + d.val, by omega⟩) := by
  unfold l0Arr
  pointwise
theorem l1_at (x : Vec Ideal S2x2x1024 .f32) (h : Fin 8) (d : Fin 128) : l1Arr x (ix3 h 0 d) = x (ix3 1 0 ⟨h.val * 128 + d.val, by omega⟩) := by
  unfold l1Arr
  pointwise

end Cert.KernelIdeal.Scan
-- ==== Proof.Blocks.lean ====
/- The blocks of the windows: which part of its array each point reads, and which part of the result it writes. -/
module
public import proofs.«01_k».proof.Proof.IdealFrame
public import Idealize.ShloMosaic.Lib.Pipeline.Value
public import proofs.«01_k».proof.Proof.Read
@[expose] public section
set_option maxRecDepth 16384
noncomputable section
namespace Cert.KernelIdeal.Scan
open Cert.KernelIdeal.Gen
open Idealize.ShloMosaic Idealize.ShloMosaic.TcCoe
variable (m : (ℓ : Loc nD τ sig) → Buf (Elt Ideal) ℓ) (ρ : Dev nD → PrngReg)

/-- Distinct points write distinct blocks of the gradient of the values. -/
theorem index16_inj : ∀ t t' : Fin cfg0.N, win0_16.index t = win0_16.index t' → t = t' :=
  (by decide +kernel : ∀ t t' : Fin grid0.N, win0_16.index t = win0_16.index t' → t = t')

theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (index16_inj t t' h)

theorem flush16 : ∀ t : Fin cfg0.N, (cfg0.win 16).flush t = true :=
  (by decide +kernel : ∀ t : Fin grid0.N, (cfg0.win 16).flush t = true)

/-- The block of point `t` in the result, after the run. -/
theorem block16 (c : Dev nD) (t : Fin cfg0.N) :
    ((cfg0.win 16).blk t).view.read (Elt Ideal) ((dats m 0 c).arrAt 16 cfg0.N) = (dats m 0 c).flushed 16 t :=
  (dats m 0 c).read_blk_arrAt_eq_flushed 16 disjoint16 cfg0.N t t.isLt (flush16 t)

/-- The row block of point `t`: the chunk pair `65 − t` in memory order. -/
def blk (t : Fin 66) : Fin 66 := if h : 65 - t.val < 2 then ⟨64 + (65 - t.val), by omega⟩ else ⟨65 - t.val - 2, by omega⟩

theorem index16 : ∀ t : Fin grid0.N, win0_16.index t = ![0, (blk ⟨t.val, t.isLt⟩).val, 0] := by decide +kernel

/-- Coordinates inside the block of rows `b`. -/
theorem coord_block (b : ℕ) (hb : b < 66) (h : Fin 8) (r v : Fin 128) : ∀ a : Fin 3,
    (ix3 (n0 := 8) (n1 := 8448) (n2 := 128) h ⟨b * 128 + r.val, by omega⟩ v a).val = (![0, b, 0] : Fin 3 → ℕ) a * (![8, 128, 128] : Fin 3 → ℕ) a + 1 * (ix3 h r v a).val
  | ⟨0, _⟩ => by show h.val = 0 * 8 + 1 * h.val; omega
  | ⟨1, _⟩ => by show b * 128 + r.val = b * 128 + 1 * r.val; omega
  | ⟨2, _⟩ => by show v.val = 0 * 128 + 1 * v.val; omega

theorem entry16 (c : Dev nD) (t : Fin cfg0.N) (h : Fin 8) (r : Fin 128) (v : Fin 128) :
    ((dats m 0 c).arrAt 16 cfg0.N : Vec Ideal S8x8448x128 .f32) (ix3 h ⟨(blk ⟨t.val, t.isLt⟩).val * 128 + r.val, by have := (blk ⟨t.val, t.isLt⟩).isLt; omega⟩ v)
      = (stepAt m c t (scAt m c t.val)).2.1 (ix3 h r v) := by
  rw [← after0_16]
  have e := congrFun (block16 m c t) (ix3 h r v)
  have e2 : (dats m 0 c).flushed 16 t (ix3 h r v) = (dats m 0 c).after 16 t (ix3 h r v) := rfl
  refine Eq.trans ?_ (e.trans e2)
  show _ = (dats m 0 c).arrAt 16 cfg0.N _
  refine congrArg ((dats m 0 c).arrAt 16 cfg0.N : Vec Ideal S8x8448x128 .f32) ?_
  funext a
  apply Fin.ext
  have hi := index16 t
  have hj : (((cfg0.win 16).blk t).view.emb (ix3 h r v) a).val = win0_16.index t a * S8x128x128.size a + 1 * (ix3 h r v a).val := rfl
  rw [hj, hi]
  exact coord_block _ (blk ⟨t.val, t.isLt⟩).isLt h r v a

theorem out16 (r : PUnit × MemSt nD τ sig (Elt Ideal))
    (hr : Pipeline.RDat.FramePost (cfgs 0) (fun c => (dats m 0 c).toRForget forgotten) (V m) r) (c : Dev nD) :
    r.2.mem ((c.tc : Thread nD τ).loc main_v115_2) = (dats m 0 c).arrAt 16 cfg0.N :=
  ((dats m 0 c).toRForget_arrAt_iff (w := (16 : Fin 19)) rfl cfg0.N _).mp ((hr c).1 16)

/-- The index of the raw queries, the raw gates and the output's gradient. -/
theorem index0 : ∀ t : Fin grid0.N, win0_0.index t = ![0, (blk ⟨t.val, t.isLt⟩).val, 0] := by decide +kernel
theorem index1 : ∀ t : Fin grid0.N, win0_1.index t = ![1, (blk ⟨t.val, t.isLt⟩).val, 0] := by decide +kernel
theorem index6 : ∀ t : Fin grid0.N, win0_6.index t = ![0, (blk ⟨t.val, t.isLt⟩).val, 0] := by decide +kernel

/-- Coordinates inside the block of heads `8k` and rows `b`. -/
theorem coord_heads (b : ℕ) (hb : b < 66) (k : ℕ) (hk : k < 10) (h : Fin 8) (r v : Fin 128) : ∀ a : Fin 3,
    (ix3 (n0 := 80) (n1 := 8448) (n2 := 128) ⟨k * 8 + h.val, by omega⟩ ⟨b * 128 + r.val, by omega⟩ v a).val = (![k, b, 0] : Fin 3 → ℕ) a * (![8, 128, 128] : Fin 3 → ℕ) a + 1 * (ix3 h r v a).val
  | ⟨0, _⟩ => by show k * 8 + h.val = k * 8 + 1 * h.val; omega
  | ⟨1, _⟩ => by show b * 128 + r.val = b * 128 + 1 * r.val; omega
  | ⟨2, _⟩ => by show v.val = 0 * 128 + 1 * v.val; omega

theorem iblk0_at (c : Dev nD) (t : Fin cfg0.N) (h : Fin 8) (r : Fin 128) (d : Fin 128) :
    (iblk m c 0 t : Vec Ideal S8x128x128 .f32) (ix3 h r d)
      = (m ((c.tc : Thread nD τ).loc main_arg0) : Vec Ideal S80x8448x128 .f32) (ix3 ⟨h.val, by omega⟩ ⟨(blk ⟨t.val, t.isLt⟩).val * 128 + r.val, by have := (blk ⟨t.val, t.isLt⟩).isLt; omega⟩ d) := by
  rw [← V_main_arg0 m c]
  show (V m c main_arg0 : Vec Ideal S80x8448x128 .f32) _ = _
  refine congrArg (V m c main_arg0 : Vec Ideal S80x8448x128 .f32) ?_
  funext a
  apply Fin.ext
  have hi := index0 t
  have hj : (((cfg0.win 0).blk t).view.emb (ix3 h r d) a).val = win0_0.index t a * S8x128x128.size a + 1 * (ix3 h r d a).val := rfl
  rw [hj, hi]
  have hc := coord_heads _ (blk ⟨t.val, t.isLt⟩).isLt 0 (by omega) h r d a
  simp only [Nat.zero_mul, Nat.zero_add] at hc
  exact hc.symm

theorem iblk1_at (c : Dev nD) (t : Fin cfg0.N) (h : Fin 8) (r : Fin 128) (d : Fin 128) :
    (iblk m c 1 t : Vec Ideal S8x128x128 .f32) (ix3 h r d)
      = (m ((c.tc : Thread nD τ).loc main_arg0) : Vec Ideal S80x8448x128 .f32) (ix3 ⟨8 + h.val, by omega⟩ ⟨(blk ⟨t.val, t.isLt⟩).val * 128 + r.val, by have := (blk ⟨t.val, t.isLt⟩).isLt; omega⟩ d) := by
  rw [← V_main_arg0 m c]
  show (V m c main_arg0 : Vec Ideal S80x8448x128 .f32) _ = _
  refine congrArg (V m c main_arg0 : Vec Ideal S80x8448x128 .f32) ?_
  funext a
  apply Fin.ext
  have hi := index1 t
  have hj : (((cfg0.win 1).blk t).view.emb (ix3 h r d) a).val = win0_1.index t a * S8x128x128.size a + 1 * (ix3 h r d a).val := rfl
  rw [hj, hi]
  have hc := coord_heads _ (blk ⟨t.val, t.isLt⟩).isLt 1 (by omega) h r d a
  simp only [Nat.one_mul] at hc
  simp only [Nat.one_mul]
  exact hc.symm

theorem iblk6_at (c : Dev nD) (t : Fin cfg0.N) (h : Fin 8) (r : Fin 128) (d : Fin 128) :
    (iblk m c 6 t : Vec Ideal S8x128x128 .f32) (ix3 h r d)
      = (m ((c.tc : Thread nD τ).loc main_arg3) : Vec Ideal S8x8448x128 .f32) (ix3 h ⟨(blk ⟨t.val, t.isLt⟩).val * 128 + r.val, by have := (blk ⟨t.val, t.isLt⟩).isLt; omega⟩ d) := by
  rw [← V_main_arg3 m c]
  show (V m c main_arg3 : Vec Ideal S8x8448x128 .f32) _ = _
  refine congrArg (V m c main_arg3 : Vec Ideal S8x8448x128 .f32) ?_
  funext a
  apply Fin.ext
  have hi := index6 t
  have hj : (((cfg0.win 6).blk t).view.emb (ix3 h r d) a).val = win0_6.index t a * S8x128x128.size a + 1 * (ix3 h r d a).val := rfl
  rw [hj, hi]
  exact (coord_block _ (blk ⟨t.val, t.isLt⟩).isLt h r d a).symm

/-- Window 3 is its whole array at every point. -/
theorem index3 : ∀ t : Fin grid0.N, win0_3.index t = ![0, 0, 0] := by decide +kernel

theorem iblk3 (c : Dev nD) (t : Fin cfg0.N) : (iblk m c 3 t : Vec Ideal S8x1x128 .f32) = V m c main_v2 := by
  funext x
  show (V m c main_v2 : Vec Ideal S8x1x128 .f32) _ = _
  refine congrArg (V m c main_v2 : Vec Ideal S8x1x128 .f32) ?_
  funext a
  apply Fin.ext
  have hj : (((cfg0.win 3).blk t).view.emb x a).val = win0_3.index t a * S8x1x128.size a + 1 * (x a).val := rfl
  have hz : ∀ a : Fin 3, (![0, 0, 0] : Fin 3 → ℕ) a = 0 := by decide
  rw [hj, index3 t, hz a, Nat.zero_mul, Nat.zero_add, Nat.one_mul]

/-- Window 4 is its whole array at every point. -/
theorem index4 : ∀ t : Fin grid0.N, win0_4.index t = ![0, 0, 0] := by decide +kernel

theorem iblk4 (c : Dev nD) (t : Fin cfg0.N) : (iblk m c 4 t : Vec Ideal S8x1x128 .f32) = V m c main_v4 := by
  funext x
  show (V m c main_v4 : Vec Ideal S8x1x128 .f32) _ = _
  refine congrArg (V m c main_v4 : Vec Ideal S8x1x128 .f32) ?_
  funext a
  apply Fin.ext
  have hj : (((cfg0.win 4).blk t).view.emb x a).val = win0_4.index t a * S8x1x128.size a + 1 * (x a).val := rfl
  have hz : ∀ a : Fin 3, (![0, 0, 0] : Fin 3 → ℕ) a = 0 := by decide
  rw [hj, index4 t, hz a, Nat.zero_mul, Nat.zero_add, Nat.one_mul]

/-- Window 7 is its whole array at every point. -/
theorem index7 : ∀ t : Fin grid0.N, win0_7.index t = ![0, 0] := by decide +kernel

theorem iblk7 (c : Dev nD) (t : Fin cfg0.N) : (iblk m c 7 t : Vec Ideal S256x256 .f32) = V m c main_v17 := by
  funext x
  show (V m c main_v17 : Vec Ideal S256x256 .f32) _ = _
  refine congrArg (V m c main_v17 : Vec Ideal S256x256 .f32) ?_
  funext a
  apply Fin.ext
  have hj : (((cfg0.win 7).blk t).view.emb x a).val = win0_7.index t a * S256x256.size a + 1 * (x a).val := rfl
  have hz : ∀ a : Fin 2, (![0, 0] : Fin 2 → ℕ) a = 0 := by decide
  rw [hj, index7 t, hz a, Nat.zero_mul, Nat.zero_add, Nat.one_mul]

/-- Window 8 is its whole array at every point. -/
theorem index8 : ∀ t : Fin grid0.N, win0_8.index t = ![0, 0] := by decide +kernel

theorem iblk8 (c : Dev nD) (t : Fin cfg0.N) : (iblk m c 8 t : Vec Ideal S256x256 .f32) = V m c main_v20 := by
  funext x
  show (V m c main_v20 : Vec Ideal S256x256 .f32) _ = _
  refine congrArg (V m c main_v20 : Vec Ideal S256x256 .f32) ?_
  funext a
  apply Fin.ext
  have hj : (((cfg0.win 8).blk t).view.emb x a).val = win0_8.index t a * S256x256.size a + 1 * (x a).val := rfl
  have hz : ∀ a : Fin 2, (![0, 0] : Fin 2 → ℕ) a = 0 := by decide
  rw [hj, index8 t, hz a, Nat.zero_mul, Nat.zero_add, Nat.one_mul]

/-- Window 10 is its whole array at every point. -/
theorem index10 : ∀ t : Fin grid0.N, win0_10.index t = ![0, 0] := by decide +kernel

theorem iblk10 (c : Dev nD) (t : Fin cfg0.N) : (iblk m c 10 t : Vec Ideal S1536x256 .f32) = V m c main_v51 := by
  funext x
  show (V m c main_v51 : Vec Ideal S1536x256 .f32) _ = _
  refine congrArg (V m c main_v51 : Vec Ideal S1536x256 .f32) ?_
  funext a
  apply Fin.ext
  have hj : (((cfg0.win 10).blk t).view.emb x a).val = win0_10.index t a * S1536x256.size a + 1 * (x a).val := rfl
  have hz : ∀ a : Fin 2, (![0, 0] : Fin 2 → ℕ) a = 0 := by decide
  rw [hj, index10 t, hz a, Nat.zero_mul, Nat.zero_add, Nat.one_mul]

/-- Window 12 is its whole array at every point. -/
theorem index12 : ∀ t : Fin grid0.N, win0_12.index t = ![0, 0, 0] := by decide +kernel

theorem iblk12 (c : Dev nD) (t : Fin cfg0.N) : (iblk m c 12 t : Vec Ideal S6x256x256 .bf16) = V m c main_v114 := by
  funext x
  show (V m c main_v114 : Vec Ideal S6x256x256 .bf16) _ = _
  refine congrArg (V m c main_v114 : Vec Ideal S6x256x256 .bf16) ?_
  funext a
  apply Fin.ext
  have hj : (((cfg0.win 12).blk t).view.emb x a).val = win0_12.index t a * S6x256x256.size a + 1 * (x a).val := rfl
  have hz : ∀ a : Fin 3, (![0, 0, 0] : Fin 3 → ℕ) a = 0 := by decide
  rw [hj, index12 t, hz a, Nat.zero_mul, Nat.zero_add, Nat.one_mul]

/-- Window 13 is its whole array at every point. -/
theorem index13 : ∀ t : Fin grid0.N, win0_13.index t = ![0, 0, 0] := by decide +kernel

theorem iblk13 (c : Dev nD) (t : Fin cfg0.N) : (iblk m c 13 t : Vec Ideal S6x256x128 .f32) = V m c main_v113 := by
  funext x
  show (V m c main_v113 : Vec Ideal S6x256x128 .f32) _ = _
  refine congrArg (V m c main_v113 : Vec Ideal S6x256x128 .f32) ?_
  funext a
  apply Fin.ext
  have hj : (((cfg0.win 13).blk t).view.emb x a).val = win0_13.index t a * S6x256x128.size a + 1 * (x a).val := rfl
  have hz : ∀ a : Fin 3, (![0, 0, 0] : Fin 3 → ℕ) a = 0 := by decide
  rw [hj, index13 t, hz a, Nat.zero_mul, Nat.zero_add, Nat.one_mul]

end Cert.KernelIdeal.Scan
-- ==== Proof.Point.lean ====
/- One grid point over the argument arrays: it advances the state's gradient by two trips and stores two trips' gradient of the values. -/
module

public import proofs.«01_k».proof.Proof.Pieces
public import proofs.«01_k».proof.Proof.BridgeA
public import proofs.«01_k».proof.Proof.Consts
public import proofs.«01_k».proof.Proof.Blocks
public import Idealize.ShloMosaic.Lib.WholeRead

@[expose] public section

set_option maxRecDepth 16384

noncomputable section

namespace Cert.KernelIdeal.Scan

open Cert.KernelIdeal.Gen Cert.KernelIdeal.Ops Cert.Hg
open Cert.ReferenceIdeal.Seq (rq rf ro bound bound_pos bound_lt back grad chunk pos mrow)
open Idealize.ShloMosaic Idealize.ShloMosaic.TcCoe

section Reading

/-- A load of four heads and one chunk of a block. -/
theorem load_rows (w : Memref sig .tc .vmem S8x128x128 .f32) (hw : w.IsWhole) (x : Vec Ideal S8x128x128 .f32) (g s : Fin 2)
    (hi : ∀ a, (![4 * g.val, 64 * s.val, 0] : Fin 3 → ℕ) a + S4x64x128.size a ≤ S8x128x128.size a) (i : Fin 4) (t : Fin 64) (d : Fin 128) :
    View.readAt (Elt Ideal) w.view (Rect.unit (s := S8x128x128) ![4 * g.val, 64 * s.val, 0] S4x64x128.size hi).toLoadRect (hw.unread x) (ix3 i t d)
      = x (ix3 (head g i) ⟨64 * s.val + t.val, by omega⟩ d) := by
  rw [hw.readAt_unread]
  refine congrArg x (funext fun a => Fin.ext ?_)
  revert a
  exact fun
    | ⟨0, _⟩ => by show 4 * g.val + 1 * i.val = g.val * 4 + i.val; omega
    | ⟨1, _⟩ => by show 64 * s.val + 1 * t.val = 64 * s.val + t.val; omega
    | ⟨2, _⟩ => by show 0 + 1 * d.val = d.val; omega

/-- A load of four heads' lower bound logits. -/
theorem load_logits (w : Memref sig .tc .vmem S8x1x128 .f32) (hw : w.IsWhole) (x : Vec Ideal S8x1x128 .f32) (g : Fin 2)
    (hi : ∀ a, (![4 * g.val, 0, 0] : Fin 3 → ℕ) a + S4x1x128.size a ≤ S8x1x128.size a) (i : Fin 4) (d : Fin 128) :
    View.readAt (Elt Ideal) w.view (Rect.unit (s := S8x1x128) ![4 * g.val, 0, 0] S4x1x128.size hi).toLoadRect (hw.unread x) (ix3 i 0 d)
      = x (ix3 (head g i) 0 d) := by
  rw [hw.readAt_unread]
  refine congrArg x (funext fun a => Fin.ext ?_)
  revert a
  exact fun
    | ⟨0, _⟩ => by show 4 * g.val + 1 * i.val = g.val * 4 + i.val; omega
    | ⟨1, _⟩ => by show 0 + 1 * 0 = 0; omega
    | ⟨2, _⟩ => by show 0 + 1 * d.val = d.val; omega

/-- A load of a whole matrix. -/
theorem load_mat {a b : ℕ} {e : EltTy} (w : Memref sig .tc .vmem ⟨2, ![a, b]⟩ e) (hw : w.IsWhole) (x : Vec Ideal ⟨2, ![a, b]⟩ e)
    (hi : ∀ k, (![0, 0] : Fin 2 → ℕ) k + (⟨2, ![a, b]⟩ : Shape).size k ≤ (⟨2, ![a, b]⟩ : Shape).size k) :
    View.readAt (Elt Ideal) w.view (Rect.unit (s := ⟨2, ![a, b]⟩) ![0, 0] (⟨2, ![a, b]⟩ : Shape).size hi).toLoadRect (hw.unread x) = x := by
  funext k
  rw [hw.readAt_unread]
  refine congrArg x (funext fun a => Fin.ext ?_)
  revert a
  exact fun
    | ⟨0, _⟩ => by show 0 + 1 * (k 0).val = (k 0).val; omega
    | ⟨1, _⟩ => by show 0 + 1 * (k 1).val = (k 1).val; omega

/-- A load of a whole array of three axes. -/
theorem load_cube {a b c : ℕ} {e : EltTy} (w : Memref sig .tc .vmem ⟨3, ![a, b, c]⟩ e) (hw : w.IsWhole) (x : Vec Ideal ⟨3, ![a, b, c]⟩ e)
    (hi : ∀ k, (![0, 0, 0] : Fin 3 → ℕ) k + (⟨3, ![a, b, c]⟩ : Shape).size k ≤ (⟨3, ![a, b, c]⟩ : Shape).size k) :
    View.readAt (Elt Ideal) w.view (Rect.unit (s := ⟨3, ![a, b, c]⟩) ![0, 0, 0] (⟨3, ![a, b, c]⟩ : Shape).size hi).toLoadRect (hw.unread x) = x := by
  funext k
  rw [hw.readAt_unread]
  refine congrArg x (funext fun a => Fin.ext ?_)
  revert a
  exact fun
    | ⟨0, _⟩ => by show 0 + 1 * (k 0).val = (k 0).val; omega
    | ⟨1, _⟩ => by show 0 + 1 * (k 1).val = (k 1).val; omega
    | ⟨2, _⟩ => by show 0 + 1 * (k 2).val = (k 2).val; omega

/-- One head fits the scratch. -/
theorem head_inb (h : Fin 8) : ∀ a, (![h.val, 0, 0] : Fin 3 → ℕ) a + S1x128x128.size a ≤ S8x128x128.size a :=
  fun
    | ⟨0, _⟩ => by show h.val + 1 ≤ 8; omega
    | ⟨1, _⟩ => by show 0 + 128 ≤ 128; omega
    | ⟨2, _⟩ => by show 0 + 128 ≤ 128; omega

theorem rows_inb (g s : Fin 2) : ∀ a, (![4 * g.val, 64 * s.val, 0] : Fin 3 → ℕ) a + S4x64x128.size a ≤ S8x128x128.size a :=
  fun
    | ⟨0, _⟩ => by show 4 * g.val + 4 ≤ 8; omega
    | ⟨1, _⟩ => by show 64 * s.val + 64 ≤ 128; omega
    | ⟨2, _⟩ => by show 0 + 128 ≤ 128; omega

theorem logits_inb (g : Fin 2) : ∀ a, (![4 * g.val, 0, 0] : Fin 3 → ℕ) a + S4x1x128.size a ≤ S8x1x128.size a :=
  fun
    | ⟨0, _⟩ => by show 4 * g.val + 4 ≤ 8; omega
    | ⟨1, _⟩ => by show 0 + 1 ≤ 1; omega
    | ⟨2, _⟩ => by show 0 + 128 ≤ 128; omega

theorem head_idx (h : Fin 8) (hi) (v d : Fin 128) :
    (Rect.unit (s := S8x128x128) ![h.val, 0, 0] S1x128x128.size hi).toLoadRect.idx (ix3 0 v d) = ix3 h v d := by
  refine funext fun a => Fin.ext ?_
  revert a
  exact fun
    | ⟨0, _⟩ => by show h.val + 1 * 0 = h.val; omega
    | ⟨1, _⟩ => by show 0 + 1 * v.val = v.val; omega
    | ⟨2, _⟩ => by show 0 + 1 * d.val = d.val; omega

/-- Dropping the unit axis of one head. -/
theorem ldV_at (x : FVec Ideal S1x128x128 .f32) (v d : Fin 128) : ldV x (ix2 v d) = x (ix3 0 v d) := by
  unfold ldV
  pointwise

/-- A head of the scratch at a later point. -/
theorem scB_at (w : Memref sig .tc .vmem S8x128x128 .f32) (hw : w.IsWhole) (x : Vec Ideal S8x128x128 .f32) (h : Fin 8) (v d : Fin 128) :
    ldV (scB w hw x h.val (head_inb h)) (ix2 v d) = x (ix3 h v d) := by
  rw [ldV_at]
  unfold scB
  rw [hw.readAt_unread, head_idx]

/-- A head of the scratch at the first point: zero. -/
theorem scA_at (w : Memref sig .tc .vmem S8x128x128 .f32) (h : Fin 8) (v d : Fin 128) :
    ldV (scA w h.val (head_inb h)) (ix2 v d) = 0 := by
  rw [ldV_at]
  unfold scA zeroed
  show w.view.read (Elt Ideal) _ ((Rect.unit (s := S8x128x128) ![h.val, 0, 0] S1x128x128.size (head_inb h)).toLoadRect.idx (ix3 0 v d)) = 0
  rw [head_idx]
  refine (View.read_writes_cons_unit_of_mem w.view _ _ _ _ _ (ix3 h v d) rfl ?_).trans ?_
  · exact fun
      | ⟨0, _⟩ => by show h.val = 0 + h.val; omega
      | ⟨1, _⟩ => by show v.val = 0 + v.val; omega
      | ⟨2, _⟩ => by show d.val = 0 + d.val; omega
  · show Ideal.ofBits .f32 0x00000000#32 = 0
    exact Cert.ReferenceIdeal.Seq.ofBits_zero

end Reading

end Cert.KernelIdeal.Scan
-- ==== Proof.Value.lean ====
/- The kernel's run as the model's: after each point the scratch holds the state's gradient, and the result collects the gradient of the values. -/
module

public import proofs.«01_k».proof.Proof.Point

@[expose] public section

set_option maxRecDepth 16384

noncomputable section

namespace Cert.KernelIdeal.Scan

open Cert.KernelIdeal.Gen Cert.KernelIdeal.Ops Cert.Hg
open Cert.ReferenceIdeal.Seq (rq rf ro bound bound_pos bound_lt back grad chunk pos mrow lane)
open Idealize.ShloMosaic Idealize.ShloMosaic.TcCoe

variable (m : (ℓ : Loc nD τ sig) → Buf (Elt Ideal) ℓ)

/-- The masks a point reads. -/
def masksAt (c : Dev nD) (t : Fin cfg0.N) : Masks :=
  masksOf (ms0_7 t) (hs0_7 t) (ms0_8 t) (hs0_8 t) (ms0_10 t) (hs0_10 t) (ms0_12 t) (hs0_12 t) (ms0_13 t) (hs0_13 t)
    (iblk m c 7 t) (iblk m c 8 t) (iblk m c 10 t) (iblk m c 12 t) (iblk m c 13 t)

/-- The rows and logits a point reads for a group of heads and one of its chunks. -/
def loadsAt (c : Dev nD) (t : Fin cfg0.N) (g s : Fin 2) : Loads :=
  loadsOf (ms0_0 t) (hs0_0 t) (ms0_1 t) (hs0_1 t) (ms0_3 t) (hs0_3 t) (ms0_4 t) (hs0_4 t) (ms0_6 t) (hs0_6 t)
    (iblk m c 0 t) (iblk m c 1 t) (iblk m c 3 t) (iblk m c 4 t) (iblk m c 6 t) (4 * g.val) (64 * s.val) (rows_inb g s) (logits_inb g)

/-- The state's gradient a later point reads, head by head. -/
def prevB (x : Vec Ideal S8x128x128 .f32) (h : Fin 8) : FVec Ideal S128x128 .f32 := ldV (scB scM0_0 (Memref.isWhole_whole _) x h.val (head_inb h))

/-- The state's gradient the first point reads, head by head. -/
def prevA (h : Fin 8) : FVec Ideal S128x128 .f32 := ldV (scA scM0_0 h.val (head_inb h))

theorem gi_B (c : Dev nD) (t : Fin cfg0.N) (h0 : ¬t.val % 66 = 0) (x : Vec Ideal S8x128x128 .f32) :
    (stepAt m c t x).2.1 = VO16.read (Elt Ideal) (VO16.writes (Elt Ideal) VO16.junk (giPieces (masksAt m c t) (loadsAt m c t) (prevB x))) := by
  rw [stepAt_B m c t h0 x]
  refine congrArg (fun L => VO16.read (Elt Ideal) (VO16.writes (Elt Ideal) VO16.junk L)) ?_
  exact gi_pieces_B ..

theorem ds_B (c : Dev nD) (t : Fin cfg0.N) (h0 : ¬t.val % 66 = 0) (x : Vec Ideal S8x128x128 .f32) :
    (stepAt m c t x).2.2 = VS0_0.read (Elt Ideal) (VS0_0.writes (Elt Ideal) VS0_0.junk (dsPieces (masksAt m c t) (loadsAt m c t) (prevB x) [])) := by
  rw [stepAt_B m c t h0 x]
  refine congrArg (fun L => VS0_0.read (Elt Ideal) (VS0_0.writes (Elt Ideal) VS0_0.junk L)) ?_
  exact ds_pieces_B ..

theorem gi_A (c : Dev nD) (t : Fin cfg0.N) (h0 : t.val % 66 = 0) (x : Vec Ideal S8x128x128 .f32) :
    (stepAt m c t x).2.1 = VO16.read (Elt Ideal) (VO16.writes (Elt Ideal) VO16.junk (giPieces (masksAt m c t) (loadsAt m c t) prevA)) := by
  rw [stepAt_A m c t h0 x]
  refine congrArg (fun L => VO16.read (Elt Ideal) (VO16.writes (Elt Ideal) VO16.junk L)) ?_
  exact gi_pieces_A ..

theorem ds_A (c : Dev nD) (t : Fin cfg0.N) (h0 : t.val % 66 = 0) (x : Vec Ideal S8x128x128 .f32) :
    (stepAt m c t x).2.2 = VS0_0.read (Elt Ideal) (VS0_0.writes (Elt Ideal) VS0_0.junk (dsPieces (masksAt m c t) (loadsAt m c t) prevA zeroed)) := by
  rw [stepAt_A m c t h0 x]
  refine congrArg (fun L => VS0_0.read (Elt Ideal) (VS0_0.writes (Elt Ideal) VS0_0.junk L)) ?_
  exact ds_pieces_A ..

/-- The masks a point reads are the expected ones. -/
theorem masks_good (c : Dev nD) (t : Fin cfg0.N) : Good (masksAt m c t) := by
  refine good_of ?_ ?_ ?_ ?_ ?_
  · exact (load_mat _ _ _ _).trans ((iblk7 m c t).trans (V_eye m c))
  · exact (load_mat _ _ _ _).trans ((iblk8 m c t).trans (V_incl m c))
  · exact (load_mat _ _ _ _).trans ((iblk10 m c t).trans (V_mid m c))
  · exact (load_cube _ _ _ _).trans ((iblk12 m c t).trans (V_same m c))
  · exact (load_cube _ _ _ _).trans ((iblk13 m c t).trans (V_sec m c))

/-- The memory row of a token of one of the point's two chunks. -/
theorem row_block (t : Fin 66) (s : Fin 2) (u : Fin 64) :
    (blk t).val * 128 + (64 * s.val + u.val) = (mrow (pos (chunk (2 * t.val + (1 - s.val))) u)).val := by
  have hs := s.isLt
  have ht := t.isLt
  have hu := u.isLt
  unfold blk mrow
  show _ = (if h : (131 - (2 * t.val + (1 - s.val))) * 64 + u.val < 256 then
      (⟨8192 + ((131 - (2 * t.val + (1 - s.val))) * 64 + u.val), by omega⟩ : Fin 8448)
    else ⟨(131 - (2 * t.val + (1 - s.val))) * 64 + u.val - 256, by omega⟩).val
  by_cases h : 65 - t.val < 2
  · rw [dif_pos h, dif_pos (by omega)]
    show (64 + (65 - t.val)) * 128 + (64 * s.val + u.val) = 8192 + ((131 - (2 * t.val + (1 - s.val))) * 64 + u.val)
    omega
  · rw [dif_neg h, dif_neg (by omega)]
    show (65 - t.val - 2) * 128 + (64 * s.val + u.val) = (131 - (2 * t.val + (1 - s.val))) * 64 + u.val - 256
    omega

section Reads

variable (c : Dev nD) (r : S2x2x1024.Idx → ℝ)

/-- The argument arrays: raw rows, output's gradient, logits. -/
abbrev argY : Vec Ideal S80x8448x128 .f32 := m ((c.tc : Thread nD τ).loc main_arg0)
abbrev argA : Vec Ideal S8x8448x128 .f32 := m ((c.tc : Thread nD τ).loc main_arg3)
abbrev argL : Vec Ideal S2x2x1024 .f32 := m ((c.tc : Thread nD τ).loc main_arg1)

theorem loads_bounds (hl : ∀ i, argL m c i = ((r i : ℝ) : EReal)) (t : Fin cfg0.N) (g s : Fin 2) :
    Bounds (loadsAt m c t g s) (fun i => bound r (head g i)) where
  pos i d := bound_pos r _ d
  lt_one i d := bound_lt r _ d
  eq i d := by
    have e0 : (loadsAt m c t g s).l0 (ix3 i 0 d) = ((r (ix3 0 0 (lane (head g i) d)) : ℝ) : EReal) := by
      refine (load_logits _ _ _ g (logits_inb g) i d).trans ?_
      rw [iblk3 m c t, V_l0, l0_at]
      exact hl _
    have e1 : (loadsAt m c t g s).l1 (ix3 i 0 d) = ((r (ix3 1 0 (lane (head g i) d)) : ℝ) : EReal) := by
      refine (load_logits _ _ _ g (logits_inb g) i d).trans ?_
      rw [iblk4 m c t, V_l1, l1_at]
      exact hl _
    rw [e0, e1, ← EReal.coe_sub, logistic_coe]
    rfl

theorem loads_q (t : Fin cfg0.N) (g s : Fin 2) (i : Fin 4) :
    hd (loadsAt m c t g s).q i = rq (argY m c) (head g i) (chunk (2 * t.val + (1 - s.val))) := by
  funext u d
  refine (load_rows _ _ _ g s (rows_inb g s) i u d).trans ?_
  rw [iblk0_at]
  exact congrArg (fun p => argY m c (ix3 _ p d)) (Fin.ext (row_block ⟨t.val, t.isLt⟩ s u))

theorem loads_f (t : Fin cfg0.N) (g s : Fin 2) (i : Fin 4) :
    hd (loadsAt m c t g s).f i = rf (argY m c) (head g i) (chunk (2 * t.val + (1 - s.val))) := by
  funext u d
  refine (load_rows _ _ _ g s (rows_inb g s) i u d).trans ?_
  rw [iblk1_at]
  exact congrArg (fun p => argY m c (ix3 _ p d)) (Fin.ext (row_block ⟨t.val, t.isLt⟩ s u))

theorem loads_o (t : Fin cfg0.N) (g s : Fin 2) (i : Fin 4) :
    hd (loadsAt m c t g s).o i = ro (argA m c) (head g i) (chunk (2 * t.val + (1 - s.val))) := by
  funext u d
  refine (load_rows _ _ _ g s (rows_inb g s) i u d).trans ?_
  rw [iblk6_at]
  exact congrArg (fun p => argA m c (ix3 _ p d)) (Fin.ext (row_block ⟨t.val, t.isLt⟩ s u))

variable (hl : ∀ i, argL m c i = ((r i : ℝ) : EReal))
include hl

/-- What a point reads, given the state's gradient it starts from. -/
theorem point_feeds (t : Fin cfg0.N) (D : Fin 8 → FVec Ideal S128x128 .f32)
    (hD : ∀ h, (fun d v => D h (ix2 v d)) = back (argY m c) r (argA m c) h (2 * t.val)) :
    Feeds (masksAt m c t) (loadsAt m c t) D (argY m c) r (argA m c) (2 * t.val) where
  good := masks_good m c t
  bounds g s := loads_bounds m c r hl t g s
  q g s i := loads_q m c t g s i
  f g s i := loads_f m c t g s i
  o g s i := loads_o m c t g s i
  d := hD

/-- A point from the right state: what it stores. -/
theorem point_step (t : Fin cfg0.N) (x : Vec Ideal S8x128x128 .f32)
    (hx : t.val ≠ 0 → ∀ (h : Fin 8) (v d : Fin 128), x (ix3 h v d) = back (argY m c) r (argA m c) h (2 * t.val) d v) :
    (∀ (g s : Fin 2) (i : Fin 4) (u : Fin 64) (v : Fin 128), (stepAt m c t x).2.1 (ix3 (head g i) ⟨64 * s.val + u.val, by omega⟩ v)
        = grad (argY m c) r (argA m c) (head g i) (2 * t.val + (1 - s.val)) u v)
      ∧ ∀ (h : Fin 8) (v d : Fin 128), (stepAt m c t x).2.2 (ix3 h v d) = back (argY m c) r (argA m c) h (2 * (t.val + 1)) d v := by
  have htN : t.val < 66 := t.isLt
  by_cases h0 : t.val % 66 = 0
  · have ht : t.val = 0 := by omega
    have H := point_feeds m c r hl t prevA (fun h => by
      funext d v
      refine (scA_at scM0_0 h v d).trans ?_
      rw [ht]
      rfl)
    refine ⟨fun g s i u v => ?_, fun h v d => ?_⟩
    · rw [gi_A m c t h0 x]
      exact H.gi VO16 _ g s i u v
    · rw [ds_A m c t h0 x]
      exact H.ds VS0_0 _ zeroed h v d
  · have ht : t.val ≠ 0 := by omega
    have H := point_feeds m c r hl t (prevB x) (fun h => by
      funext d v
      exact (scB_at scM0_0 (Memref.isWhole_whole _) x h v d).trans (hx ht h v d))
    refine ⟨fun g s i u v => ?_, fun h v d => ?_⟩
    · rw [gi_B m c t h0 x]
      exact H.gi VO16 _ g s i u v
    · rw [ds_B m c t h0 x]
      exact H.ds VS0_0 _ [] h v d

/-- The scratch before each point: the state's gradient after the trips so far. -/
theorem scratch_at (n : ℕ) (hn : n < 66) (hz : n ≠ 0) (h : Fin 8) (v d : Fin 128) :
    scAt m c n (ix3 h v d) = back (argY m c) r (argA m c) h (2 * n) d v := by
  induction n generalizing h v d with
  | zero => exact absurd rfl hz
  | succ n ih =>
    rw [scAt_succ m c (⟨n, Nat.lt_of_succ_lt hn⟩ : Fin cfg0.N)]
    exact (point_step m c r hl ⟨n, Nat.lt_of_succ_lt hn⟩ _ (fun hne h v d => ih (Nat.lt_of_succ_lt hn) hne h v d)).2 h v d

/-- The result at a token of a point's chunk. -/
theorem result_block (t : Fin cfg0.N) (g s : Fin 2) (i : Fin 4) (u : Fin 64) (v : Fin 128) :
    ((dats m 0 c).arrAt 16 cfg0.N : Vec Ideal S8x8448x128 .f32) (ix3 (head g i) (mrow (pos (chunk (2 * t.val + (1 - s.val))) u)) v)
      = grad (argY m c) r (argA m c) (head g i) (2 * t.val + (1 - s.val)) u v := by
  rw [← (point_step m c r hl t (scAt m c t.val) (fun hne h v d => scratch_at m c r hl t.val t.isLt hne h v d)).1 g s i u v,
    ← entry16 m c t (head g i) ⟨64 * s.val + u.val, by omega⟩ v]
  exact congrArg (fun p => ((dats m 0 c).arrAt 16 cfg0.N : Vec Ideal S8x8448x128 .f32) (ix3 (head g i) p v))
    (Fin.ext (row_block ⟨t.val, t.isLt⟩ s u).symm)

/-- The kernel's gradient of the values at every token: that of the trip that handles the token's chunk. -/
theorem result_at (k : Fin 132) (h : Fin 8) (u : Fin 64) (v : Fin 128) :
    ((dats m 0 c).arrAt 16 cfg0.N : Vec Ideal S8x8448x128 .f32) (ix3 h (mrow (pos k u)) v)
      = grad (argY m c) r (argA m c) h (131 - k.val) u v := by
  have hk := k.isLt
  have hh := h.isLt
  have e := result_block m c r hl ⟨(131 - k.val) / 2, (by omega : (131 - k.val) / 2 < 66)⟩ ⟨h.val / 4, by omega⟩
    ⟨1 - (131 - k.val) % 2, by omega⟩ ⟨h.val % 4, by omega⟩ u v
  have e1 : head ⟨h.val / 4, by omega⟩ ⟨h.val % 4, by omega⟩ = h := Fin.ext (by show h.val / 4 * 4 + h.val % 4 = h.val; omega)
  have e2 : 2 * ((131 - k.val) / 2) + (1 - (1 - (131 - k.val) % 2)) = 131 - k.val := by omega
  have e3 : chunk (131 - k.val) = k := Fin.ext (by show 131 - (131 - k.val) = k.val; omega)
  rw [e1] at e
  have e' := (congrArg (fun n => ((dats m 0 c).arrAt 16 cfg0.N : Vec Ideal S8x8448x128 .f32) (ix3 h (mrow (pos (chunk n) u)) v)) e2).symm.trans
    (e.trans (congrArg (fun n => grad (argY m c) r (argA m c) h n u v) e2))
  rw [e3] at e'
  exact e'

end Reads

end Cert.KernelIdeal.Scan
-- ==== Proof.Same.lean ====
/- The kernel and the reference side by side: equal gradients of the values, where the logits are finite. -/
module

public import proofs.«01_k».proof.Pre_finite_logits
public import proofs.«01_k».proof.Proof.Value
public import proofs.«01_k».proof.Proof.RefRun

@[expose] public section

set_option maxRecDepth 16384

noncomputable section

namespace Cert.Hg

open Idealize.ShloMosaic

/-- The precondition's shape facts. -/
theorem preFacts : Cert.Pre_finite_logits.Facts where
  bcast_S_S2x2x1024 := by refine ⟨?_, ?_⟩ <;> decide

/-- An extended real whose absolute value is below infinity is real. -/
theorem real_of_abs_lt {x : EReal} (h : max x (-x) < ⊤) : ∃ r : ℝ, x = (r : EReal) := by
  induction x with
  | bot => exact absurd h (by simp)
  | top => exact absurd h (by simp)
  | coe r => exact ⟨r, rfl⟩

/-- Infinity's word. -/
theorem ofBits_infinity : Ideal.ofBits .f32 0x7F800000#32 = ⊤ := by simp [Ideal.ofBits, Ideal.ieee]

/-- Under the precondition every logit is real. -/
theorem logits_real [Cert.Pre_finite_logits.Facts] (y : FVec Ideal Cert.Pre_finite_logits.S80x8448x128 .f32) (l : FVec Ideal Cert.Pre_finite_logits.S2x2x1024 .f32)
    (s : FVec Ideal Cert.Pre_finite_logits.S132x8x128x128 .f32) (a : FVec Ideal Cert.Pre_finite_logits.S8x8448x128 .f32)
    (h : Cert.Pre_finite_logits.fn (F := Ideal) y l s a = fun _ => 1#1) :
    ∃ r : Cert.Pre_finite_logits.S2x2x1024.Idx → ℝ, ∀ i, l i = ((r i : ℝ) : EReal) := by
  have e : ∀ i, ∃ r : ℝ, l i = (r : EReal) := fun i => by
    have hi : Ideal.cmp .olt (max (l i) (-(l i))) (Ideal.ofBits .f32 0x7F800000#32) = 1 := congrFun h i
    rw [ofBits_infinity, Ideal.cmp_olt_eq_one] at hi
    exact real_of_abs_lt hi
  exact ⟨fun i => (e i).choose, fun i => (e i).choose_spec⟩

end Cert.Hg

namespace Cert.KernelIdeal.Scan

open Cert.KernelIdeal.Gen Cert.Hg
open Cert.ReferenceIdeal.Seq (mrow pos grad)
open Idealize.ShloMosaic Idealize.ShloMosaic.TcCoe Idealize.SL.Sem

/-- Every memory row is a token of a chunk. -/
theorem row_cover (p : Fin 8448) : ∃ (k : Fin 132) (u : Fin 64), p = mrow (pos k u) := by
  have hp := p.isLt
  by_cases h : p.val < 8192
  · refine ⟨⟨(p.val + 256) / 64, by omega⟩, ⟨(p.val + 256) % 64, by omega⟩, Fin.ext ?_⟩
    unfold mrow
    rw [dif_neg (by show ¬((p.val + 256) / 64 * 64 + (p.val + 256) % 64 < 256); omega)]
    show p.val = (p.val + 256) / 64 * 64 + (p.val + 256) % 64 - 256
    omega
  · refine ⟨⟨(p.val - 8192) / 64, by omega⟩, ⟨(p.val - 8192) % 64, by omega⟩, Fin.ext ?_⟩
    unfold mrow
    rw [dif_pos (by show (p.val - 8192) / 64 * 64 + (p.val - 8192) % 64 < 256; omega)]
    show p.val = 8192 + ((p.val - 8192) / 64 * 64 + (p.val - 8192) % 64)
    omega

/-- Two results that agree at every token of every chunk are equal. -/
theorem ext_rows (f g : Vec Ideal S8x8448x128 .f32)
    (h : ∀ (k : Fin 132) (h : Fin 8) (u : Fin 64) (v : Fin 128), f (ix3 h (mrow (pos k u)) v) = g (ix3 h (mrow (pos k u)) v)) : f = g := by
  funext x
  obtain ⟨k, u, hp⟩ := row_cover (x 1)
  have hx : x = ix3 (x 0) (mrow (pos k u)) (x 2) := (eq_ix3 x).trans (congrArg (fun p => ix3 (x 0) p (x 2)) hp)
  rw [hx]
  exact h k (x 0) u (x 2)

variable (m : (ℓ : Loc nD τ sig) → Buf (Elt Ideal) ℓ)

/-- The two programs' gradients of the values are the same array. -/
theorem same (c : Dev nD) (r : S2x2x1024.Idx → ℝ) (hl : ∀ i, argL m c i = ((r i : ℝ) : EReal)) :
    ((dats m 0 c).arrAt 16 cfg0.N : Vec Ideal S8x8448x128 .f32)
      = Cert.ReferenceIdeal.Step.R_main_v131 (Cert.ReferenceIdeal.Seq.state (Cert.ReferenceIdeal.Step.init (argY m c) (argL m c) (argA m c)) 132) := by
  exact ext_rows _ _ fun k h u v => (result_at m c r hl k h u v).trans (Cert.ReferenceIdeal.Seq.result_at hl k h u v).symm

end Cert.KernelIdeal.Scan
-- ==== Proof.Prod2.lean ====
/- The gradient of the input projection's weight: the tiled product over the rows is the whole product. -/
module

public import proofs.«01_k».proof.Proof.Gen.Kernel2Ideal.Value
public import proofs.«01_k».proof.Proof.Gen.Reference2Ideal.Run
public import proofs.«01_k».proof.Defs
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Prod2
open Cert.Kernel2Ideal Cert.Kernel2Ideal.Gen Idealize.ShloMosaic Idealize.ShloMosaic.TcCoe
open scoped BigOperators

/-- The block of the left operand a point reads starts at the point's step of 768 rows. -/
theorem left_index : ∀ t : Fin cfg0.N, win0_0.index t = ![t.val % 11, 0] := by decide +kernel

/-- The block of the right operand starts at the run's group of eight column blocks and the point's step of rows. -/
theorem right_index : ∀ t : Fin cfg0.N, win0_1.index t = ![t.val / 11, t.val % 11, 0] := by decide +kernel

/-- The product of two blocks at an index: the sum over their 768 rows. -/
def part (x0 : Vec Ideal S768x1024 .bf16) (x1 : Vec Ideal S8x768x128 .f32) (p q : Fin 1024) : EReal :=
  ∑ k : Fin 768, x0 (ix2 k p) * x1 (ix3 ⟨q.val / 128, by omega⟩ k ⟨q.val % 128, by omega⟩)

/-- One point's product: the sum over the point's 768 rows. -/
theorem step_at (x0 : Vec Ideal S768x1024 .bf16) (x1 : Vec Ideal S8x768x128 .f32) (p q : Fin 1024) :
    k0_pay3 (F := Ideal) x0 (View.ld x1 (Rect.unit ![0, 0, 0] ![1, 768, 128] inb_S8x768x128_S1x768x128_0_0_0))
      (View.ld x1 (Rect.unit ![1, 0, 0] ![1, 768, 128] inb_S8x768x128_S1x768x128_1_0_0))
      (View.ld x1 (Rect.unit ![2, 0, 0] ![1, 768, 128] inb_S8x768x128_S1x768x128_2_0_0))
      (View.ld x1 (Rect.unit ![3, 0, 0] ![1, 768, 128] inb_S8x768x128_S1x768x128_3_0_0))
      (View.ld x1 (Rect.unit ![4, 0, 0] ![1, 768, 128] inb_S8x768x128_S1x768x128_4_0_0))
      (View.ld x1 (Rect.unit ![5, 0, 0] ![1, 768, 128] inb_S8x768x128_S1x768x128_5_0_0))
      (View.ld x1 (Rect.unit ![6, 0, 0] ![1, 768, 128] inb_S8x768x128_S1x768x128_6_0_0))
      (View.ld x1 (Rect.unit ![7, 0, 0] ![1, 768, 128] inb_S8x768x128_S1x768x128_7_0_0)) (ix2 p q)
      = part x0 x1 p q := by
  unfold part
  pointwise [k0_pay3]
  refine Finset.sum_congr rfl fun k _ => congrArg _ ?_
  have hq := q.isLt
  split_ifs <;> refine congrArg x1 (funext fun a => Fin.ext ?_) <;> fin_cases a <;> simp <;> omega

theorem step_apply (x0 : Vec Ideal S768x1024 .bf16) (x1 : Vec Ideal S8x768x128 .f32) (j : S1024x1024.Idx) :
    k0_pay3 (F := Ideal) x0 (View.ld x1 (Rect.unit ![0, 0, 0] ![1, 768, 128] inb_S8x768x128_S1x768x128_0_0_0))
      (View.ld x1 (Rect.unit ![1, 0, 0] ![1, 768, 128] inb_S8x768x128_S1x768x128_1_0_0))
      (View.ld x1 (Rect.unit ![2, 0, 0] ![1, 768, 128] inb_S8x768x128_S1x768x128_2_0_0))
      (View.ld x1 (Rect.unit ![3, 0, 0] ![1, 768, 128] inb_S8x768x128_S1x768x128_3_0_0))
      (View.ld x1 (Rect.unit ![4, 0, 0] ![1, 768, 128] inb_S8x768x128_S1x768x128_4_0_0))
      (View.ld x1 (Rect.unit ![5, 0, 0] ![1, 768, 128] inb_S8x768x128_S1x768x128_5_0_0))
      (View.ld x1 (Rect.unit ![6, 0, 0] ![1, 768, 128] inb_S8x768x128_S1x768x128_6_0_0))
      (View.ld x1 (Rect.unit ![7, 0, 0] ![1, 768, 128] inb_S8x768x128_S1x768x128_7_0_0)) j
      = part x0 x1 (j 0) (j 1) := by
  have h := step_at x0 x1 (j 0) (j 1)
  rwa [← eq_ix2 j] at h

theorem pay1_apply (v : FVec Ideal S1024x1024 .f32) (j : S1024x1024.Idx) : k0_pay1 v j = v j := by
  rw [eq_ix2 j]
  pointwise [k0_pay1]

theorem pay2_apply (v : FVec Ideal S1024x1024 .f32) (a : Vec Ideal S1024x1024 .f32) (j : S1024x1024.Idx) : k0_pay2 v a j = a j + v j := by
  rw [eq_ix2 j]
  pointwise [k0_pay2]

variable (m : (ℓ : Loc nD τ sig) → Buf (Elt Ideal) ℓ)

/-- What a point adds to the accumulator. -/
def term (c : Dev nD) (t : Fin cfg0.N) (j : S1024x1024.Idx) : EReal :=
  part (iblk m c 0 t) (iblk m c 1 t) (j 0) (j 1)

theorem acc_first (c : Dev nD) (t : Fin cfg0.N) (h : t.val % 11 = 0) (j : S1024x1024.Idx) :
    (outsAt0 m c t.val t.isLt).2 j = 0 + term m c t j := by
  rw [outsAt0_A m c t h (by omega) (by omega)]
  frame_out
  rw [pay1_apply, step_apply, zero_add]
  rfl

theorem acc_next (c : Dev nD) (t : Fin cfg0.N) (h : ¬t.val % 11 = 0) (j : S1024x1024.Idx) :
    (outsAt0 m c t.val t.isLt).2 j = (outsAt0 m c (t.val - 1) (Nat.lt_of_le_of_lt (Nat.sub_le _ _) t.isLt)).2 j + term m c t j := by
  by_cases h2 : t.val % 11 = 10
  · rw [outsAt0_C m c t h (by omega) h2]
    frame_out
    rw [pay2_apply, step_apply]
    exact congrArg (· + _) (congrFun (read_unread_whole cc0_scratch0 (Memref.isWhole_whole _) _) j)
  · rw [outsAt0_B m c t h (by omega) h2]
    frame_out
    rw [pay2_apply, step_apply]
    exact congrArg (· + _) (congrFun (read_unread_whole cc0_scratch0 (Memref.isWhole_whole _) _) j)

theorem out_last (c : Dev nD) (t : Fin cfg0.N) (h : t.val % 11 = 10) (j : S1024x1024.Idx) :
    (outsAt0 m c t.val t.isLt).1 j = (outsAt0 m c t.val t.isLt).2 j := by
  rw [outsAt0_C m c t (by omega) (by omega) h]
  frame_out

/-- The last point of a run holds the sum over the run's points. -/
theorem out_run (c : Dev nD) (t : Fin cfg0.N) (h : t.val % 11 = 10) (j : S1024x1024.Idx) :
    (outsAt0 m c t.val t.isLt).1 j = ∑ s : Fin 11, term m c ⟨11 * (t.val / 11) + s.val, by have := s.isLt; have := t.isLt; have : cfg0.N = 110 := N_0; omega⟩ j := by
  rw [out_last m c t h j, Pipeline.eq_sum_fin_of_reset_step_apply_of_flush (fun n h => (outsAt0 m c n h).2) 11 (fun _ => 0) (term m c)
    (fun t h j => acc_first m c t h j) (fun t h j => acc_next m c t h j) t h j, zero_add]

/-- The two arguments as arrays. -/
abbrev lhs (c : Dev nD) : Vec Ideal S8448x1024 .bf16 := m ((c : Thread nD τ).loc main_arg0)
abbrev rhs (c : Dev nD) : Vec Ideal S80x8448x128 .f32 := m ((c : Thread nD τ).loc main_arg1)

theorem same_point (c : Dev nD) {n n' : ℕ} (e : n = n') (h : n < cfg0.N) (h' : n' < cfg0.N) : outsAt0 m c n h = outsAt0 m c n' h' := by
  subst e
  rfl

/-- The kernel's result at row `p` and column `128 b + l`. -/
theorem result_at (c : Dev nD) (p : Fin 1024) (n : Fin 10240) :
    Value.G2 m c (ix2 p n) = ∑ r : Fin 8448, lhs m c (ix2 r p) * rhs m c (ix3 ⟨n.val / 128, by omega⟩ r ⟨n.val % 128, by omega⟩) := by
  have hN : cfg0.N = 110 := N_0
  have hp : 11 * (n.val / 1024) + 10 < cfg0.N := by omega
  have e : Value.G2 m c (ix2 p n) = (outsAt0 m c (11 * (n.val / 1024) + 10) hp).1 (ix2 p ⟨n.val % 1024, by omega⟩) := by
    have hl : Value.loc2Of (ix2 p n) = ix2 p ⟨n.val % 1024, by omega⟩ := by
      funext a
      fin_cases a
      · exact Fin.ext (Nat.mod_eq_of_lt p.isLt)
      · rfl
    have hq : Value.pt2Of (ix2 p n) = 11 * (n.val / 1024) + 10 := by
      have : p.val / 1024 = 0 := Nat.div_eq_of_lt p.isLt
      show 11 * (10 * (p.val / 1024 - 0) + 1 * (n.val / 1024 - 0)) + 10 = _
      omega
    unfold Value.G2
    rw [dif_pos (hq ▸ hp : Value.pt2Of (ix2 p n) < cfg0.N), ← Value.outsAt0_sweep m c (Value.pt2Of (ix2 p n)) (hq ▸ hp), hl]
    exact congrArg (·.1 (ix2 p ⟨n.val % 1024, by omega⟩)) (same_point m c hq _ _)
  rw [e, out_run m c ⟨11 * (n.val / 1024) + 10, hp⟩ (by dsimp only; omega)]
  refine Fin.sum_mul_add_congr fun s k hl => ?_
  have hp' := p.isLt
  have hn' := n.isLt
  have hs' := s.isLt
  have hk' := k.isLt
  refine congrArg₂ (· * ·) ?_ ?_
  · blk_ext [iblk, V, left_index]
  · blk_ext [iblk, V, right_index]

end Cert.Prod2

namespace Cert.Prod2.Ref
open Cert.Reference2Ideal Cert.Reference2Ideal.Gen Idealize.ShloMosaic Idealize.ShloMosaic.TcCoe
open scoped BigOperators

/-- The reference's result at row `p` and column `n`. -/
theorem result_at (x : FVec Ideal S8448x1024 .bf16) (y : FVec Ideal S80x8448x128 .f32) (p : Fin 1024) (n : Fin 10240) :
    (transpose S1024x10240 [1, 0] (Host.dotGeneral dot_S1x8448x10240_S1x8448x1024_S10240x1024_01_01_2_2_n_n none
      (shapeCast _ (transpose S8448x80x128 [1, 0, 2] y transposes_S80x8448x128_S8448x80x128_1_0_2) shapeCasts_S8448x80x128_S1x8448x10240)
      (broadcastInDim S1x8448x1024 ![1, 2] bcast_S8448x1024_S1x8448x1024_1_2 (extf .f32 x bitsLt_bf16_f32)))
      transposes_S10240x1024_S1024x10240_1_0 : FVec Ideal S1024x10240 .f32) (ix2 p n)
      = ∑ r : Fin 8448, x (ix2 r p) * y (ix3 ⟨n.val / 128, by omega⟩ r ⟨n.val % 128, by omega⟩) := by
  pointwise
  simp only [Finset.univ_unique, Finset.sum_singleton]
  exact Finset.sum_congr rfl fun r _ => mul_comm _ _
end Cert.Prod2.Ref

namespace Cert.Prod2
open Idealize.ShloMosaic Idealize.SL.Sem

theorem algebraic : algebraic_Kernel2Ideal_Reference2Ideal := by
  intro m g m' g' _ hargs
  refine ⟨fun c => Cert.Kernel2Ideal.Value.G2 m c, Cert.Kernel2Ideal.Value.run m g, ?_⟩
  refine (θ_run _ _ _).mono (fun r h c => ⟨(h c).1.trans ?_, (h c).2.1, (h c).2.2⟩) (Cert.Reference2Ideal.Value.run m' g')
  rw [(hargs c).1, (hargs c).2]
  funext j
  obtain ⟨p, n, rfl⟩ : ∃ (p : Fin 1024) (n : Fin 10240), j = ix2 p n := ⟨j 0, j 1, eq_ix2 j⟩
  exact (Cert.Prod2.Ref.result_at _ _ p n).trans (result_at m c p n).symm
end Cert.Prod2
-- ==== Proof.Prod3.lean ====
/- The gradient of the input projection's rows: the tiled product over the padded weight is the whole product over the weight's own columns. -/
module

public import proofs.«01_k».proof.Proof.Gen.Kernel3Ideal.Value
public import proofs.«01_k».proof.Proof.Gen.Reference3Ideal.Run
public import proofs.«01_k».proof.Defs
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Prod3

open Cert.Kernel3Ideal Cert.Kernel3Ideal.Gen Idealize.ShloMosaic Idealize.ShloMosaic.TcCoe
open scoped BigOperators

/-- The left operand's block: the point's step of sixteen column blocks, the run's group of rows. -/
theorem left_index : ∀ t : Fin cfg0.N, win0_0.index t = ![t.val % 5, t.val / 5, 0] := by decide +kernel

/-- The right operand's block: the point's step of 2048 rows. -/
theorem right_index : ∀ t : Fin cfg0.N, win0_1.index t = ![t.val % 5, 0] := by decide +kernel

/-- The product of two blocks at an index: the sum over their 2048 columns. -/
def part (x0 : Vec Ideal S16x768x128 .f32) (x1 : Vec Ideal S2048x1024 .bf16) (p : Fin 768) (q : Fin 1024) : EReal :=
  ∑ k : Fin 2048, x0 (ix3 ⟨k.val / 128, by omega⟩ p ⟨k.val % 128, by omega⟩) * x1 (ix2 k q)

/-- One plane of a block. -/
def plane (x0 : Vec Ideal S16x768x128 .f32) (b : Fin 16) : FVec Ideal S768x128 .bf16 := fun i => x0 (ix3 b (i 0) (i 1))

theorem plane_eq (x0 : Vec Ideal S16x768x128 .f32) (b : Fin 16) (h : ∀ a, (![b.val, 0, 0] : Fin 3 → Nat) a + S1x768x128.size a ≤ S16x768x128.size a) :
    truncf .bf16 (shapeCast S768x128 (View.ld x0 (Rect.unit ![b.val, 0, 0] ![1, 768, 128] h) : Vec Ideal S1x768x128 .f32) shapeCasts_S1x768x128_S768x128) bitsLt_bf16_f32 = plane x0 b := by
  funext i
  obtain ⟨p, k, rfl⟩ : ∃ (p : Fin 768) (k : Fin 128), i = ix2 p k := ⟨i 0, i 1, eq_ix2 i⟩
  unfold plane
  pointwise

/-- The sixteen planes side by side. -/
def flat (x0 : Vec Ideal S16x768x128 .f32) : FVec Ideal S768x2048 .bf16 :=
  fun i => x0 (ix3 ⟨(i 1).val / 128, Nat.div_lt_of_lt_mul (i 1).isLt⟩ (i 0) ⟨(i 1).val % 128, Nat.mod_lt _ (by decide)⟩)

theorem flat_eq (x0 : Vec Ideal S16x768x128 .f32) (h) : concatenate S768x2048 1
    [⟨S768x128, plane x0 0⟩,
      ⟨S768x128, plane x0 1⟩,
      ⟨S768x128, plane x0 2⟩,
      ⟨S768x128, plane x0 3⟩,
      ⟨S768x128, plane x0 4⟩,
      ⟨S768x128, plane x0 5⟩,
      ⟨S768x128, plane x0 6⟩,
      ⟨S768x128, plane x0 7⟩,
      ⟨S768x128, plane x0 8⟩,
      ⟨S768x128, plane x0 9⟩,
      ⟨S768x128, plane x0 10⟩,
      ⟨S768x128, plane x0 11⟩,
      ⟨S768x128, plane x0 12⟩,
      ⟨S768x128, plane x0 13⟩,
      ⟨S768x128, plane x0 14⟩,
      ⟨S768x128, plane x0 15⟩] h = flat x0 := by
  funext i
  exact concatenate_ofFn_apply (s₁ := S768x128) 1 (fun b : Fin 16 => plane x0 b) h rfl 128 rfl i
    ⟨(i 1).val / 128, Nat.div_lt_of_lt_mul (i 1).isLt⟩ rfl (ix2 (i 0) ⟨(i 1).val % 128, Nat.mod_lt _ (by decide)⟩) rfl
    (fun a ha => by fin_cases a; · rfl
                    · exact absurd rfl ha)

/-- One point's product of its two blocks. -/
abbrev block (x0 : Vec Ideal S16x768x128 .f32) (x1 : Vec Ideal S2048x1024 .bf16) : FVec Ideal S768x1024 .f32 :=
  k0_pay10 (F := Ideal) (k0_pay1 (View.ld x0 (Rect.unit ![0, 0, 0] ![1, 768, 128] inb_S16x768x128_S1x768x128_0_0_0)))
    (k0_pay2 (View.ld x0 (Rect.unit ![1, 0, 0] ![1, 768, 128] inb_S16x768x128_S1x768x128_1_0_0)))
    (k0_pay3 (View.ld x0 (Rect.unit ![2, 0, 0] ![1, 768, 128] inb_S16x768x128_S1x768x128_2_0_0)))
    (k0_pay4 (View.ld x0 (Rect.unit ![3, 0, 0] ![1, 768, 128] inb_S16x768x128_S1x768x128_3_0_0)))
    (k0_pay5 (View.ld x0 (Rect.unit ![4, 0, 0] ![1, 768, 128] inb_S16x768x128_S1x768x128_4_0_0)))
    (k0_pay6 (View.ld x0 (Rect.unit ![5, 0, 0] ![1, 768, 128] inb_S16x768x128_S1x768x128_5_0_0)))
    (k0_pay7 (View.ld x0 (Rect.unit ![6, 0, 0] ![1, 768, 128] inb_S16x768x128_S1x768x128_6_0_0)))
    (k0_pay8 (View.ld x0 (Rect.unit ![7, 0, 0] ![1, 768, 128] inb_S16x768x128_S1x768x128_7_0_0)))
    (k0_pay9 (View.ld x0 (Rect.unit ![8, 0, 0] ![1, 768, 128] inb_S16x768x128_S1x768x128_8_0_0)))
    (View.ld x0 (Rect.unit ![9, 0, 0] ![1, 768, 128] inb_S16x768x128_S1x768x128_9_0_0))
    (View.ld x0 (Rect.unit ![10, 0, 0] ![1, 768, 128] inb_S16x768x128_S1x768x128_10_0_0))
    (View.ld x0 (Rect.unit ![11, 0, 0] ![1, 768, 128] inb_S16x768x128_S1x768x128_11_0_0))
    (View.ld x0 (Rect.unit ![12, 0, 0] ![1, 768, 128] inb_S16x768x128_S1x768x128_12_0_0))
    (View.ld x0 (Rect.unit ![13, 0, 0] ![1, 768, 128] inb_S16x768x128_S1x768x128_13_0_0))
    (View.ld x0 (Rect.unit ![14, 0, 0] ![1, 768, 128] inb_S16x768x128_S1x768x128_14_0_0))
    (View.ld x0 (Rect.unit ![15, 0, 0] ![1, 768, 128] inb_S16x768x128_S1x768x128_15_0_0)) x1

/-- The block at an index. -/
theorem block_at (x0 : Vec Ideal S16x768x128 .f32) (x1 : Vec Ideal S2048x1024 .bf16) (p : Fin 768) (q : Fin 1024) :
    block x0 x1 (ix2 p q) = part x0 x1 p q := by
  have e0 : k0_pay1 (View.ld x0 (Rect.unit ![0, 0, 0] ![1, 768, 128] inb_S16x768x128_S1x768x128_0_0_0)) = plane x0 0 := plane_eq x0 0 _
  have e1 : k0_pay2 (View.ld x0 (Rect.unit ![1, 0, 0] ![1, 768, 128] inb_S16x768x128_S1x768x128_1_0_0)) = plane x0 1 := plane_eq x0 1 _
  have e2 : k0_pay3 (View.ld x0 (Rect.unit ![2, 0, 0] ![1, 768, 128] inb_S16x768x128_S1x768x128_2_0_0)) = plane x0 2 := plane_eq x0 2 _
  have e3 : k0_pay4 (View.ld x0 (Rect.unit ![3, 0, 0] ![1, 768, 128] inb_S16x768x128_S1x768x128_3_0_0)) = plane x0 3 := plane_eq x0 3 _
  have e4 : k0_pay5 (View.ld x0 (Rect.unit ![4, 0, 0] ![1, 768, 128] inb_S16x768x128_S1x768x128_4_0_0)) = plane x0 4 := plane_eq x0 4 _
  have e5 : k0_pay6 (View.ld x0 (Rect.unit ![5, 0, 0] ![1, 768, 128] inb_S16x768x128_S1x768x128_5_0_0)) = plane x0 5 := plane_eq x0 5 _
  have e6 : k0_pay7 (View.ld x0 (Rect.unit ![6, 0, 0] ![1, 768, 128] inb_S16x768x128_S1x768x128_6_0_0)) = plane x0 6 := plane_eq x0 6 _
  have e7 : k0_pay8 (View.ld x0 (Rect.unit ![7, 0, 0] ![1, 768, 128] inb_S16x768x128_S1x768x128_7_0_0)) = plane x0 7 := plane_eq x0 7 _
  have e8 : k0_pay9 (View.ld x0 (Rect.unit ![8, 0, 0] ![1, 768, 128] inb_S16x768x128_S1x768x128_8_0_0)) = plane x0 8 := plane_eq x0 8 _
  have e9 : truncf .bf16 (shapeCast S768x128 (View.ld x0 (Rect.unit ![9, 0, 0] ![1, 768, 128] inb_S16x768x128_S1x768x128_9_0_0)) shapeCasts_S1x768x128_S768x128) bitsLt_bf16_f32 = plane x0 9 := plane_eq x0 9 _
  have e10 : truncf .bf16 (shapeCast S768x128 (View.ld x0 (Rect.unit ![10, 0, 0] ![1, 768, 128] inb_S16x768x128_S1x768x128_10_0_0)) shapeCasts_S1x768x128_S768x128) bitsLt_bf16_f32 = plane x0 10 := plane_eq x0 10 _
  have e11 : truncf .bf16 (shapeCast S768x128 (View.ld x0 (Rect.unit ![11, 0, 0] ![1, 768, 128] inb_S16x768x128_S1x768x128_11_0_0)) shapeCasts_S1x768x128_S768x128) bitsLt_bf16_f32 = plane x0 11 := plane_eq x0 11 _
  have e12 : truncf .bf16 (shapeCast S768x128 (View.ld x0 (Rect.unit ![12, 0, 0] ![1, 768, 128] inb_S16x768x128_S1x768x128_12_0_0)) shapeCasts_S1x768x128_S768x128) bitsLt_bf16_f32 = plane x0 12 := plane_eq x0 12 _
  have e13 : truncf .bf16 (shapeCast S768x128 (View.ld x0 (Rect.unit ![13, 0, 0] ![1, 768, 128] inb_S16x768x128_S1x768x128_13_0_0)) shapeCasts_S1x768x128_S768x128) bitsLt_bf16_f32 = plane x0 13 := plane_eq x0 13 _
  have e14 : truncf .bf16 (shapeCast S768x128 (View.ld x0 (Rect.unit ![14, 0, 0] ![1, 768, 128] inb_S16x768x128_S1x768x128_14_0_0)) shapeCasts_S1x768x128_S768x128) bitsLt_bf16_f32 = plane x0 14 := plane_eq x0 14 _
  have e15 : truncf .bf16 (shapeCast S768x128 (View.ld x0 (Rect.unit ![15, 0, 0] ![1, 768, 128] inb_S16x768x128_S1x768x128_15_0_0)) shapeCasts_S1x768x128_S768x128) bitsLt_bf16_f32 = plane x0 15 := plane_eq x0 15 _
  have e : block x0 x1 = matmul dot_S768x2048_S2048x1024_S768x1024_1_0_0_1_n_n none (flat x0)
      (shapeCast S2048x1024 (x1 : FVec Ideal S2048x1024 .bf16) shapeCasts_S2048x1024_S2048x1024 : FVec Ideal S2048x1024 .bf16) (constant S768x1024 .f32 0x00000000#32) := by
    unfold block k0_pay10
    dsimp only
    rw [e0, e1, e2, e3, e4, e5, e6, e7, e8, e9, e10, e11, e12, e13, e14, e15, flat_eq]
  rw [e]
  unfold part
  pointwise
  rfl

theorem block_apply (x0 : Vec Ideal S16x768x128 .f32) (x1 : Vec Ideal S2048x1024 .bf16) (j : S768x1024.Idx) :
    block x0 x1 j = part x0 x1 (j 0) (j 1) := by
  have h := block_at x0 x1 (j 0) (j 1)
  rwa [← eq_ix2 j] at h

/-- What the first point of a run stores. -/
theorem store_first (x0 : Vec Ideal S16x768x128 .f32) (x1 : Vec Ideal S2048x1024 .bf16) (j : S768x1024.Idx) :
    k0_pay11 (F := Ideal) (k0_pay1 (View.ld x0 (Rect.unit ![0, 0, 0] ![1, 768, 128] inb_S16x768x128_S1x768x128_0_0_0)))
      (k0_pay2 (View.ld x0 (Rect.unit ![1, 0, 0] ![1, 768, 128] inb_S16x768x128_S1x768x128_1_0_0)))
      (k0_pay3 (View.ld x0 (Rect.unit ![2, 0, 0] ![1, 768, 128] inb_S16x768x128_S1x768x128_2_0_0)))
      (k0_pay4 (View.ld x0 (Rect.unit ![3, 0, 0] ![1, 768, 128] inb_S16x768x128_S1x768x128_3_0_0)))
      (k0_pay5 (View.ld x0 (Rect.unit ![4, 0, 0] ![1, 768, 128] inb_S16x768x128_S1x768x128_4_0_0)))
      (k0_pay6 (View.ld x0 (Rect.unit ![5, 0, 0] ![1, 768, 128] inb_S16x768x128_S1x768x128_5_0_0)))
      (k0_pay7 (View.ld x0 (Rect.unit ![6, 0, 0] ![1, 768, 128] inb_S16x768x128_S1x768x128_6_0_0)))
      (k0_pay8 (View.ld x0 (Rect.unit ![7, 0, 0] ![1, 768, 128] inb_S16x768x128_S1x768x128_7_0_0)))
      (k0_pay9 (View.ld x0 (Rect.unit ![8, 0, 0] ![1, 768, 128] inb_S16x768x128_S1x768x128_8_0_0)))
      (View.ld x0 (Rect.unit ![9, 0, 0] ![1, 768, 128] inb_S16x768x128_S1x768x128_9_0_0))
      (View.ld x0 (Rect.unit ![10, 0, 0] ![1, 768, 128] inb_S16x768x128_S1x768x128_10_0_0))
      (View.ld x0 (Rect.unit ![11, 0, 0] ![1, 768, 128] inb_S16x768x128_S1x768x128_11_0_0))
      (View.ld x0 (Rect.unit ![12, 0, 0] ![1, 768, 128] inb_S16x768x128_S1x768x128_12_0_0))
      (View.ld x0 (Rect.unit ![13, 0, 0] ![1, 768, 128] inb_S16x768x128_S1x768x128_13_0_0))
      (View.ld x0 (Rect.unit ![14, 0, 0] ![1, 768, 128] inb_S16x768x128_S1x768x128_14_0_0))
      (View.ld x0 (Rect.unit ![15, 0, 0] ![1, 768, 128] inb_S16x768x128_S1x768x128_15_0_0)) x1 j = part x0 x1 (j 0) (j 1) := by
  rw [← block_apply x0 x1 j, eq_ix2 j]
  unfold k0_pay11
  pointwise

/-- What a later point of a run stores. -/
theorem store_next (x0 : Vec Ideal S16x768x128 .f32) (x1 : Vec Ideal S2048x1024 .bf16) (a : Vec Ideal S768x1024 .f32) (j : S768x1024.Idx) :
    k0_pay12 (F := Ideal) (k0_pay1 (View.ld x0 (Rect.unit ![0, 0, 0] ![1, 768, 128] inb_S16x768x128_S1x768x128_0_0_0)))
      (k0_pay2 (View.ld x0 (Rect.unit ![1, 0, 0] ![1, 768, 128] inb_S16x768x128_S1x768x128_1_0_0)))
      (k0_pay3 (View.ld x0 (Rect.unit ![2, 0, 0] ![1, 768, 128] inb_S16x768x128_S1x768x128_2_0_0)))
      (k0_pay4 (View.ld x0 (Rect.unit ![3, 0, 0] ![1, 768, 128] inb_S16x768x128_S1x768x128_3_0_0)))
      (k0_pay5 (View.ld x0 (Rect.unit ![4, 0, 0] ![1, 768, 128] inb_S16x768x128_S1x768x128_4_0_0)))
      (k0_pay6 (View.ld x0 (Rect.unit ![5, 0, 0] ![1, 768, 128] inb_S16x768x128_S1x768x128_5_0_0)))
      (k0_pay7 (View.ld x0 (Rect.unit ![6, 0, 0] ![1, 768, 128] inb_S16x768x128_S1x768x128_6_0_0)))
      (k0_pay8 (View.ld x0 (Rect.unit ![7, 0, 0] ![1, 768, 128] inb_S16x768x128_S1x768x128_7_0_0)))
      (k0_pay9 (View.ld x0 (Rect.unit ![8, 0, 0] ![1, 768, 128] inb_S16x768x128_S1x768x128_8_0_0)))
      (View.ld x0 (Rect.unit ![9, 0, 0] ![1, 768, 128] inb_S16x768x128_S1x768x128_9_0_0))
      (View.ld x0 (Rect.unit ![10, 0, 0] ![1, 768, 128] inb_S16x768x128_S1x768x128_10_0_0))
      (View.ld x0 (Rect.unit ![11, 0, 0] ![1, 768, 128] inb_S16x768x128_S1x768x128_11_0_0))
      (View.ld x0 (Rect.unit ![12, 0, 0] ![1, 768, 128] inb_S16x768x128_S1x768x128_12_0_0))
      (View.ld x0 (Rect.unit ![13, 0, 0] ![1, 768, 128] inb_S16x768x128_S1x768x128_13_0_0))
      (View.ld x0 (Rect.unit ![14, 0, 0] ![1, 768, 128] inb_S16x768x128_S1x768x128_14_0_0))
      (View.ld x0 (Rect.unit ![15, 0, 0] ![1, 768, 128] inb_S16x768x128_S1x768x128_15_0_0)) x1 a j = a j + part x0 x1 (j 0) (j 1) := by
  rw [← block_apply x0 x1 j, eq_ix2 j]
  unfold k0_pay12
  pointwise

variable (m : (ℓ : Loc nD τ sig) → Buf (Elt Ideal) ℓ)

/-- The two arguments as arrays. -/
abbrev rows (c : Dev nD) : FVec Ideal S80x8448x128 .f32 := m ((c : Thread nD τ).loc main_arg0)
abbrev weight (c : Dev nD) : FVec Ideal S1024x9248 .f32 := m ((c : Thread nD τ).loc main_arg1)

/-- The padded and transposed weight the call reads. -/
theorem padded (c : Dev nD) : V m c main_v2 = transpose S10240x1024 [1, 0]
    (pad S1024x10240 ![0, 0] ![0, 992] ![0, 0] (truncf .bf16 (weight m c) bitsLt_bf16_f32) (sitofp .bf16 (constantI S_ 32 0#32)) pads_S1024x9248_S1024x10240_000_09920 h_S_)
    transposes_S1024x10240_S10240x1024_1_0 := by
  simp only [V, hostOps0, hostOps0_1, hostOps0_2, List.flatten_cons, List.flatten_nil, List.append_nil, List.cons_append, List.nil_append]
  after_results
  rfl

/-- What a point adds to the accumulator. -/
def term (c : Dev nD) (t : Fin cfg0.N) (j : S768x1024.Idx) : EReal :=
  part (iblk m c 0 t) (iblk m c 1 t) (j 0) (j 1)

theorem acc_first (c : Dev nD) (t : Fin cfg0.N) (h : t.val % 5 = 0) (j : S768x1024.Idx) :
    (outsAt0 m c t.val t.isLt).2 j = 0 + term m c t j := by
  rw [outsAt0_A m c t h (by omega) (by omega)]
  frame_out
  rw [store_first, zero_add]
  rfl

theorem acc_next (c : Dev nD) (t : Fin cfg0.N) (h : ¬t.val % 5 = 0) (j : S768x1024.Idx) :
    (outsAt0 m c t.val t.isLt).2 j = (outsAt0 m c (t.val - 1) (Nat.lt_of_le_of_lt (Nat.sub_le _ _) t.isLt)).2 j + term m c t j := by
  by_cases h2 : t.val % 5 = 4
  · rw [outsAt0_C m c t h (by omega) h2]
    frame_out
    rw [store_next]
    exact congrArg (· + _) (congrFun (read_unread_whole cc0_scratch0 (Memref.isWhole_whole _) _) j)
  · rw [outsAt0_B m c t h (by omega) h2]
    frame_out
    rw [store_next]
    exact congrArg (· + _) (congrFun (read_unread_whole cc0_scratch0 (Memref.isWhole_whole _) _) j)

theorem out_last (c : Dev nD) (t : Fin cfg0.N) (h : t.val % 5 = 4) (j : S768x1024.Idx) :
    (outsAt0 m c t.val t.isLt).1 j = (outsAt0 m c t.val t.isLt).2 j := by
  rw [outsAt0_C m c t (by omega) (by omega) h]
  frame_out

/-- The last point of a run holds the sum over the run's points. -/
theorem out_run (c : Dev nD) (t : Fin cfg0.N) (h : t.val % 5 = 4) (j : S768x1024.Idx) :
    (outsAt0 m c t.val t.isLt).1 j = ∑ s : Fin 5, term m c ⟨5 * (t.val / 5) + s.val, by have := s.isLt; have := t.isLt; have : cfg0.N = 55 := N_0; omega⟩ j := by
  rw [out_last m c t h j, Pipeline.eq_sum_fin_of_reset_step_apply_of_flush (fun n h => (outsAt0 m c n h).2) 5 (fun _ => 0) (term m c)
    (fun t h j => acc_first m c t h j) (fun t h j => acc_next m c t h j) t h j, zero_add]

theorem same_point (c : Dev nD) {n n' : ℕ} (e : n = n') (h : n < cfg0.N) (h' : n' < cfg0.N) : outsAt0 m c n h = outsAt0 m c n' h' := by
  subst e
  rfl

/-- The padded weight at an index: the weight's column, or zero past its last. -/
theorem padded_at (c : Dev nD) (n : Fin 10240) (q : Fin 1024) :
    (V m c main_v2 : FVec Ideal S10240x1024 .bf16) (ix2 n q) = if h : n.val < 9248 then weight m c (ix2 q ⟨n.val, h⟩) else 0 := by
  rw [padded]
  pointwise
  have z : (FloatOps.sitofp FTy.bf16 0#32 : Ideal .bf16) = 0 := by simp [FloatOps.sitofp]
  rw [z]

/-- The kernel's result over the padded columns. -/
theorem result_padded (c : Dev nD) (r : Fin 8448) (q : Fin 1024) :
    Value.G2 m c (ix2 r q) = ∑ n : Fin 10240, rows m c (ix3 ⟨n.val / 128, by omega⟩ r ⟨n.val % 128, by omega⟩) * (V m c main_v2 : FVec Ideal S10240x1024 .bf16) (ix2 n q) := by
  have hN : cfg0.N = 55 := N_0
  have hr := r.isLt
  have hq := q.isLt
  have hp : 5 * (r.val / 768) + 4 < cfg0.N := by omega
  have e : Value.G2 m c (ix2 r q) = (outsAt0 m c (5 * (r.val / 768) + 4) hp).1 (ix2 ⟨r.val % 768, by omega⟩ q) := by
    have hl : Value.loc2Of (ix2 r q) = ix2 ⟨r.val % 768, by omega⟩ q := by
      funext a
      fin_cases a
      · rfl
      · exact Fin.ext (Nat.mod_eq_of_lt q.isLt)
    have hq : Value.pt2Of (ix2 r q) = 5 * (r.val / 768) + 4 := by
      have : q.val / 1024 = 0 := Nat.div_eq_of_lt q.isLt
      show 5 * (1 * (r.val / 768 - 0) + 1 * (q.val / 1024 - 0)) + 4 = _
      omega
    unfold Value.G2
    rw [dif_pos (hq ▸ hp : Value.pt2Of (ix2 r q) < cfg0.N), ← Value.outsAt0_sweep m c (Value.pt2Of (ix2 r q)) (hq ▸ hp), hl]
    exact congrArg (·.1 (ix2 ⟨r.val % 768, by omega⟩ q)) (same_point m c hq _ _)
  rw [e, out_run m c ⟨5 * (r.val / 768) + 4, hp⟩ (by dsimp only; omega)]
  refine Fin.sum_mul_add_congr fun s k hl => ?_
  have hs' := s.isLt
  have hk' := k.isLt
  refine congrArg₂ (· * ·) ?_ ?_
  · blk_ext [iblk, rows, V, left_index]
  · exact congrArg (V m c main_v2) (by blk_ext [right_index])

/-- Rows past the weight's last column add nothing. -/
theorem cut (x : FVec Ideal S80x8448x128 .f32) (v : FVec Ideal S10240x1024 .bf16) (w : FVec Ideal S1024x9248 .f32)
    (hv : ∀ (n : Fin 10240) (q : Fin 1024), v (ix2 n q) = if h : n.val < 9248 then w (ix2 q ⟨n.val, h⟩) else 0) (r : Fin 8448) (q : Fin 1024) :
    ∑ n : Fin 10240, x (ix3 ⟨n.val / 128, by omega⟩ r ⟨n.val % 128, by omega⟩) * v (ix2 n q)
      = ∑ n : Fin 9248, x (ix3 ⟨n.val / 128, by omega⟩ r ⟨n.val % 128, by omega⟩) * w (ix2 q n) := by
  refine (Fin.sum_univ_add (a := 9248) (b := 992) _).trans ?_
  refine (congrArg₂ (· + ·) (Finset.sum_congr rfl fun n _ => ?_) (Finset.sum_eq_zero fun n _ => ?_)).trans (add_zero _)
  · have hn : (Fin.castAdd 992 n).val < 9248 := n.isLt
    rw [hv, dif_pos hn]
    rfl
  · rw [hv, dif_neg (by simp), mul_zero]

/-- The kernel's result: the padding adds nothing. -/
theorem result_at (c : Dev nD) (r : Fin 8448) (q : Fin 1024) :
    Value.G2 m c (ix2 r q) = ∑ n : Fin 9248, rows m c (ix3 ⟨n.val / 128, by omega⟩ r ⟨n.val % 128, by omega⟩) * weight m c (ix2 q n) :=
  (result_padded m c r q).trans (cut (rows m c) (V m c main_v2) (weight m c) (padded_at m c) r q)
end Cert.Prod3

namespace Cert.Prod3.Ref
open Cert.Reference3Ideal Cert.Reference3Ideal.Gen Idealize.ShloMosaic Idealize.ShloMosaic.TcCoe
open scoped BigOperators

/-- The reference's result at a row and a column. -/
theorem result_at (y : FVec Ideal S80x8448x128 .f32) (w : FVec Ideal S1024x9248 .f32) (r : Fin 8448) (q : Fin 1024) :
    (shapeCast S8448x1024 (Host.dotGeneral dot_S1x8448x9248_S1024x9248_S1x8448x1024_2_1_01_0_n_n none
      (extractStridedSlice S1x8448x9248 ![0, 0, 0] (shapeCast _ (transpose S8448x80x128 [1, 0, 2] y transposes_S80x8448x128_S8448x80x128_1_0_2) shapeCasts_S8448x80x128_S1x8448x10240) slices_S1x8448x10240_S1x8448x9248_0_0_0)
      w) shapeCasts_S1x8448x1024_S8448x1024 : FVec Ideal S8448x1024 .f32) (ix2 r q)
      = ∑ n : Fin 9248, y (ix3 ⟨n.val / 128, by omega⟩ r ⟨n.val % 128, by omega⟩) * w (ix2 q n) := by
  pointwise
end Cert.Prod3.Ref

namespace Cert.Prod3
open Idealize.ShloMosaic Idealize.SL.Sem

theorem algebraic : algebraic_Kernel3Ideal_Reference3Ideal := by
  intro m g m' g' _ hargs
  refine ⟨fun c => Cert.Kernel3Ideal.Value.G2 m c, Cert.Kernel3Ideal.Value.run m g, ?_⟩
  refine (θ_run _ _ _).mono (fun r h c => ⟨(h c).1.trans ?_, (h c).2.1, (h c).2.2⟩) (Cert.Reference3Ideal.Value.run m' g')
  rw [(hargs c).1, (hargs c).2]
  funext j
  obtain ⟨p, n, rfl⟩ : ∃ (p : Fin 8448) (n : Fin 1024), j = ix2 p n := ⟨j 0, j 1, eq_ix2 j⟩
  exact (Cert.Prod3.Ref.result_at _ _ p n).trans (result_at m c p n).symm
end Cert.Prod3
-- ==== Proof.Prod4.lean ====
/- The gradient of the output projection's weight: the tiled product over the rows is the whole product. -/
module

public import proofs.«01_k».proof.Proof.Gen.Kernel4Ideal.Value
public import proofs.«01_k».proof.Proof.Gen.Reference4Ideal.Run
public import proofs.«01_k».proof.Defs
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Prod4
open Cert.Kernel4Ideal Cert.Kernel4Ideal.Gen Idealize.ShloMosaic Idealize.ShloMosaic.TcCoe
open scoped BigOperators

/-- Both operands' blocks start at the point's step of 2048 rows; the left one at the run's group of columns. -/
theorem left_index : ∀ t : Fin cfg0.N, win0_0.index t = ![t.val % 4, t.val / 4] := by decide +kernel

theorem right_index : ∀ t : Fin cfg0.N, win0_1.index t = ![t.val % 4, 0] := by decide +kernel

/-- The product of two blocks at an index: the sum over their 2048 rows. -/
def part (x0 x1 : Vec Ideal S2048x1024 .bf16) (p q : Fin 1024) : EReal :=
  ∑ k : Fin 2048, x0 (ix2 k p) * x1 (ix2 k q)

/-- What the first point of a run stores. -/
theorem store_first (x0 x1 : Vec Ideal S2048x1024 .bf16) (j : S1024x1024.Idx) :
    k0_pay2 (F := Ideal) x0 x1 j = part x0 x1 (j 0) (j 1) := by
  obtain ⟨p, q, rfl⟩ : ∃ p q : Fin 1024, j = ix2 p q := ⟨j 0, j 1, eq_ix2 j⟩
  show _ = part x0 x1 p q
  unfold part
  pointwise [k0_pay2, k0_pay1]

/-- What a later point of a run stores. -/
theorem store_next (x0 x1 : Vec Ideal S2048x1024 .bf16) (a : Vec Ideal S1024x1024 .f32) (j : S1024x1024.Idx) :
    k0_pay3 (F := Ideal) x0 x1 a j = a j + part x0 x1 (j 0) (j 1) := by
  obtain ⟨p, q, rfl⟩ : ∃ p q : Fin 1024, j = ix2 p q := ⟨j 0, j 1, eq_ix2 j⟩
  show _ = _ + part x0 x1 p q
  unfold part
  pointwise [k0_pay3, k0_pay1]

variable (m : (ℓ : Loc nD τ sig) → Buf (Elt Ideal) ℓ)

/-- What a point adds to the accumulator. -/
def term (c : Dev nD) (t : Fin cfg0.N) (j : S1024x1024.Idx) : EReal :=
  part (iblk m c 0 t) (iblk m c 1 t) (j 0) (j 1)

theorem acc_first (c : Dev nD) (t : Fin cfg0.N) (h : t.val % 4 = 0) (j : S1024x1024.Idx) :
    (outsAt0 m c t.val t.isLt).2 j = 0 + term m c t j := by
  rw [outsAt0_A m c t h (by omega) (by omega)]
  frame_out
  rw [store_first, zero_add]
  rfl

theorem acc_next (c : Dev nD) (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + term m c t j := by
  by_cases h2 : t.val % 4 = 3
  · rw [outsAt0_C m c t h (by omega) h2]
    frame_out
    rw [store_next]
    exact congrArg (· + _) (congrFun (read_unread_whole cc0_scratch0 (Memref.isWhole_whole _) _) j)
  · rw [outsAt0_B m c t h (by omega) h2]
    frame_out
    rw [store_next]
    exact congrArg (· + _) (congrFun (read_unread_whole cc0_scratch0 (Memref.isWhole_whole _) _) j)

theorem out_last (c : Dev nD) (t : Fin cfg0.N) (h : t.val % 4 = 3) (j : S1024x1024.Idx) :
    (outsAt0 m c t.val t.isLt).1 j = (outsAt0 m c t.val t.isLt).2 j := by
  rw [outsAt0_C m c t (by omega) (by omega) h]
  frame_out

/-- The last point of a run holds the sum over the run's points. -/
theorem out_run (c : Dev nD) (t : Fin cfg0.N) (h : t.val % 4 = 3) (j : S1024x1024.Idx) :
    (outsAt0 m c t.val t.isLt).1 j = ∑ s : Fin 4, term m c ⟨4 * (t.val / 4) + s.val, by have := s.isLt; have := t.isLt; have : cfg0.N = 8 := N_0; omega⟩ j := by
  rw [out_last m c t h j, Pipeline.eq_sum_fin_of_reset_step_apply_of_flush (fun n h => (outsAt0 m c n h).2) 4 (fun _ => 0) (term m c)
    (fun t h j => acc_first m c t h j) (fun t h j => acc_next m c t h j) t h j, zero_add]

/-- The two arguments as arrays. -/
abbrev lhs (c : Dev nD) : FVec Ideal S8192x2048 .bf16 := m ((c : Thread nD τ).loc main_arg0)
abbrev rhs (c : Dev nD) : FVec Ideal S8192x1024 .bf16 := m ((c : Thread nD τ).loc main_arg1)

theorem same_point (c : Dev nD) {n n' : ℕ} (e : n = n') (h : n < cfg0.N) (h' : n' < cfg0.N) : outsAt0 m c n h = outsAt0 m c n' h' := by
  subst e
  rfl

/-- The kernel's result at an index: the sum over all rows. -/
theorem result_at (c : Dev nD) (p : Fin 2048) (q : Fin 1024) :
    Value.G2 m c (ix2 p q) = ∑ r : Fin 8192, lhs m c (ix2 r p) * rhs m c (ix2 r q) := by
  have hN : cfg0.N = 8 := N_0
  have hp := p.isLt
  have hq := q.isLt
  have ht : 4 * (p.val / 1024) + 3 < cfg0.N := by omega
  have e : Value.G2 m c (ix2 p q) = (outsAt0 m c (4 * (p.val / 1024) + 3) ht).1 (ix2 ⟨p.val % 1024, by omega⟩ q) := by
    have hl : Value.loc2Of (ix2 p q) = ix2 ⟨p.val % 1024, by omega⟩ q := by
      funext a
      fin_cases a
      · rfl
      · exact Fin.ext (Nat.mod_eq_of_lt q.isLt)
    have hi : Value.pt2Of (ix2 p q) = 4 * (p.val / 1024) + 3 := by
      have : q.val / 1024 = 0 := Nat.div_eq_of_lt q.isLt
      show 4 * (1 * (p.val / 1024 - 0) + 1 * (q.val / 1024 - 0)) + 3 = _
      omega
    unfold Value.G2
    rw [dif_pos (hi ▸ ht : Value.pt2Of (ix2 p q) < cfg0.N), ← Value.outsAt0_sweep m c (Value.pt2Of (ix2 p q)) (hi ▸ ht), hl]
    exact congrArg (·.1 (ix2 ⟨p.val % 1024, by omega⟩ q)) (same_point m c hi _ _)
  rw [e, out_run m c ⟨4 * (p.val / 1024) + 3, ht⟩ (by dsimp only; omega)]
  refine Fin.sum_mul_add_congr fun s k hl => ?_
  have hs' := s.isLt
  have hk' := k.isLt
  refine congrArg₂ (· * ·) ?_ ?_
  · blk_ext [iblk, lhs, V, left_index]
  · blk_ext [iblk, rhs, V, right_index]
end Cert.Prod4

namespace Cert.Prod4.Ref
open Cert.Reference4Ideal Cert.Reference4Ideal.Gen Idealize.ShloMosaic Idealize.ShloMosaic.TcCoe
open scoped BigOperators

/-- The reference's result at an index. -/
theorem result_at (x : FVec Ideal S8192x2048 .bf16) (y : FVec Ideal S8192x1024 .bf16) (p : Fin 2048) (q : Fin 1024) :
    (transpose S2048x1024 [1, 0] (Host.dotGeneral dot_S8192x1024_S8192x2048_S1024x2048_0_0_1_1_n_n none (extf .f32 y bitsLt_bf16_f32) (extf .f32 x bitsLt_bf16_f32))
      transposes_S1024x2048_S2048x1024_1_0 : FVec Ideal S2048x1024 .f32) (ix2 p q) = ∑ r : Fin 8192, x (ix2 r p) * y (ix2 r q) := by
  pointwise
  exact Finset.sum_congr rfl fun r _ => mul_comm _ _
end Cert.Prod4.Ref

namespace Cert.Prod4
open Idealize.ShloMosaic Idealize.SL.Sem

theorem algebraic : algebraic_Kernel4Ideal_Reference4Ideal := by
  intro m g m' g' _ hargs
  refine ⟨fun c => Cert.Kernel4Ideal.Value.G2 m c, Cert.Kernel4Ideal.Value.run m g, ?_⟩
  refine (θ_run _ _ _).mono (fun r h c => ⟨(h c).1.trans ?_, (h c).2.1, (h c).2.2⟩) (Cert.Reference4Ideal.Value.run m' g')
  rw [(hargs c).1, (hargs c).2]
  funext j
  obtain ⟨p, n, rfl⟩ : ∃ (p : Fin 2048) (n : Fin 1024), j = ix2 p n := ⟨j 0, j 1, eq_ix2 j⟩
  exact (Cert.Prod4.Ref.result_at _ _ p n).trans (result_at m c p n).symm
end Cert.Prod4
-- ==== Proof.Prod5.lean ====
/- The gradient of the output projection's rows: each tile of the product is the whole product's. -/
module

public import proofs.«01_k».proof.Proof.Gen.Kernel5Ideal.Value
public import proofs.«01_k».proof.Proof.Gen.Reference5Ideal.Run
public import proofs.«01_k».proof.Defs
public import Idealize.ShloMosaic.Lib.Pipeline.ValueKit
public import Idealize.ShloMosaic.Lib.Pointwise

@[expose] public section

set_option maxRecDepth 16384

noncomputable section

namespace Cert.Prod5

open Cert.Kernel5Ideal Cert.Kernel5Ideal.Gen Idealize.ShloMosaic Idealize.ShloMosaic.TcCoe
open scoped BigOperators

theorem left_index : ∀ t : Fin cfg0.N, win0_0.index t = ![t.val % 8, 0] := by decide +kernel

theorem right_index : ∀ t : Fin cfg0.N, win0_1.index t = ![0, t.val / 8] := by decide +kernel

theorem out_index : ∀ t : Fin cfg0.N, win0_2.index t = ![t.val % 8, t.val / 8] := by decide +kernel

/-- One point's product: the whole contracted axis at once. -/
theorem block_apply (x0 : Vec Ideal S1024x1024 .bf16) (x1 : Vec Ideal S1024x1024 .bf16) (p q : Fin 1024) :
    k0_pay2 (F := Ideal) x0 x1 (ix2 p q) = ∑ k : Fin 1024, x0 (ix2 p k) * x1 (ix2 k q) := by
  pointwise [k0_pay2, k0_pay1]

variable (m : (ℓ : Loc nD τ sig) → Buf (Elt Ideal) ℓ)

/-- The two arguments as arrays. -/
abbrev rows (c : Dev nD) : FVec Ideal S8192x1024 .bf16 := m ((c : Thread nD τ).loc main_arg0)
abbrev weight (c : Dev nD) : FVec Ideal S2048x1024 .f32 := m ((c : Thread nD τ).loc main_arg1)

/-- The transposed weight the call reads. -/
theorem host_at (c : Dev nD) (k : Fin 1024) (q : Fin 2048) : (V m c main_v1 : FVec Ideal S1024x2048 .bf16) (ix2 k q) = weight m c (ix2 q k) := by
  have e : V m c main_v1 = transpose S1024x2048 [1, 0] (truncf .bf16 (weight m c) bitsLt_bf16_f32) transposes_S2048x1024_S1024x2048_1_0 := by
    simp only [V, hostOps0, List.flatten_cons, List.flatten_nil, List.append_nil, List.cons_append, List.nil_append]
    after_results
  rw [e]
  pointwise

/-- The kernel's result at an index. -/
theorem result_at (c : Dev nD) (p : Fin 8192) (q : Fin 2048) :
    ((dats m 0 c).arrAt 2 cfg0.N : FVec Ideal S8192x2048 .f32) (ix2 p q) = ∑ k : Fin 1024, rows m c (ix2 p k) * weight m c (ix2 q k) := by
  have hN : cfg0.N = 16 := N_0
  have hp := p.isLt
  have hq := q.isLt
  have ht : 8 * (q.val / 1024) + p.val / 1024 < cfg0.N := by omega
  have e := congrFun (Value.blocks2 m c ⟨8 * (q.val / 1024) + p.val / 1024, ht⟩ (flush0_2 _)) (ix2 ⟨p.val % 1024, by omega⟩ ⟨q.val % 1024, by omega⟩)
  rw [Value.flushed2_A] at e
  have hi : ((cfg0.win 2).blk ⟨8 * (q.val / 1024) + p.val / 1024, ht⟩).view.emb (ix2 ⟨p.val % 1024, by omega⟩ ⟨q.val % 1024, by omega⟩) = ix2 p q := by
    blk_ext [out_index]
  refine Eq.trans ?_ (e.trans ?_)
  · exact congrArg ((dats m 0 c).arrAt 2 cfg0.N) hi.symm
  · show out0_A_2 _ _ _ _ _ _ _ _ _ _ _ _ _ _ _ (ix2 ⟨p.val % 1024, by omega⟩ ⟨q.val % 1024, by omega⟩) = _
    frame_out
    refine (block_apply _ _ _ _).trans (Finset.sum_congr rfl fun k _ => ?_)
    have hk := k.isLt
    refine congrArg₂ (· * ·) ?_ ?_
    · blk_ext [iblk, rows, V, left_index]
    · refine Eq.trans ?_ (host_at m c k q)
      exact congrArg (V m c main_v1) (by blk_ext [right_index])
end Cert.Prod5

namespace Cert.Prod5.Ref
open Cert.Reference5Ideal Cert.Reference5Ideal.Gen Idealize.ShloMosaic Idealize.ShloMosaic.TcCoe
open scoped BigOperators

/-- The reference's result at an index. -/
theorem result_at (x : FVec Ideal S8192x1024 .bf16) (w : FVec Ideal S2048x1024 .f32) (p : Fin 8192) (q : Fin 2048) :
    (Host.dotGeneral dot_S8192x1024_S2048x1024_S8192x2048_1_1_0_0_n_n none (extf .f32 x bitsLt_bf16_f32) w : FVec Ideal S8192x2048 .f32) (ix2 p q) = ∑ k : Fin 1024, x (ix2 p k) * w (ix2 q k) := by
  pointwise
end Cert.Prod5.Ref

namespace Cert.Prod5
open Idealize.ShloMosaic Idealize.SL.Sem

theorem algebraic : algebraic_Kernel5Ideal_Reference5Ideal := by
  intro m g m' g' _ hargs
  refine ⟨fun c => (Cert.Kernel5Ideal.Gen.dats m 0 c).arrAt 2 Cert.Kernel5Ideal.cfg0.N, Cert.Kernel5Ideal.Value.run_blocks m g, ?_⟩
  refine (θ_run _ _ _).mono (fun r h c => ⟨(h c).1.trans ?_, (h c).2.1, (h c).2.2⟩) (Cert.Reference5Ideal.Value.run m' g')
  rw [(hargs c).1, (hargs c).2]
  funext j
  obtain ⟨p, n, rfl⟩ : ∃ (p : Fin 8192) (n : Fin 2048), j = ix2 p n := ⟨j 0, j 1, eq_ix2 j⟩
  exact (Cert.Prod5.Ref.result_at _ _ p n).trans (result_at m c p n).symm
end Cert.Prod5
-- ==== Proof.Prod6.lean ====
/- The input projection: each tile of the product over the padded weight, its columns in blocks of 128, is the whole product's. -/
module

public import proofs.«01_k».proof.Proof.Gen.Kernel6Ideal.Value
public import proofs.«01_k».proof.Proof.Gen.Reference6Ideal.Run
public import proofs.«01_k».proof.Defs
public import Idealize.ShloMosaic.Lib.Pipeline.ValueKit
public import Idealize.ShloMosaic.Lib.Pointwise

@[expose] public section

set_option maxRecDepth 16384

noncomputable section

namespace Cert.Prod6

open Cert.Kernel6Ideal Cert.Kernel6Ideal.Gen Idealize.ShloMosaic Idealize.ShloMosaic.TcCoe
open scoped BigOperators

theorem left_index : ∀ t : Fin cfg0.N, win0_0.index t = ![t.val % 11, 0] := by decide +kernel

theorem right_index : ∀ t : Fin cfg0.N, win0_1.index t = ![0, t.val / 11] := by decide +kernel

theorem out_index : ∀ t : Fin cfg0.N, win0_2.index t = ![t.val / 11, t.val % 11, 0] := by decide +kernel

/-- One point's product: the whole contracted axis at once. -/
theorem block_apply (x0 : Vec Ideal S768x1024 .bf16) (x1 : Vec Ideal S1024x1024 .bf16) (p : Fin 768) (q : Fin 1024) :
    k0_pay2 (F := Ideal) x0 x1 (ix2 p q) = ∑ k : Fin 1024, x0 (ix2 p k) * x1 (ix2 k q) := by
  pointwise [k0_pay2, k0_pay1]

/-- A block of 1024 columns read at a column block and a column within it. -/
def at_flat (v : Vec Ideal S768x1024 .f32) (y : S8x768x128.Idx) : EReal :=
  v (ix2 (y 1) ⟨128 * (y 0).val + (y 2).val, by have h : (y 0).val < 8 := (y 0).isLt; have h' : (y 2).val < 128 := (y 2).isLt; omega⟩)

theorem tile0 (v : Vec Ideal S768x1024 .f32) (y : S8x768x128.Idx) : View.TileAt (Val := Elt Ideal) (e := EltTy.f32) y ![0, 0, 0] ![1, 768, 128] (k0_pay5 (F := Ideal) v) (at_flat v y) := by
  intro x hx
  obtain ⟨u, p, l, rfl⟩ : ∃ (u : Fin 1) (p : Fin 768) (l : Fin 128), x = ix3 u p l := ⟨x 0, x 1, x 2, eq_ix3 x⟩
  have h0 : (y 0 : Nat) = 0 + u.val := hx 0
  have h1 : (y 1 : Nat) = 0 + p.val := hx 1
  have h2 : (y 2 : Nat) = 0 + l.val := hx 2
  have hu := u.isLt
  have e : at_flat v y = v (ix2 p ⟨128 * 0 + l.val, by omega⟩) :=
    congrArg₂ (fun a d => v (ix2 a d)) (Fin.ext (by omega)) (Fin.ext (by show 128 * (y 0).val + (y 2).val = 128 * 0 + l.val; omega))
  rw [e]
  pointwise [k0_pay5]

theorem tile1 (v : Vec Ideal S768x1024 .f32) (y : S8x768x128.Idx) : View.TileAt (Val := Elt Ideal) (e := EltTy.f32) y ![1, 0, 0] ![1, 768, 128] (k0_pay6 (F := Ideal) v) (at_flat v y) := by
  intro x hx
  obtain ⟨u, p, l, rfl⟩ : ∃ (u : Fin 1) (p : Fin 768) (l : Fin 128), x = ix3 u p l := ⟨x 0, x 1, x 2, eq_ix3 x⟩
  have h0 : (y 0 : Nat) = 1 + u.val := hx 0
  have h1 : (y 1 : Nat) = 0 + p.val := hx 1
  have h2 : (y 2 : Nat) = 0 + l.val := hx 2
  have hu := u.isLt
  have e : at_flat v y = v (ix2 p ⟨128 * 1 + l.val, by omega⟩) :=
    congrArg₂ (fun a d => v (ix2 a d)) (Fin.ext (by omega)) (Fin.ext (by show 128 * (y 0).val + (y 2).val = 128 * 1 + l.val; omega))
  rw [e]
  pointwise [k0_pay6]

theorem tile2 (v : Vec Ideal S768x1024 .f32) (y : S8x768x128.Idx) : View.TileAt (Val := Elt Ideal) (e := EltTy.f32) y ![2, 0, 0] ![1, 768, 128] (k0_pay7 (F := Ideal) v) (at_flat v y) := by
  intro x hx
  obtain ⟨u, p, l, rfl⟩ : ∃ (u : Fin 1) (p : Fin 768) (l : Fin 128), x = ix3 u p l := ⟨x 0, x 1, x 2, eq_ix3 x⟩
  have h0 : (y 0 : Nat) = 2 + u.val := hx 0
  have h1 : (y 1 : Nat) = 0 + p.val := hx 1
  have h2 : (y 2 : Nat) = 0 + l.val := hx 2
  have hu := u.isLt
  have e : at_flat v y = v (ix2 p ⟨128 * 2 + l.val, by omega⟩) :=
    congrArg₂ (fun a d => v (ix2 a d)) (Fin.ext (by omega)) (Fin.ext (by show 128 * (y 0).val + (y 2).val = 128 * 2 + l.val; omega))
  rw [e]
  pointwise [k0_pay7]

theorem tile3 (v : Vec Ideal S768x1024 .f32) (y : S8x768x128.Idx) : View.TileAt (Val := Elt Ideal) (e := EltTy.f32) y ![3, 0, 0] ![1, 768, 128] (k0_pay8 (F := Ideal) v) (at_flat v y) := by
  intro x hx
  obtain ⟨u, p, l, rfl⟩ : ∃ (u : Fin 1) (p : Fin 768) (l : Fin 128), x = ix3 u p l := ⟨x 0, x 1, x 2, eq_ix3 x⟩
  have h0 : (y 0 : Nat) = 3 + u.val := hx 0
  have h1 : (y 1 : Nat) = 0 + p.val := hx 1
  have h2 : (y 2 : Nat) = 0 + l.val := hx 2
  have hu := u.isLt
  have e : at_flat v y = v (ix2 p ⟨128 * 3 + l.val, by omega⟩) :=
    congrArg₂ (fun a d => v (ix2 a d)) (Fin.ext (by omega)) (Fin.ext (by show 128 * (y 0).val + (y 2).val = 128 * 3 + l.val; omega))
  rw [e]
  pointwise [k0_pay8]

theorem tile4 (v : Vec Ideal S768x1024 .f32) (y : S8x768x128.Idx) : View.TileAt (Val := Elt Ideal) (e := EltTy.f32) y ![4, 0, 0] ![1, 768, 128] (k0_pay9 (F := Ideal) v) (at_flat v y) := by
  intro x hx
  obtain ⟨u, p, l, rfl⟩ : ∃ (u : Fin 1) (p : Fin 768) (l : Fin 128), x = ix3 u p l := ⟨x 0, x 1, x 2, eq_ix3 x⟩
  have h0 : (y 0 : Nat) = 4 + u.val := hx 0
  have h1 : (y 1 : Nat) = 0 + p.val := hx 1
  have h2 : (y 2 : Nat) = 0 + l.val := hx 2
  have hu := u.isLt
  have e : at_flat v y = v (ix2 p ⟨128 * 4 + l.val, by omega⟩) :=
    congrArg₂ (fun a d => v (ix2 a d)) (Fin.ext (by omega)) (Fin.ext (by show 128 * (y 0).val + (y 2).val = 128 * 4 + l.val; omega))
  rw [e]
  pointwise [k0_pay9]

theorem tile5 (v : Vec Ideal S768x1024 .f32) (y : S8x768x128.Idx) : View.TileAt (Val := Elt Ideal) (e := EltTy.f32) y ![5, 0, 0] ![1, 768, 128] (k0_pay10 (F := Ideal) v) (at_flat v y) := by
  intro x hx
  obtain ⟨u, p, l, rfl⟩ : ∃ (u : Fin 1) (p : Fin 768) (l : Fin 128), x = ix3 u p l := ⟨x 0, x 1, x 2, eq_ix3 x⟩
  have h0 : (y 0 : Nat) = 5 + u.val := hx 0
  have h1 : (y 1 : Nat) = 0 + p.val := hx 1
  have h2 : (y 2 : Nat) = 0 + l.val := hx 2
  have hu := u.isLt
  have e : at_flat v y = v (ix2 p ⟨128 * 5 + l.val, by omega⟩) :=
    congrArg₂ (fun a d => v (ix2 a d)) (Fin.ext (by omega)) (Fin.ext (by show 128 * (y 0).val + (y 2).val = 128 * 5 + l.val; omega))
  rw [e]
  pointwise [k0_pay10]

theorem tile6 (v : Vec Ideal S768x1024 .f32) (y : S8x768x128.Idx) : View.TileAt (Val := Elt Ideal) (e := EltTy.f32) y ![6, 0, 0] ![1, 768, 128] (k0_pay11 (F := Ideal) v) (at_flat v y) := by
  intro x hx
  obtain ⟨u, p, l, rfl⟩ : ∃ (u : Fin 1) (p : Fin 768) (l : Fin 128), x = ix3 u p l := ⟨x 0, x 1, x 2, eq_ix3 x⟩
  have h0 : (y 0 : Nat) = 6 + u.val := hx 0
  have h1 : (y 1 : Nat) = 0 + p.val := hx 1
  have h2 : (y 2 : Nat) = 0 + l.val := hx 2
  have hu := u.isLt
  have e : at_flat v y = v (ix2 p ⟨128 * 6 + l.val, by omega⟩) :=
    congrArg₂ (fun a d => v (ix2 a d)) (Fin.ext (by omega)) (Fin.ext (by show 128 * (y 0).val + (y 2).val = 128 * 6 + l.val; omega))
  rw [e]
  pointwise [k0_pay11]

theorem tile7 (v : Vec Ideal S768x1024 .f32) (y : S8x768x128.Idx) : View.TileAt (Val := Elt Ideal) (e := EltTy.f32) y ![7, 0, 0] ![1, 768, 128] (k0_pay4 (F := Ideal) (k0_pay12 (F := Ideal) v)) (at_flat v y) := by
  intro x hx
  obtain ⟨u, p, l, rfl⟩ : ∃ (u : Fin 1) (p : Fin 768) (l : Fin 128), x = ix3 u p l := ⟨x 0, x 1, x 2, eq_ix3 x⟩
  have h0 : (y 0 : Nat) = 7 + u.val := hx 0
  have h1 : (y 1 : Nat) = 0 + p.val := hx 1
  have h2 : (y 2 : Nat) = 0 + l.val := hx 2
  have hu := u.isLt
  have e : at_flat v y = v (ix2 p ⟨128 * 7 + l.val, by omega⟩) :=
    congrArg₂ (fun a d => v (ix2 a d)) (Fin.ext (by omega)) (Fin.ext (by show 128 * (y 0).val + (y 2).val = 128 * 7 + l.val; omega))
  rw [e]
  pointwise [k0_pay4, k0_pay12]

/-- The eight stores of a point hold the block's columns, 128 to a store. -/
theorem stores_apply (v : Vec Ideal S768x1024 .f32) (y : S8x768x128.Idx) :
    View.canon (s := S8x768x128) (Val := Elt Ideal) (e := EltTy.f32) [⟨Rect.unit ![7, 0, 0] ![1, 768, 128] inb_S8x768x128_S1x768x128_7_0_0, k0_pay4 (F := Ideal) (k0_pay12 (F := Ideal) v)⟩,
      ⟨Rect.unit ![6, 0, 0] ![1, 768, 128] inb_S8x768x128_S1x768x128_6_0_0, k0_pay11 (F := Ideal) v⟩,
      ⟨Rect.unit ![5, 0, 0] ![1, 768, 128] inb_S8x768x128_S1x768x128_5_0_0, k0_pay10 (F := Ideal) v⟩,
      ⟨Rect.unit ![4, 0, 0] ![1, 768, 128] inb_S8x768x128_S1x768x128_4_0_0, k0_pay9 (F := Ideal) v⟩,
      ⟨Rect.unit ![3, 0, 0] ![1, 768, 128] inb_S8x768x128_S1x768x128_3_0_0, k0_pay8 (F := Ideal) v⟩,
      ⟨Rect.unit ![2, 0, 0] ![1, 768, 128] inb_S8x768x128_S1x768x128_2_0_0, k0_pay7 (F := Ideal) v⟩,
      ⟨Rect.unit ![1, 0, 0] ![1, 768, 128] inb_S8x768x128_S1x768x128_1_0_0, k0_pay6 (F := Ideal) v⟩,
      ⟨Rect.unit ![0, 0, 0] ![1, 768, 128] inb_S8x768x128_S1x768x128_0_0_0, k0_pay5 (F := Ideal) v⟩] y = at_flat v y := by
  refine View.canon_eq_of_allAt _ y _ (View.cover_of_tiled_head _ _ _ rfl y) ?_
  refine View.allAt_cons_unit _ _ _ _ _ (tile7 v y) ?_
  refine View.allAt_cons_unit _ _ _ _ _ (tile6 v y) ?_
  refine View.allAt_cons_unit _ _ _ _ _ (tile5 v y) ?_
  refine View.allAt_cons_unit _ _ _ _ _ (tile4 v y) ?_
  refine View.allAt_cons_unit _ _ _ _ _ (tile3 v y) ?_
  refine View.allAt_cons_unit _ _ _ _ _ (tile2 v y) ?_
  refine View.allAt_cons_unit _ _ _ _ _ (tile1 v y) ?_
  refine View.allAt_cons_unit _ _ _ _ _ (tile0 v y) ?_
  exact View.allAt_nil _ _

variable (m : (ℓ : Loc nD τ sig) → Buf (Elt Ideal) ℓ)

/-- The two arguments as arrays. -/
abbrev rows (c : Dev nD) : FVec Ideal S8448x1024 .bf16 := m ((c : Thread nD τ).loc main_arg0)
abbrev weight (c : Dev nD) : FVec Ideal S1024x9248 .f32 := m ((c : Thread nD τ).loc main_arg1)

/-- The padded weight the call reads. -/
theorem padded (c : Dev nD) : V m c main_v1 =
    pad S1024x10240 ![0, 0] ![0, 992] ![0, 0] (truncf .bf16 (weight m c) bitsLt_bf16_f32) (sitofp .bf16 (constantI S_ 32 0#32)) pads_S1024x9248_S1024x10240_000_09920 h_S_ := by
  simp only [V, hostOps0, List.flatten_cons, List.flatten_nil, List.append_nil, List.cons_append, List.nil_append]
  after_results
  rfl

/-- The padded weight at an index: the weight's column, or zero past its last. -/
theorem padded_at (c : Dev nD) (k : Fin 1024) (n : Fin 10240) :
    (V m c main_v1 : FVec Ideal S1024x10240 .bf16) (ix2 k n) = if h : n.val < 9248 then weight m c (ix2 k ⟨n.val, h⟩) else 0 := by
  rw [padded]
  pointwise
  have z : (FloatOps.sitofp FTy.bf16 0#32 : Ideal .bf16) = 0 := by simp [FloatOps.sitofp]
  rw [z]

/-- What a point leaves in its block of the result. -/
theorem out_apply (c : Dev nD) (t : Fin cfg0.N) (y : S8x768x128.Idx) :
    outsAt0 m c t y = at_flat (k0_pay2 (F := Ideal) (iblk m c 0 t) (iblk m c 1 t)) y := by
  unfold outsAt0
  frame_out
  exact stores_apply _ _

/-- A column of the padded product: the product with the weight's column, or zero past the last. -/
theorem column (x : FVec Ideal S8448x1024 .bf16) (v : FVec Ideal S1024x10240 .bf16) (w : FVec Ideal S1024x9248 .f32)
    (hv : ∀ (k : Fin 1024) (n : Fin 10240), v (ix2 k n) = if h : n.val < 9248 then w (ix2 k ⟨n.val, h⟩) else 0) (r : Fin 8448) (n : Fin 10240) :
    ∑ k : Fin 1024, x (ix2 r k) * v (ix2 k n) = if h : n.val < 9248 then ∑ k : Fin 1024, x (ix2 r k) * w (ix2 k ⟨n.val, h⟩) else 0 := by
  by_cases h : n.val < 9248
  · rw [dif_pos h]
    exact Finset.sum_congr rfl fun k _ => by rw [hv, dif_pos h]
  · rw [dif_neg h]
    exact Finset.sum_eq_zero fun k _ => by rw [hv, dif_neg h, mul_zero]

/-- The kernel's result at an index, over the padded weight. -/
theorem result_padded (c : Dev nD) (b : Fin 80) (r : Fin 8448) (l : Fin 128) :
    ((dats m 0 c).arrAt 2 cfg0.N : FVec Ideal S80x8448x128 .f32) (ix3 b r l)
      = ∑ k : Fin 1024, rows m c (ix2 r k) * (V m c main_v1 : FVec Ideal S1024x10240 .bf16) (ix2 k ⟨128 * b.val + l.val, by omega⟩) := by
  have hN : cfg0.N = 110 := N_0
  have hb := b.isLt
  have hr := r.isLt
  have hl := l.isLt
  have ht : 11 * (b.val / 8) + r.val / 768 < cfg0.N := by omega
  have e := congrFun (Value.blocks2 m c ⟨11 * (b.val / 8) + r.val / 768, ht⟩ (flush0_2 _)) (ix3 ⟨b.val % 8, by omega⟩ ⟨r.val % 768, by omega⟩ l)
  rw [Value.flushed2] at e
  have hi : ((cfg0.win 2).blk ⟨11 * (b.val / 8) + r.val / 768, ht⟩).view.emb (ix3 ⟨b.val % 8, by omega⟩ ⟨r.val % 768, by omega⟩ l) = ix3 b r l := by
    blk_ext [out_index]
  refine Eq.trans ?_ (e.trans ?_)
  · exact congrArg ((dats m 0 c).arrAt 2 cfg0.N) hi.symm
  · show outsAt0 m c ⟨11 * (b.val / 8) + r.val / 768, ht⟩ (ix3 ⟨b.val % 8, by omega⟩ ⟨r.val % 768, by omega⟩ l) = _
    rw [out_apply]
    refine (block_apply _ _ _ _).trans (Finset.sum_congr rfl fun k _ => ?_)
    have hk := k.isLt
    refine congrArg₂ (· * ·) ?_ ?_
    · blk_ext [iblk, rows, V, left_index]
    · exact congrArg (V m c main_v1) (by blk_ext [right_index])

/-- The kernel's result at an index. -/
theorem result_at (c : Dev nD) (b : Fin 80) (r : Fin 8448) (l : Fin 128) :
    ((dats m 0 c).arrAt 2 cfg0.N : FVec Ideal S80x8448x128 .f32) (ix3 b r l)
      = if h : 128 * b.val + l.val < 9248 then ∑ k : Fin 1024, rows m c (ix2 r k) * weight m c (ix2 k ⟨128 * b.val + l.val, h⟩) else 0 :=
  (result_padded m c b r l).trans (column (rows m c) (V m c main_v1) (weight m c) (padded_at m c) r ⟨128 * b.val + l.val, by omega⟩)
end Cert.Prod6

namespace Cert.Prod6.Ref
open Cert.Reference6Ideal Cert.Reference6Ideal.Gen Idealize.ShloMosaic Idealize.ShloMosaic.TcCoe
open scoped BigOperators

/-- The reference's result at an index. -/
theorem result_at (x : FVec Ideal S8448x1024 .bf16) (w : FVec Ideal S1024x9248 .f32) (b : Fin 80) (r : Fin 8448) (l : Fin 128) :
    (transpose S80x8448x128 [1, 0, 2] (shapeCast S8448x80x128 (pad S8448x10240 ![0, 0] ![0, 992] ![0, 0] (shapeCast S8448x9248 (Host.dotGeneral dot_S1x8448x1024_S1024x9248_S1x8448x9248_2_0_01_1_n_n none
      (broadcastInDim S1x8448x1024 ![1, 2] bcast_S8448x1024_S1x8448x1024_1_2 (extf .f32 x bitsLt_bf16_f32)) w) shapeCasts_S1x8448x9248_S8448x9248) (sitofp .f32 (constantI S_ 32 0#32))
      pads_S8448x9248_S8448x10240_000_09920 h_S_) shapeCasts_S8448x10240_S8448x80x128) transposes_S8448x80x128_S80x8448x128_1_0_2 : FVec Ideal S80x8448x128 .f32) (ix3 b r l)
      = if h : 128 * b.val + l.val < 9248 then ∑ k : Fin 1024, x (ix2 r k) * w (ix2 k ⟨128 * b.val + l.val, h⟩) else 0 := by
  simp only [Nat.mul_comm 128 b.val]
  pointwise
  have z : (FloatOps.sitofp FTy.f32 0#32 : Ideal .f32) = 0 := by simp [FloatOps.sitofp]
  rw [z]
end Cert.Prod6.Ref

namespace Cert.Prod6
open Idealize.ShloMosaic Idealize.SL.Sem

theorem algebraic : algebraic_Kernel6Ideal_Reference6Ideal := by
  intro m g m' g' _ hargs
  refine ⟨fun c => (Cert.Kernel6Ideal.Gen.dats m 0 c).arrAt 2 Cert.Kernel6Ideal.cfg0.N, Cert.Kernel6Ideal.Value.run_blocks m g, ?_⟩
  refine (θ_run _ _ _).mono (fun r h c => ⟨(h c).1.trans ?_, (h c).2.1, (h c).2.2⟩) (Cert.Reference6Ideal.Value.run m' g')
  rw [(hargs c).1, (hargs c).2]
  funext j
  obtain ⟨b, p, l, rfl⟩ : ∃ (b : Fin 80) (p : Fin 8448) (l : Fin 128), j = ix3 b p l := ⟨j 0, j 1, j 2, eq_ix3 j⟩
  exact (Cert.Prod6.Ref.result_at _ _ b p l).trans (result_at m c b p l).symm
end Cert.Prod6
-- ==== Proof.Prod7.lean ====
/- The output projection: each tile of the product is the whole product's. -/
module

public import proofs.«01_k».proof.Proof.Gen.Kernel7Ideal.Value
public import proofs.«01_k».proof.Proof.Gen.Reference7Ideal.Run
public import proofs.«01_k».proof.Defs
public import Idealize.ShloMosaic.Lib.Pipeline.ValueKit
public import Idealize.ShloMosaic.Lib.Pointwise

@[expose] public section

set_option maxRecDepth 16384

noncomputable section

namespace Cert.Prod7

open Cert.Kernel7Ideal Cert.Kernel7Ideal.Gen Idealize.ShloMosaic Idealize.ShloMosaic.TcCoe
open scoped BigOperators

theorem left_index : ∀ t : Fin cfg0.N, win0_0.index t = ![t.val % 8, 0] := by decide +kernel

theorem right_index : ∀ t : Fin cfg0.N, win0_1.index t = ![0, t.val / 8] := by decide +kernel

theorem out_index : ∀ t : Fin cfg0.N, win0_2.index t = ![t.val % 8, t.val / 8] := by decide +kernel

/-- One point's product: the whole contracted axis at once. -/
theorem block_apply (x0 : Vec Ideal S1024x2048 .bf16) (x1 : Vec Ideal S2048x1024 .bf16) (p q : Fin 1024) :
    k0_pay2 (F := Ideal) x0 x1 (ix2 p q) = ∑ k : Fin 2048, x0 (ix2 p k) * x1 (ix2 k q) := by
  pointwise [k0_pay2, k0_pay1]

variable (m : (ℓ : Loc nD τ sig) → Buf (Elt Ideal) ℓ)

/-- The two arguments as arrays. -/
abbrev rows (c : Dev nD) : FVec Ideal S8192x2048 .bf16 := m ((c : Thread nD τ).loc main_arg0)
abbrev weight (c : Dev nD) : FVec Ideal S2048x1024 .f32 := m ((c : Thread nD τ).loc main_arg1)

/-- The weight the call reads. -/
theorem host_at (c : Dev nD) (k : Fin 2048) (q : Fin 1024) : (V m c main_v0 : FVec Ideal S2048x1024 .bf16) (ix2 k q) = weight m c (ix2 k q) := by
  have e : V m c main_v0 = truncf .bf16 (weight m c) bitsLt_bf16_f32 := by
    simp only [V, hostOps0, List.flatten_cons, List.flatten_nil, List.append_nil, List.cons_append, List.nil_append]
    after_results
  rw [e]
  pointwise

/-- The kernel's result at an index. -/
theorem result_at (c : Dev nD) (p : Fin 8192) (q : Fin 1024) :
    ((dats m 0 c).arrAt 2 cfg0.N : FVec Ideal S8192x1024 .f32) (ix2 p q) = ∑ k : Fin 2048, rows m c (ix2 p k) * weight m c (ix2 k q) := by
  have hN : cfg0.N = 8 := N_0
  have hp := p.isLt
  have hq := q.isLt
  have ht : 8 * (q.val / 1024) + p.val / 1024 < cfg0.N := by omega
  have e := congrFun (Value.blocks2 m c ⟨8 * (q.val / 1024) + p.val / 1024, ht⟩ (flush0_2 _)) (ix2 ⟨p.val % 1024, by omega⟩ ⟨q.val % 1024, by omega⟩)
  rw [Value.flushed2_A] at e
  have hi : ((cfg0.win 2).blk ⟨8 * (q.val / 1024) + p.val / 1024, ht⟩).view.emb (ix2 ⟨p.val % 1024, by omega⟩ ⟨q.val % 1024, by omega⟩) = ix2 p q := by
    blk_ext [out_index]
  refine Eq.trans ?_ (e.trans ?_)
  · exact congrArg ((dats m 0 c).arrAt 2 cfg0.N) hi.symm
  · show out0_A_2 _ _ _ _ _ _ _ _ _ _ _ _ _ _ _ (ix2 ⟨p.val % 1024, by omega⟩ ⟨q.val % 1024, by omega⟩) = _
    frame_out
    refine (block_apply _ _ _ _).trans (Finset.sum_congr rfl fun k _ => ?_)
    have hk := k.isLt
    refine congrArg₂ (· * ·) ?_ ?_
    · blk_ext [iblk, rows, V, left_index]
    · refine Eq.trans ?_ (host_at m c k q)
      exact congrArg (V m c main_v0) (by blk_ext [right_index])
end Cert.Prod7

namespace Cert.Prod7.Ref
open Cert.Reference7Ideal Cert.Reference7Ideal.Gen Idealize.ShloMosaic Idealize.ShloMosaic.TcCoe
open scoped BigOperators

/-- The reference's result at an index. -/
theorem result_at (x : FVec Ideal S8192x2048 .bf16) (w : FVec Ideal S2048x1024 .f32) (p : Fin 8192) (q : Fin 1024) :
    (Host.dotGeneral dot_S8192x2048_S2048x1024_S8192x1024_1_0_0_1_n_n none (extf .f32 x bitsLt_bf16_f32) w : FVec Ideal S8192x1024 .f32) (ix2 p q) = ∑ k : Fin 2048, x (ix2 p k) * w (ix2 k q) := by
  pointwise
end Cert.Prod7.Ref

namespace Cert.Prod7
open Idealize.ShloMosaic Idealize.SL.Sem

theorem algebraic : algebraic_Kernel7Ideal_Reference7Ideal := by
  intro m g m' g' _ hargs
  refine ⟨fun c => (Cert.Kernel7Ideal.Gen.dats m 0 c).arrAt 2 Cert.Kernel7Ideal.cfg0.N, Cert.Kernel7Ideal.Value.run_blocks m g, ?_⟩
  refine (θ_run _ _ _).mono (fun r h c => ⟨(h c).1.trans ?_, (h c).2.1, (h c).2.2⟩) (Cert.Reference7Ideal.Value.run m' g')
  rw [(hargs c).1, (hargs c).2]
  funext j
  obtain ⟨p, n, rfl⟩ : ∃ (p : Fin 8192) (n : Fin 1024), j = ix2 p n := ⟨j 0, j 1, eq_ix2 j⟩
  exact (Cert.Prod7.Ref.result_at _ _ p n).trans (result_at m c p n).symm
end Cert.Prod7
-- ==== Proof.Adam.lean ====
/- One AdamW step at an entry: the new moments and the weight's change, as the reals with infinities compute them. -/
module

public import Idealize.ShloMosaic.Lib.Pointwise

@[expose] public section

noncomputable section

namespace Cert.Adam

open Idealize.ShloMosaic

/-- The new first moment. -/
def first (m g : EReal) : EReal := Ideal.ofBits .f32 0x3F666666#32 * m + Ideal.ofBits .f32 0x3DCCCCCD#32 * g

/-- The new second moment. -/
def second (v g : EReal) : EReal := Ideal.ofBits .f32 0x3F7FBE77#32 * v + Ideal.ofBits .f32 0x3A83126F#32 * (g * g)

/-- The weight's change, from the weight and the two new moments. -/
def change (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

end Cert.Adam

end
-- ==== Proof.Opt8.lean ====
/- The optimiser's call adamw_w_in: each tile of its results is the plain AdamW step's. -/
module

public import proofs.«01_k».proof.Proof.Adam
public import proofs.«01_k».proof.Proof.Gen.Kernel8Ideal.Value
public import proofs.«01_k».proof.Proof.Gen.Reference8Ideal.Run
public import proofs.«01_k».proof.Defs
public import Idealize.ShloMosaic.Lib.Pipeline.ValueKit
public import Idealize.ShloMosaic.Lib.Pointwise

@[expose] public section

set_option maxRecDepth 16384

noncomputable section

namespace Cert.Opt8

open Cert.Kernel8Ideal Cert.Kernel8Ideal.Gen Idealize.ShloMosaic Idealize.ShloMosaic.TcCoe
open scoped BigOperators

theorem weight_index : ∀ t : Fin cfg0.N, win0_0.index t = ![t.val, 0] := by decide +kernel

theorem parts_index : ∀ t : Fin cfg0.N, win0_1.index t = ![0, t.val, 0] := by decide +kernel

theorem first_index : ∀ t : Fin cfg0.N, win0_2.index t = ![t.val, 0] := by decide +kernel

theorem second_index : ∀ t : Fin cfg0.N, win0_3.index t = ![t.val, 0] := by decide +kernel

theorem out0_index : ∀ t : Fin cfg0.N, win0_4.index t = ![t.val, 0] := by decide +kernel

theorem store0_apply (x0 : Vec Ideal S64x1156 .f32) (x1 : Vec Ideal S4x64x1156 .bf16) (x2 x3 : Vec Ideal S64x1156 .f32) (p : Fin 64) (q : Fin 1156) :
    out0_4 (F := Ideal) x0 x1 x2 x3 (ix2 p q) = (∑ s : Fin 4, x1 (ix3 s p q)) := by
  unfold out0_4
  frame_out
  simp only [Adam.change, Adam.first, Adam.second, Fin.sum_univ_four]
  pointwise [k0_pay1, k0_pay2, k0_pay3, k0_pay4, k0_pay5, k0_pay6]

theorem out1_index : ∀ t : Fin cfg0.N, win0_5.index t = ![t.val, 0] := by decide +kernel

theorem store1_apply (x0 : Vec Ideal S64x1156 .f32) (x1 : Vec Ideal S4x64x1156 .bf16) (x2 x3 : Vec Ideal S64x1156 .f32) (p : Fin 64) (q : Fin 1156) :
    out0_5 (F := Ideal) x0 x1 x2 x3 (ix2 p q) = Adam.change (x0 (ix2 p q)) (Adam.first (x2 (ix2 p q)) (∑ s : Fin 4, x1 (ix3 s p q))) (Adam.second (x3 (ix2 p q)) (∑ s : Fin 4, x1 (ix3 s p q))) := by
  unfold out0_5
  frame_out
  simp only [Adam.change, Adam.first, Adam.second, Fin.sum_univ_four]
  pointwise [k0_pay1, k0_pay2, k0_pay3, k0_pay4, k0_pay5, k0_pay6]

theorem out2_index : ∀ t : Fin cfg0.N, win0_6.index t = ![t.val, 0] := by decide +kernel

theorem store2_apply (x0 : Vec Ideal S64x1156 .f32) (x1 : Vec Ideal S4x64x1156 .bf16) (x2 x3 : Vec Ideal S64x1156 .f32) (p : Fin 64) (q : Fin 1156) :
    out0_6 (F := Ideal) x0 x1 x2 x3 (ix2 p q) = Adam.first (x2 (ix2 p q)) (∑ s : Fin 4, x1 (ix3 s p q)) := by
  unfold out0_6
  frame_out
  simp only [Adam.change, Adam.first, Adam.second, Fin.sum_univ_four]
  pointwise [k0_pay1, k0_pay2, k0_pay3, k0_pay4, k0_pay5, k0_pay6]

theorem out3_index : ∀ t : Fin cfg0.N, win0_7.index t = ![t.val, 0] := by decide +kernel

theorem store3_apply (x0 : Vec Ideal S64x1156 .f32) (x1 : Vec Ideal S4x64x1156 .bf16) (x2 x3 : Vec Ideal S64x1156 .f32) (p : Fin 64) (q : Fin 1156) :
    out0_7 (F := Ideal) x0 x1 x2 x3 (ix2 p q) = Adam.second (x3 (ix2 p q)) (∑ s : Fin 4, x1 (ix3 s p q)) := by
  unfold out0_7
  frame_out
  simp only [Adam.change, Adam.first, Adam.second, Fin.sum_univ_four]
  pointwise [k0_pay1, k0_pay2, k0_pay3, k0_pay4, k0_pay5, k0_pay6]

variable (m : (ℓ : Loc nD τ sig) → Buf (Elt Ideal) ℓ)

/-- The four arguments as arrays. -/
abbrev weight (c : Dev nD) : FVec Ideal S1024x1156 .f32 := m ((c : Thread nD τ).loc main_arg0)
abbrev parts (c : Dev nD) : FVec Ideal S4x1024x1156 .bf16 := m ((c : Thread nD τ).loc main_arg1)
abbrev moment1 (c : Dev nD) : FVec Ideal S1024x1156 .f32 := m ((c : Thread nD τ).loc main_arg2)
abbrev moment2 (c : Dev nD) : FVec Ideal S1024x1156 .f32 := m ((c : Thread nD τ).loc main_arg3)

/-- The point whose tile holds a row. -/
def pt (p : Fin 1024) : Fin cfg0.N := ⟨p.val / 64, by have hN : cfg0.N = 16 := N_0; have := p.isLt; omega⟩

/-- The row within its tile. -/
def row (p : Fin 1024) : Fin 64 := ⟨p.val % 64, by omega⟩

theorem weight_at (c : Dev nD) (p : Fin 1024) (q : Fin 1156) : (iblk m c 0 (pt p) : Vec Ideal S64x1156 .f32) (ix2 (row p) q) = weight m c (ix2 p q) := by
  have hp := p.isLt
  have hq := q.isLt
  blk_ext [iblk, weight, V, weight_index, pt, row]

theorem parts_at (c : Dev nD) (s : Fin 4) (p : Fin 1024) (q : Fin 1156) : (iblk m c 1 (pt p) : Vec Ideal S4x64x1156 .bf16) (ix3 s (row p) q) = parts m c (ix3 s p q) := by
  have hs := s.isLt
  have hp := p.isLt
  have hq := q.isLt
  blk_ext [iblk, parts, V, parts_index, pt, row]

theorem moment1_at (c : Dev nD) (p : Fin 1024) (q : Fin 1156) : (iblk m c 2 (pt p) : Vec Ideal S64x1156 .f32) (ix2 (row p) q) = moment1 m c (ix2 p q) := by
  have hp := p.isLt
  have hq := q.isLt
  blk_ext [iblk, moment1, V, first_index, pt, row]

theorem moment2_at (c : Dev nD) (p : Fin 1024) (q : Fin 1156) : (iblk m c 3 (pt p) : Vec Ideal S64x1156 .f32) (ix2 (row p) q) = moment2 m c (ix2 p q) := by
  have hp := p.isLt
  have hq := q.isLt
  blk_ext [iblk, moment2, V, second_index, pt, row]

/-- The tile of the gradient parts at a point. -/
abbrev partsTile (c : Dev nD) (t : Fin cfg0.N) : FVec Ideal S4x64x1156 .bf16 := iblk m c 1 t

theorem sum_at (c : Dev nD) (p : Fin 1024) (q : Fin 1156) : ∑ s : Fin 4, partsTile m c (pt p) (ix3 s (row p) q) = ∑ s : Fin 4, parts m c (ix3 s p q) :=
  Finset.sum_congr rfl fun s _ => parts_at m c s p q

theorem result0_at (c : Dev nD) (p : Fin 1024) (q : Fin 1156) :
    ((dats m 0 c).arrAt 4 cfg0.N : FVec Ideal S1024x1156 .f32) (ix2 p q) = (∑ s : Fin 4, parts m c (ix3 s p q)) := by
  have hp := p.isLt
  have hq := q.isLt
  have e := congrFun (Value.blocks4 m c (pt p) (flush0_4 _)) (ix2 (row p) q)
  rw [Value.flushed4] at e
  have hi : ((cfg0.win 4).blk (pt p)).view.emb (ix2 (row p) q) = ix2 p q := by
    blk_ext [out0_index, pt, row]
  refine Eq.trans ?_ (e.trans ?_)
  · exact congrArg ((dats m 0 c).arrAt 4 cfg0.N) hi.symm
  · show out0_4 (F := Ideal) _ _ _ _ (ix2 (row p) q) = _
    refine (store0_apply _ (partsTile m c (pt p)) _ _ _ _).trans ?_
    rw [sum_at]

theorem result1_at (c : Dev nD) (p : Fin 1024) (q : Fin 1156) :
    ((dats m 0 c).arrAt 5 cfg0.N : FVec Ideal S1024x1156 .f32) (ix2 p q) = Adam.change (weight m c (ix2 p q)) (Adam.first (moment1 m c (ix2 p q)) (∑ s : Fin 4, parts m c (ix3 s p q))) (Adam.second (moment2 m c (ix2 p q)) (∑ s : Fin 4, parts m c (ix3 s p q))) := by
  have hp := p.isLt
  have hq := q.isLt
  have e := congrFun (Value.blocks5 m c (pt p) (flush0_5 _)) (ix2 (row p) q)
  rw [Value.flushed5] at e
  have hi : ((cfg0.win 5).blk (pt p)).view.emb (ix2 (row p) q) = ix2 p q := by
    blk_ext [out1_index, pt, row]
  refine Eq.trans ?_ (e.trans ?_)
  · exact congrArg ((dats m 0 c).arrAt 5 cfg0.N) hi.symm
  · show out0_5 (F := Ideal) _ _ _ _ (ix2 (row p) q) = _
    refine (store1_apply _ (partsTile m c (pt p)) _ _ _ _).trans ?_
    rw [weight_at, sum_at, moment1_at, moment2_at]

theorem result2_at (c : Dev nD) (p : Fin 1024) (q : Fin 1156) :
    ((dats m 0 c).arrAt 6 cfg0.N : FVec Ideal S1024x1156 .f32) (ix2 p q) = Adam.first (moment1 m c (ix2 p q)) (∑ s : Fin 4, parts m c (ix3 s p q)) := by
  have hp := p.isLt
  have hq := q.isLt
  have e := congrFun (Value.blocks6 m c (pt p) (flush0_6 _)) (ix2 (row p) q)
  rw [Value.flushed6] at e
  have hi : ((cfg0.win 6).blk (pt p)).view.emb (ix2 (row p) q) = ix2 p q := by
    blk_ext [out2_index, pt, row]
  refine Eq.trans ?_ (e.trans ?_)
  · exact congrArg ((dats m 0 c).arrAt 6 cfg0.N) hi.symm
  · show out0_6 (F := Ideal) _ _ _ _ (ix2 (row p) q) = _
    refine (store2_apply _ (partsTile m c (pt p)) _ _ _ _).trans ?_
    rw [sum_at, moment1_at]

theorem result3_at (c : Dev nD) (p : Fin 1024) (q : Fin 1156) :
    ((dats m 0 c).arrAt 7 cfg0.N : FVec Ideal S1024x1156 .f32) (ix2 p q) = Adam.second (moment2 m c (ix2 p q)) (∑ s : Fin 4, parts m c (ix3 s p q)) := by
  have hp := p.isLt
  have hq := q.isLt
  have e := congrFun (Value.blocks7 m c (pt p) (flush0_7 _)) (ix2 (row p) q)
  rw [Value.flushed7] at e
  have hi : ((cfg0.win 7).blk (pt p)).view.emb (ix2 (row p) q) = ix2 p q := by
    blk_ext [out3_index, pt, row]
  refine Eq.trans ?_ (e.trans ?_)
  · exact congrArg ((dats m 0 c).arrAt 7 cfg0.N) hi.symm
  · show out0_7 (F := Ideal) _ _ _ _ (ix2 (row p) q) = _
    refine (store3_apply _ (partsTile m c (pt p)) _ _ _ _).trans ?_
    rw [sum_at, moment2_at]
end Cert.Opt8

namespace Cert.Opt8.Ref
open Cert.Reference8Ideal Cert.Reference8Ideal.Gen Idealize.ShloMosaic Idealize.ShloMosaic.TcCoe
open scoped BigOperators

theorem result0_at (x : FVec Ideal S4x1024x1156 .bf16) (p : Fin 1024) (q : Fin 1156) :
    (Host.reduceAdd (extf .f32 x bitsLt_bf16_f32) (constant S_ .f32 0x00000000#32) reducesTo_S4x1024x1156_S1024x1156_d0 h_S_ : FVec Ideal S1024x1156 .f32) (ix2 p q) = (∑ s : Fin 4, x (ix3 s p q)) := by
  pointwise

theorem result1_at (w : FVec Ideal S1024x1156 .f32) (x : FVec Ideal S4x1024x1156 .bf16) (u v : FVec Ideal S1024x1156 .f32) (p : Fin 1024) (q : Fin 1156) :
    (mulf (broadcastInDim S1024x1156 ![] bcast_S_S1024x1156 (constant S_ .f32 0xBA83126F#32)) (addf (Host.divf (Host.divf (addf (mulf (broadcastInDim S1024x1156 ![] bcast_S_S1024x1156 (constant S_ .f32 0x3F666666#32)) u) (mulf (broadcastInDim S1024x1156 ![] bcast_S_S1024x1156 (constant S_ .f32 0x3DCCCCCD#32)) (Host.reduceAdd (extf .f32 x bitsLt_bf16_f32) (constant S_ .f32 0x00000000#32) reducesTo_S4x1024x1156_S1024x1156_d0 h_S_))) (broadcastInDim S1024x1156 ![] bcast_S_S1024x1156 (constant S_ .f32 0x3F26BD02#32))) (addf (Host.sqrt (Host.divf (addf (mulf (broadcastInDim S1024x1156 ![] bcast_S_S1024x1156 (constant S_ .f32 0x3F7FBE77#32)) v) (mulf (broadcastInDim S1024x1156 ![] bcast_S_S1024x1156 (constant S_ .f32 0x3A83126F#32)) (mulf (Host.reduceAdd (extf .f32 x bitsLt_bf16_f32) (constant S_ .f32 0x00000000#32) reducesTo_S4x1024x1156_S1024x1156_d0 h_S_) (Host.reduceAdd (extf .f32 x bitsLt_bf16_f32) (constant S_ .f32 0x00000000#32) reducesTo_S4x1024x1156_S1024x1156_d0 h_S_)))) (broadcastInDim S1024x1156 ![] bcast_S_S1024x1156 (constant S_ .f32 0x3C231ACC#32)))) (broadcastInDim S1024x1156 ![] bcast_S_S1024x1156 (constant S_ .f32 0x322BCC77#32)))) (mulf (broadcastInDim S1024x1156 ![] bcast_S_S1024x1156 (constant S_ .f32 0x3C23D70A#32)) w)) : FVec Ideal S1024x1156 .f32) (ix2 p q) = Adam.change (w (ix2 p q)) (Adam.first (u (ix2 p q)) (∑ s : Fin 4, x (ix3 s p q))) (Adam.second (v (ix2 p q)) (∑ s : Fin 4, x (ix3 s p q))) := by
  simp only [Adam.change, Adam.first, Adam.second]
  pointwise

theorem result2_at (x : FVec Ideal S4x1024x1156 .bf16) (u : FVec Ideal S1024x1156 .f32) (p : Fin 1024) (q : Fin 1156) :
    (addf (mulf (broadcastInDim S1024x1156 ![] bcast_S_S1024x1156 (constant S_ .f32 0x3F666666#32)) u) (mulf (broadcastInDim S1024x1156 ![] bcast_S_S1024x1156 (constant S_ .f32 0x3DCCCCCD#32)) (Host.reduceAdd (extf .f32 x bitsLt_bf16_f32) (constant S_ .f32 0x00000000#32) reducesTo_S4x1024x1156_S1024x1156_d0 h_S_)) : FVec Ideal S1024x1156 .f32) (ix2 p q) = Adam.first (u (ix2 p q)) (∑ s : Fin 4, x (ix3 s p q)) := by
  simp only [Adam.change, Adam.first, Adam.second]
  pointwise

theorem result3_at (x : FVec Ideal S4x1024x1156 .bf16) (v : FVec Ideal S1024x1156 .f32) (p : Fin 1024) (q : Fin 1156) :
    (addf (mulf (broadcastInDim S1024x1156 ![] bcast_S_S1024x1156 (constant S_ .f32 0x3F7FBE77#32)) v) (mulf (broadcastInDim S1024x1156 ![] bcast_S_S1024x1156 (constant S_ .f32 0x3A83126F#32)) (mulf (Host.reduceAdd (extf .f32 x bitsLt_bf16_f32) (constant S_ .f32 0x00000000#32) reducesTo_S4x1024x1156_S1024x1156_d0 h_S_) (Host.reduceAdd (extf .f32 x bitsLt_bf16_f32) (constant S_ .f32 0x00000000#32) reducesTo_S4x1024x1156_S1024x1156_d0 h_S_))) : FVec Ideal S1024x1156 .f32) (ix2 p q) = Adam.second (v (ix2 p q)) (∑ s : Fin 4, x (ix3 s p q)) := by
  simp only [Adam.change, Adam.first, Adam.second]
  pointwise
end Cert.Opt8.Ref

namespace Cert.Opt8
open Idealize.ShloMosaic Idealize.SL.Sem

theorem algebraic : algebraic_Kernel8Ideal_Reference8Ideal := by
  intro m g m' g' _ hargs
  refine ⟨fun c => (Cert.Kernel8Ideal.Gen.dats m 0 c).arrAt 4 Cert.Kernel8Ideal.cfg0.N, fun c => (Cert.Kernel8Ideal.Gen.dats m 0 c).arrAt 5 Cert.Kernel8Ideal.cfg0.N,
    fun c => (Cert.Kernel8Ideal.Gen.dats m 0 c).arrAt 6 Cert.Kernel8Ideal.cfg0.N, fun c => (Cert.Kernel8Ideal.Gen.dats m 0 c).arrAt 7 Cert.Kernel8Ideal.cfg0.N,
    Cert.Kernel8Ideal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.Reference8Ideal.Value.run m' g')
  · rw [(hargs c).2.1]
    funext j
    obtain ⟨p, q, rfl⟩ : ∃ (p : Fin 1024) (q : Fin 1156), j = ix2 p q := ⟨j 0, j 1, eq_ix2 j⟩
    exact (Cert.Opt8.Ref.result0_at _ p q).trans (result0_at m c p q).symm
  · rw [(hargs c).1, (hargs c).2.1, (hargs c).2.2.1, (hargs c).2.2.2]
    funext j
    obtain ⟨p, q, rfl⟩ : ∃ (p : Fin 1024) (q : Fin 1156), j = ix2 p q := ⟨j 0, j 1, eq_ix2 j⟩
    exact (Cert.Opt8.Ref.result1_at _ _ _ _ p q).trans (result1_at m c p q).symm
  · rw [(hargs c).2.1, (hargs c).2.2.1]
    funext j
    obtain ⟨p, q, rfl⟩ : ∃ (p : Fin 1024) (q : Fin 1156), j = ix2 p q := ⟨j 0, j 1, eq_ix2 j⟩
    exact (Cert.Opt8.Ref.result2_at _ _ p q).trans (result2_at m c p q).symm
  · rw [(hargs c).2.1, (hargs c).2.2.2]
    funext j
    obtain ⟨p, q, rfl⟩ : ∃ (p : Fin 1024) (q : Fin 1156), j = ix2 p q := ⟨j 0, j 1, eq_ix2 j⟩
    exact (Cert.Opt8.Ref.result3_at _ _ p q).trans (result3_at m c p q).symm
end Cert.Opt8
-- ==== Proof.Opt9.lean ====
/- The optimiser's call adamw_w_out: each tile of its results is the plain AdamW step's. -/
module

public import proofs.«01_k».proof.Proof.Adam
public import proofs.«01_k».proof.Proof.Gen.Kernel9Ideal.Value
public import proofs.«01_k».proof.Proof.Gen.Reference9Ideal.Run
public import proofs.«01_k».proof.Defs
public import Idealize.ShloMosaic.Lib.Pipeline.ValueKit
public import Idealize.ShloMosaic.Lib.Pointwise

@[expose] public section

set_option maxRecDepth 16384

noncomputable section

namespace Cert.Opt9

open Cert.Kernel9Ideal Cert.Kernel9Ideal.Gen Idealize.ShloMosaic Idealize.ShloMosaic.TcCoe
open scoped BigOperators

theorem weight_index : ∀ t : Fin cfg0.N, win0_0.index t = ![t.val, 0] := by decide +kernel

theorem parts_index : ∀ t : Fin cfg0.N, win0_1.index t = ![0, t.val, 0] := by decide +kernel

theorem first_index : ∀ t : Fin cfg0.N, win0_2.index t = ![t.val, 0] := by decide +kernel

theorem second_index : ∀ t : Fin cfg0.N, win0_3.index t = ![t.val, 0] := by decide +kernel

theorem out0_index : ∀ t : Fin cfg0.N, win0_4.index t = ![t.val, 0] := by decide +kernel

theorem store0_apply (x0 : Vec Ideal S64x1024 .f32) (x1 : Vec Ideal S4x64x1024 .bf16) (x2 x3 : Vec Ideal S64x1024 .f32) (p : Fin 64) (q : Fin 1024) :
    out0_4 (F := Ideal) x0 x1 x2 x3 (ix2 p q) = (∑ s : Fin 4, x1 (ix3 s p q)) := by
  unfold out0_4
  frame_out
  simp only [Adam.change, Adam.first, Adam.second, Fin.sum_univ_four]
  pointwise [k0_pay1, k0_pay2, k0_pay3, k0_pay4, k0_pay5, k0_pay6]

theorem out1_index : ∀ t : Fin cfg0.N, win0_5.index t = ![t.val, 0] := by decide +kernel

theorem store1_apply (x0 : Vec Ideal S64x1024 .f32) (x1 : Vec Ideal S4x64x1024 .bf16) (x2 x3 : Vec Ideal S64x1024 .f32) (p : Fin 64) (q : Fin 1024) :
    out0_5 (F := Ideal) x0 x1 x2 x3 (ix2 p q) = Adam.change (x0 (ix2 p q)) (Adam.first (x2 (ix2 p q)) (∑ s : Fin 4, x1 (ix3 s p q))) (Adam.second (x3 (ix2 p q)) (∑ s : Fin 4, x1 (ix3 s p q))) := by
  unfold out0_5
  frame_out
  simp only [Adam.change, Adam.first, Adam.second, Fin.sum_univ_four]
  pointwise [k0_pay1, k0_pay2, k0_pay3, k0_pay4, k0_pay5, k0_pay6]

theorem out2_index : ∀ t : Fin cfg0.N, win0_6.index t = ![t.val, 0] := by decide +kernel

theorem store2_apply (x0 : Vec Ideal S64x1024 .f32) (x1 : Vec Ideal S4x64x1024 .bf16) (x2 x3 : Vec Ideal S64x1024 .f32) (p : Fin 64) (q : Fin 1024) :
    out0_6 (F := Ideal) x0 x1 x2 x3 (ix2 p q) = Adam.first (x2 (ix2 p q)) (∑ s : Fin 4, x1 (ix3 s p q)) := by
  unfold out0_6
  frame_out
  simp only [Adam.change, Adam.first, Adam.second, Fin.sum_univ_four]
  pointwise [k0_pay1, k0_pay2, k0_pay3, k0_pay4, k0_pay5, k0_pay6]

theorem out3_index : ∀ t : Fin cfg0.N, win0_7.index t = ![t.val, 0] := by decide +kernel

theorem store3_apply (x0 : Vec Ideal S64x1024 .f32) (x1 : Vec Ideal S4x64x1024 .bf16) (x2 x3 : Vec Ideal S64x1024 .f32) (p : Fin 64) (q : Fin 1024) :
    out0_7 (F := Ideal) x0 x1 x2 x3 (ix2 p q) = Adam.second (x3 (ix2 p q)) (∑ s : Fin 4, x1 (ix3 s p q)) := by
  unfold out0_7
  frame_out
  simp only [Adam.change, Adam.first, Adam.second, Fin.sum_univ_four]
  pointwise [k0_pay1, k0_pay2, k0_pay3, k0_pay4, k0_pay5, k0_pay6]

variable (m : (ℓ : Loc nD τ sig) → Buf (Elt Ideal) ℓ)

/-- The four arguments as arrays. -/
abbrev weight (c : Dev nD) : FVec Ideal S256x1024 .f32 := m ((c : Thread nD τ).loc main_arg0)
abbrev parts (c : Dev nD) : FVec Ideal S4x256x1024 .bf16 := m ((c : Thread nD τ).loc main_arg1)
abbrev moment1 (c : Dev nD) : FVec Ideal S256x1024 .f32 := m ((c : Thread nD τ).loc main_arg2)
abbrev moment2 (c : Dev nD) : FVec Ideal S256x1024 .f32 := m ((c : Thread nD τ).loc main_arg3)

/-- The point whose tile holds a row. -/
def pt (p : Fin 256) : Fin cfg0.N := ⟨p.val / 64, by have hN : cfg0.N = 4 := N_0; have := p.isLt; omega⟩

/-- The row within its tile. -/
def row (p : Fin 256) : Fin 64 := ⟨p.val % 64, by omega⟩

theorem weight_at (c : Dev nD) (p : Fin 256) (q : Fin 1024) : (iblk m c 0 (pt p) : Vec Ideal S64x1024 .f32) (ix2 (row p) q) = weight m c (ix2 p q) := by
  have hp := p.isLt
  have hq := q.isLt
  blk_ext [iblk, weight, V, weight_index, pt, row]

theorem parts_at (c : Dev nD) (s : Fin 4) (p : Fin 256) (q : Fin 1024) : (iblk m c 1 (pt p) : Vec Ideal S4x64x1024 .bf16) (ix3 s (row p) q) = parts m c (ix3 s p q) := by
  have hs := s.isLt
  have hp := p.isLt
  have hq := q.isLt
  blk_ext [iblk, parts, V, parts_index, pt, row]

theorem moment1_at (c : Dev nD) (p : Fin 256) (q : Fin 1024) : (iblk m c 2 (pt p) : Vec Ideal S64x1024 .f32) (ix2 (row p) q) = moment1 m c (ix2 p q) := by
  have hp := p.isLt
  have hq := q.isLt
  blk_ext [iblk, moment1, V, first_index, pt, row]

theorem moment2_at (c : Dev nD) (p : Fin 256) (q : Fin 1024) : (iblk m c 3 (pt p) : Vec Ideal S64x1024 .f32) (ix2 (row p) q) = moment2 m c (ix2 p q) := by
  have hp := p.isLt
  have hq := q.isLt
  blk_ext [iblk, moment2, V, second_index, pt, row]

/-- The tile of the gradient parts at a point. -/
abbrev partsTile (c : Dev nD) (t : Fin cfg0.N) : FVec Ideal S4x64x1024 .bf16 := iblk m c 1 t

theorem sum_at (c : Dev nD) (p : Fin 256) (q : Fin 1024) : ∑ s : Fin 4, partsTile m c (pt p) (ix3 s (row p) q) = ∑ s : Fin 4, parts m c (ix3 s p q) :=
  Finset.sum_congr rfl fun s _ => parts_at m c s p q

theorem result0_at (c : Dev nD) (p : Fin 256) (q : Fin 1024) :
    ((dats m 0 c).arrAt 4 cfg0.N : FVec Ideal S256x1024 .f32) (ix2 p q) = (∑ s : Fin 4, parts m c (ix3 s p q)) := by
  have hp := p.isLt
  have hq := q.isLt
  have e := congrFun (Value.blocks4 m c (pt p) (flush0_4 _)) (ix2 (row p) q)
  rw [Value.flushed4] at e
  have hi : ((cfg0.win 4).blk (pt p)).view.emb (ix2 (row p) q) = ix2 p q := by
    blk_ext [out0_index, pt, row]
  refine Eq.trans ?_ (e.trans ?_)
  · exact congrArg ((dats m 0 c).arrAt 4 cfg0.N) hi.symm
  · show out0_4 (F := Ideal) _ _ _ _ (ix2 (row p) q) = _
    refine (store0_apply _ (partsTile m c (pt p)) _ _ _ _).trans ?_
    rw [sum_at]

theorem result1_at (c : Dev nD) (p : Fin 256) (q : Fin 1024) :
    ((dats m 0 c).arrAt 5 cfg0.N : FVec Ideal S256x1024 .f32) (ix2 p q) = Adam.change (weight m c (ix2 p q)) (Adam.first (moment1 m c (ix2 p q)) (∑ s : Fin 4, parts m c (ix3 s p q))) (Adam.second (moment2 m c (ix2 p q)) (∑ s : Fin 4, parts m c (ix3 s p q))) := by
  have hp := p.isLt
  have hq := q.isLt
  have e := congrFun (Value.blocks5 m c (pt p) (flush0_5 _)) (ix2 (row p) q)
  rw [Value.flushed5] at e
  have hi : ((cfg0.win 5).blk (pt p)).view.emb (ix2 (row p) q) = ix2 p q := by
    blk_ext [out1_index, pt, row]
  refine Eq.trans ?_ (e.trans ?_)
  · exact congrArg ((dats m 0 c).arrAt 5 cfg0.N) hi.symm
  · show out0_5 (F := Ideal) _ _ _ _ (ix2 (row p) q) = _
    refine (store1_apply _ (partsTile m c (pt p)) _ _ _ _).trans ?_
    rw [weight_at, sum_at, moment1_at, moment2_at]

theorem result2_at (c : Dev nD) (p : Fin 256) (q : Fin 1024) :
    ((dats m 0 c).arrAt 6 cfg0.N : FVec Ideal S256x1024 .f32) (ix2 p q) = Adam.first (moment1 m c (ix2 p q)) (∑ s : Fin 4, parts m c (ix3 s p q)) := by
  have hp := p.isLt
  have hq := q.isLt
  have e := congrFun (Value.blocks6 m c (pt p) (flush0_6 _)) (ix2 (row p) q)
  rw [Value.flushed6] at e
  have hi : ((cfg0.win 6).blk (pt p)).view.emb (ix2 (row p) q) = ix2 p q := by
    blk_ext [out2_index, pt, row]
  refine Eq.trans ?_ (e.trans ?_)
  · exact congrArg ((dats m 0 c).arrAt 6 cfg0.N) hi.symm
  · show out0_6 (F := Ideal) _ _ _ _ (ix2 (row p) q) = _
    refine (store2_apply _ (partsTile m c (pt p)) _ _ _ _).trans ?_
    rw [sum_at, moment1_at]

theorem result3_at (c : Dev nD) (p : Fin 256) (q : Fin 1024) :
    ((dats m 0 c).arrAt 7 cfg0.N : FVec Ideal S256x1024 .f32) (ix2 p q) = Adam.second (moment2 m c (ix2 p q)) (∑ s : Fin 4, parts m c (ix3 s p q)) := by
  have hp := p.isLt
  have hq := q.isLt
  have e := congrFun (Value.blocks7 m c (pt p) (flush0_7 _)) (ix2 (row p) q)
  rw [Value.flushed7] at e
  have hi : ((cfg0.win 7).blk (pt p)).view.emb (ix2 (row p) q) = ix2 p q := by
    blk_ext [out3_index, pt, row]
  refine Eq.trans ?_ (e.trans ?_)
  · exact congrArg ((dats m 0 c).arrAt 7 cfg0.N) hi.symm
  · show out0_7 (F := Ideal) _ _ _ _ (ix2 (row p) q) = _
    refine (store3_apply _ (partsTile m c (pt p)) _ _ _ _).trans ?_
    rw [sum_at, moment2_at]
end Cert.Opt9

namespace Cert.Opt9.Ref
open Cert.Reference9Ideal Cert.Reference9Ideal.Gen Idealize.ShloMosaic Idealize.ShloMosaic.TcCoe
open scoped BigOperators

theorem result0_at (x : FVec Ideal S4x256x1024 .bf16) (p : Fin 256) (q : Fin 1024) :
    (Host.reduceAdd (extf .f32 x bitsLt_bf16_f32) (constant S_ .f32 0x00000000#32) reducesTo_S4x256x1024_S256x1024_d0 h_S_ : FVec Ideal S256x1024 .f32) (ix2 p q) = (∑ s : Fin 4, x (ix3 s p q)) := by
  pointwise

theorem result1_at (w : FVec Ideal S256x1024 .f32) (x : FVec Ideal S4x256x1024 .bf16) (u v : FVec Ideal S256x1024 .f32) (p : Fin 256) (q : Fin 1024) :
    (mulf (broadcastInDim S256x1024 ![] bcast_S_S256x1024 (constant S_ .f32 0xBA83126F#32)) (addf (Host.divf (Host.divf (addf (mulf (broadcastInDim S256x1024 ![] bcast_S_S256x1024 (constant S_ .f32 0x3F666666#32)) u) (mulf (broadcastInDim S256x1024 ![] bcast_S_S256x1024 (constant S_ .f32 0x3DCCCCCD#32)) (Host.reduceAdd (extf .f32 x bitsLt_bf16_f32) (constant S_ .f32 0x00000000#32) reducesTo_S4x256x1024_S256x1024_d0 h_S_))) (broadcastInDim S256x1024 ![] bcast_S_S256x1024 (constant S_ .f32 0x3F26BD02#32))) (addf (Host.sqrt (Host.divf (addf (mulf (broadcastInDim S256x1024 ![] bcast_S_S256x1024 (constant S_ .f32 0x3F7FBE77#32)) v) (mulf (broadcastInDim S256x1024 ![] bcast_S_S256x1024 (constant S_ .f32 0x3A83126F#32)) (mulf (Host.reduceAdd (extf .f32 x bitsLt_bf16_f32) (constant S_ .f32 0x00000000#32) reducesTo_S4x256x1024_S256x1024_d0 h_S_) (Host.reduceAdd (extf .f32 x bitsLt_bf16_f32) (constant S_ .f32 0x00000000#32) reducesTo_S4x256x1024_S256x1024_d0 h_S_)))) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) w)) : FVec Ideal S256x1024 .f32) (ix2 p q) = Adam.change (w (ix2 p q)) (Adam.first (u (ix2 p q)) (∑ s : Fin 4, x (ix3 s p q))) (Adam.second (v (ix2 p q)) (∑ s : Fin 4, x (ix3 s p q))) := by
  simp only [Adam.change, Adam.first, Adam.second]
  pointwise

theorem result2_at (x : FVec Ideal S4x256x1024 .bf16) (u : FVec Ideal S256x1024 .f32) (p : Fin 256) (q : Fin 1024) :
    (addf (mulf (broadcastInDim S256x1024 ![] bcast_S_S256x1024 (constant S_ .f32 0x3F666666#32)) u) (mulf (broadcastInDim S256x1024 ![] bcast_S_S256x1024 (constant S_ .f32 0x3DCCCCCD#32)) (Host.reduceAdd (extf .f32 x bitsLt_bf16_f32) (constant S_ .f32 0x00000000#32) reducesTo_S4x256x1024_S256x1024_d0 h_S_)) : FVec Ideal S256x1024 .f32) (ix2 p q) = Adam.first (u (ix2 p q)) (∑ s : Fin 4, x (ix3 s p q)) := by
  simp only [Adam.change, Adam.first, Adam.second]
  pointwise

theorem result3_at (x : FVec Ideal S4x256x1024 .bf16) (v : FVec Ideal S256x1024 .f32) (p : Fin 256) (q : Fin 1024) :
    (addf (mulf (broadcastInDim S256x1024 ![] bcast_S_S256x1024 (constant S_ .f32 0x3F7FBE77#32)) v) (mulf (broadcastInDim S256x1024 ![] bcast_S_S256x1024 (constant S_ .f32 0x3A83126F#32)) (mulf (Host.reduceAdd (extf .f32 x bitsLt_bf16_f32) (constant S_ .f32 0x00000000#32) reducesTo_S4x256x1024_S256x1024_d0 h_S_) (Host.reduceAdd (extf .f32 x bitsLt_bf16_f32) (constant S_ .f32 0x00000000#32) reducesTo_S4x256x1024_S256x1024_d0 h_S_))) : FVec Ideal S256x1024 .f32) (ix2 p q) = Adam.second (v (ix2 p q)) (∑ s : Fin 4, x (ix3 s p q)) := by
  simp only [Adam.change, Adam.first, Adam.second]
  pointwise
end Cert.Opt9.Ref

namespace Cert.Opt9
open Idealize.ShloMosaic Idealize.SL.Sem

theorem algebraic : algebraic_Kernel9Ideal_Reference9Ideal := by
  intro m g m' g' _ hargs
  refine ⟨fun c => (Cert.Kernel9Ideal.Gen.dats m 0 c).arrAt 4 Cert.Kernel9Ideal.cfg0.N, fun c => (Cert.Kernel9Ideal.Gen.dats m 0 c).arrAt 5 Cert.Kernel9Ideal.cfg0.N,
    fun c => (Cert.Kernel9Ideal.Gen.dats m 0 c).arrAt 6 Cert.Kernel9Ideal.cfg0.N, fun c => (Cert.Kernel9Ideal.Gen.dats m 0 c).arrAt 7 Cert.Kernel9Ideal.cfg0.N,
    Cert.Kernel9Ideal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.Reference9Ideal.Value.run m' g')
  · rw [(hargs c).2.1]
    funext j
    obtain ⟨p, q, rfl⟩ : ∃ (p : Fin 256) (q : Fin 1024), j = ix2 p q := ⟨j 0, j 1, eq_ix2 j⟩
    exact (Cert.Opt9.Ref.result0_at _ p q).trans (result0_at m c p q).symm
  · rw [(hargs c).1, (hargs c).2.1, (hargs c).2.2.1, (hargs c).2.2.2]
    funext j
    obtain ⟨p, q, rfl⟩ : ∃ (p : Fin 256) (q : Fin 1024), j = ix2 p q := ⟨j 0, j 1, eq_ix2 j⟩
    exact (Cert.Opt9.Ref.result1_at _ _ _ _ p q).trans (result1_at m c p q).symm
  · rw [(hargs c).2.1, (hargs c).2.2.1]
    funext j
    obtain ⟨p, q, rfl⟩ : ∃ (p : Fin 256) (q : Fin 1024), j = ix2 p q := ⟨j 0, j 1, eq_ix2 j⟩
    exact (Cert.Opt9.Ref.result2_at _ _ p q).trans (result2_at m c p q).symm
  · rw [(hargs c).2.1, (hargs c).2.2.2]
    funext j
    obtain ⟨p, q, rfl⟩ : ∃ (p : Fin 256) (q : Fin 1024), j = ix2 p q := ⟨j 0, j 1, eq_ix2 j⟩
    exact (Cert.Opt9.Ref.result3_at _ _ p q).trans (result3_at m c p q).symm
end Cert.Opt9
-- ==== Proof.Opt10.lean ====
/- The optimiser's call adamw_ada_w: each tile of its results is the plain AdamW step's. -/
module

public import proofs.«01_k».proof.Proof.Adam
public import proofs.«01_k».proof.Proof.Gen.Kernel10Ideal.Value
public import proofs.«01_k».proof.Proof.Gen.Reference10Ideal.Run
public import proofs.«01_k».proof.Defs
public import Idealize.ShloMosaic.Lib.Pipeline.ValueKit
public import Idealize.ShloMosaic.Lib.Pointwise

@[expose] public section

set_option maxRecDepth 16384

noncomputable section

namespace Cert.Opt10

open Cert.Kernel10Ideal Cert.Kernel10Ideal.Gen Idealize.ShloMosaic Idealize.ShloMosaic.TcCoe
open scoped BigOperators

theorem weight_index : ∀ t : Fin cfg0.N, win0_0.index t = ![t.val, 0] := by decide +kernel

theorem parts_index : ∀ t : Fin cfg0.N, win0_1.index t = ![0, t.val, 0] := by decide +kernel

theorem first_index : ∀ t : Fin cfg0.N, win0_2.index t = ![t.val, 0] := by decide +kernel

theorem second_index : ∀ t : Fin cfg0.N, win0_3.index t = ![t.val, 0] := by decide +kernel

theorem out0_index : ∀ t : Fin cfg0.N, win0_4.index t = ![t.val, 0] := by decide +kernel

theorem store0_apply (x0 : Vec Ideal S64x384 .f32) (x1 : Vec Ideal S1x64x384 .f32) (x2 x3 : Vec Ideal S64x384 .f32) (p : Fin 64) (q : Fin 384) :
    out0_4 (F := Ideal) x0 x1 x2 x3 (ix2 p q) = (∑ s : Fin 1, x1 (ix3 s p q)) := by
  unfold out0_4
  frame_out
  simp only [Adam.change, Adam.first, Adam.second, Fin.sum_univ_one]
  pointwise [k0_pay1, k0_pay2, k0_pay3, k0_pay4]

theorem out1_index : ∀ t : Fin cfg0.N, win0_5.index t = ![t.val, 0] := by decide +kernel

theorem store1_apply (x0 : Vec Ideal S64x384 .f32) (x1 : Vec Ideal S1x64x384 .f32) (x2 x3 : Vec Ideal S64x384 .f32) (p : Fin 64) (q : Fin 384) :
    out0_5 (F := Ideal) x0 x1 x2 x3 (ix2 p q) = Adam.change (x0 (ix2 p q)) (Adam.first (x2 (ix2 p q)) (∑ s : Fin 1, x1 (ix3 s p q))) (Adam.second (x3 (ix2 p q)) (∑ s : Fin 1, x1 (ix3 s p q))) := by
  unfold out0_5
  frame_out
  simp only [Adam.change, Adam.first, Adam.second, Fin.sum_univ_one]
  pointwise [k0_pay1, k0_pay2, k0_pay3, k0_pay4]

theorem out2_index : ∀ t : Fin cfg0.N, win0_6.index t = ![t.val, 0] := by decide +kernel

theorem store2_apply (x0 : Vec Ideal S64x384 .f32) (x1 : Vec Ideal S1x64x384 .f32) (x2 x3 : Vec Ideal S64x384 .f32) (p : Fin 64) (q : Fin 384) :
    out0_6 (F := Ideal) x0 x1 x2 x3 (ix2 p q) = Adam.first (x2 (ix2 p q)) (∑ s : Fin 1, x1 (ix3 s p q)) := by
  unfold out0_6
  frame_out
  simp only [Adam.change, Adam.first, Adam.second, Fin.sum_univ_one]
  pointwise [k0_pay1, k0_pay2, k0_pay3, k0_pay4]

theorem out3_index : ∀ t : Fin cfg0.N, win0_7.index t = ![t.val, 0] := by decide +kernel

theorem store3_apply (x0 : Vec Ideal S64x384 .f32) (x1 : Vec Ideal S1x64x384 .f32) (x2 x3 : Vec Ideal S64x384 .f32) (p : Fin 64) (q : Fin 384) :
    out0_7 (F := Ideal) x0 x1 x2 x3 (ix2 p q) = Adam.second (x3 (ix2 p q)) (∑ s : Fin 1, x1 (ix3 s p q)) := by
  unfold out0_7
  frame_out
  simp only [Adam.change, Adam.first, Adam.second, Fin.sum_univ_one]
  pointwise [k0_pay1, k0_pay2, k0_pay3, k0_pay4]

variable (m : (ℓ : Loc nD τ sig) → Buf (Elt Ideal) ℓ)

/-- The four arguments as arrays. -/
abbrev weight (c : Dev nD) : FVec Ideal S1024x384 .f32 := m ((c : Thread nD τ).loc main_arg0)
abbrev parts (c : Dev nD) : FVec Ideal S1x1024x384 .f32 := m ((c : Thread nD τ).loc main_arg1)
abbrev moment1 (c : Dev nD) : FVec Ideal S1024x384 .f32 := m ((c : Thread nD τ).loc main_arg2)
abbrev moment2 (c : Dev nD) : FVec Ideal S1024x384 .f32 := m ((c : Thread nD τ).loc main_arg3)

/-- The point whose tile holds a row. -/
def pt (p : Fin 1024) : Fin cfg0.N := ⟨p.val / 64, by have hN : cfg0.N = 16 := N_0; have := p.isLt; omega⟩

/-- The row within its tile. -/
def row (p : Fin 1024) : Fin 64 := ⟨p.val % 64, by omega⟩

theorem weight_at (c : Dev nD) (p : Fin 1024) (q : Fin 384) : (iblk m c 0 (pt p) : Vec Ideal S64x384 .f32) (ix2 (row p) q) = weight m c (ix2 p q) := by
  have hp := p.isLt
  have hq := q.isLt
  blk_ext [iblk, weight, V, weight_index, pt, row]

theorem parts_at (c : Dev nD) (s : Fin 1) (p : Fin 1024) (q : Fin 384) : (iblk m c 1 (pt p) : Vec Ideal S1x64x384 .f32) (ix3 s (row p) q) = parts m c (ix3 s p q) := by
  have hs := s.isLt
  have hp := p.isLt
  have hq := q.isLt
  blk_ext [iblk, parts, V, parts_index, pt, row]

theorem moment1_at (c : Dev nD) (p : Fin 1024) (q : Fin 384) : (iblk m c 2 (pt p) : Vec Ideal S64x384 .f32) (ix2 (row p) q) = moment1 m c (ix2 p q) := by
  have hp := p.isLt
  have hq := q.isLt
  blk_ext [iblk, moment1, V, first_index, pt, row]

theorem moment2_at (c : Dev nD) (p : Fin 1024) (q : Fin 384) : (iblk m c 3 (pt p) : Vec Ideal S64x384 .f32) (ix2 (row p) q) = moment2 m c (ix2 p q) := by
  have hp := p.isLt
  have hq := q.isLt
  blk_ext [iblk, moment2, V, second_index, pt, row]

/-- The tile of the gradient parts at a point. -/
abbrev partsTile (c : Dev nD) (t : Fin cfg0.N) : FVec Ideal S1x64x384 .f32 := iblk m c 1 t

theorem sum_at (c : Dev nD) (p : Fin 1024) (q : Fin 384) : ∑ s : Fin 1, partsTile m c (pt p) (ix3 s (row p) q) = ∑ s : Fin 1, parts m c (ix3 s p q) :=
  Finset.sum_congr rfl fun s _ => parts_at m c s p q

theorem result0_at (c : Dev nD) (p : Fin 1024) (q : Fin 384) :
    ((dats m 0 c).arrAt 4 cfg0.N : FVec Ideal S1024x384 .f32) (ix2 p q) = (∑ s : Fin 1, parts m c (ix3 s p q)) := by
  have hp := p.isLt
  have hq := q.isLt
  have e := congrFun (Value.blocks4 m c (pt p) (flush0_4 _)) (ix2 (row p) q)
  rw [Value.flushed4] at e
  have hi : ((cfg0.win 4).blk (pt p)).view.emb (ix2 (row p) q) = ix2 p q := by
    blk_ext [out0_index, pt, row]
  refine Eq.trans ?_ (e.trans ?_)
  · exact congrArg ((dats m 0 c).arrAt 4 cfg0.N) hi.symm
  · show out0_4 (F := Ideal) _ _ _ _ (ix2 (row p) q) = _
    refine (store0_apply _ (partsTile m c (pt p)) _ _ _ _).trans ?_
    rw [sum_at]

theorem result1_at (c : Dev nD) (p : Fin 1024) (q : Fin 384) :
    ((dats m 0 c).arrAt 5 cfg0.N : FVec Ideal S1024x384 .f32) (ix2 p q) = Adam.change (weight m c (ix2 p q)) (Adam.first (moment1 m c (ix2 p q)) (∑ s : Fin 1, parts m c (ix3 s p q))) (Adam.second (moment2 m c (ix2 p q)) (∑ s : Fin 1, parts m c (ix3 s p q))) := by
  have hp := p.isLt
  have hq := q.isLt
  have e := congrFun (Value.blocks5 m c (pt p) (flush0_5 _)) (ix2 (row p) q)
  rw [Value.flushed5] at e
  have hi : ((cfg0.win 5).blk (pt p)).view.emb (ix2 (row p) q) = ix2 p q := by
    blk_ext [out1_index, pt, row]
  refine Eq.trans ?_ (e.trans ?_)
  · exact congrArg ((dats m 0 c).arrAt 5 cfg0.N) hi.symm
  · show out0_5 (F := Ideal) _ _ _ _ (ix2 (row p) q) = _
    refine (store1_apply _ (partsTile m c (pt p)) _ _ _ _).trans ?_
    rw [weight_at, sum_at, moment1_at, moment2_at]

theorem result2_at (c : Dev nD) (p : Fin 1024) (q : Fin 384) :
    ((dats m 0 c).arrAt 6 cfg0.N : FVec Ideal S1024x384 .f32) (ix2 p q) = Adam.first (moment1 m c (ix2 p q)) (∑ s : Fin 1, parts m c (ix3 s p q)) := by
  have hp := p.isLt
  have hq := q.isLt
  have e := congrFun (Value.blocks6 m c (pt p) (flush0_6 _)) (ix2 (row p) q)
  rw [Value.flushed6] at e
  have hi : ((cfg0.win 6).blk (pt p)).view.emb (ix2 (row p) q) = ix2 p q := by
    blk_ext [out2_index, pt, row]
  refine Eq.trans ?_ (e.trans ?_)
  · exact congrArg ((dats m 0 c).arrAt 6 cfg0.N) hi.symm
  · show out0_6 (F := Ideal) _ _ _ _ (ix2 (row p) q) = _
    refine (store2_apply _ (partsTile m c (pt p)) _ _ _ _).trans ?_
    rw [sum_at, moment1_at]

theorem result3_at (c : Dev nD) (p : Fin 1024) (q : Fin 384) :
    ((dats m 0 c).arrAt 7 cfg0.N : FVec Ideal S1024x384 .f32) (ix2 p q) = Adam.second (moment2 m c (ix2 p q)) (∑ s : Fin 1, parts m c (ix3 s p q)) := by
  have hp := p.isLt
  have hq := q.isLt
  have e := congrFun (Value.blocks7 m c (pt p) (flush0_7 _)) (ix2 (row p) q)
  rw [Value.flushed7] at e
  have hi : ((cfg0.win 7).blk (pt p)).view.emb (ix2 (row p) q) = ix2 p q := by
    blk_ext [out3_index, pt, row]
  refine Eq.trans ?_ (e.trans ?_)
  · exact congrArg ((dats m 0 c).arrAt 7 cfg0.N) hi.symm
  · show out0_7 (F := Ideal) _ _ _ _ (ix2 (row p) q) = _
    refine (store3_apply _ (partsTile m c (pt p)) _ _ _ _).trans ?_
    rw [sum_at, moment2_at]
end Cert.Opt10

namespace Cert.Opt10.Ref
open Cert.Reference10Ideal Cert.Reference10Ideal.Gen Idealize.ShloMosaic Idealize.ShloMosaic.TcCoe
open scoped BigOperators

theorem result0_at (x : FVec Ideal S1x1024x384 .f32) (p : Fin 1024) (q : Fin 384) :
    (Host.reduceAdd x (constant S_ .f32 0x00000000#32) reducesTo_S1x1024x384_S1024x384_d0 h_S_ : FVec Ideal S1024x384 .f32) (ix2 p q) = (∑ s : Fin 1, x (ix3 s p q)) := by
  pointwise

theorem result1_at (w : FVec Ideal S1024x384 .f32) (x : FVec Ideal S1x1024x384 .f32) (u v : FVec Ideal S1024x384 .f32) (p : Fin 1024) (q : Fin 384) :
    (mulf (broadcastInDim S1024x384 ![] bcast_S_S1024x384 (constant S_ .f32 0xBA83126F#32)) (addf (Host.divf (Host.divf (addf (mulf (broadcastInDim S1024x384 ![] bcast_S_S1024x384 (constant S_ .f32 0x3F666666#32)) u) (mulf (broadcastInDim S1024x384 ![] bcast_S_S1024x384 (constant S_ .f32 0x3DCCCCCD#32)) (Host.reduceAdd x (constant S_ .f32 0x00000000#32) reducesTo_S1x1024x384_S1024x384_d0 h_S_))) (broadcastInDim S1024x384 ![] bcast_S_S1024x384 (constant S_ .f32 0x3F26BD02#32))) (addf (Host.sqrt (Host.divf (addf (mulf (broadcastInDim S1024x384 ![] bcast_S_S1024x384 (constant S_ .f32 0x3F7FBE77#32)) v) (mulf (broadcastInDim S1024x384 ![] bcast_S_S1024x384 (constant S_ .f32 0x3A83126F#32)) (mulf (Host.reduceAdd x (constant S_ .f32 0x00000000#32) reducesTo_S1x1024x384_S1024x384_d0 h_S_) (Host.reduceAdd x (constant S_ .f32 0x00000000#32) reducesTo_S1x1024x384_S1024x384_d0 h_S_)))) (broadcastInDim S1024x384 ![] bcast_S_S1024x384 (constant S_ .f32 0x3C231ACC#32)))) (broadcastInDim S1024x384 ![] bcast_S_S1024x384 (constant S_ .f32 0x322BCC77#32)))) (mulf (broadcastInDim S1024x384 ![] bcast_S_S1024x384 (constant S_ .f32 0x3C23D70A#32)) w)) : FVec Ideal S1024x384 .f32) (ix2 p q) = Adam.change (w (ix2 p q)) (Adam.first (u (ix2 p q)) (∑ s : Fin 1, x (ix3 s p q))) (Adam.second (v (ix2 p q)) (∑ s : Fin 1, x (ix3 s p q))) := by
  simp only [Adam.change, Adam.first, Adam.second]
  pointwise

theorem result2_at (x : FVec Ideal S1x1024x384 .f32) (u : FVec Ideal S1024x384 .f32) (p : Fin 1024) (q : Fin 384) :
    (addf (mulf (broadcastInDim S1024x384 ![] bcast_S_S1024x384 (constant S_ .f32 0x3F666666#32)) u) (mulf (broadcastInDim S1024x384 ![] bcast_S_S1024x384 (constant S_ .f32 0x3DCCCCCD#32)) (Host.reduceAdd x (constant S_ .f32 0x00000000#32) reducesTo_S1x1024x384_S1024x384_d0 h_S_)) : FVec Ideal S1024x384 .f32) (ix2 p q) = Adam.first (u (ix2 p q)) (∑ s : Fin 1, x (ix3 s p q)) := by
  simp only [Adam.change, Adam.first, Adam.second]
  pointwise

theorem result3_at (x : FVec Ideal S1x1024x384 .f32) (v : FVec Ideal S1024x384 .f32) (p : Fin 1024) (q : Fin 384) :
    (addf (mulf (broadcastInDim S1024x384 ![] bcast_S_S1024x384 (constant S_ .f32 0x3F7FBE77#32)) v) (mulf (broadcastInDim S1024x384 ![] bcast_S_S1024x384 (constant S_ .f32 0x3A83126F#32)) (mulf (Host.reduceAdd x (constant S_ .f32 0x00000000#32) reducesTo_S1x1024x384_S1024x384_d0 h_S_) (Host.reduceAdd x (constant S_ .f32 0x00000000#32) reducesTo_S1x1024x384_S1024x384_d0 h_S_))) : FVec Ideal S1024x384 .f32) (ix2 p q) = Adam.second (v (ix2 p q)) (∑ s : Fin 1, x (ix3 s p q)) := by
  simp only [Adam.change, Adam.first, Adam.second]
  pointwise
end Cert.Opt10.Ref

namespace Cert.Opt10
open Idealize.ShloMosaic Idealize.SL.Sem

theorem algebraic : algebraic_Kernel10Ideal_Reference10Ideal := by
  intro m g m' g' _ hargs
  refine ⟨fun c => (Cert.Kernel10Ideal.Gen.dats m 0 c).arrAt 4 Cert.Kernel10Ideal.cfg0.N, fun c => (Cert.Kernel10Ideal.Gen.dats m 0 c).arrAt 5 Cert.Kernel10Ideal.cfg0.N,
    fun c => (Cert.Kernel10Ideal.Gen.dats m 0 c).arrAt 6 Cert.Kernel10Ideal.cfg0.N, fun c => (Cert.Kernel10Ideal.Gen.dats m 0 c).arrAt 7 Cert.Kernel10Ideal.cfg0.N,
    Cert.Kernel10Ideal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.Reference10Ideal.Value.run m' g')
  · rw [(hargs c).2.1]
    funext j
    obtain ⟨p, q, rfl⟩ : ∃ (p : Fin 1024) (q : Fin 384), j = ix2 p q := ⟨j 0, j 1, eq_ix2 j⟩
    exact (Cert.Opt10.Ref.result0_at _ p q).trans (result0_at m c p q).symm
  · rw [(hargs c).1, (hargs c).2.1, (hargs c).2.2.1, (hargs c).2.2.2]
    funext j
    obtain ⟨p, q, rfl⟩ : ∃ (p : Fin 1024) (q : Fin 384), j = ix2 p q := ⟨j 0, j 1, eq_ix2 j⟩
    exact (Cert.Opt10.Ref.result1_at _ _ _ _ p q).trans (result1_at m c p q).symm
  · rw [(hargs c).2.1, (hargs c).2.2.1]
    funext j
    obtain ⟨p, q, rfl⟩ : ∃ (p : Fin 1024) (q : Fin 384), j = ix2 p q := ⟨j 0, j 1, eq_ix2 j⟩
    exact (Cert.Opt10.Ref.result2_at _ _ p q).trans (result2_at m c p q).symm
  · rw [(hargs c).2.1, (hargs c).2.2.2]
    funext j
    obtain ⟨p, q, rfl⟩ : ∃ (p : Fin 1024) (q : Fin 384), j = ix2 p q := ⟨j 0, j 1, eq_ix2 j⟩
    exact (Cert.Opt10.Ref.result3_at _ _ p q).trans (result3_at m c p q).symm
end Cert.Opt10
-- ==== Proof.Opt11.lean ====
/- The optimiser's call adamw_conv_w: each tile of its results is the plain AdamW step's. -/
module

public import proofs.«01_k».proof.Proof.Adam
public import proofs.«01_k».proof.Proof.Gen.Kernel11Ideal.Value
public import proofs.«01_k».proof.Proof.Gen.Reference11Ideal.Run
public import proofs.«01_k».proof.Defs
public import Idealize.ShloMosaic.Lib.Pipeline.ValueKit
public import Idealize.ShloMosaic.Lib.Pointwise

@[expose] public section

set_option maxRecDepth 16384

noncomputable section

namespace Cert.Opt11

open Cert.Kernel11Ideal Cert.Kernel11Ideal.Gen Idealize.ShloMosaic Idealize.ShloMosaic.TcCoe
open scoped BigOperators

theorem weight_index : ∀ t : Fin cfg0.N, win0_0.index t = ![t.val, 0] := by decide +kernel

theorem parts_index : ∀ t : Fin cfg0.N, win0_1.index t = ![0, t.val, 0] := by decide +kernel

theorem first_index : ∀ t : Fin cfg0.N, win0_2.index t = ![t.val, 0] := by decide +kernel

theorem second_index : ∀ t : Fin cfg0.N, win0_3.index t = ![t.val, 0] := by decide +kernel

theorem out0_index : ∀ t : Fin cfg0.N, win0_4.index t = ![t.val, 0] := by decide +kernel

theorem store0_apply (x0 : Vec Ideal S9x384 .f32) (x1 : Vec Ideal S4x9x384 .bf16) (x2 x3 : Vec Ideal S9x384 .f32) (p : Fin 9) (q : Fin 384) :
    out0_4 (F := Ideal) x0 x1 x2 x3 (ix2 p q) = (∑ s : Fin 4, x1 (ix3 s p q)) := by
  unfold out0_4
  frame_out
  simp only [Adam.change, Adam.first, Adam.second, Fin.sum_univ_four]
  pointwise [k0_pay1, k0_pay2, k0_pay3, k0_pay4, k0_pay5, k0_pay6]

theorem out1_index : ∀ t : Fin cfg0.N, win0_5.index t = ![t.val, 0] := by decide +kernel

theorem store1_apply (x0 : Vec Ideal S9x384 .f32) (x1 : Vec Ideal S4x9x384 .bf16) (x2 x3 : Vec Ideal S9x384 .f32) (p : Fin 9) (q : Fin 384) :
    out0_5 (F := Ideal) x0 x1 x2 x3 (ix2 p q) = Adam.change (x0 (ix2 p q)) (Adam.first (x2 (ix2 p q)) (∑ s : Fin 4, x1 (ix3 s p q))) (Adam.second (x3 (ix2 p q)) (∑ s : Fin 4, x1 (ix3 s p q))) := by
  unfold out0_5
  frame_out
  simp only [Adam.change, Adam.first, Adam.second, Fin.sum_univ_four]
  pointwise [k0_pay1, k0_pay2, k0_pay3, k0_pay4, k0_pay5, k0_pay6]

theorem out2_index : ∀ t : Fin cfg0.N, win0_6.index t = ![t.val, 0] := by decide +kernel

theorem store2_apply (x0 : Vec Ideal S9x384 .f32) (x1 : Vec Ideal S4x9x384 .bf16) (x2 x3 : Vec Ideal S9x384 .f32) (p : Fin 9) (q : Fin 384) :
    out0_6 (F := Ideal) x0 x1 x2 x3 (ix2 p q) = Adam.first (x2 (ix2 p q)) (∑ s : Fin 4, x1 (ix3 s p q)) := by
  unfold out0_6
  frame_out
  simp only [Adam.change, Adam.first, Adam.second, Fin.sum_univ_four]
  pointwise [k0_pay1, k0_pay2, k0_pay3, k0_pay4, k0_pay5, k0_pay6]

theorem out3_index : ∀ t : Fin cfg0.N, win0_7.index t = ![t.val, 0] := by decide +kernel

theorem store3_apply (x0 : Vec Ideal S9x384 .f32) (x1 : Vec Ideal S4x9x384 .bf16) (x2 x3 : Vec Ideal S9x384 .f32) (p : Fin 9) (q : Fin 384) :
    out0_7 (F := Ideal) x0 x1 x2 x3 (ix2 p q) = Adam.second (x3 (ix2 p q)) (∑ s : Fin 4, x1 (ix3 s p q)) := by
  unfold out0_7
  frame_out
  simp only [Adam.change, Adam.first, Adam.second, Fin.sum_univ_four]
  pointwise [k0_pay1, k0_pay2, k0_pay3, k0_pay4, k0_pay5, k0_pay6]

variable (m : (ℓ : Loc nD τ sig) → Buf (Elt Ideal) ℓ)

/-- The four arguments as arrays. -/
abbrev weight (c : Dev nD) : FVec Ideal S9x384 .f32 := m ((c : Thread nD τ).loc main_arg0)
abbrev parts (c : Dev nD) : FVec Ideal S4x9x384 .bf16 := m ((c : Thread nD τ).loc main_arg1)
abbrev moment1 (c : Dev nD) : FVec Ideal S9x384 .f32 := m ((c : Thread nD τ).loc main_arg2)
abbrev moment2 (c : Dev nD) : FVec Ideal S9x384 .f32 := m ((c : Thread nD τ).loc main_arg3)

/-- The point whose tile holds a row. -/
def pt (p : Fin 9) : Fin cfg0.N := ⟨p.val / 9, by have hN : cfg0.N = 1 := N_0; have := p.isLt; omega⟩

/-- The row within its tile. -/
def row (p : Fin 9) : Fin 9 := ⟨p.val % 9, by omega⟩

theorem weight_at (c : Dev nD) (p : Fin 9) (q : Fin 384) : (iblk m c 0 (pt p) : Vec Ideal S9x384 .f32) (ix2 (row p) q) = weight m c (ix2 p q) := by
  have hp := p.isLt
  have hq := q.isLt
  blk_ext [iblk, weight, V, weight_index, pt, row]

theorem parts_at (c : Dev nD) (s : Fin 4) (p : Fin 9) (q : Fin 384) : (iblk m c 1 (pt p) : Vec Ideal S4x9x384 .bf16) (ix3 s (row p) q) = parts m c (ix3 s p q) := by
  have hs := s.isLt
  have hp := p.isLt
  have hq := q.isLt
  blk_ext [iblk, parts, V, parts_index, pt, row]

theorem moment1_at (c : Dev nD) (p : Fin 9) (q : Fin 384) : (iblk m c 2 (pt p) : Vec Ideal S9x384 .f32) (ix2 (row p) q) = moment1 m c (ix2 p q) := by
  have hp := p.isLt
  have hq := q.isLt
  blk_ext [iblk, moment1, V, first_index, pt, row]

theorem moment2_at (c : Dev nD) (p : Fin 9) (q : Fin 384) : (iblk m c 3 (pt p) : Vec Ideal S9x384 .f32) (ix2 (row p) q) = moment2 m c (ix2 p q) := by
  have hp := p.isLt
  have hq := q.isLt
  blk_ext [iblk, moment2, V, second_index, pt, row]

/-- The tile of the gradient parts at a point. -/
abbrev partsTile (c : Dev nD) (t : Fin cfg0.N) : FVec Ideal S4x9x384 .bf16 := iblk m c 1 t

theorem sum_at (c : Dev nD) (p : Fin 9) (q : Fin 384) : ∑ s : Fin 4, partsTile m c (pt p) (ix3 s (row p) q) = ∑ s : Fin 4, parts m c (ix3 s p q) :=
  Finset.sum_congr rfl fun s _ => parts_at m c s p q

theorem result0_at (c : Dev nD) (p : Fin 9) (q : Fin 384) :
    ((dats m 0 c).arrAt 4 cfg0.N : FVec Ideal S9x384 .f32) (ix2 p q) = (∑ s : Fin 4, parts m c (ix3 s p q)) := by
  have hp := p.isLt
  have hq := q.isLt
  have e := congrFun (Value.blocks4 m c (pt p) (flush0_4 _)) (ix2 (row p) q)
  rw [Value.flushed4] at e
  have hi : ((cfg0.win 4).blk (pt p)).view.emb (ix2 (row p) q) = ix2 p q := by
    blk_ext [out0_index, pt, row]
  refine Eq.trans ?_ (e.trans ?_)
  · exact congrArg ((dats m 0 c).arrAt 4 cfg0.N) hi.symm
  · show out0_4 (F := Ideal) _ _ _ _ (ix2 (row p) q) = _
    refine (store0_apply _ (partsTile m c (pt p)) _ _ _ _).trans ?_
    rw [sum_at]

theorem result1_at (c : Dev nD) (p : Fin 9) (q : Fin 384) :
    ((dats m 0 c).arrAt 5 cfg0.N : FVec Ideal S9x384 .f32) (ix2 p q) = Adam.change (weight m c (ix2 p q)) (Adam.first (moment1 m c (ix2 p q)) (∑ s : Fin 4, parts m c (ix3 s p q))) (Adam.second (moment2 m c (ix2 p q)) (∑ s : Fin 4, parts m c (ix3 s p q))) := by
  have hp := p.isLt
  have hq := q.isLt
  have e := congrFun (Value.blocks5 m c (pt p) (flush0_5 _)) (ix2 (row p) q)
  rw [Value.flushed5] at e
  have hi : ((cfg0.win 5).blk (pt p)).view.emb (ix2 (row p) q) = ix2 p q := by
    blk_ext [out1_index, pt, row]
  refine Eq.trans ?_ (e.trans ?_)
  · exact congrArg ((dats m 0 c).arrAt 5 cfg0.N) hi.symm
  · show out0_5 (F := Ideal) _ _ _ _ (ix2 (row p) q) = _
    refine (store1_apply _ (partsTile m c (pt p)) _ _ _ _).trans ?_
    rw [weight_at, sum_at, moment1_at, moment2_at]

theorem result2_at (c : Dev nD) (p : Fin 9) (q : Fin 384) :
    ((dats m 0 c).arrAt 6 cfg0.N : FVec Ideal S9x384 .f32) (ix2 p q) = Adam.first (moment1 m c (ix2 p q)) (∑ s : Fin 4, parts m c (ix3 s p q)) := by
  have hp := p.isLt
  have hq := q.isLt
  have e := congrFun (Value.blocks6 m c (pt p) (flush0_6 _)) (ix2 (row p) q)
  rw [Value.flushed6] at e
  have hi : ((cfg0.win 6).blk (pt p)).view.emb (ix2 (row p) q) = ix2 p q := by
    blk_ext [out2_index, pt, row]
  refine Eq.trans ?_ (e.trans ?_)
  · exact congrArg ((dats m 0 c).arrAt 6 cfg0.N) hi.symm
  · show out0_6 (F := Ideal) _ _ _ _ (ix2 (row p) q) = _
    refine (store2_apply _ (partsTile m c (pt p)) _ _ _ _).trans ?_
    rw [sum_at, moment1_at]

theorem result3_at (c : Dev nD) (p : Fin 9) (q : Fin 384) :
    ((dats m 0 c).arrAt 7 cfg0.N : FVec Ideal S9x384 .f32) (ix2 p q) = Adam.second (moment2 m c (ix2 p q)) (∑ s : Fin 4, parts m c (ix3 s p q)) := by
  have hp := p.isLt
  have hq := q.isLt
  have e := congrFun (Value.blocks7 m c (pt p) (flush0_7 _)) (ix2 (row p) q)
  rw [Value.flushed7] at e
  have hi : ((cfg0.win 7).blk (pt p)).view.emb (ix2 (row p) q) = ix2 p q := by
    blk_ext [out3_index, pt, row]
  refine Eq.trans ?_ (e.trans ?_)
  · exact congrArg ((dats m 0 c).arrAt 7 cfg0.N) hi.symm
  · show out0_7 (F := Ideal) _ _ _ _ (ix2 (row p) q) = _
    refine (store3_apply _ (partsTile m c (pt p)) _ _ _ _).trans ?_
    rw [sum_at, moment2_at]
end Cert.Opt11

namespace Cert.Opt11.Ref
open Cert.Reference11Ideal Cert.Reference11Ideal.Gen Idealize.ShloMosaic Idealize.ShloMosaic.TcCoe
open scoped BigOperators

theorem result0_at (x : FVec Ideal S4x9x384 .bf16) (p : Fin 9) (q : Fin 384) :
    (Host.reduceAdd (extf .f32 x bitsLt_bf16_f32) (constant S_ .f32 0x00000000#32) reducesTo_S4x9x384_S9x384_d0 h_S_ : FVec Ideal S9x384 .f32) (ix2 p q) = (∑ s : Fin 4, x (ix3 s p q)) := by
  pointwise

theorem result1_at (w : FVec Ideal S9x384 .f32) (x : FVec Ideal S4x9x384 .bf16) (u v : FVec Ideal S9x384 .f32) (p : Fin 9) (q : Fin 384) :
    (mulf (broadcastInDim S9x384 ![] bcast_S_S9x384 (constant S_ .f32 0xBA83126F#32)) (addf (Host.divf (Host.divf (addf (mulf (broadcastInDim S9x384 ![] bcast_S_S9x384 (constant S_ .f32 0x3F666666#32)) u) (mulf (broadcastInDim S9x384 ![] bcast_S_S9x384 (constant S_ .f32 0x3DCCCCCD#32)) (Host.reduceAdd (extf .f32 x bitsLt_bf16_f32) (constant S_ .f32 0x00000000#32) reducesTo_S4x9x384_S9x384_d0 h_S_))) (broadcastInDim S9x384 ![] bcast_S_S9x384 (constant S_ .f32 0x3F26BD02#32))) (addf (Host.sqrt (Host.divf (addf (mulf (broadcastInDim S9x384 ![] bcast_S_S9x384 (constant S_ .f32 0x3F7FBE77#32)) v) (mulf (broadcastInDim S9x384 ![] bcast_S_S9x384 (constant S_ .f32 0x3A83126F#32)) (mulf (Host.reduceAdd (extf .f32 x bitsLt_bf16_f32) (constant S_ .f32 0x00000000#32) reducesTo_S4x9x384_S9x384_d0 h_S_) (Host.reduceAdd (extf .f32 x bitsLt_bf16_f32) (constant S_ .f32 0x00000000#32) reducesTo_S4x9x384_S9x384_d0 h_S_)))) (broadcastInDim S9x384 ![] bcast_S_S9x384 (constant S_ .f32 0x3C231ACC#32)))) (broadcastInDim S9x384 ![] bcast_S_S9x384 (constant S_ .f32 0x322BCC77#32)))) (mulf (broadcastInDim S9x384 ![] bcast_S_S9x384 (constant S_ .f32 0x3C23D70A#32)) w)) : FVec Ideal S9x384 .f32) (ix2 p q) = Adam.change (w (ix2 p q)) (Adam.first (u (ix2 p q)) (∑ s : Fin 4, x (ix3 s p q))) (Adam.second (v (ix2 p q)) (∑ s : Fin 4, x (ix3 s p q))) := by
  simp only [Adam.change, Adam.first, Adam.second]
  pointwise

theorem result2_at (x : FVec Ideal S4x9x384 .bf16) (u : FVec Ideal S9x384 .f32) (p : Fin 9) (q : Fin 384) :
    (addf (mulf (broadcastInDim S9x384 ![] bcast_S_S9x384 (constant S_ .f32 0x3F666666#32)) u) (mulf (broadcastInDim S9x384 ![] bcast_S_S9x384 (constant S_ .f32 0x3DCCCCCD#32)) (Host.reduceAdd (extf .f32 x bitsLt_bf16_f32) (constant S_ .f32 0x00000000#32) reducesTo_S4x9x384_S9x384_d0 h_S_)) : FVec Ideal S9x384 .f32) (ix2 p q) = Adam.first (u (ix2 p q)) (∑ s : Fin 4, x (ix3 s p q)) := by
  simp only [Adam.change, Adam.first, Adam.second]
  pointwise

theorem result3_at (x : FVec Ideal S4x9x384 .bf16) (v : FVec Ideal S9x384 .f32) (p : Fin 9) (q : Fin 384) :
    (addf (mulf (broadcastInDim S9x384 ![] bcast_S_S9x384 (constant S_ .f32 0x3F7FBE77#32)) v) (mulf (broadcastInDim S9x384 ![] bcast_S_S9x384 (constant S_ .f32 0x3A83126F#32)) (mulf (Host.reduceAdd (extf .f32 x bitsLt_bf16_f32) (constant S_ .f32 0x00000000#32) reducesTo_S4x9x384_S9x384_d0 h_S_) (Host.reduceAdd (extf .f32 x bitsLt_bf16_f32) (constant S_ .f32 0x00000000#32) reducesTo_S4x9x384_S9x384_d0 h_S_))) : FVec Ideal S9x384 .f32) (ix2 p q) = Adam.second (v (ix2 p q)) (∑ s : Fin 4, x (ix3 s p q)) := by
  simp only [Adam.change, Adam.first, Adam.second]
  pointwise
end Cert.Opt11.Ref

namespace Cert.Opt11
open Idealize.ShloMosaic Idealize.SL.Sem

theorem algebraic : algebraic_Kernel11Ideal_Reference11Ideal := by
  intro m g m' g' _ hargs
  refine ⟨fun c => (Cert.Kernel11Ideal.Gen.dats m 0 c).arrAt 4 Cert.Kernel11Ideal.cfg0.N, fun c => (Cert.Kernel11Ideal.Gen.dats m 0 c).arrAt 5 Cert.Kernel11Ideal.cfg0.N,
    fun c => (Cert.Kernel11Ideal.Gen.dats m 0 c).arrAt 6 Cert.Kernel11Ideal.cfg0.N, fun c => (Cert.Kernel11Ideal.Gen.dats m 0 c).arrAt 7 Cert.Kernel11Ideal.cfg0.N,
    Cert.Kernel11Ideal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.Reference11Ideal.Value.run m' g')
  · rw [(hargs c).2.1]
    funext j
    obtain ⟨p, q, rfl⟩ : ∃ (p : Fin 9) (q : Fin 384), j = ix2 p q := ⟨j 0, j 1, eq_ix2 j⟩
    exact (Cert.Opt11.Ref.result0_at _ p q).trans (result0_at m c p q).symm
  · rw [(hargs c).1, (hargs c).2.1, (hargs c).2.2.1, (hargs c).2.2.2]
    funext j
    obtain ⟨p, q, rfl⟩ : ∃ (p : Fin 9) (q : Fin 384), j = ix2 p q := ⟨j 0, j 1, eq_ix2 j⟩
    exact (Cert.Opt11.Ref.result1_at _ _ _ _ p q).trans (result1_at m c p q).symm
  · rw [(hargs c).2.1, (hargs c).2.2.1]
    funext j
    obtain ⟨p, q, rfl⟩ : ∃ (p : Fin 9) (q : Fin 384), j = ix2 p q := ⟨j 0, j 1, eq_ix2 j⟩
    exact (Cert.Opt11.Ref.result2_at _ _ p q).trans (result2_at m c p q).symm
  · rw [(hargs c).2.1, (hargs c).2.2.2]
    funext j
    obtain ⟨p, q, rfl⟩ : ∃ (p : Fin 9) (q : Fin 384), j = ix2 p q := ⟨j 0, j 1, eq_ix2 j⟩
    exact (Cert.Opt11.Ref.result3_at _ _ p q).trans (result3_at m c p q).symm
end Cert.Opt11
-- ==== Proof.Opt12.lean ====
/- The optimiser's call adamw_hg_lb_logits: each tile of its results is the plain AdamW step's. -/
module

public import proofs.«01_k».proof.Proof.Adam
public import proofs.«01_k».proof.Proof.Gen.Kernel12Ideal.Value
public import proofs.«01_k».proof.Proof.Gen.Reference12Ideal.Run
public import proofs.«01_k».proof.Defs
public import Idealize.ShloMosaic.Lib.Pipeline.ValueKit
public import Idealize.ShloMosaic.Lib.Pointwise

@[expose] public section

set_option maxRecDepth 16384

noncomputable section

namespace Cert.Opt12

open Cert.Kernel12Ideal Cert.Kernel12Ideal.Gen Idealize.ShloMosaic Idealize.ShloMosaic.TcCoe
open scoped BigOperators

theorem weight_index : ∀ t : Fin cfg0.N, win0_0.index t = ![t.val, 0] := by decide +kernel

theorem parts_index : ∀ t : Fin cfg0.N, win0_1.index t = ![0, t.val, 0] := by decide +kernel

theorem first_index : ∀ t : Fin cfg0.N, win0_2.index t = ![t.val, 0] := by decide +kernel

theorem second_index : ∀ t : Fin cfg0.N, win0_3.index t = ![t.val, 0] := by decide +kernel

theorem out0_index : ∀ t : Fin cfg0.N, win0_4.index t = ![t.val, 0] := by decide +kernel

theorem store0_apply (x0 : Vec Ideal S4x128 .f32) (x1 : Vec Ideal S4x4x128 .bf16) (x2 x3 : Vec Ideal S4x128 .f32) (p : Fin 4) (q : Fin 128) :
    out0_4 (F := Ideal) x0 x1 x2 x3 (ix2 p q) = (∑ s : Fin 4, x1 (ix3 s p q)) := by
  unfold out0_4
  frame_out
  simp only [Adam.change, Adam.first, Adam.second, Fin.sum_univ_four]
  pointwise [k0_pay1, k0_pay2, k0_pay3, k0_pay4, k0_pay5, k0_pay6]

theorem out1_index : ∀ t : Fin cfg0.N, win0_5.index t = ![t.val, 0] := by decide +kernel

theorem store1_apply (x0 : Vec Ideal S4x128 .f32) (x1 : Vec Ideal S4x4x128 .bf16) (x2 x3 : Vec Ideal S4x128 .f32) (p : Fin 4) (q : Fin 128) :
    out0_5 (F := Ideal) x0 x1 x2 x3 (ix2 p q) = Adam.change (x0 (ix2 p q)) (Adam.first (x2 (ix2 p q)) (∑ s : Fin 4, x1 (ix3 s p q))) (Adam.second (x3 (ix2 p q)) (∑ s : Fin 4, x1 (ix3 s p q))) := by
  unfold out0_5
  frame_out
  simp only [Adam.change, Adam.first, Adam.second, Fin.sum_univ_four]
  pointwise [k0_pay1, k0_pay2, k0_pay3, k0_pay4, k0_pay5, k0_pay6]

theorem out2_index : ∀ t : Fin cfg0.N, win0_6.index t = ![t.val, 0] := by decide +kernel

theorem store2_apply (x0 : Vec Ideal S4x128 .f32) (x1 : Vec Ideal S4x4x128 .bf16) (x2 x3 : Vec Ideal S4x128 .f32) (p : Fin 4) (q : Fin 128) :
    out0_6 (F := Ideal) x0 x1 x2 x3 (ix2 p q) = Adam.first (x2 (ix2 p q)) (∑ s : Fin 4, x1 (ix3 s p q)) := by
  unfold out0_6
  frame_out
  simp only [Adam.change, Adam.first, Adam.second, Fin.sum_univ_four]
  pointwise [k0_pay1, k0_pay2, k0_pay3, k0_pay4, k0_pay5, k0_pay6]

theorem out3_index : ∀ t : Fin cfg0.N, win0_7.index t = ![t.val, 0] := by decide +kernel

theorem store3_apply (x0 : Vec Ideal S4x128 .f32) (x1 : Vec Ideal S4x4x128 .bf16) (x2 x3 : Vec Ideal S4x128 .f32) (p : Fin 4) (q : Fin 128) :
    out0_7 (F := Ideal) x0 x1 x2 x3 (ix2 p q) = Adam.second (x3 (ix2 p q)) (∑ s : Fin 4, x1 (ix3 s p q)) := by
  unfold out0_7
  frame_out
  simp only [Adam.change, Adam.first, Adam.second, Fin.sum_univ_four]
  pointwise [k0_pay1, k0_pay2, k0_pay3, k0_pay4, k0_pay5, k0_pay6]

variable (m : (ℓ : Loc nD τ sig) → Buf (Elt Ideal) ℓ)

/-- The four arguments as arrays. -/
abbrev weight (c : Dev nD) : FVec Ideal S4x128 .f32 := m ((c : Thread nD τ).loc main_arg0)
abbrev parts (c : Dev nD) : FVec Ideal S4x4x128 .bf16 := m ((c : Thread nD τ).loc main_arg1)
abbrev moment1 (c : Dev nD) : FVec Ideal S4x128 .f32 := m ((c : Thread nD τ).loc main_arg2)
abbrev moment2 (c : Dev nD) : FVec Ideal S4x128 .f32 := m ((c : Thread nD τ).loc main_arg3)

/-- The point whose tile holds a row. -/
def pt (p : Fin 4) : Fin cfg0.N := ⟨p.val / 4, by have hN : cfg0.N = 1 := N_0; have := p.isLt; omega⟩

/-- The row within its tile. -/
def row (p : Fin 4) : Fin 4 := ⟨p.val % 4, by omega⟩

theorem weight_at (c : Dev nD) (p : Fin 4) (q : Fin 128) : (iblk m c 0 (pt p) : Vec Ideal S4x128 .f32) (ix2 (row p) q) = weight m c (ix2 p q) := by
  have hp := p.isLt
  have hq := q.isLt
  blk_ext [iblk, weight, V, weight_index, pt, row]

theorem parts_at (c : Dev nD) (s : Fin 4) (p : Fin 4) (q : Fin 128) : (iblk m c 1 (pt p) : Vec Ideal S4x4x128 .bf16) (ix3 s (row p) q) = parts m c (ix3 s p q) := by
  have hs := s.isLt
  have hp := p.isLt
  have hq := q.isLt
  blk_ext [iblk, parts, V, parts_index, pt, row]

theorem moment1_at (c : Dev nD) (p : Fin 4) (q : Fin 128) : (iblk m c 2 (pt p) : Vec Ideal S4x128 .f32) (ix2 (row p) q) = moment1 m c (ix2 p q) := by
  have hp := p.isLt
  have hq := q.isLt
  blk_ext [iblk, moment1, V, first_index, pt, row]

theorem moment2_at (c : Dev nD) (p : Fin 4) (q : Fin 128) : (iblk m c 3 (pt p) : Vec Ideal S4x128 .f32) (ix2 (row p) q) = moment2 m c (ix2 p q) := by
  have hp := p.isLt
  have hq := q.isLt
  blk_ext [iblk, moment2, V, second_index, pt, row]

/-- The tile of the gradient parts at a point. -/
abbrev partsTile (c : Dev nD) (t : Fin cfg0.N) : FVec Ideal S4x4x128 .bf16 := iblk m c 1 t

theorem sum_at (c : Dev nD) (p : Fin 4) (q : Fin 128) : ∑ s : Fin 4, partsTile m c (pt p) (ix3 s (row p) q) = ∑ s : Fin 4, parts m c (ix3 s p q) :=
  Finset.sum_congr rfl fun s _ => parts_at m c s p q

theorem result0_at (c : Dev nD) (p : Fin 4) (q : Fin 128) :
    ((dats m 0 c).arrAt 4 cfg0.N : FVec Ideal S4x128 .f32) (ix2 p q) = (∑ s : Fin 4, parts m c (ix3 s p q)) := by
  have hp := p.isLt
  have hq := q.isLt
  have e := congrFun (Value.blocks4 m c (pt p) (flush0_4 _)) (ix2 (row p) q)
  rw [Value.flushed4] at e
  have hi : ((cfg0.win 4).blk (pt p)).view.emb (ix2 (row p) q) = ix2 p q := by
    blk_ext [out0_index, pt, row]
  refine Eq.trans ?_ (e.trans ?_)
  · exact congrArg ((dats m 0 c).arrAt 4 cfg0.N) hi.symm
  · show out0_4 (F := Ideal) _ _ _ _ (ix2 (row p) q) = _
    refine (store0_apply _ (partsTile m c (pt p)) _ _ _ _).trans ?_
    rw [sum_at]

theorem result1_at (c : Dev nD) (p : Fin 4) (q : Fin 128) :
    ((dats m 0 c).arrAt 5 cfg0.N : FVec Ideal S4x128 .f32) (ix2 p q) = Adam.change (weight m c (ix2 p q)) (Adam.first (moment1 m c (ix2 p q)) (∑ s : Fin 4, parts m c (ix3 s p q))) (Adam.second (moment2 m c (ix2 p q)) (∑ s : Fin 4, parts m c (ix3 s p q))) := by
  have hp := p.isLt
  have hq := q.isLt
  have e := congrFun (Value.blocks5 m c (pt p) (flush0_5 _)) (ix2 (row p) q)
  rw [Value.flushed5] at e
  have hi : ((cfg0.win 5).blk (pt p)).view.emb (ix2 (row p) q) = ix2 p q := by
    blk_ext [out1_index, pt, row]
  refine Eq.trans ?_ (e.trans ?_)
  · exact congrArg ((dats m 0 c).arrAt 5 cfg0.N) hi.symm
  · show out0_5 (F := Ideal) _ _ _ _ (ix2 (row p) q) = _
    refine (store1_apply _ (partsTile m c (pt p)) _ _ _ _).trans ?_
    rw [weight_at, sum_at, moment1_at, moment2_at]

theorem result2_at (c : Dev nD) (p : Fin 4) (q : Fin 128) :
    ((dats m 0 c).arrAt 6 cfg0.N : FVec Ideal S4x128 .f32) (ix2 p q) = Adam.first (moment1 m c (ix2 p q)) (∑ s : Fin 4, parts m c (ix3 s p q)) := by
  have hp := p.isLt
  have hq := q.isLt
  have e := congrFun (Value.blocks6 m c (pt p) (flush0_6 _)) (ix2 (row p) q)
  rw [Value.flushed6] at e
  have hi : ((cfg0.win 6).blk (pt p)).view.emb (ix2 (row p) q) = ix2 p q := by
    blk_ext [out2_index, pt, row]
  refine Eq.trans ?_ (e.trans ?_)
  · exact congrArg ((dats m 0 c).arrAt 6 cfg0.N) hi.symm
  · show out0_6 (F := Ideal) _ _ _ _ (ix2 (row p) q) = _
    refine (store2_apply _ (partsTile m c (pt p)) _ _ _ _).trans ?_
    rw [sum_at, moment1_at]

theorem result3_at (c : Dev nD) (p : Fin 4) (q : Fin 128) :
    ((dats m 0 c).arrAt 7 cfg0.N : FVec Ideal S4x128 .f32) (ix2 p q) = Adam.second (moment2 m c (ix2 p q)) (∑ s : Fin 4, parts m c (ix3 s p q)) := by
  have hp := p.isLt
  have hq := q.isLt
  have e := congrFun (Value.blocks7 m c (pt p) (flush0_7 _)) (ix2 (row p) q)
  rw [Value.flushed7] at e
  have hi : ((cfg0.win 7).blk (pt p)).view.emb (ix2 (row p) q) = ix2 p q := by
    blk_ext [out3_index, pt, row]
  refine Eq.trans ?_ (e.trans ?_)
  · exact congrArg ((dats m 0 c).arrAt 7 cfg0.N) hi.symm
  · show out0_7 (F := Ideal) _ _ _ _ (ix2 (row p) q) = _
    refine (store3_apply _ (partsTile m c (pt p)) _ _ _ _).trans ?_
    rw [sum_at, moment2_at]
end Cert.Opt12

namespace Cert.Opt12.Ref
open Cert.Reference12Ideal Cert.Reference12Ideal.Gen Idealize.ShloMosaic Idealize.ShloMosaic.TcCoe
open scoped BigOperators

theorem result0_at (x : FVec Ideal S4x4x128 .bf16) (p : Fin 4) (q : Fin 128) :
    (Host.reduceAdd (extf .f32 x bitsLt_bf16_f32) (constant S_ .f32 0x00000000#32) reducesTo_S4x4x128_S4x128_d0 h_S_ : FVec Ideal S4x128 .f32) (ix2 p q) = (∑ s : Fin 4, x (ix3 s p q)) := by
  pointwise

theorem result1_at (w : FVec Ideal S4x128 .f32) (x : FVec Ideal S4x4x128 .bf16) (u v : FVec Ideal S4x128 .f32) (p : Fin 4) (q : Fin 128) :
    (mulf (broadcastInDim S4x128 ![] bcast_S_S4x128 (constant S_ .f32 0xBA83126F#32)) (addf (Host.divf (Host.divf (addf (mulf (broadcastInDim S4x128 ![] bcast_S_S4x128 (constant S_ .f32 0x3F666666#32)) u) (mulf (broadcastInDim S4x128 ![] bcast_S_S4x128 (constant S_ .f32 0x3DCCCCCD#32)) (Host.reduceAdd (extf .f32 x bitsLt_bf16_f32) (constant S_ .f32 0x00000000#32) reducesTo_S4x4x128_S4x128_d0 h_S_))) (broadcastInDim S4x128 ![] bcast_S_S4x128 (constant S_ .f32 0x3F26BD02#32))) (addf (Host.sqrt (Host.divf (addf (mulf (broadcastInDim S4x128 ![] bcast_S_S4x128 (constant S_ .f32 0x3F7FBE77#32)) v) (mulf (broadcastInDim S4x128 ![] bcast_S_S4x128 (constant S_ .f32 0x3A83126F#32)) (mulf (Host.reduceAdd (extf .f32 x bitsLt_bf16_f32) (constant S_ .f32 0x00000000#32) reducesTo_S4x4x128_S4x128_d0 h_S_) (Host.reduceAdd (extf .f32 x bitsLt_bf16_f32) (constant S_ .f32 0x00000000#32) reducesTo_S4x4x128_S4x128_d0 h_S_)))) (broadcastInDim S4x128 ![] bcast_S_S4x128 (constant S_ .f32 0x3C231ACC#32)))) (broadcastInDim S4x128 ![] bcast_S_S4x128 (constant S_ .f32 0x322BCC77#32)))) (mulf (broadcastInDim S4x128 ![] bcast_S_S4x128 (constant S_ .f32 0x3C23D70A#32)) w)) : FVec Ideal S4x128 .f32) (ix2 p q) = Adam.change (w (ix2 p q)) (Adam.first (u (ix2 p q)) (∑ s : Fin 4, x (ix3 s p q))) (Adam.second (v (ix2 p q)) (∑ s : Fin 4, x (ix3 s p q))) := by
  simp only [Adam.change, Adam.first, Adam.second]
  pointwise

theorem result2_at (x : FVec Ideal S4x4x128 .bf16) (u : FVec Ideal S4x128 .f32) (p : Fin 4) (q : Fin 128) :
    (addf (mulf (broadcastInDim S4x128 ![] bcast_S_S4x128 (constant S_ .f32 0x3F666666#32)) u) (mulf (broadcastInDim S4x128 ![] bcast_S_S4x128 (constant S_ .f32 0x3DCCCCCD#32)) (Host.reduceAdd (extf .f32 x bitsLt_bf16_f32) (constant S_ .f32 0x00000000#32) reducesTo_S4x4x128_S4x128_d0 h_S_)) : FVec Ideal S4x128 .f32) (ix2 p q) = Adam.first (u (ix2 p q)) (∑ s : Fin 4, x (ix3 s p q)) := by
  simp only [Adam.change, Adam.first, Adam.second]
  pointwise

theorem result3_at (x : FVec Ideal S4x4x128 .bf16) (v : FVec Ideal S4x128 .f32) (p : Fin 4) (q : Fin 128) :
    (addf (mulf (broadcastInDim S4x128 ![] bcast_S_S4x128 (constant S_ .f32 0x3F7FBE77#32)) v) (mulf (broadcastInDim S4x128 ![] bcast_S_S4x128 (constant S_ .f32 0x3A83126F#32)) (mulf (Host.reduceAdd (extf .f32 x bitsLt_bf16_f32) (constant S_ .f32 0x00000000#32) reducesTo_S4x4x128_S4x128_d0 h_S_) (Host.reduceAdd (extf .f32 x bitsLt_bf16_f32) (constant S_ .f32 0x00000000#32) reducesTo_S4x4x128_S4x128_d0 h_S_))) : FVec Ideal S4x128 .f32) (ix2 p q) = Adam.second (v (ix2 p q)) (∑ s : Fin 4, x (ix3 s p q)) := by
  simp only [Adam.change, Adam.first, Adam.second]
  pointwise
end Cert.Opt12.Ref

namespace Cert.Opt12
open Idealize.ShloMosaic Idealize.SL.Sem

theorem algebraic : algebraic_Kernel12Ideal_Reference12Ideal := by
  intro m g m' g' _ hargs
  refine ⟨fun c => (Cert.Kernel12Ideal.Gen.dats m 0 c).arrAt 4 Cert.Kernel12Ideal.cfg0.N, fun c => (Cert.Kernel12Ideal.Gen.dats m 0 c).arrAt 5 Cert.Kernel12Ideal.cfg0.N,
    fun c => (Cert.Kernel12Ideal.Gen.dats m 0 c).arrAt 6 Cert.Kernel12Ideal.cfg0.N, fun c => (Cert.Kernel12Ideal.Gen.dats m 0 c).arrAt 7 Cert.Kernel12Ideal.cfg0.N,
    Cert.Kernel12Ideal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.Reference12Ideal.Value.run m' g')
  · rw [(hargs c).2.1]
    funext j
    obtain ⟨p, q, rfl⟩ : ∃ (p : Fin 4) (q : Fin 128), j = ix2 p q := ⟨j 0, j 1, eq_ix2 j⟩
    exact (Cert.Opt12.Ref.result0_at _ p q).trans (result0_at m c p q).symm
  · rw [(hargs c).1, (hargs c).2.1, (hargs c).2.2.1, (hargs c).2.2.2]
    funext j
    obtain ⟨p, q, rfl⟩ : ∃ (p : Fin 4) (q : Fin 128), j = ix2 p q := ⟨j 0, j 1, eq_ix2 j⟩
    exact (Cert.Opt12.Ref.result1_at _ _ _ _ p q).trans (result1_at m c p q).symm
  · rw [(hargs c).2.1, (hargs c).2.2.1]
    funext j
    obtain ⟨p, q, rfl⟩ : ∃ (p : Fin 4) (q : Fin 128), j = ix2 p q := ⟨j 0, j 1, eq_ix2 j⟩
    exact (Cert.Opt12.Ref.result2_at _ _ p q).trans (result2_at m c p q).symm
  · rw [(hargs c).2.1, (hargs c).2.2.2]
    funext j
    obtain ⟨p, q, rfl⟩ : ∃ (p : Fin 4) (q : Fin 128), j = ix2 p q := ⟨j 0, j 1, eq_ix2 j⟩
    exact (Cert.Opt12.Ref.result3_at _ _ p q).trans (result3_at m c p q).symm
end Cert.Opt12
-- ==== Proof.Opt13.lean ====
/- The optimiser's call adamw_ada_b: each tile of its results is the plain AdamW step's. -/
module

public import proofs.«01_k».proof.Proof.Adam
public import proofs.«01_k».proof.Proof.Gen.Kernel13Ideal.Value
public import proofs.«01_k».proof.Proof.Gen.Reference13Ideal.Run
public import proofs.«01_k».proof.Defs
public import Idealize.ShloMosaic.Lib.Pipeline.ValueKit
public import Idealize.ShloMosaic.Lib.Pointwise

@[expose] public section

set_option maxRecDepth 16384

noncomputable section

namespace Cert.Opt13

open Cert.Kernel13Ideal Cert.Kernel13Ideal.Gen Idealize.ShloMosaic Idealize.ShloMosaic.TcCoe
open scoped BigOperators

theorem weight_index : ∀ t : Fin cfg0.N, win0_0.index t = ![t.val, 0] := by decide +kernel

theorem parts_index : ∀ t : Fin cfg0.N, win0_1.index t = ![0, t.val, 0] := by decide +kernel

theorem first_index : ∀ t : Fin cfg0.N, win0_2.index t = ![t.val, 0] := by decide +kernel

theorem second_index : ∀ t : Fin cfg0.N, win0_3.index t = ![t.val, 0] := by decide +kernel

theorem out0_index : ∀ t : Fin cfg0.N, win0_4.index t = ![t.val, 0] := by decide +kernel

theorem store0_apply (x0 : Vec Ideal S1x3072 .f32) (x1 : Vec Ideal S1x1x3072 .f32) (x2 x3 : Vec Ideal S1x3072 .f32) (p : Fin 1) (q : Fin 3072) :
    out0_4 (F := Ideal) x0 x1 x2 x3 (ix2 p q) = (∑ s : Fin 1, x1 (ix3 s p q)) := by
  obtain rfl : p = 0 := Subsingleton.elim _ _
  unfold out0_4
  frame_out
  simp only [Adam.change, Adam.first, Adam.second, Fin.sum_univ_one]
  pointwise [k0_pay1, k0_pay2, k0_pay3, k0_pay4]

theorem out1_index : ∀ t : Fin cfg0.N, win0_5.index t = ![t.val, 0] := by decide +kernel

theorem store1_apply (x0 : Vec Ideal S1x3072 .f32) (x1 : Vec Ideal S1x1x3072 .f32) (x2 x3 : Vec Ideal S1x3072 .f32) (p : Fin 1) (q : Fin 3072) :
    out0_5 (F := Ideal) x0 x1 x2 x3 (ix2 p q) = Adam.change (x0 (ix2 p q)) (Adam.first (x2 (ix2 p q)) (∑ s : Fin 1, x1 (ix3 s p q))) (Adam.second (x3 (ix2 p q)) (∑ s : Fin 1, x1 (ix3 s p q))) := by
  obtain rfl : p = 0 := Subsingleton.elim _ _
  unfold out0_5
  frame_out
  simp only [Adam.change, Adam.first, Adam.second, Fin.sum_univ_one]
  pointwise [k0_pay1, k0_pay2, k0_pay3, k0_pay4]

theorem out2_index : ∀ t : Fin cfg0.N, win0_6.index t = ![t.val, 0] := by decide +kernel

theorem store2_apply (x0 : Vec Ideal S1x3072 .f32) (x1 : Vec Ideal S1x1x3072 .f32) (x2 x3 : Vec Ideal S1x3072 .f32) (p : Fin 1) (q : Fin 3072) :
    out0_6 (F := Ideal) x0 x1 x2 x3 (ix2 p q) = Adam.first (x2 (ix2 p q)) (∑ s : Fin 1, x1 (ix3 s p q)) := by
  obtain rfl : p = 0 := Subsingleton.elim _ _
  unfold out0_6
  frame_out
  simp only [Adam.change, Adam.first, Adam.second, Fin.sum_univ_one]
  pointwise [k0_pay1, k0_pay2, k0_pay3, k0_pay4]

theorem out3_index : ∀ t : Fin cfg0.N, win0_7.index t = ![t.val, 0] := by decide +kernel

theorem store3_apply (x0 : Vec Ideal S1x3072 .f32) (x1 : Vec Ideal S1x1x3072 .f32) (x2 x3 : Vec Ideal S1x3072 .f32) (p : Fin 1) (q : Fin 3072) :
    out0_7 (F := Ideal) x0 x1 x2 x3 (ix2 p q) = Adam.second (x3 (ix2 p q)) (∑ s : Fin 1, x1 (ix3 s p q)) := by
  obtain rfl : p = 0 := Subsingleton.elim _ _
  unfold out0_7
  frame_out
  simp only [Adam.change, Adam.first, Adam.second, Fin.sum_univ_one]
  pointwise [k0_pay1, k0_pay2, k0_pay3, k0_pay4]

variable (m : (ℓ : Loc nD τ sig) → Buf (Elt Ideal) ℓ)

/-- The four arguments as arrays. -/
abbrev weight (c : Dev nD) : FVec Ideal S1x3072 .f32 := m ((c : Thread nD τ).loc main_arg0)
abbrev parts (c : Dev nD) : FVec Ideal S1x1x3072 .f32 := m ((c : Thread nD τ).loc main_arg1)
abbrev moment1 (c : Dev nD) : FVec Ideal S1x3072 .f32 := m ((c : Thread nD τ).loc main_arg2)
abbrev moment2 (c : Dev nD) : FVec Ideal S1x3072 .f32 := m ((c : Thread nD τ).loc main_arg3)

/-- The point whose tile holds a row. -/
def pt (p : Fin 1) : Fin cfg0.N := ⟨p.val / 1, by have hN : cfg0.N = 1 := N_0; have := p.isLt; omega⟩

/-- The row within its tile. -/
def row (p : Fin 1) : Fin 1 := ⟨p.val % 1, by omega⟩

theorem weight_at (c : Dev nD) (p : Fin 1) (q : Fin 3072) : (iblk m c 0 (pt p) : Vec Ideal S1x3072 .f32) (ix2 (row p) q) = weight m c (ix2 p q) := by
  have hp := p.isLt
  have hq := q.isLt
  blk_ext [iblk, weight, V, weight_index, pt, row]

theorem parts_at (c : Dev nD) (s : Fin 1) (p : Fin 1) (q : Fin 3072) : (iblk m c 1 (pt p) : Vec Ideal S1x1x3072 .f32) (ix3 s (row p) q) = parts m c (ix3 s p q) := by
  have hs := s.isLt
  have hp := p.isLt
  have hq := q.isLt
  blk_ext [iblk, parts, V, parts_index, pt, row]

theorem moment1_at (c : Dev nD) (p : Fin 1) (q : Fin 3072) : (iblk m c 2 (pt p) : Vec Ideal S1x3072 .f32) (ix2 (row p) q) = moment1 m c (ix2 p q) := by
  have hp := p.isLt
  have hq := q.isLt
  blk_ext [iblk, moment1, V, first_index, pt, row]

theorem moment2_at (c : Dev nD) (p : Fin 1) (q : Fin 3072) : (iblk m c 3 (pt p) : Vec Ideal S1x3072 .f32) (ix2 (row p) q) = moment2 m c (ix2 p q) := by
  have hp := p.isLt
  have hq := q.isLt
  blk_ext [iblk, moment2, V, second_index, pt, row]

/-- The tile of the gradient parts at a point. -/
abbrev partsTile (c : Dev nD) (t : Fin cfg0.N) : FVec Ideal S1x1x3072 .f32 := iblk m c 1 t

theorem sum_at (c : Dev nD) (p : Fin 1) (q : Fin 3072) : ∑ s : Fin 1, partsTile m c (pt p) (ix3 s (row p) q) = ∑ s : Fin 1, parts m c (ix3 s p q) :=
  Finset.sum_congr rfl fun s _ => parts_at m c s p q

theorem result0_at (c : Dev nD) (p : Fin 1) (q : Fin 3072) :
    ((dats m 0 c).arrAt 4 cfg0.N : FVec Ideal S1x3072 .f32) (ix2 p q) = (∑ s : Fin 1, parts m c (ix3 s p q)) := by
  have hp := p.isLt
  have hq := q.isLt
  have e := congrFun (Value.blocks4 m c (pt p) (flush0_4 _)) (ix2 (row p) q)
  rw [Value.flushed4] at e
  have hi : ((cfg0.win 4).blk (pt p)).view.emb (ix2 (row p) q) = ix2 p q := by
    blk_ext [out0_index, pt, row]
  refine Eq.trans ?_ (e.trans ?_)
  · exact congrArg ((dats m 0 c).arrAt 4 cfg0.N) hi.symm
  · show out0_4 (F := Ideal) _ _ _ _ (ix2 (row p) q) = _
    refine (store0_apply _ (partsTile m c (pt p)) _ _ _ _).trans ?_
    rw [sum_at]

theorem result1_at (c : Dev nD) (p : Fin 1) (q : Fin 3072) :
    ((dats m 0 c).arrAt 5 cfg0.N : FVec Ideal S1x3072 .f32) (ix2 p q) = Adam.change (weight m c (ix2 p q)) (Adam.first (moment1 m c (ix2 p q)) (∑ s : Fin 1, parts m c (ix3 s p q))) (Adam.second (moment2 m c (ix2 p q)) (∑ s : Fin 1, parts m c (ix3 s p q))) := by
  have hp := p.isLt
  have hq := q.isLt
  have e := congrFun (Value.blocks5 m c (pt p) (flush0_5 _)) (ix2 (row p) q)
  rw [Value.flushed5] at e
  have hi : ((cfg0.win 5).blk (pt p)).view.emb (ix2 (row p) q) = ix2 p q := by
    blk_ext [out1_index, pt, row]
  refine Eq.trans ?_ (e.trans ?_)
  · exact congrArg ((dats m 0 c).arrAt 5 cfg0.N) hi.symm
  · show out0_5 (F := Ideal) _ _ _ _ (ix2 (row p) q) = _
    refine (store1_apply _ (partsTile m c (pt p)) _ _ _ _).trans ?_
    rw [weight_at, sum_at, moment1_at, moment2_at]

theorem result2_at (c : Dev nD) (p : Fin 1) (q : Fin 3072) :
    ((dats m 0 c).arrAt 6 cfg0.N : FVec Ideal S1x3072 .f32) (ix2 p q) = Adam.first (moment1 m c (ix2 p q)) (∑ s : Fin 1, parts m c (ix3 s p q)) := by
  have hp := p.isLt
  have hq := q.isLt
  have e := congrFun (Value.blocks6 m c (pt p) (flush0_6 _)) (ix2 (row p) q)
  rw [Value.flushed6] at e
  have hi : ((cfg0.win 6).blk (pt p)).view.emb (ix2 (row p) q) = ix2 p q := by
    blk_ext [out2_index, pt, row]
  refine Eq.trans ?_ (e.trans ?_)
  · exact congrArg ((dats m 0 c).arrAt 6 cfg0.N) hi.symm
  · show out0_6 (F := Ideal) _ _ _ _ (ix2 (row p) q) = _
    refine (store2_apply _ (partsTile m c (pt p)) _ _ _ _).trans ?_
    rw [sum_at, moment1_at]

theorem result3_at (c : Dev nD) (p : Fin 1) (q : Fin 3072) :
    ((dats m 0 c).arrAt 7 cfg0.N : FVec Ideal S1x3072 .f32) (ix2 p q) = Adam.second (moment2 m c (ix2 p q)) (∑ s : Fin 1, parts m c (ix3 s p q)) := by
  have hp := p.isLt
  have hq := q.isLt
  have e := congrFun (Value.blocks7 m c (pt p) (flush0_7 _)) (ix2 (row p) q)
  rw [Value.flushed7] at e
  have hi : ((cfg0.win 7).blk (pt p)).view.emb (ix2 (row p) q) = ix2 p q := by
    blk_ext [out3_index, pt, row]
  refine Eq.trans ?_ (e.trans ?_)
  · exact congrArg ((dats m 0 c).arrAt 7 cfg0.N) hi.symm
  · show out0_7 (F := Ideal) _ _ _ _ (ix2 (row p) q) = _
    refine (store3_apply _ (partsTile m c (pt p)) _ _ _ _).trans ?_
    rw [sum_at, moment2_at]
end Cert.Opt13

namespace Cert.Opt13.Ref
open Cert.Reference13Ideal Cert.Reference13Ideal.Gen Idealize.ShloMosaic Idealize.ShloMosaic.TcCoe
open scoped BigOperators

theorem result0_at (x : FVec Ideal S1x1x3072 .f32) (p : Fin 1) (q : Fin 3072) :
    (Host.reduceAdd x (constant S_ .f32 0x00000000#32) reducesTo_S1x1x3072_S1x3072_d0 h_S_ : FVec Ideal S1x3072 .f32) (ix2 p q) = (∑ s : Fin 1, x (ix3 s p q)) := by
  obtain rfl : p = 0 := Subsingleton.elim _ _
  pointwise

theorem result1_at (w : FVec Ideal S1x3072 .f32) (x : FVec Ideal S1x1x3072 .f32) (u v : FVec Ideal S1x3072 .f32) (p : Fin 1) (q : Fin 3072) :
    (mulf (broadcastInDim S1x3072 ![] bcast_S_S1x3072 (constant S_ .f32 0xBA83126F#32)) (addf (Host.divf (Host.divf (addf (mulf (broadcastInDim S1x3072 ![] bcast_S_S1x3072 (constant S_ .f32 0x3F666666#32)) u) (mulf (broadcastInDim S1x3072 ![] bcast_S_S1x3072 (constant S_ .f32 0x3DCCCCCD#32)) (Host.reduceAdd x (constant S_ .f32 0x00000000#32) reducesTo_S1x1x3072_S1x3072_d0 h_S_))) (broadcastInDim S1x3072 ![] bcast_S_S1x3072 (constant S_ .f32 0x3F26BD02#32))) (addf (Host.sqrt (Host.divf (addf (mulf (broadcastInDim S1x3072 ![] bcast_S_S1x3072 (constant S_ .f32 0x3F7FBE77#32)) v) (mulf (broadcastInDim S1x3072 ![] bcast_S_S1x3072 (constant S_ .f32 0x3A83126F#32)) (mulf (Host.reduceAdd x (constant S_ .f32 0x00000000#32) reducesTo_S1x1x3072_S1x3072_d0 h_S_) (Host.reduceAdd x (constant S_ .f32 0x00000000#32) reducesTo_S1x1x3072_S1x3072_d0 h_S_)))) (broadcastInDim S1x3072 ![] bcast_S_S1x3072 (constant S_ .f32 0x3C231ACC#32)))) (broadcastInDim S1x3072 ![] bcast_S_S1x3072 (constant S_ .f32 0x322BCC77#32)))) (mulf (broadcastInDim S1x3072 ![] bcast_S_S1x3072 (constant S_ .f32 0x3C23D70A#32)) w)) : FVec Ideal S1x3072 .f32) (ix2 p q) = Adam.change (w (ix2 p q)) (Adam.first (u (ix2 p q)) (∑ s : Fin 1, x (ix3 s p q))) (Adam.second (v (ix2 p q)) (∑ s : Fin 1, x (ix3 s p q))) := by
  obtain rfl : p = 0 := Subsingleton.elim _ _
  simp only [Adam.change, Adam.first, Adam.second]
  pointwise

theorem result2_at (x : FVec Ideal S1x1x3072 .f32) (u : FVec Ideal S1x3072 .f32) (p : Fin 1) (q : Fin 3072) :
    (addf (mulf (broadcastInDim S1x3072 ![] bcast_S_S1x3072 (constant S_ .f32 0x3F666666#32)) u) (mulf (broadcastInDim S1x3072 ![] bcast_S_S1x3072 (constant S_ .f32 0x3DCCCCCD#32)) (Host.reduceAdd x (constant S_ .f32 0x00000000#32) reducesTo_S1x1x3072_S1x3072_d0 h_S_)) : FVec Ideal S1x3072 .f32) (ix2 p q) = Adam.first (u (ix2 p q)) (∑ s : Fin 1, x (ix3 s p q)) := by
  obtain rfl : p = 0 := Subsingleton.elim _ _
  simp only [Adam.change, Adam.first, Adam.second]
  pointwise

theorem result3_at (x : FVec Ideal S1x1x3072 .f32) (v : FVec Ideal S1x3072 .f32) (p : Fin 1) (q : Fin 3072) :
    (addf (mulf (broadcastInDim S1x3072 ![] bcast_S_S1x3072 (constant S_ .f32 0x3F7FBE77#32)) v) (mulf (broadcastInDim S1x3072 ![] bcast_S_S1x3072 (constant S_ .f32 0x3A83126F#32)) (mulf (Host.reduceAdd x (constant S_ .f32 0x00000000#32) reducesTo_S1x1x3072_S1x3072_d0 h_S_) (Host.reduceAdd x (constant S_ .f32 0x00000000#32) reducesTo_S1x1x3072_S1x3072_d0 h_S_))) : FVec Ideal S1x3072 .f32) (ix2 p q) = Adam.second (v (ix2 p q)) (∑ s : Fin 1, x (ix3 s p q)) := by
  obtain rfl : p = 0 := Subsingleton.elim _ _
  simp only [Adam.change, Adam.first, Adam.second]
  pointwise
end Cert.Opt13.Ref

namespace Cert.Opt13
open Idealize.ShloMosaic Idealize.SL.Sem

theorem algebraic : algebraic_Kernel13Ideal_Reference13Ideal := by
  intro m g m' g' _ hargs
  refine ⟨fun c => (Cert.Kernel13Ideal.Gen.dats m 0 c).arrAt 4 Cert.Kernel13Ideal.cfg0.N, fun c => (Cert.Kernel13Ideal.Gen.dats m 0 c).arrAt 5 Cert.Kernel13Ideal.cfg0.N,
    fun c => (Cert.Kernel13Ideal.Gen.dats m 0 c).arrAt 6 Cert.Kernel13Ideal.cfg0.N, fun c => (Cert.Kernel13Ideal.Gen.dats m 0 c).arrAt 7 Cert.Kernel13Ideal.cfg0.N,
    Cert.Kernel13Ideal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.Reference13Ideal.Value.run m' g')
  · rw [(hargs c).2.1]
    funext j
    obtain ⟨p, q, rfl⟩ : ∃ (p : Fin 1) (q : Fin 3072), j = ix2 p q := ⟨j 0, j 1, eq_ix2 j⟩
    exact (Cert.Opt13.Ref.result0_at _ p q).trans (result0_at m c p q).symm
  · rw [(hargs c).1, (hargs c).2.1, (hargs c).2.2.1, (hargs c).2.2.2]
    funext j
    obtain ⟨p, q, rfl⟩ : ∃ (p : Fin 1) (q : Fin 3072), j = ix2 p q := ⟨j 0, j 1, eq_ix2 j⟩
    exact (Cert.Opt13.Ref.result1_at _ _ _ _ p q).trans (result1_at m c p q).symm
  · rw [(hargs c).2.1, (hargs c).2.2.1]
    funext j
    obtain ⟨p, q, rfl⟩ : ∃ (p : Fin 1) (q : Fin 3072), j = ix2 p q := ⟨j 0, j 1, eq_ix2 j⟩
    exact (Cert.Opt13.Ref.result2_at _ _ p q).trans (result2_at m c p q).symm
  · rw [(hargs c).2.1, (hargs c).2.2.2]
    funext j
    obtain ⟨p, q, rfl⟩ : ∃ (p : Fin 1) (q : Fin 3072), j = ix2 p q := ⟨j 0, j 1, eq_ix2 j⟩
    exact (Cert.Opt13.Ref.result3_at _ _ p q).trans (result3_at m c p q).symm
end Cert.Opt13
-- ==== Proof.Opt14.lean ====
/- The optimiser's call adamw_norm_w: each tile of its results is the plain AdamW step's. -/
module

public import proofs.«01_k».proof.Proof.Adam
public import proofs.«01_k».proof.Proof.Gen.Kernel14Ideal.Value
public import proofs.«01_k».proof.Proof.Gen.Reference14Ideal.Run
public import proofs.«01_k».proof.Defs
public import Idealize.ShloMosaic.Lib.Pipeline.ValueKit
public import Idealize.ShloMosaic.Lib.Pointwise

@[expose] public section

set_option maxRecDepth 16384

noncomputable section

namespace Cert.Opt14

open Cert.Kernel14Ideal Cert.Kernel14Ideal.Gen Idealize.ShloMosaic Idealize.ShloMosaic.TcCoe
open scoped BigOperators

theorem weight_index : ∀ t : Fin cfg0.N, win0_0.index t = ![t.val, 0] := by decide +kernel

theorem parts_index : ∀ t : Fin cfg0.N, win0_1.index t = ![0, t.val, 0] := by decide +kernel

theorem first_index : ∀ t : Fin cfg0.N, win0_2.index t = ![t.val, 0] := by decide +kernel

theorem second_index : ∀ t : Fin cfg0.N, win0_3.index t = ![t.val, 0] := by decide +kernel

theorem out0_index : ∀ t : Fin cfg0.N, win0_4.index t = ![t.val, 0] := by decide +kernel

theorem store0_apply (x0 : Vec Ideal S1x1024 .f32) (x1 : Vec Ideal S1x1x1024 .f32) (x2 x3 : Vec Ideal S1x1024 .f32) (p : Fin 1) (q : Fin 1024) :
    out0_4 (F := Ideal) x0 x1 x2 x3 (ix2 p q) = (∑ s : Fin 1, x1 (ix3 s p q)) := by
  obtain rfl : p = 0 := Subsingleton.elim _ _
  unfold out0_4
  frame_out
  simp only [Adam.change, Adam.first, Adam.second, Fin.sum_univ_one]
  pointwise [k0_pay1, k0_pay2, k0_pay3, k0_pay4]

theorem out1_index : ∀ t : Fin cfg0.N, win0_5.index t = ![t.val, 0] := by decide +kernel

theorem store1_apply (x0 : Vec Ideal S1x1024 .f32) (x1 : Vec Ideal S1x1x1024 .f32) (x2 x3 : Vec Ideal S1x1024 .f32) (p : Fin 1) (q : Fin 1024) :
    out0_5 (F := Ideal) x0 x1 x2 x3 (ix2 p q) = Adam.change (x0 (ix2 p q)) (Adam.first (x2 (ix2 p q)) (∑ s : Fin 1, x1 (ix3 s p q))) (Adam.second (x3 (ix2 p q)) (∑ s : Fin 1, x1 (ix3 s p q))) := by
  obtain rfl : p = 0 := Subsingleton.elim _ _
  unfold out0_5
  frame_out
  simp only [Adam.change, Adam.first, Adam.second, Fin.sum_univ_one]
  pointwise [k0_pay1, k0_pay2, k0_pay3, k0_pay4]

theorem out2_index : ∀ t : Fin cfg0.N, win0_6.index t = ![t.val, 0] := by decide +kernel

theorem store2_apply (x0 : Vec Ideal S1x1024 .f32) (x1 : Vec Ideal S1x1x1024 .f32) (x2 x3 : Vec Ideal S1x1024 .f32) (p : Fin 1) (q : Fin 1024) :
    out0_6 (F := Ideal) x0 x1 x2 x3 (ix2 p q) = Adam.first (x2 (ix2 p q)) (∑ s : Fin 1, x1 (ix3 s p q)) := by
  obtain rfl : p = 0 := Subsingleton.elim _ _
  unfold out0_6
  frame_out
  simp only [Adam.change, Adam.first, Adam.second, Fin.sum_univ_one]
  pointwise [k0_pay1, k0_pay2, k0_pay3, k0_pay4]

theorem out3_index : ∀ t : Fin cfg0.N, win0_7.index t = ![t.val, 0] := by decide +kernel

theorem store3_apply (x0 : Vec Ideal S1x1024 .f32) (x1 : Vec Ideal S1x1x1024 .f32) (x2 x3 : Vec Ideal S1x1024 .f32) (p : Fin 1) (q : Fin 1024) :
    out0_7 (F := Ideal) x0 x1 x2 x3 (ix2 p q) = Adam.second (x3 (ix2 p q)) (∑ s : Fin 1, x1 (ix3 s p q)) := by
  obtain rfl : p = 0 := Subsingleton.elim _ _
  unfold out0_7
  frame_out
  simp only [Adam.change, Adam.first, Adam.second, Fin.sum_univ_one]
  pointwise [k0_pay1, k0_pay2, k0_pay3, k0_pay4]

variable (m : (ℓ : Loc nD τ sig) → Buf (Elt Ideal) ℓ)

/-- The four arguments as arrays. -/
abbrev weight (c : Dev nD) : FVec Ideal S1x1024 .f32 := m ((c : Thread nD τ).loc main_arg0)
abbrev parts (c : Dev nD) : FVec Ideal S1x1x1024 .f32 := m ((c : Thread nD τ).loc main_arg1)
abbrev moment1 (c : Dev nD) : FVec Ideal S1x1024 .f32 := m ((c : Thread nD τ).loc main_arg2)
abbrev moment2 (c : Dev nD) : FVec Ideal S1x1024 .f32 := m ((c : Thread nD τ).loc main_arg3)

/-- The point whose tile holds a row. -/
def pt (p : Fin 1) : Fin cfg0.N := ⟨p.val / 1, by have hN : cfg0.N = 1 := N_0; have := p.isLt; omega⟩

/-- The row within its tile. -/
def row (p : Fin 1) : Fin 1 := ⟨p.val % 1, by omega⟩

theorem weight_at (c : Dev nD) (p : Fin 1) (q : Fin 1024) : (iblk m c 0 (pt p) : Vec Ideal S1x1024 .f32) (ix2 (row p) q) = weight m c (ix2 p q) := by
  have hp := p.isLt
  have hq := q.isLt
  blk_ext [iblk, weight, V, weight_index, pt, row]

theorem parts_at (c : Dev nD) (s : Fin 1) (p : Fin 1) (q : Fin 1024) : (iblk m c 1 (pt p) : Vec Ideal S1x1x1024 .f32) (ix3 s (row p) q) = parts m c (ix3 s p q) := by
  have hs := s.isLt
  have hp := p.isLt
  have hq := q.isLt
  blk_ext [iblk, parts, V, parts_index, pt, row]

theorem moment1_at (c : Dev nD) (p : Fin 1) (q : Fin 1024) : (iblk m c 2 (pt p) : Vec Ideal S1x1024 .f32) (ix2 (row p) q) = moment1 m c (ix2 p q) := by
  have hp := p.isLt
  have hq := q.isLt
  blk_ext [iblk, moment1, V, first_index, pt, row]

theorem moment2_at (c : Dev nD) (p : Fin 1) (q : Fin 1024) : (iblk m c 3 (pt p) : Vec Ideal S1x1024 .f32) (ix2 (row p) q) = moment2 m c (ix2 p q) := by
  have hp := p.isLt
  have hq := q.isLt
  blk_ext [iblk, moment2, V, second_index, pt, row]

/-- The tile of the gradient parts at a point. -/
abbrev partsTile (c : Dev nD) (t : Fin cfg0.N) : FVec Ideal S1x1x1024 .f32 := iblk m c 1 t

theorem sum_at (c : Dev nD) (p : Fin 1) (q : Fin 1024) : ∑ s : Fin 1, partsTile m c (pt p) (ix3 s (row p) q) = ∑ s : Fin 1, parts m c (ix3 s p q) :=
  Finset.sum_congr rfl fun s _ => parts_at m c s p q

theorem result0_at (c : Dev nD) (p : Fin 1) (q : Fin 1024) :
    ((dats m 0 c).arrAt 4 cfg0.N : FVec Ideal S1x1024 .f32) (ix2 p q) = (∑ s : Fin 1, parts m c (ix3 s p q)) := by
  have hp := p.isLt
  have hq := q.isLt
  have e := congrFun (Value.blocks4 m c (pt p) (flush0_4 _)) (ix2 (row p) q)
  rw [Value.flushed4] at e
  have hi : ((cfg0.win 4).blk (pt p)).view.emb (ix2 (row p) q) = ix2 p q := by
    blk_ext [out0_index, pt, row]
  refine Eq.trans ?_ (e.trans ?_)
  · exact congrArg ((dats m 0 c).arrAt 4 cfg0.N) hi.symm
  · show out0_4 (F := Ideal) _ _ _ _ (ix2 (row p) q) = _
    refine (store0_apply _ (partsTile m c (pt p)) _ _ _ _).trans ?_
    rw [sum_at]

theorem result1_at (c : Dev nD) (p : Fin 1) (q : Fin 1024) :
    ((dats m 0 c).arrAt 5 cfg0.N : FVec Ideal S1x1024 .f32) (ix2 p q) = Adam.change (weight m c (ix2 p q)) (Adam.first (moment1 m c (ix2 p q)) (∑ s : Fin 1, parts m c (ix3 s p q))) (Adam.second (moment2 m c (ix2 p q)) (∑ s : Fin 1, parts m c (ix3 s p q))) := by
  have hp := p.isLt
  have hq := q.isLt
  have e := congrFun (Value.blocks5 m c (pt p) (flush0_5 _)) (ix2 (row p) q)
  rw [Value.flushed5] at e
  have hi : ((cfg0.win 5).blk (pt p)).view.emb (ix2 (row p) q) = ix2 p q := by
    blk_ext [out1_index, pt, row]
  refine Eq.trans ?_ (e.trans ?_)
  · exact congrArg ((dats m 0 c).arrAt 5 cfg0.N) hi.symm
  · show out0_5 (F := Ideal) _ _ _ _ (ix2 (row p) q) = _
    refine (store1_apply _ (partsTile m c (pt p)) _ _ _ _).trans ?_
    rw [weight_at, sum_at, moment1_at, moment2_at]

theorem result2_at (c : Dev nD) (p : Fin 1) (q : Fin 1024) :
    ((dats m 0 c).arrAt 6 cfg0.N : FVec Ideal S1x1024 .f32) (ix2 p q) = Adam.first (moment1 m c (ix2 p q)) (∑ s : Fin 1, parts m c (ix3 s p q)) := by
  have hp := p.isLt
  have hq := q.isLt
  have e := congrFun (Value.blocks6 m c (pt p) (flush0_6 _)) (ix2 (row p) q)
  rw [Value.flushed6] at e
  have hi : ((cfg0.win 6).blk (pt p)).view.emb (ix2 (row p) q) = ix2 p q := by
    blk_ext [out2_index, pt, row]
  refine Eq.trans ?_ (e.trans ?_)
  · exact congrArg ((dats m 0 c).arrAt 6 cfg0.N) hi.symm
  · show out0_6 (F := Ideal) _ _ _ _ (ix2 (row p) q) = _
    refine (store2_apply _ (partsTile m c (pt p)) _ _ _ _).trans ?_
    rw [sum_at, moment1_at]

theorem result3_at (c : Dev nD) (p : Fin 1) (q : Fin 1024) :
    ((dats m 0 c).arrAt 7 cfg0.N : FVec Ideal S1x1024 .f32) (ix2 p q) = Adam.second (moment2 m c (ix2 p q)) (∑ s : Fin 1, parts m c (ix3 s p q)) := by
  have hp := p.isLt
  have hq := q.isLt
  have e := congrFun (Value.blocks7 m c (pt p) (flush0_7 _)) (ix2 (row p) q)
  rw [Value.flushed7] at e
  have hi : ((cfg0.win 7).blk (pt p)).view.emb (ix2 (row p) q) = ix2 p q := by
    blk_ext [out3_index, pt, row]
  refine Eq.trans ?_ (e.trans ?_)
  · exact congrArg ((dats m 0 c).arrAt 7 cfg0.N) hi.symm
  · show out0_7 (F := Ideal) _ _ _ _ (ix2 (row p) q) = _
    refine (store3_apply _ (partsTile m c (pt p)) _ _ _ _).trans ?_
    rw [sum_at, moment2_at]
end Cert.Opt14

namespace Cert.Opt14.Ref
open Cert.Reference14Ideal Cert.Reference14Ideal.Gen Idealize.ShloMosaic Idealize.ShloMosaic.TcCoe
open scoped BigOperators

theorem result0_at (x : FVec Ideal S1x1x1024 .f32) (p : Fin 1) (q : Fin 1024) :
    (Host.reduceAdd x (constant S_ .f32 0x00000000#32) reducesTo_S1x1x1024_S1x1024_d0 h_S_ : FVec Ideal S1x1024 .f32) (ix2 p q) = (∑ s : Fin 1, x (ix3 s p q)) := by
  obtain rfl : p = 0 := Subsingleton.elim _ _
  pointwise

theorem result1_at (w : FVec Ideal S1x1024 .f32) (x : FVec Ideal S1x1x1024 .f32) (u v : FVec Ideal S1x1024 .f32) (p : Fin 1) (q : Fin 1024) :
    (mulf (broadcastInDim S1x1024 ![] bcast_S_S1x1024 (constant S_ .f32 0xBA83126F#32)) (addf (Host.divf (Host.divf (addf (mulf (broadcastInDim S1x1024 ![] bcast_S_S1x1024 (constant S_ .f32 0x3F666666#32)) u) (mulf (broadcastInDim S1x1024 ![] bcast_S_S1x1024 (constant S_ .f32 0x3DCCCCCD#32)) (Host.reduceAdd x (constant S_ .f32 0x00000000#32) reducesTo_S1x1x1024_S1x1024_d0 h_S_))) (broadcastInDim S1x1024 ![] bcast_S_S1x1024 (constant S_ .f32 0x3F26BD02#32))) (addf (Host.sqrt (Host.divf (addf (mulf (broadcastInDim S1x1024 ![] bcast_S_S1x1024 (constant S_ .f32 0x3F7FBE77#32)) v) (mulf (broadcastInDim S1x1024 ![] bcast_S_S1x1024 (constant S_ .f32 0x3A83126F#32)) (mulf (Host.reduceAdd x (constant S_ .f32 0x00000000#32) reducesTo_S1x1x1024_S1x1024_d0 h_S_) (Host.reduceAdd x (constant S_ .f32 0x00000000#32) reducesTo_S1x1x1024_S1x1024_d0 h_S_)))) (broadcastInDim S1x1024 ![] bcast_S_S1x1024 (constant S_ .f32 0x3C231ACC#32)))) (broadcastInDim S1x1024 ![] bcast_S_S1x1024 (constant S_ .f32 0x322BCC77#32)))) (mulf (broadcastInDim S1x1024 ![] bcast_S_S1x1024 (constant S_ .f32 0x3C23D70A#32)) w)) : FVec Ideal S1x1024 .f32) (ix2 p q) = Adam.change (w (ix2 p q)) (Adam.first (u (ix2 p q)) (∑ s : Fin 1, x (ix3 s p q))) (Adam.second (v (ix2 p q)) (∑ s : Fin 1, x (ix3 s p q))) := by
  obtain rfl : p = 0 := Subsingleton.elim _ _
  simp only [Adam.change, Adam.first, Adam.second]
  pointwise

theorem result2_at (x : FVec Ideal S1x1x1024 .f32) (u : FVec Ideal S1x1024 .f32) (p : Fin 1) (q : Fin 1024) :
    (addf (mulf (broadcastInDim S1x1024 ![] bcast_S_S1x1024 (constant S_ .f32 0x3F666666#32)) u) (mulf (broadcastInDim S1x1024 ![] bcast_S_S1x1024 (constant S_ .f32 0x3DCCCCCD#32)) (Host.reduceAdd x (constant S_ .f32 0x00000000#32) reducesTo_S1x1x1024_S1x1024_d0 h_S_)) : FVec Ideal S1x1024 .f32) (ix2 p q) = Adam.first (u (ix2 p q)) (∑ s : Fin 1, x (ix3 s p q)) := by
  obtain rfl : p = 0 := Subsingleton.elim _ _
  simp only [Adam.change, Adam.first, Adam.second]
  pointwise

theorem result3_at (x : FVec Ideal S1x1x1024 .f32) (v : FVec Ideal S1x1024 .f32) (p : Fin 1) (q : Fin 1024) :
    (addf (mulf (broadcastInDim S1x1024 ![] bcast_S_S1x1024 (constant S_ .f32 0x3F7FBE77#32)) v) (mulf (broadcastInDim S1x1024 ![] bcast_S_S1x1024 (constant S_ .f32 0x3A83126F#32)) (mulf (Host.reduceAdd x (constant S_ .f32 0x00000000#32) reducesTo_S1x1x1024_S1x1024_d0 h_S_) (Host.reduceAdd x (constant S_ .f32 0x00000000#32) reducesTo_S1x1x1024_S1x1024_d0 h_S_))) : FVec Ideal S1x1024 .f32) (ix2 p q) = Adam.second (v (ix2 p q)) (∑ s : Fin 1, x (ix3 s p q)) := by
  obtain rfl : p = 0 := Subsingleton.elim _ _
  simp only [Adam.change, Adam.first, Adam.second]
  pointwise
end Cert.Opt14.Ref

namespace Cert.Opt14
open Idealize.ShloMosaic Idealize.SL.Sem

theorem algebraic : algebraic_Kernel14Ideal_Reference14Ideal := by
  intro m g m' g' _ hargs
  refine ⟨fun c => (Cert.Kernel14Ideal.Gen.dats m 0 c).arrAt 4 Cert.Kernel14Ideal.cfg0.N, fun c => (Cert.Kernel14Ideal.Gen.dats m 0 c).arrAt 5 Cert.Kernel14Ideal.cfg0.N,
    fun c => (Cert.Kernel14Ideal.Gen.dats m 0 c).arrAt 6 Cert.Kernel14Ideal.cfg0.N, fun c => (Cert.Kernel14Ideal.Gen.dats m 0 c).arrAt 7 Cert.Kernel14Ideal.cfg0.N,
    Cert.Kernel14Ideal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.Reference14Ideal.Value.run m' g')
  · rw [(hargs c).2.1]
    funext j
    obtain ⟨p, q, rfl⟩ : ∃ (p : Fin 1) (q : Fin 1024), j = ix2 p q := ⟨j 0, j 1, eq_ix2 j⟩
    exact (Cert.Opt14.Ref.result0_at _ p q).trans (result0_at m c p q).symm
  · rw [(hargs c).1, (hargs c).2.1, (hargs c).2.2.1, (hargs c).2.2.2]
    funext j
    obtain ⟨p, q, rfl⟩ : ∃ (p : Fin 1) (q : Fin 1024), j = ix2 p q := ⟨j 0, j 1, eq_ix2 j⟩
    exact (Cert.Opt14.Ref.result1_at _ _ _ _ p q).trans (result1_at m c p q).symm
  · rw [(hargs c).2.1, (hargs c).2.2.1]
    funext j
    obtain ⟨p, q, rfl⟩ : ∃ (p : Fin 1) (q : Fin 1024), j = ix2 p q := ⟨j 0, j 1, eq_ix2 j⟩
    exact (Cert.Opt14.Ref.result2_at _ _ p q).trans (result2_at m c p q).symm
  · rw [(hargs c).2.1, (hargs c).2.2.2]
    funext j
    obtain ⟨p, q, rfl⟩ : ∃ (p : Fin 1) (q : Fin 1024), j = ix2 p q := ⟨j 0, j 1, eq_ix2 j⟩
    exact (Cert.Opt14.Ref.result3_at _ _ p q).trans (result3_at m c p q).symm
end Cert.Opt14
-- ==== Proof.Opt15.lean ====
/- The optimiser's call adamw_ha_norm_w: each tile of its results is the plain AdamW step's. -/
module

public import proofs.«01_k».proof.Proof.Adam
public import proofs.«01_k».proof.Proof.Gen.Kernel15Ideal.Value
public import proofs.«01_k».proof.Proof.Gen.Reference15Ideal.Run
public import proofs.«01_k».proof.Defs
public import Idealize.ShloMosaic.Lib.Pipeline.ValueKit
public import Idealize.ShloMosaic.Lib.Pointwise

@[expose] public section

set_option maxRecDepth 16384

noncomputable section

namespace Cert.Opt15

open Cert.Kernel15Ideal Cert.Kernel15Ideal.Gen Idealize.ShloMosaic Idealize.ShloMosaic.TcCoe
open scoped BigOperators

theorem weight_index : ∀ t : Fin cfg0.N, win0_0.index t = ![t.val, 0] := by decide +kernel

theorem parts_index : ∀ t : Fin cfg0.N, win0_1.index t = ![0, t.val, 0] := by decide +kernel

theorem first_index : ∀ t : Fin cfg0.N, win0_2.index t = ![t.val, 0] := by decide +kernel

theorem second_index : ∀ t : Fin cfg0.N, win0_3.index t = ![t.val, 0] := by decide +kernel

theorem out0_index : ∀ t : Fin cfg0.N, win0_4.index t = ![t.val, 0] := by decide +kernel

theorem store0_apply (x0 : Vec Ideal S8x128 .f32) (x1 : Vec Ideal S1x8x128 .f32) (x2 x3 : Vec Ideal S8x128 .f32) (p : Fin 8) (q : Fin 128) :
    out0_4 (F := Ideal) x0 x1 x2 x3 (ix2 p q) = (∑ s : Fin 1, x1 (ix3 s p q)) := by
  unfold out0_4
  frame_out
  simp only [Adam.change, Adam.first, Adam.second, Fin.sum_univ_one]
  pointwise [k0_pay1, k0_pay2, k0_pay3, k0_pay4]

theorem out1_index : ∀ t : Fin cfg0.N, win0_5.index t = ![t.val, 0] := by decide +kernel

theorem store1_apply (x0 : Vec Ideal S8x128 .f32) (x1 : Vec Ideal S1x8x128 .f32) (x2 x3 : Vec Ideal S8x128 .f32) (p : Fin 8) (q : Fin 128) :
    out0_5 (F := Ideal) x0 x1 x2 x3 (ix2 p q) = Adam.change (x0 (ix2 p q)) (Adam.first (x2 (ix2 p q)) (∑ s : Fin 1, x1 (ix3 s p q))) (Adam.second (x3 (ix2 p q)) (∑ s : Fin 1, x1 (ix3 s p q))) := by
  unfold out0_5
  frame_out
  simp only [Adam.change, Adam.first, Adam.second, Fin.sum_univ_one]
  pointwise [k0_pay1, k0_pay2, k0_pay3, k0_pay4]

theorem out2_index : ∀ t : Fin cfg0.N, win0_6.index t = ![t.val, 0] := by decide +kernel

theorem store2_apply (x0 : Vec Ideal S8x128 .f32) (x1 : Vec Ideal S1x8x128 .f32) (x2 x3 : Vec Ideal S8x128 .f32) (p : Fin 8) (q : Fin 128) :
    out0_6 (F := Ideal) x0 x1 x2 x3 (ix2 p q) = Adam.first (x2 (ix2 p q)) (∑ s : Fin 1, x1 (ix3 s p q)) := by
  unfold out0_6
  frame_out
  simp only [Adam.change, Adam.first, Adam.second, Fin.sum_univ_one]
  pointwise [k0_pay1, k0_pay2, k0_pay3, k0_pay4]

theorem out3_index : ∀ t : Fin cfg0.N, win0_7.index t = ![t.val, 0] := by decide +kernel

theorem store3_apply (x0 : Vec Ideal S8x128 .f32) (x1 : Vec Ideal S1x8x128 .f32) (x2 x3 : Vec Ideal S8x128 .f32) (p : Fin 8) (q : Fin 128) :
    out0_7 (F := Ideal) x0 x1 x2 x3 (ix2 p q) = Adam.second (x3 (ix2 p q)) (∑ s : Fin 1, x1 (ix3 s p q)) := by
  unfold out0_7
  frame_out
  simp only [Adam.change, Adam.first, Adam.second, Fin.sum_univ_one]
  pointwise [k0_pay1, k0_pay2, k0_pay3, k0_pay4]

variable (m : (ℓ : Loc nD τ sig) → Buf (Elt Ideal) ℓ)

/-- The four arguments as arrays. -/
abbrev weight (c : Dev nD) : FVec Ideal S8x128 .f32 := m ((c : Thread nD τ).loc main_arg0)
abbrev parts (c : Dev nD) : FVec Ideal S1x8x128 .f32 := m ((c : Thread nD τ).loc main_arg1)
abbrev moment1 (c : Dev nD) : FVec Ideal S8x128 .f32 := m ((c : Thread nD τ).loc main_arg2)
abbrev moment2 (c : Dev nD) : FVec Ideal S8x128 .f32 := m ((c : Thread nD τ).loc main_arg3)

/-- The point whose tile holds a row. -/
def pt (p : Fin 8) : Fin cfg0.N := ⟨p.val / 8, by have hN : cfg0.N = 1 := N_0; have := p.isLt; omega⟩

/-- The row within its tile. -/
def row (p : Fin 8) : Fin 8 := ⟨p.val % 8, by omega⟩

theorem weight_at (c : Dev nD) (p : Fin 8) (q : Fin 128) : (iblk m c 0 (pt p) : Vec Ideal S8x128 .f32) (ix2 (row p) q) = weight m c (ix2 p q) := by
  have hp := p.isLt
  have hq := q.isLt
  blk_ext [iblk, weight, V, weight_index, pt, row]

theorem parts_at (c : Dev nD) (s : Fin 1) (p : Fin 8) (q : Fin 128) : (iblk m c 1 (pt p) : Vec Ideal S1x8x128 .f32) (ix3 s (row p) q) = parts m c (ix3 s p q) := by
  have hs := s.isLt
  have hp := p.isLt
  have hq := q.isLt
  blk_ext [iblk, parts, V, parts_index, pt, row]

theorem moment1_at (c : Dev nD) (p : Fin 8) (q : Fin 128) : (iblk m c 2 (pt p) : Vec Ideal S8x128 .f32) (ix2 (row p) q) = moment1 m c (ix2 p q) := by
  have hp := p.isLt
  have hq := q.isLt
  blk_ext [iblk, moment1, V, first_index, pt, row]

theorem moment2_at (c : Dev nD) (p : Fin 8) (q : Fin 128) : (iblk m c 3 (pt p) : Vec Ideal S8x128 .f32) (ix2 (row p) q) = moment2 m c (ix2 p q) := by
  have hp := p.isLt
  have hq := q.isLt
  blk_ext [iblk, moment2, V, second_index, pt, row]

/-- The tile of the gradient parts at a point. -/
abbrev partsTile (c : Dev nD) (t : Fin cfg0.N) : FVec Ideal S1x8x128 .f32 := iblk m c 1 t

theorem sum_at (c : Dev nD) (p : Fin 8) (q : Fin 128) : ∑ s : Fin 1, partsTile m c (pt p) (ix3 s (row p) q) = ∑ s : Fin 1, parts m c (ix3 s p q) :=
  Finset.sum_congr rfl fun s _ => parts_at m c s p q

theorem result0_at (c : Dev nD) (p : Fin 8) (q : Fin 128) :
    ((dats m 0 c).arrAt 4 cfg0.N : FVec Ideal S8x128 .f32) (ix2 p q) = (∑ s : Fin 1, parts m c (ix3 s p q)) := by
  have hp := p.isLt
  have hq := q.isLt
  have e := congrFun (Value.blocks4 m c (pt p) (flush0_4 _)) (ix2 (row p) q)
  rw [Value.flushed4] at e
  have hi : ((cfg0.win 4).blk (pt p)).view.emb (ix2 (row p) q) = ix2 p q := by
    blk_ext [out0_index, pt, row]
  refine Eq.trans ?_ (e.trans ?_)
  · exact congrArg ((dats m 0 c).arrAt 4 cfg0.N) hi.symm
  · show out0_4 (F := Ideal) _ _ _ _ (ix2 (row p) q) = _
    refine (store0_apply _ (partsTile m c (pt p)) _ _ _ _).trans ?_
    rw [sum_at]

theorem result1_at (c : Dev nD) (p : Fin 8) (q : Fin 128) :
    ((dats m 0 c).arrAt 5 cfg0.N : FVec Ideal S8x128 .f32) (ix2 p q) = Adam.change (weight m c (ix2 p q)) (Adam.first (moment1 m c (ix2 p q)) (∑ s : Fin 1, parts m c (ix3 s p q))) (Adam.second (moment2 m c (ix2 p q)) (∑ s : Fin 1, parts m c (ix3 s p q))) := by
  have hp := p.isLt
  have hq := q.isLt
  have e := congrFun (Value.blocks5 m c (pt p) (flush0_5 _)) (ix2 (row p) q)
  rw [Value.flushed5] at e
  have hi : ((cfg0.win 5).blk (pt p)).view.emb (ix2 (row p) q) = ix2 p q := by
    blk_ext [out1_index, pt, row]
  refine Eq.trans ?_ (e.trans ?_)
  · exact congrArg ((dats m 0 c).arrAt 5 cfg0.N) hi.symm
  · show out0_5 (F := Ideal) _ _ _ _ (ix2 (row p) q) = _
    refine (store1_apply _ (partsTile m c (pt p)) _ _ _ _).trans ?_
    rw [weight_at, sum_at, moment1_at, moment2_at]

theorem result2_at (c : Dev nD) (p : Fin 8) (q : Fin 128) :
    ((dats m 0 c).arrAt 6 cfg0.N : FVec Ideal S8x128 .f32) (ix2 p q) = Adam.first (moment1 m c (ix2 p q)) (∑ s : Fin 1, parts m c (ix3 s p q)) := by
  have hp := p.isLt
  have hq := q.isLt
  have e := congrFun (Value.blocks6 m c (pt p) (flush0_6 _)) (ix2 (row p) q)
  rw [Value.flushed6] at e
  have hi : ((cfg0.win 6).blk (pt p)).view.emb (ix2 (row p) q) = ix2 p q := by
    blk_ext [out2_index, pt, row]
  refine Eq.trans ?_ (e.trans ?_)
  · exact congrArg ((dats m 0 c).arrAt 6 cfg0.N) hi.symm
  · show out0_6 (F := Ideal) _ _ _ _ (ix2 (row p) q) = _
    refine (store2_apply _ (partsTile m c (pt p)) _ _ _ _).trans ?_
    rw [sum_at, moment1_at]

theorem result3_at (c : Dev nD) (p : Fin 8) (q : Fin 128) :
    ((dats m 0 c).arrAt 7 cfg0.N : FVec Ideal S8x128 .f32) (ix2 p q) = Adam.second (moment2 m c (ix2 p q)) (∑ s : Fin 1, parts m c (ix3 s p q)) := by
  have hp := p.isLt
  have hq := q.isLt
  have e := congrFun (Value.blocks7 m c (pt p) (flush0_7 _)) (ix2 (row p) q)
  rw [Value.flushed7] at e
  have hi : ((cfg0.win 7).blk (pt p)).view.emb (ix2 (row p) q) = ix2 p q := by
    blk_ext [out3_index, pt, row]
  refine Eq.trans ?_ (e.trans ?_)
  · exact congrArg ((dats m 0 c).arrAt 7 cfg0.N) hi.symm
  · show out0_7 (F := Ideal) _ _ _ _ (ix2 (row p) q) = _
    refine (store3_apply _ (partsTile m c (pt p)) _ _ _ _).trans ?_
    rw [sum_at, moment2_at]
end Cert.Opt15

namespace Cert.Opt15.Ref
open Cert.Reference15Ideal Cert.Reference15Ideal.Gen Idealize.ShloMosaic Idealize.ShloMosaic.TcCoe
open scoped BigOperators

theorem result0_at (x : FVec Ideal S1x8x128 .f32) (p : Fin 8) (q : Fin 128) :
    (Host.reduceAdd x (constant S_ .f32 0x00000000#32) reducesTo_S1x8x128_S8x128_d0 h_S_ : FVec Ideal S8x128 .f32) (ix2 p q) = (∑ s : Fin 1, x (ix3 s p q)) := by
  pointwise

theorem result1_at (w : FVec Ideal S8x128 .f32) (x : FVec Ideal S1x8x128 .f32) (u v : FVec Ideal S8x128 .f32) (p : Fin 8) (q : Fin 128) :
    (mulf (broadcastInDim S8x128 ![] bcast_S_S8x128 (constant S_ .f32 0xBA83126F#32)) (addf (Host.divf (Host.divf (addf (mulf (broadcastInDim S8x128 ![] bcast_S_S8x128 (constant S_ .f32 0x3F666666#32)) u) (mulf (broadcastInDim S8x128 ![] bcast_S_S8x128 (constant S_ .f32 0x3DCCCCCD#32)) (Host.reduceAdd x (constant S_ .f32 0x00000000#32) reducesTo_S1x8x128_S8x128_d0 h_S_))) (broadcastInDim S8x128 ![] bcast_S_S8x128 (constant S_ .f32 0x3F26BD02#32))) (addf (Host.sqrt (Host.divf (addf (mulf (broadcastInDim S8x128 ![] bcast_S_S8x128 (constant S_ .f32 0x3F7FBE77#32)) v) (mulf (broadcastInDim S8x128 ![] bcast_S_S8x128 (constant S_ .f32 0x3A83126F#32)) (mulf (Host.reduceAdd x (constant S_ .f32 0x00000000#32) reducesTo_S1x8x128_S8x128_d0 h_S_) (Host.reduceAdd x (constant S_ .f32 0x00000000#32) reducesTo_S1x8x128_S8x128_d0 h_S_)))) (broadcastInDim S8x128 ![] bcast_S_S8x128 (constant S_ .f32 0x3C231ACC#32)))) (broadcastInDim S8x128 ![] bcast_S_S8x128 (constant S_ .f32 0x322BCC77#32)))) (mulf (broadcastInDim S8x128 ![] bcast_S_S8x128 (constant S_ .f32 0x3C23D70A#32)) w)) : FVec Ideal S8x128 .f32) (ix2 p q) = Adam.change (w (ix2 p q)) (Adam.first (u (ix2 p q)) (∑ s : Fin 1, x (ix3 s p q))) (Adam.second (v (ix2 p q)) (∑ s : Fin 1, x (ix3 s p q))) := by
  simp only [Adam.change, Adam.first, Adam.second]
  pointwise

theorem result2_at (x : FVec Ideal S1x8x128 .f32) (u : FVec Ideal S8x128 .f32) (p : Fin 8) (q : Fin 128) :
    (addf (mulf (broadcastInDim S8x128 ![] bcast_S_S8x128 (constant S_ .f32 0x3F666666#32)) u) (mulf (broadcastInDim S8x128 ![] bcast_S_S8x128 (constant S_ .f32 0x3DCCCCCD#32)) (Host.reduceAdd x (constant S_ .f32 0x00000000#32) reducesTo_S1x8x128_S8x128_d0 h_S_)) : FVec Ideal S8x128 .f32) (ix2 p q) = Adam.first (u (ix2 p q)) (∑ s : Fin 1, x (ix3 s p q)) := by
  simp only [Adam.change, Adam.first, Adam.second]
  pointwise

theorem result3_at (x : FVec Ideal S1x8x128 .f32) (v : FVec Ideal S8x128 .f32) (p : Fin 8) (q : Fin 128) :
    (addf (mulf (broadcastInDim S8x128 ![] bcast_S_S8x128 (constant S_ .f32 0x3F7FBE77#32)) v) (mulf (broadcastInDim S8x128 ![] bcast_S_S8x128 (constant S_ .f32 0x3A83126F#32)) (mulf (Host.reduceAdd x (constant S_ .f32 0x00000000#32) reducesTo_S1x8x128_S8x128_d0 h_S_) (Host.reduceAdd x (constant S_ .f32 0x00000000#32) reducesTo_S1x8x128_S8x128_d0 h_S_))) : FVec Ideal S8x128 .f32) (ix2 p q) = Adam.second (v (ix2 p q)) (∑ s : Fin 1, x (ix3 s p q)) := by
  simp only [Adam.change, Adam.first, Adam.second]
  pointwise
end Cert.Opt15.Ref

namespace Cert.Opt15
open Idealize.ShloMosaic Idealize.SL.Sem

theorem algebraic : algebraic_Kernel15Ideal_Reference15Ideal := by
  intro m g m' g' _ hargs
  refine ⟨fun c => (Cert.Kernel15Ideal.Gen.dats m 0 c).arrAt 4 Cert.Kernel15Ideal.cfg0.N, fun c => (Cert.Kernel15Ideal.Gen.dats m 0 c).arrAt 5 Cert.Kernel15Ideal.cfg0.N,
    fun c => (Cert.Kernel15Ideal.Gen.dats m 0 c).arrAt 6 Cert.Kernel15Ideal.cfg0.N, fun c => (Cert.Kernel15Ideal.Gen.dats m 0 c).arrAt 7 Cert.Kernel15Ideal.cfg0.N,
    Cert.Kernel15Ideal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.Reference15Ideal.Value.run m' g')
  · rw [(hargs c).2.1]
    funext j
    obtain ⟨p, q, rfl⟩ : ∃ (p : Fin 8) (q : Fin 128), j = ix2 p q := ⟨j 0, j 1, eq_ix2 j⟩
    exact (Cert.Opt15.Ref.result0_at _ p q).trans (result0_at m c p q).symm
  · rw [(hargs c).1, (hargs c).2.1, (hargs c).2.2.1, (hargs c).2.2.2]
    funext j
    obtain ⟨p, q, rfl⟩ : ∃ (p : Fin 8) (q : Fin 128), j = ix2 p q := ⟨j 0, j 1, eq_ix2 j⟩
    exact (Cert.Opt15.Ref.result1_at _ _ _ _ p q).trans (result1_at m c p q).symm
  · rw [(hargs c).2.1, (hargs c).2.2.1]
    funext j
    obtain ⟨p, q, rfl⟩ : ∃ (p : Fin 8) (q : Fin 128), j = ix2 p q := ⟨j 0, j 1, eq_ix2 j⟩
    exact (Cert.Opt15.Ref.result2_at _ _ p q).trans (result2_at m c p q).symm
  · rw [(hargs c).2.1, (hargs c).2.2.2]
    funext j
    obtain ⟨p, q, rfl⟩ : ∃ (p : Fin 8) (q : Fin 128), j = ix2 p q := ⟨j 0, j 1, eq_ix2 j⟩
    exact (Cert.Opt15.Ref.result3_at _ _ p q).trans (result3_at m c p q).symm
end Cert.Opt15
-- ==== Proof.Opt16.lean ====
/- The optimiser's call adamw_gdn_a_log: each tile of its results is the plain AdamW step's. -/
module

public import proofs.«01_k».proof.Proof.Adam
public import proofs.«01_k».proof.Proof.Gen.Kernel16Ideal.Value
public import proofs.«01_k».proof.Proof.Gen.Reference16Ideal.Run
public import proofs.«01_k».proof.Defs
public import Idealize.ShloMosaic.Lib.Pipeline.ValueKit
public import Idealize.ShloMosaic.Lib.Pointwise

@[expose] public section

set_option maxRecDepth 16384

noncomputable section

namespace Cert.Opt16

open Cert.Kernel16Ideal Cert.Kernel16Ideal.Gen Idealize.ShloMosaic Idealize.ShloMosaic.TcCoe
open scoped BigOperators

theorem weight_index : ∀ t : Fin cfg0.N, win0_0.index t = ![t.val, 0] := by decide +kernel

theorem parts_index : ∀ t : Fin cfg0.N, win0_1.index t = ![0, t.val, 0] := by decide +kernel

theorem first_index : ∀ t : Fin cfg0.N, win0_2.index t = ![t.val, 0] := by decide +kernel

theorem second_index : ∀ t : Fin cfg0.N, win0_3.index t = ![t.val, 0] := by decide +kernel

theorem out0_index : ∀ t : Fin cfg0.N, win0_4.index t = ![t.val, 0] := by decide +kernel

theorem store0_apply (x0 : Vec Ideal S2x8 .f32) (x1 : Vec Ideal S1x2x8 .f32) (x2 x3 : Vec Ideal S2x8 .f32) (p : Fin 2) (q : Fin 8) :
    out0_4 (F := Ideal) x0 x1 x2 x3 (ix2 p q) = (∑ s : Fin 1, x1 (ix3 s p q)) := by
  unfold out0_4
  frame_out
  simp only [Adam.change, Adam.first, Adam.second, Fin.sum_univ_one]
  pointwise [k0_pay1, k0_pay2, k0_pay3, k0_pay4]

theorem out1_index : ∀ t : Fin cfg0.N, win0_5.index t = ![t.val, 0] := by decide +kernel

theorem store1_apply (x0 : Vec Ideal S2x8 .f32) (x1 : Vec Ideal S1x2x8 .f32) (x2 x3 : Vec Ideal S2x8 .f32) (p : Fin 2) (q : Fin 8) :
    out0_5 (F := Ideal) x0 x1 x2 x3 (ix2 p q) = Adam.change (x0 (ix2 p q)) (Adam.first (x2 (ix2 p q)) (∑ s : Fin 1, x1 (ix3 s p q))) (Adam.second (x3 (ix2 p q)) (∑ s : Fin 1, x1 (ix3 s p q))) := by
  unfold out0_5
  frame_out
  simp only [Adam.change, Adam.first, Adam.second, Fin.sum_univ_one]
  pointwise [k0_pay1, k0_pay2, k0_pay3, k0_pay4]

theorem out2_index : ∀ t : Fin cfg0.N, win0_6.index t = ![t.val, 0] := by decide +kernel

theorem store2_apply (x0 : Vec Ideal S2x8 .f32) (x1 : Vec Ideal S1x2x8 .f32) (x2 x3 : Vec Ideal S2x8 .f32) (p : Fin 2) (q : Fin 8) :
    out0_6 (F := Ideal) x0 x1 x2 x3 (ix2 p q) = Adam.first (x2 (ix2 p q)) (∑ s : Fin 1, x1 (ix3 s p q)) := by
  unfold out0_6
  frame_out
  simp only [Adam.change, Adam.first, Adam.second, Fin.sum_univ_one]
  pointwise [k0_pay1, k0_pay2, k0_pay3, k0_pay4]

theorem out3_index : ∀ t : Fin cfg0.N, win0_7.index t = ![t.val, 0] := by decide +kernel

theorem store3_apply (x0 : Vec Ideal S2x8 .f32) (x1 : Vec Ideal S1x2x8 .f32) (x2 x3 : Vec Ideal S2x8 .f32) (p : Fin 2) (q : Fin 8) :
    out0_7 (F := Ideal) x0 x1 x2 x3 (ix2 p q) = Adam.second (x3 (ix2 p q)) (∑ s : Fin 1, x1 (ix3 s p q)) := by
  unfold out0_7
  frame_out
  simp only [Adam.change, Adam.first, Adam.second, Fin.sum_univ_one]
  pointwise [k0_pay1, k0_pay2, k0_pay3, k0_pay4]

variable (m : (ℓ : Loc nD τ sig) → Buf (Elt Ideal) ℓ)

/-- The four arguments as arrays. -/
abbrev weight (c : Dev nD) : FVec Ideal S2x8 .f32 := m ((c : Thread nD τ).loc main_arg0)
abbrev parts (c : Dev nD) : FVec Ideal S1x2x8 .f32 := m ((c : Thread nD τ).loc main_arg1)
abbrev moment1 (c : Dev nD) : FVec Ideal S2x8 .f32 := m ((c : Thread nD τ).loc main_arg2)
abbrev moment2 (c : Dev nD) : FVec Ideal S2x8 .f32 := m ((c : Thread nD τ).loc main_arg3)

/-- The point whose tile holds a row. -/
def pt (p : Fin 2) : Fin cfg0.N := ⟨p.val / 2, by have hN : cfg0.N = 1 := N_0; have := p.isLt; omega⟩

/-- The row within its tile. -/
def row (p : Fin 2) : Fin 2 := ⟨p.val % 2, by omega⟩

theorem weight_at (c : Dev nD) (p : Fin 2) (q : Fin 8) : (iblk m c 0 (pt p) : Vec Ideal S2x8 .f32) (ix2 (row p) q) = weight m c (ix2 p q) := by
  have hp := p.isLt
  have hq := q.isLt
  blk_ext [iblk, weight, V, weight_index, pt, row]

theorem parts_at (c : Dev nD) (s : Fin 1) (p : Fin 2) (q : Fin 8) : (iblk m c 1 (pt p) : Vec Ideal S1x2x8 .f32) (ix3 s (row p) q) = parts m c (ix3 s p q) := by
  have hs := s.isLt
  have hp := p.isLt
  have hq := q.isLt
  blk_ext [iblk, parts, V, parts_index, pt, row]

theorem moment1_at (c : Dev nD) (p : Fin 2) (q : Fin 8) : (iblk m c 2 (pt p) : Vec Ideal S2x8 .f32) (ix2 (row p) q) = moment1 m c (ix2 p q) := by
  have hp := p.isLt
  have hq := q.isLt
  blk_ext [iblk, moment1, V, first_index, pt, row]

theorem moment2_at (c : Dev nD) (p : Fin 2) (q : Fin 8) : (iblk m c 3 (pt p) : Vec Ideal S2x8 .f32) (ix2 (row p) q) = moment2 m c (ix2 p q) := by
  have hp := p.isLt
  have hq := q.isLt
  blk_ext [iblk, moment2, V, second_index, pt, row]

/-- The tile of the gradient parts at a point. -/
abbrev partsTile (c : Dev nD) (t : Fin cfg0.N) : FVec Ideal S1x2x8 .f32 := iblk m c 1 t

theorem sum_at (c : Dev nD) (p : Fin 2) (q : Fin 8) : ∑ s : Fin 1, partsTile m c (pt p) (ix3 s (row p) q) = ∑ s : Fin 1, parts m c (ix3 s p q) :=
  Finset.sum_congr rfl fun s _ => parts_at m c s p q

theorem result0_at (c : Dev nD) (p : Fin 2) (q : Fin 8) :
    ((dats m 0 c).arrAt 4 cfg0.N : FVec Ideal S2x8 .f32) (ix2 p q) = (∑ s : Fin 1, parts m c (ix3 s p q)) := by
  have hp := p.isLt
  have hq := q.isLt
  have e := congrFun (Value.blocks4 m c (pt p) (flush0_4 _)) (ix2 (row p) q)
  rw [Value.flushed4] at e
  have hi : ((cfg0.win 4).blk (pt p)).view.emb (ix2 (row p) q) = ix2 p q := by
    blk_ext [out0_index, pt, row]
  refine Eq.trans ?_ (e.trans ?_)
  · exact congrArg ((dats m 0 c).arrAt 4 cfg0.N) hi.symm
  · show out0_4 (F := Ideal) _ _ _ _ (ix2 (row p) q) = _
    refine (store0_apply _ (partsTile m c (pt p)) _ _ _ _).trans ?_
    rw [sum_at]

theorem result1_at (c : Dev nD) (p : Fin 2) (q : Fin 8) :
    ((dats m 0 c).arrAt 5 cfg0.N : FVec Ideal S2x8 .f32) (ix2 p q) = Adam.change (weight m c (ix2 p q)) (Adam.first (moment1 m c (ix2 p q)) (∑ s : Fin 1, parts m c (ix3 s p q))) (Adam.second (moment2 m c (ix2 p q)) (∑ s : Fin 1, parts m c (ix3 s p q))) := by
  have hp := p.isLt
  have hq := q.isLt
  have e := congrFun (Value.blocks5 m c (pt p) (flush0_5 _)) (ix2 (row p) q)
  rw [Value.flushed5] at e
  have hi : ((cfg0.win 5).blk (pt p)).view.emb (ix2 (row p) q) = ix2 p q := by
    blk_ext [out1_index, pt, row]
  refine Eq.trans ?_ (e.trans ?_)
  · exact congrArg ((dats m 0 c).arrAt 5 cfg0.N) hi.symm
  · show out0_5 (F := Ideal) _ _ _ _ (ix2 (row p) q) = _
    refine (store1_apply _ (partsTile m c (pt p)) _ _ _ _).trans ?_
    rw [weight_at, sum_at, moment1_at, moment2_at]

theorem result2_at (c : Dev nD) (p : Fin 2) (q : Fin 8) :
    ((dats m 0 c).arrAt 6 cfg0.N : FVec Ideal S2x8 .f32) (ix2 p q) = Adam.first (moment1 m c (ix2 p q)) (∑ s : Fin 1, parts m c (ix3 s p q)) := by
  have hp := p.isLt
  have hq := q.isLt
  have e := congrFun (Value.blocks6 m c (pt p) (flush0_6 _)) (ix2 (row p) q)
  rw [Value.flushed6] at e
  have hi : ((cfg0.win 6).blk (pt p)).view.emb (ix2 (row p) q) = ix2 p q := by
    blk_ext [out2_index, pt, row]
  refine Eq.trans ?_ (e.trans ?_)
  · exact congrArg ((dats m 0 c).arrAt 6 cfg0.N) hi.symm
  · show out0_6 (F := Ideal) _ _ _ _ (ix2 (row p) q) = _
    refine (store2_apply _ (partsTile m c (pt p)) _ _ _ _).trans ?_
    rw [sum_at, moment1_at]

theorem result3_at (c : Dev nD) (p : Fin 2) (q : Fin 8) :
    ((dats m 0 c).arrAt 7 cfg0.N : FVec Ideal S2x8 .f32) (ix2 p q) = Adam.second (moment2 m c (ix2 p q)) (∑ s : Fin 1, parts m c (ix3 s p q)) := by
  have hp := p.isLt
  have hq := q.isLt
  have e := congrFun (Value.blocks7 m c (pt p) (flush0_7 _)) (ix2 (row p) q)
  rw [Value.flushed7] at e
  have hi : ((cfg0.win 7).blk (pt p)).view.emb (ix2 (row p) q) = ix2 p q := by
    blk_ext [out3_index, pt, row]
  refine Eq.trans ?_ (e.trans ?_)
  · exact congrArg ((dats m 0 c).arrAt 7 cfg0.N) hi.symm
  · show out0_7 (F := Ideal) _ _ _ _ (ix2 (row p) q) = _
    refine (store3_apply _ (partsTile m c (pt p)) _ _ _ _).trans ?_
    rw [sum_at, moment2_at]
end Cert.Opt16

namespace Cert.Opt16.Ref
open Cert.Reference16Ideal Cert.Reference16Ideal.Gen Idealize.ShloMosaic Idealize.ShloMosaic.TcCoe
open scoped BigOperators

theorem result0_at (x : FVec Ideal S1x2x8 .f32) (p : Fin 2) (q : Fin 8) :
    (Host.reduceAdd x (constant S_ .f32 0x00000000#32) reducesTo_S1x2x8_S2x8_d0 h_S_ : FVec Ideal S2x8 .f32) (ix2 p q) = (∑ s : Fin 1, x (ix3 s p q)) := by
  pointwise

theorem result1_at (w : FVec Ideal S2x8 .f32) (x : FVec Ideal S1x2x8 .f32) (u v : FVec Ideal S2x8 .f32) (p : Fin 2) (q : Fin 8) :
    (mulf (broadcastInDim S2x8 ![] bcast_S_S2x8 (constant S_ .f32 0xBA83126F#32)) (addf (Host.divf (Host.divf (addf (mulf (broadcastInDim S2x8 ![] bcast_S_S2x8 (constant S_ .f32 0x3F666666#32)) u) (mulf (broadcastInDim S2x8 ![] bcast_S_S2x8 (constant S_ .f32 0x3DCCCCCD#32)) (Host.reduceAdd x (constant S_ .f32 0x00000000#32) reducesTo_S1x2x8_S2x8_d0 h_S_))) (broadcastInDim S2x8 ![] bcast_S_S2x8 (constant S_ .f32 0x3F26BD02#32))) (addf (Host.sqrt (Host.divf (addf (mulf (broadcastInDim S2x8 ![] bcast_S_S2x8 (constant S_ .f32 0x3F7FBE77#32)) v) (mulf (broadcastInDim S2x8 ![] bcast_S_S2x8 (constant S_ .f32 0x3A83126F#32)) (mulf (Host.reduceAdd x (constant S_ .f32 0x00000000#32) reducesTo_S1x2x8_S2x8_d0 h_S_) (Host.reduceAdd x (constant S_ .f32 0x00000000#32) reducesTo_S1x2x8_S2x8_d0 h_S_)))) (broadcastInDim S2x8 ![] bcast_S_S2x8 (constant S_ .f32 0x3C231ACC#32)))) (broadcastInDim S2x8 ![] bcast_S_S2x8 (constant S_ .f32 0x322BCC77#32)))) (mulf (broadcastInDim S2x8 ![] bcast_S_S2x8 (constant S_ .f32 0x3C23D70A#32)) w)) : FVec Ideal S2x8 .f32) (ix2 p q) = Adam.change (w (ix2 p q)) (Adam.first (u (ix2 p q)) (∑ s : Fin 1, x (ix3 s p q))) (Adam.second (v (ix2 p q)) (∑ s : Fin 1, x (ix3 s p q))) := by
  simp only [Adam.change, Adam.first, Adam.second]
  pointwise

theorem result2_at (x : FVec Ideal S1x2x8 .f32) (u : FVec Ideal S2x8 .f32) (p : Fin 2) (q : Fin 8) :
    (addf (mulf (broadcastInDim S2x8 ![] bcast_S_S2x8 (constant S_ .f32 0x3F666666#32)) u) (mulf (broadcastInDim S2x8 ![] bcast_S_S2x8 (constant S_ .f32 0x3DCCCCCD#32)) (Host.reduceAdd x (constant S_ .f32 0x00000000#32) reducesTo_S1x2x8_S2x8_d0 h_S_)) : FVec Ideal S2x8 .f32) (ix2 p q) = Adam.first (u (ix2 p q)) (∑ s : Fin 1, x (ix3 s p q)) := by
  simp only [Adam.change, Adam.first, Adam.second]
  pointwise

theorem result3_at (x : FVec Ideal S1x2x8 .f32) (v : FVec Ideal S2x8 .f32) (p : Fin 2) (q : Fin 8) :
    (addf (mulf (broadcastInDim S2x8 ![] bcast_S_S2x8 (constant S_ .f32 0x3F7FBE77#32)) v) (mulf (broadcastInDim S2x8 ![] bcast_S_S2x8 (constant S_ .f32 0x3A83126F#32)) (mulf (Host.reduceAdd x (constant S_ .f32 0x00000000#32) reducesTo_S1x2x8_S2x8_d0 h_S_) (Host.reduceAdd x (constant S_ .f32 0x00000000#32) reducesTo_S1x2x8_S2x8_d0 h_S_))) : FVec Ideal S2x8 .f32) (ix2 p q) = Adam.second (v (ix2 p q)) (∑ s : Fin 1, x (ix3 s p q)) := by
  simp only [Adam.change, Adam.first, Adam.second]
  pointwise
end Cert.Opt16.Ref

namespace Cert.Opt16
open Idealize.ShloMosaic Idealize.SL.Sem

theorem algebraic : algebraic_Kernel16Ideal_Reference16Ideal := by
  intro m g m' g' _ hargs
  refine ⟨fun c => (Cert.Kernel16Ideal.Gen.dats m 0 c).arrAt 4 Cert.Kernel16Ideal.cfg0.N, fun c => (Cert.Kernel16Ideal.Gen.dats m 0 c).arrAt 5 Cert.Kernel16Ideal.cfg0.N,
    fun c => (Cert.Kernel16Ideal.Gen.dats m 0 c).arrAt 6 Cert.Kernel16Ideal.cfg0.N, fun c => (Cert.Kernel16Ideal.Gen.dats m 0 c).arrAt 7 Cert.Kernel16Ideal.cfg0.N,
    Cert.Kernel16Ideal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.Reference16Ideal.Value.run m' g')
  · rw [(hargs c).2.1]
    funext j
    obtain ⟨p, q, rfl⟩ : ∃ (p : Fin 2) (q : Fin 8), j = ix2 p q := ⟨j 0, j 1, eq_ix2 j⟩
    exact (Cert.Opt16.Ref.result0_at _ p q).trans (result0_at m c p q).symm
  · rw [(hargs c).1, (hargs c).2.1, (hargs c).2.2.1, (hargs c).2.2.2]
    funext j
    obtain ⟨p, q, rfl⟩ : ∃ (p : Fin 2) (q : Fin 8), j = ix2 p q := ⟨j 0, j 1, eq_ix2 j⟩
    exact (Cert.Opt16.Ref.result1_at _ _ _ _ p q).trans (result1_at m c p q).symm
  · rw [(hargs c).2.1, (hargs c).2.2.1]
    funext j
    obtain ⟨p, q, rfl⟩ : ∃ (p : Fin 2) (q : Fin 8), j = ix2 p q := ⟨j 0, j 1, eq_ix2 j⟩
    exact (Cert.Opt16.Ref.result2_at _ _ p q).trans (result2_at m c p q).symm
  · rw [(hargs c).2.1, (hargs c).2.2.2]
    funext j
    obtain ⟨p, q, rfl⟩ : ∃ (p : Fin 2) (q : Fin 8), j = ix2 p q := ⟨j 0, j 1, eq_ix2 j⟩
    exact (Cert.Opt16.Ref.result3_at _ _ p q).trans (result3_at m c p q).symm
end Cert.Opt16
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.IdealFrame
public import proofs.«01_k».proof.Proof.Gen.ReferenceIdeal.Run
public import proofs.«01_k».proof.Proof.Gen.ReferenceIdeal.Step
public import proofs.«01_k».proof.Proof.Same
public import proofs.«01_k».proof.Proof.Gen.Kernel2.Frame
public import proofs.«01_k».proof.Proof.Prod2
public import proofs.«01_k».proof.Proof.Gen.Kernel3.Frame
public import proofs.«01_k».proof.Proof.Prod3
public import proofs.«01_k».proof.Proof.Gen.Kernel4.Frame
public import proofs.«01_k».proof.Proof.Prod4
public import proofs.«01_k».proof.Proof.Gen.Kernel5.Frame
public import proofs.«01_k».proof.Proof.Prod5
public import proofs.«01_k».proof.Proof.Gen.Kernel6.Frame
public import proofs.«01_k».proof.Proof.Prod6
public import proofs.«01_k».proof.Proof.Gen.Kernel7.Frame
public import proofs.«01_k».proof.Proof.Prod7
public import proofs.«01_k».proof.Proof.Gen.Kernel8.Frame
public import proofs.«01_k».proof.Proof.Opt8
public import proofs.«01_k».proof.Proof.Gen.Kernel9.Frame
public import proofs.«01_k».proof.Proof.Opt9
public import proofs.«01_k».proof.Proof.Gen.Kernel10.Frame
public import proofs.«01_k».proof.Proof.Opt10
public import proofs.«01_k».proof.Proof.Gen.Kernel11.Frame
public import proofs.«01_k».proof.Proof.Opt11
public import proofs.«01_k».proof.Proof.Gen.Kernel12.Frame
public import proofs.«01_k».proof.Proof.Opt12
public import proofs.«01_k».proof.Proof.Gen.Kernel13.Frame
public import proofs.«01_k».proof.Proof.Opt13
public import proofs.«01_k».proof.Proof.Gen.Kernel14.Frame
public import proofs.«01_k».proof.Proof.Opt14
public import proofs.«01_k».proof.Proof.Gen.Kernel15.Frame
public import proofs.«01_k».proof.Proof.Opt15
public import proofs.«01_k».proof.Proof.Gen.Kernel16.Frame
public import proofs.«01_k».proof.Proof.Opt16
public import Idealize.ShloMosaic.Adequacy
public import Idealize.ShloMosaic.Init

@[expose] public section

noncomputable section

namespace Cert.Proof

open Idealize.ShloMosaic Idealize.SL.Sem Cert.Kernel

/-- The reference runs to its end, leaves its arguments as they were, and declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- From memories that agree on the arguments, with finite logits, both programs leave the same gradient of the values. -/
theorem algebraic : Cert.algebraic_KernelIdeal_ReferenceIdeal_pre_finite_logits (hKernelIdeal := Cert.KernelIdeal.Gen.facts)
    (hReferenceIdeal := Cert.ReferenceIdeal.Gen.facts) (hPre_finite_logits := Cert.Hg.preFacts) := by
  intro m g m' g' hpre hargs
  refine ⟨fun c => (Cert.KernelIdeal.Scan.dats m 0 c).arrAt 16 Cert.KernelIdeal.cfg0.N, ?_, ?_⟩
  · exact (θ_run _ _ _).mono (fun r h c => ⟨Cert.KernelIdeal.Scan.out16 m r h.1 c, h.2 c⟩)
      (θ_run_and (Cert.KernelIdeal.Scan.run_main (F := Ideal) m g) (Cert.KernelIdeal.Scan.unchanged (F := Ideal) m g))
  · refine (θ_run _ _ _).mono (fun r h c => ⟨?_, (h c).2⟩) (Cert.ReferenceIdeal.Seq.run (F := Ideal) m' g')
    letI := Cert.Hg.preFacts
    obtain ⟨lr, hl⟩ := Cert.Hg.logits_real _ _ _ _ (hpre c)
    refine (h c).1.trans (Eq.trans ?_ (Cert.KernelIdeal.Scan.same m c lr hl).symm)
    unfold Cert.ReferenceIdeal.Seq.start
    rw [(hargs c).1, (hargs c).2.1, (hargs c).2.2.2]

/-- The reference of product 2 runs to its end, leaves its arguments as they were, and declares no semaphore. -/
theorem reference2_frame : Cert.quiescent_Reference2Ideal (hReference2Ideal := Cert.Reference2Ideal.Gen.facts) :=
  fun m g _ => (θ_run Cert.Reference2Ideal.defs _ _).mono (fun r h => ⟨fun c => (h c).2, Idealize.ShloMosaic.sem_eq_zero_of_no_sems (by decide) r.2⟩)
    (Cert.Reference2Ideal.Value.run (F := Ideal) m g)

/-- The reference of product 3 runs to its end, leaves its arguments as they were, and declares no semaphore. -/
theorem reference3_frame : Cert.quiescent_Reference3Ideal (hReference3Ideal := Cert.Reference3Ideal.Gen.facts) :=
  fun m g _ => (θ_run Cert.Reference3Ideal.defs _ _).mono (fun r h => ⟨fun c => (h c).2, Idealize.ShloMosaic.sem_eq_zero_of_no_sems (by decide) r.2⟩)
    (Cert.Reference3Ideal.Value.run (F := Ideal) m g)

/-- The reference of product 4 runs to its end, leaves its arguments as they were, and declares no semaphore. -/
theorem reference4_frame : Cert.quiescent_Reference4Ideal (hReference4Ideal := Cert.Reference4Ideal.Gen.facts) :=
  fun m g _ => (θ_run Cert.Reference4Ideal.defs _ _).mono (fun r h => ⟨fun c => (h c).2, Idealize.ShloMosaic.sem_eq_zero_of_no_sems (by decide) r.2⟩)
    (Cert.Reference4Ideal.Value.run (F := Ideal) m g)

/-- The reference of product 5 runs to its end, leaves its arguments as they were, and declares no semaphore. -/
theorem reference5_frame : Cert.quiescent_Reference5Ideal (hReference5Ideal := Cert.Reference5Ideal.Gen.facts) :=
  fun m g _ => (θ_run Cert.Reference5Ideal.defs _ _).mono (fun r h => ⟨fun c => (h c).2, Idealize.ShloMosaic.sem_eq_zero_of_no_sems (by decide) r.2⟩)
    (Cert.Reference5Ideal.Value.run (F := Ideal) m g)

/-- The reference of product 6 runs to its end, leaves its arguments as they were, and declares no semaphore. -/
theorem reference6_frame : Cert.quiescent_Reference6Ideal (hReference6Ideal := Cert.Reference6Ideal.Gen.facts) :=
  fun m g _ => (θ_run Cert.Reference6Ideal.defs _ _).mono (fun r h => ⟨fun c => (h c).2, Idealize.ShloMosaic.sem_eq_zero_of_no_sems (by decide) r.2⟩)
    (Cert.Reference6Ideal.Value.run (F := Ideal) m g)

/-- The reference of product 7 runs to its end, leaves its arguments as they were, and declares no semaphore. -/
theorem reference7_frame : Cert.quiescent_Reference7Ideal (hReference7Ideal := Cert.Reference7Ideal.Gen.facts) :=
  fun m g _ => (θ_run Cert.Reference7Ideal.defs _ _).mono (fun r h => ⟨fun c => (h c).2, Idealize.ShloMosaic.sem_eq_zero_of_no_sems (by decide) r.2⟩)
    (Cert.Reference7Ideal.Value.run (F := Ideal) m g)

/-- The reference of the optimiser's call 8 runs to its end, leaves its arguments as they were, and declares no semaphore. -/
theorem reference8_frame : Cert.quiescent_Reference8Ideal (hReference8Ideal := Cert.Reference8Ideal.Gen.facts) :=
  fun m g _ => (θ_run Cert.Reference8Ideal.defs _ _).mono (fun r h => ⟨fun c => (h c).2.2.2.2, Idealize.ShloMosaic.sem_eq_zero_of_no_sems (by decide) r.2⟩)
    (Cert.Reference8Ideal.Value.run (F := Ideal) m g)

/-- The reference of the optimiser's call 9 runs to its end, leaves its arguments as they were, and declares no semaphore. -/
theorem reference9_frame : Cert.quiescent_Reference9Ideal (hReference9Ideal := Cert.Reference9Ideal.Gen.facts) :=
  fun m g _ => (θ_run Cert.Reference9Ideal.defs _ _).mono (fun r h => ⟨fun c => (h c).2.2.2.2, Idealize.ShloMosaic.sem_eq_zero_of_no_sems (by decide) r.2⟩)
    (Cert.Reference9Ideal.Value.run (F := Ideal) m g)

/-- The reference of the optimiser's call 10 runs to its end, leaves its arguments as they were, and declares no semaphore. -/
theorem reference10_frame : Cert.quiescent_Reference10Ideal (hReference10Ideal := Cert.Reference10Ideal.Gen.facts) :=
  fun m g _ => (θ_run Cert.Reference10Ideal.defs _ _).mono (fun r h => ⟨fun c => (h c).2.2.2.2, Idealize.ShloMosaic.sem_eq_zero_of_no_sems (by decide) r.2⟩)
    (Cert.Reference10Ideal.Value.run (F := Ideal) m g)

/-- The reference of the optimiser's call 11 runs to its end, leaves its arguments as they were, and declares no semaphore. -/
theorem reference11_frame : Cert.quiescent_Reference11Ideal (hReference11Ideal := Cert.Reference11Ideal.Gen.facts) :=
  fun m g _ => (θ_run Cert.Reference11Ideal.defs _ _).mono (fun r h => ⟨fun c => (h c).2.2.2.2, Idealize.ShloMosaic.sem_eq_zero_of_no_sems (by decide) r.2⟩)
    (Cert.Reference11Ideal.Value.run (F := Ideal) m g)

/-- The reference of the optimiser's call 12 runs to its end, leaves its arguments as they were, and declares no semaphore. -/
theorem reference12_frame : Cert.quiescent_Reference12Ideal (hReference12Ideal := Cert.Reference12Ideal.Gen.facts) :=
  fun m g _ => (θ_run Cert.Reference12Ideal.defs _ _).mono (fun r h => ⟨fun c => (h c).2.2.2.2, Idealize.ShloMosaic.sem_eq_zero_of_no_sems (by decide) r.2⟩)
    (Cert.Reference12Ideal.Value.run (F := Ideal) m g)

/-- The reference of the optimiser's call 13 runs to its end, leaves its arguments as they were, and declares no semaphore. -/
theorem reference13_frame : Cert.quiescent_Reference13Ideal (hReference13Ideal := Cert.Reference13Ideal.Gen.facts) :=
  fun m g _ => (θ_run Cert.Reference13Ideal.defs _ _).mono (fun r h => ⟨fun c => (h c).2.2.2.2, Idealize.ShloMosaic.sem_eq_zero_of_no_sems (by decide) r.2⟩)
    (Cert.Reference13Ideal.Value.run (F := Ideal) m g)

/-- The reference of the optimiser's call 14 runs to its end, leaves its arguments as they were, and declares no semaphore. -/
theorem reference14_frame : Cert.quiescent_Reference14Ideal (hReference14Ideal := Cert.Reference14Ideal.Gen.facts) :=
  fun m g _ => (θ_run Cert.Reference14Ideal.defs _ _).mono (fun r h => ⟨fun c => (h c).2.2.2.2, Idealize.ShloMosaic.sem_eq_zero_of_no_sems (by decide) r.2⟩)
    (Cert.Reference14Ideal.Value.run (F := Ideal) m g)

/-- The reference of the optimiser's call 15 runs to its end, leaves its arguments as they were, and declares no semaphore. -/
theorem reference15_frame : Cert.quiescent_Reference15Ideal (hReference15Ideal := Cert.Reference15Ideal.Gen.facts) :=
  fun m g _ => (θ_run Cert.Reference15Ideal.defs _ _).mono (fun r h => ⟨fun c => (h c).2.2.2.2, Idealize.ShloMosaic.sem_eq_zero_of_no_sems (by decide) r.2⟩)
    (Cert.Reference15Ideal.Value.run (F := Ideal) m g)

/-- The reference of the optimiser's call 16 runs to its end, leaves its arguments as they were, and declares no semaphore. -/
theorem reference16_frame : Cert.quiescent_Reference16Ideal (hReference16Ideal := Cert.Reference16Ideal.Gen.facts) :=
  fun m g _ => (θ_run Cert.Reference16Ideal.defs _ _).mono (fun r h => ⟨fun c => (h c).2.2.2.2, Idealize.ShloMosaic.sem_eq_zero_of_no_sems (by decide) r.2⟩)
    (Cert.Reference16Ideal.Value.run (F := Ideal) m g)

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Hg.preFacts,
    fun m ρ _ => Cert.Kernel.Scan.frame m ρ, fun m ρ _ => Cert.KernelIdeal.Scan.frame m ρ, fun m ρ _ => Cert.KernelIdeal.Scan.frame m ρ,
    fun m ρ _ => reference_frame m ρ, fun m ρ _ => reference_frame m ρ,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, reference7_frame,
    fun m ρ _ => Cert.Kernel8.Gen.frame m ρ, fun m ρ _ => Cert.Kernel8Ideal.Gen.frame m ρ, reference8_frame,
    fun m ρ _ => Cert.Kernel9.Gen.frame m ρ, fun m ρ _ => Cert.Kernel9Ideal.Gen.frame m ρ, reference9_frame,
    fun m ρ _ => Cert.Kernel10.Gen.frame m ρ, fun m ρ _ => Cert.Kernel10Ideal.Gen.frame m ρ, reference10_frame,
    fun m ρ _ => Cert.Kernel11.Gen.frame m ρ, fun m ρ _ => Cert.Kernel11Ideal.Gen.frame m ρ, reference11_frame,
    fun m ρ _ => Cert.Kernel12.Gen.frame m ρ, fun m ρ _ => Cert.Kernel12Ideal.Gen.frame m ρ, reference12_frame,
    fun m ρ _ => Cert.Kernel13.Gen.frame m ρ, fun m ρ _ => Cert.Kernel13Ideal.Gen.frame m ρ, reference13_frame,
    fun m ρ _ => Cert.Kernel14.Gen.frame m ρ, fun m ρ _ => Cert.Kernel14Ideal.Gen.frame m ρ, reference14_frame,
    fun m ρ _ => Cert.Kernel15.Gen.frame m ρ, fun m ρ _ => Cert.Kernel15Ideal.Gen.frame m ρ, reference15_frame,
    fun m ρ _ => Cert.Kernel16.Gen.frame m ρ, fun m ρ _ => Cert.Kernel16Ideal.Gen.frame m ρ, reference16_frame,
    trivial, algebraic,
    trivial, Cert.Prod2.algebraic,
    trivial, Cert.Prod3.algebraic,
    trivial, Cert.Prod4.algebraic,
    trivial, Cert.Prod5.algebraic,
    trivial, Cert.Prod6.algebraic,
    trivial, Cert.Prod7.algebraic,
    trivial, Cert.Opt8.algebraic,
    trivial, Cert.Opt9.algebraic,
    trivial, Cert.Opt10.algebraic,
    trivial, Cert.Opt11.algebraic,
    trivial, Cert.Opt12.algebraic,
    trivial, Cert.Opt13.algebraic,
    trivial, Cert.Opt14.algebraic,
    trivial, Cert.Opt15.algebraic,
    trivial, Cert.Opt16.algebraic⟩

end Cert.Proof

end
